-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v14_1)) (v3 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_v14_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)) (v2 : (c : Dev Cert.Kernel18Ideal.nD) → Buf (Elt Ideal) ((c.tc : Thread Cert.Kernel18Ideal.nD Cert.Kernel18Ideal.τ).loc Cert.Kernel18Ideal.main_v2_2)) (v3 : (c : Dev Cert.Kernel18Ideal.nD) → Buf (Elt Ideal) ((c.tc : Thread Cert.Kernel18Ideal.nD Cert.Kernel18Ideal.τ).loc Cert.Kernel18Ideal.main_v2_3)) (v4 : (c : Dev Cert.Kernel18Ideal.nD) → Buf (Elt Ideal) ((c.tc : Thread Cert.Kernel18Ideal.nD Cert.Kernel18Ideal.τ).loc Cert.Kernel18Ideal.main_v2_4)) (v5 : (c : Dev Cert.Kernel18Ideal.nD) → Buf (Elt Ideal) ((c.tc : Thread Cert.Kernel18Ideal.nD Cert.Kernel18Ideal.τ).loc Cert.Kernel18Ideal.main_v2_5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_v2_2) = v2 c
          ∧ r.2.mem ((c.tc : Thread Cert.Kernel18Ideal.nD Cert.Kernel18Ideal.τ).loc Cert.Kernel18Ideal.main_v2_3) = v3 c
          ∧ r.2.mem ((c.tc : Thread Cert.Kernel18Ideal.nD Cert.Kernel18Ideal.τ).loc Cert.Kernel18Ideal.main_v2_4) = v4 c
          ∧ r.2.mem ((c.tc : Thread Cert.Kernel18Ideal.nD Cert.Kernel18Ideal.τ).loc Cert.Kernel18Ideal.main_v2_5) = v5 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v72) = v0 c
          ∧ r.2.mem ((c.tc : Thread Cert.Reference18Ideal.nD Cert.Reference18Ideal.τ).loc Cert.Reference18Ideal.main_v73) = v1 c
          ∧ r.2.mem ((c.tc : Thread Cert.Reference18Ideal.nD Cert.Reference18Ideal.τ).loc Cert.Reference18Ideal.main_v74) = v2 c
          ∧ r.2.mem ((c.tc : Thread Cert.Reference18Ideal.nD Cert.Reference18Ideal.τ).loc Cert.Reference18Ideal.main_v75) = v3 c
          ∧ r.2.mem ((c.tc : Thread Cert.Reference18Ideal.nD Cert.Reference18Ideal.τ).loc Cert.Reference18Ideal.main_v76) = v4 c
          ∧ r.2.mem ((c.tc : Thread Cert.Reference18Ideal.nD Cert.Reference18Ideal.τ).loc Cert.Reference18Ideal.main_v77) = v5 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v29) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v83) = v0 c
          ∧ r.2.mem ((c.tc : Thread Cert.Reference21Ideal.nD Cert.Reference21Ideal.τ).loc Cert.Reference21Ideal.main_v78) = v1 c
          ∧ r.2.mem ((c.tc : Thread Cert.Reference21Ideal.nD Cert.Reference21Ideal.τ).loc Cert.Reference21Ideal.main_v84) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v38) = v0 c
          ∧ r.2.mem ((c.tc : Thread Cert.Reference22Ideal.nD Cert.Reference22Ideal.τ).loc Cert.Reference22Ideal.main_v40) = v1 c
          ∧ r.2.mem ((c.tc : Thread Cert.Reference22Ideal.nD Cert.Reference22Ideal.τ).loc Cert.Reference22Ideal.main_v42) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite18 : Cert.Pre_finite18.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S8192x4x96 : Shape := ⟨3, ![8192, 4, 96]⟩
abbrev S8192x4x64 : Shape := ⟨3, ![8192, 4, 64]⟩
abbrev S_ : Shape := ⟨0, ![]⟩

class Facts : Prop where
  bcast_S_S8192x4x96 : S_.BroadcastsInDim S8192x4x96 (![] : Fin 0 → Fin S8192x4x96.rank)
  reducesTo_S8192x4x96_S_d0_1_2 : S8192x4x96.ReducesTo [0, 1, 2] S_
  h_S_ : 0 < S_.numel
  bcast_S_S8192x4x64 : S_.BroadcastsInDim S8192x4x64 (![] : Fin 0 → Fin S8192x4x64.rank)
  reducesTo_S8192x4x64_S_d0_1_2 : S8192x4x64.ReducesTo [0, 1, 2] S_

variable [Facts]

def fn_part1 {F : FTy → Type} [FloatOps F] (main_v8 : IVec S_ 1) (main_v12 : IVec S_ 1) (main_v15 : IVec S8192x4x64 1) (main_c_5 : IVec S_ 1) : IVec S_ 1 :=
  let main_v16 : IVec S_ 1 := (fun x v => Host.reduce IntOp.andi x v reducesTo_S8192x4x64_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S8192x4x96 .f32) (main_arg1 : FVec F S8192x4x96 .f32) (main_arg2 : FVec F S8192x4x64 .f32) (main_arg3 : FVec F S8192x4x64 .f32) : IVec S_ 1 :=
  let main_v0 : FVec F S8192x4x96 .f32 := Host.absf main_arg0
  let main_cst : FVec F S_ .f32 := constant S_ .f32 0x7F800000#32
  let main_v1 : FVec F S8192x4x96 .f32 := broadcastInDim S8192x4x96 ![] bcast_S_S8192x4x96 main_cst
  let main_v2 : IVec S8192x4x96 1 := cmpf .olt main_v0 main_v1
  let main_c : IVec S_ 1 := constantI S_ 1 1#1
  let main_v3 : IVec S_ 1 := (fun x v => Host.reduce IntOp.andi x v reducesTo_S8192x4x96_S_d0_1_2 h_S_) main_v2 main_c
  let main_v4 : FVec F S8192x4x96 .f32 := Host.absf main_arg1
  let main_cst_0 : FVec F S_ .f32 := constant S_ .f32 0x7F800000#32
  let main_v5 : FVec F S8192x4x96 .f32 := broadcastInDim S8192x4x96 ![] bcast_S_S8192x4x96 main_cst_0
  let main_v6 : IVec S8192x4x96 1 := cmpf .olt main_v4 main_v5
  let main_c_1 : IVec S_ 1 := constantI S_ 1 1#1
  let main_v7 : IVec S_ 1 := (fun x v => Host.reduce IntOp.andi x v reducesTo_S8192x4x96_S_d0_1_2 h_S_) main_v6 main_c_1
  let main_v8 : IVec S_ 1 := andi main_v3 main_v7
  let main_v9 : FVec F S8192x4x64 .f32 := Host.absf main_arg2
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  let main_c_3 : IVec S_ 1 := constantI S_ 1 1#1
  let main_v12 : IVec S_ 1 := (fun x v => Host.reduce IntOp.andi x v reducesTo_S8192x4x64_S_d0_1_2 h_S_) main_v11 main_c_3
  let main_v13 : FVec F S8192x4x64 .f32 := Host.absf main_arg3
  let main_cst_4 : FVec F S_ .f32 := constant S_ .f32 0x7F800000#32
  let main_v14 : FVec F S8192x4x64 .f32 := broadcastInDim S8192x4x64 ![] bcast_S_S8192x4x64 main_cst_4
  let main_v15 : IVec S8192x4x64 1 := cmpf .olt main_v13 main_v14
  let main_c_5 : IVec S_ 1 := constantI S_ 1 1#1
  fn_part1 (F := F) main_v8 main_v12 main_v15 main_c_5
-- ==== Pre_finite18.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v8 : IVec S_ 1) (main_v12 : IVec S_ 1) (main_v15 : IVec S8192x2816 1) (main_c_5 : IVec S_ 1) : IVec S_ 1 :=
  let main_v16 : IVec S_ 1 := (fun x v => Host.reduce IntOp.andi x v reducesTo_S8192x2816_S_d0_1 h_S_) main_v15 main_c_5
  let main_v17 : IVec S_ 1 := andi main_v12 main_v16
  let main_v18 : IVec S_ 1 := andi main_v8 main_v17
  main_v18

def fn {F : FTy → Type} [FloatOps F] (main_arg0 : FVec F S8192x5632 .f32) (main_arg1 : FVec F S3x5632 .f32) (main_arg2 : FVec F S5632 .f32) (main_arg3 : FVec F S8192x2816 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S5632 .f32 := Host.absf main_arg2
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : FVec F S8192x2816 .f32 := Host.absf main_arg3
  let main_cst_4 : FVec F S_ .f32 := constant S_ .f32 0x7F800000#32
  let main_v14 : FVec F S8192x2816 .f32 := broadcastInDim S8192x2816 ![] bcast_S_S8192x2816 main_cst_4
  let main_v15 : IVec S8192x2816 1 := cmpf .olt main_v13 main_v14
  let main_c_5 : IVec S_ 1 := constantI S_ 1 1#1
  fn_part1 (F := F) main_v8 main_v12 main_v15 main_c_5
-- ==== Pre_finite20.lean ====
abbrev S8192x2048 : Shape := ⟨2, ![8192, 2048]⟩
abbrev S4x768 : Shape := ⟨2, ![4, 768]⟩
abbrev S768 : Shape := ⟨1, ![768]⟩
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x2048 .f32) (main_arg1 : FVec F S4x768 .f32) (main_arg2 : FVec F S768 .f32) (main_arg3 : FVec F S8192x768 .f32) : IVec S_ 1 :=
  let main_v0 : FVec F S8192x768 .f32 := Host.absf main_arg3
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  main_v3
-- ==== Kernel.lean ====
abbrev S8192x4x96 : Shape := ⟨3, ![8192, 4, 96]⟩
abbrev S8192x4x64 : Shape := ⟨3, ![8192, 4, 64]⟩
abbrev S_ : Shape := ⟨0, ![]⟩
abbrev S4x96x8192 : Shape := ⟨3, ![4, 96, 8192]⟩
abbrev S4x128x8192 : Shape := ⟨3, ![4, 128, 8192]⟩
abbrev S8192x4x128 : Shape := ⟨3, ![8192, 4, 128]⟩
abbrev S8192x512 : Shape := ⟨2, ![8192, 512]⟩
abbrev S4x1x8192 : Shape := ⟨3, ![4, 1, 8192]⟩
abbrev S1x128x1024 : Shape := ⟨3, ![1, 128, 1024]⟩
abbrev S8192x128 : Shape := ⟨2, ![8192, 128]⟩
abbrev S1x1x1024 : Shape := ⟨3, ![1, 1, 1024]⟩
abbrev S128x1024 : Shape := ⟨2, ![128, 1024]⟩
abbrev S1x1024 : Shape := ⟨2, ![1, 1024]⟩
abbrev S512x128 : Shape := ⟨2, ![512, 128]⟩
abbrev S512x1024 : Shape := ⟨2, ![512, 1024]⟩
abbrev S1024 : Shape := ⟨1, ![1024]⟩
abbrev S1x128x512 : Shape := ⟨3, ![1, 128, 512]⟩
abbrev S128x512 : Shape := ⟨2, ![128, 512]⟩
abbrev S512x512 : Shape := ⟨2, ![512, 512]⟩
abbrev S1x512 : Shape := ⟨2, ![1, 512]⟩
abbrev S512 : Shape := ⟨1, ![512]⟩
abbrev S4x64x8192 : Shape := ⟨3, ![4, 64, 8192]⟩
abbrev S1x1x512 : Shape := ⟨3, ![1, 1, 512]⟩

abbrev nBuf : Space → Nat
  | .hbm => 34
  | .vmem => 34
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x4x64, .f32⟩
  | .hbm, ⟨4, _⟩ => ⟨S_, .f32⟩
  | .hbm, ⟨5, _⟩ => ⟨S8192x4x96, .f32⟩
  | .hbm, ⟨6, _⟩ => ⟨S8192x4x96, .f32⟩
  | .hbm, ⟨7, _⟩ => ⟨S4x96x8192, .f32⟩
  | .hbm, ⟨8, _⟩ => ⟨S_, .i32⟩
  | .hbm, ⟨9, _⟩ => ⟨S_, .f32⟩
  | .hbm, ⟨10, _⟩ => ⟨S4x128x8192, .f32⟩
  | .hbm, ⟨11, _⟩ => ⟨S4x128x8192, .bf16⟩
  | .hbm, ⟨12, _⟩ => ⟨S_, .i32⟩
  | .hbm, ⟨13, _⟩ => ⟨S_, .f32⟩
  | .hbm, ⟨14, _⟩ => ⟨S8192x4x128, .f32⟩
  | .hbm, ⟨15, _⟩ => ⟨S8192x512, .f32⟩
  | .hbm, ⟨16, _⟩ => ⟨S8192x512, .bf16⟩
  | .hbm, ⟨17, _⟩ => ⟨S_, .i32⟩
  | .hbm, ⟨18, _⟩ => ⟨S_, .f32⟩
  | .hbm, ⟨19, _⟩ => ⟨S8192x4x128, .f32⟩
  | .hbm, ⟨20, _⟩ => ⟨S8192x512, .f32⟩
  | .hbm, ⟨21, _⟩ => ⟨S8192x512, .bf16⟩
  | .hbm, ⟨22, _⟩ => ⟨S4x128x8192, .f32⟩
  | .hbm, ⟨23, _⟩ => ⟨S4x1x8192, .f32⟩
  | .hbm, ⟨24, _⟩ => ⟨S4x64x8192, .f32⟩
  | .hbm, ⟨25, _⟩ => ⟨S_, .i32⟩
  | .hbm, ⟨26, _⟩ => ⟨S_, .f32⟩
  | .hbm, ⟨27, _⟩ => ⟨S4x128x8192, .f32⟩
  | .hbm, ⟨28, _⟩ => ⟨S4x128x8192, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S4x128x8192, .f32⟩
  | .hbm, ⟨33, _⟩ => ⟨S4x128x8192, .f32⟩
  | .local _ .vmem, ⟨0, _⟩ => ⟨S1x128x1024, .bf16⟩
  | .local _ .vmem, ⟨1, _⟩ => ⟨S1x128x1024, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x128x1024, .f32⟩
  | .local _ .vmem, ⟨7, _⟩ => ⟨S1x128x1024, .f32⟩
  | .local _ .vmem, ⟨8, _⟩ => ⟨S1x1x1024, .f32⟩
  | .local _ .vmem, ⟨9, _⟩ => ⟨S1x1x1024, .f32⟩
  | .local _ .vmem, ⟨10, _⟩ => ⟨S128x1024, .f32⟩
  | .local _ .vmem, ⟨11, _⟩ => ⟨S1x1024, .f32⟩
  | .local _ .vmem, ⟨12, _⟩ => ⟨S1x1024, .f32⟩
  | .local _ .vmem, ⟨13, _⟩ => ⟨S1x128x1024, .bf16⟩
  | .local _ .vmem, ⟨14, _⟩ => ⟨S1x128x1024, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x128x1024, .f32⟩
  | .local _ .vmem, ⟨26, _⟩ => ⟨S1x128x1024, .f32⟩
  | .local _ .vmem, ⟨27, _⟩ => ⟨S8192x128, .f32⟩
  | .local _ .vmem, ⟨28, _⟩ => ⟨S8192x128, .f32⟩
  | .local _ .vmem, ⟨29, _⟩ => ⟨S8192x128, .f32⟩
  | .local _ .vmem, ⟨30, _⟩ => ⟨S8192x128, .f32⟩
  | .local _ .vmem, ⟨31, _⟩ => ⟨S128x1024, .f32⟩
  | .local _ .vmem, ⟨32, _⟩ => ⟨S1x1024, .f32⟩
  | .local _ .vmem, ⟨33, _⟩ => ⟨S128x1024, .bf16⟩
  | _, _ => ⟨S8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev main_c_2 : Ref sig .tc := ⟨.hbm, 25, rfl⟩
abbrev main_call3_v0 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_8 : BitVec 32 := 1#32
  ⟨c0_i32_7, v17, c1_i32_8⟩
def k0_mult1 (i : grid0.Coords) (k0_t1 : Fin (k0_t1_loop i).trips) : BitVec 32 :=
  let c0_i32_7 : BitVec 32 := 0#32
  let c1_i32_8 : BitVec 32 := 1#32
  let arg10 : BitVec 32 := Scf.iv c0_i32_7 c1_i32_8 k0_t1
  let c512_i32_71 : BitVec 32 := 512#32
  let v128 : BitVec 32 := Scalar.muli arg10 c512_i32_71
  v128
def k0_off1 (i : grid0.Coords) (k0_t1 : Fin (k0_t1_loop i).trips) : Fin 2 → Nat :=
  let c0_i32_7 : BitVec 32 := 0#32
  let c1_i32_8 : BitVec 32 := 1#32
  let arg10 : BitVec 32 := Scf.iv c0_i32_7 c1_i32_8 k0_t1
  let c512_i32_71 : BitVec 32 := 512#32
  let v128 : BitVec 32 := Scalar.muli arg10 c512_i32_71
  let v129 : BitVec 32 := v128
  let v130 : Index := Scalar.indexCast v129
  let c0_72 : Index := 0#32
  ![v130.toNat, 0]
@[reducible] def k0_t2_loop (i : grid0.Coords) : Scf.Loop 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let v14 : BitVec 32 := Scalar.addi c0_i32_7 v13
  let c1_i32_9 : BitVec 32 := 1#32
  ⟨v17, v14, c1_i32_9⟩
def k0_mult2 (i : grid0.Coords) (k0_t2 : Fin (k0_t2_loop i).trips) : BitVec 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg10 : BitVec 32 := Scf.iv v17 c1_i32_9 k0_t2
  let c512_i32_71 : BitVec 32 := 512#32
  let v128 : BitVec 32 := Scalar.muli arg10 c512_i32_71
  v128
def k0_off2 (i : grid0.Coords) (k0_t2 : Fin (k0_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg10 : BitVec 32 := Scf.iv v17 c1_i32_9 k0_t2
  let c512_i32_71 : BitVec 32 := 512#32
  let v128 : BitVec 32 := Scalar.muli arg10 c512_i32_71
  let v129 : BitVec 32 := v128
  let v130 : Index := Scalar.indexCast v129
  let c0_72 : Index := 0#32
  ![v130.toNat, 0]
def k0_mult3 (i : grid0.Coords) : BitVec 32 :=
  let arg1 : BitVec 32 := BitVec.ofNat 32 (i 1).val
  let c1024_i32 : BitVec 32 := 1024#32
  let v18 : BitVec 32 := Scalar.muli arg1 c1024_i32
  let c0_i32_10 : BitVec 32 := 0#32
  let v19 : BitVec 32 := Scalar.addi v18 c0_i32_10
  v19
def k0_off3 (i : grid0.Coords) (c0_i32_10 : BitVec 32) : Fin 2 → Nat :=
  let arg1 : BitVec 32 := BitVec.ofNat 32 (i 1).val
  let c1024_i32 : BitVec 32 := 1024#32
  let v18 : BitVec 32 := Scalar.muli arg1 c1024_i32
  let v19 : BitVec 32 := Scalar.addi v18 c0_i32_10
  let v20 : BitVec 32 := v19
  let v21 : Index := Scalar.indexCast v20
  let c0_11 : Index := 0#32
  ![v21.toNat, 0]
def k0_mult4 (i : grid0.Coords) : BitVec 32 :=
  let arg1 : BitVec 32 := BitVec.ofNat 32 (i 1).val
  let c1024_i32_34 : BitVec 32 := 1024#32
  let v66 : BitVec 32 := Scalar.muli arg1 c1024_i32_34
  let c512_i32 : BitVec 32 := 512#32
  let v67 : BitVec 32 := Scalar.addi v66 c512_i32
  v67
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

@[reducible] def k1_t1_loop (i : grid1.Coords) : Scf.Loop 32 :=
  let c0_i32_14 : BitVec 32 := 0#32
  let arg1 : BitVec 32 := BitVec.ofNat 32 (i 1).val
  let c2_i32 : BitVec 32 := 2#32
  let v21 : BitVec 32 := Scalar.muli arg1 c2_i32
  let v22 : BitVec 32 := Scalar.subi v21 c0_i32_14
  let c1_i32 : BitVec 32 := 1#32
  let v24 : BitVec 32 := Scalar.divsi v22 c1_i32
  let v25 : BitVec 32 := Scalar.muli v24 c1_i32
  let v26 : BitVec 32 := Scalar.addi c0_i32_14 v25
  let c1_i32_15 : BitVec 32 := 1#32
  ⟨c0_i32_14, v26, c1_i32_15⟩
def k1_mult1 (i : grid1.Coords) (k1_t1 : Fin (k1_t1_loop i).trips) : BitVec 32 :=
  let c0_i32_14 : BitVec 32 := 0#32
  let c1_i32_15 : BitVec 32 := 1#32
  let arg14 : BitVec 32 := Scf.iv c0_i32_14 c1_i32_15 k1_t1
  let c512_i32_77 : BitVec 32 := 512#32
  let v135 : BitVec 32 := Scalar.muli arg14 c512_i32_77
  v135
def k1_off1 (i : grid1.Coords) (k1_t1 : Fin (k1_t1_loop i).trips) : Fin 2 → Nat :=
  let c0_i32_14 : BitVec 32 := 0#32
  let c1_i32_15 : BitVec 32 := 1#32
  let arg14 : BitVec 32 := Scf.iv c0_i32_14 c1_i32_15 k1_t1
  let c512_i32_77 : BitVec 32 := 512#32
  let v135 : BitVec 32 := Scalar.muli arg14 c512_i32_77
  let v136 : BitVec 32 := v135
  let v137 : Index := Scalar.indexCast v136
  let c0_78 : Index := 0#32
  ![v137.toNat, 0]
@[reducible] def k1_t2_loop (i : grid1.Coords) : Scf.Loop 32 :=
  let c0_i32_14 : BitVec 32 := 0#32
  let arg1 : BitVec 32 := BitVec.ofNat 32 (i 1).val
  let c2_i32 : BitVec 32 := 2#32
  let v21 : BitVec 32 := Scalar.muli arg1 c2_i32
  let v22 : BitVec 32 := Scalar.subi v21 c0_i32_14
  let c1_i32 : BitVec 32 := 1#32
  let v24 : BitVec 32 := Scalar.divsi v22 c1_i32
  let v25 : BitVec 32 := Scalar.muli v24 c1_i32
  let v26 : BitVec 32 := Scalar.addi c0_i32_14 v25
  let v23 : BitVec 32 := Scalar.addi c0_i32_14 v22
  let c1_i32_16 : BitVec 32 := 1#32
  ⟨v26, v23, c1_i32_16⟩
def k1_mult2 (i : grid1.Coords) (k1_t2 : Fin (k1_t2_loop i).trips) : BitVec 32 :=
  let c0_i32_14 : BitVec 32 := 0#32
  let arg1 : BitVec 32 := BitVec.ofNat 32 (i 1).val
  let c2_i32 : BitVec 32 := 2#32
  let v21 : BitVec 32 := Scalar.muli arg1 c2_i32
  let v22 : BitVec 32 := Scalar.subi v21 c0_i32_14
  let c1_i32 : BitVec 32 := 1#32
  let v24 : BitVec 32 := Scalar.divsi v22 c1_i32
  let v25 : BitVec 32 := Scalar.muli v24 c1_i32
  let v26 : BitVec 32 := Scalar.addi c0_i32_14 v25
  let c1_i32_16 : BitVec 32 := 1#32
  let arg14 : BitVec 32 := Scf.iv v26 c1_i32_16 k1_t2
  let c512_i32_77 : BitVec 32 := 512#32
  let v135 : BitVec 32 := Scalar.muli arg14 c512_i32_77
  v135
def k1_off2 (i : grid1.Coords) (k1_t2 : Fin (k1_t2_loop i).trips) : Fin 2 → Nat :=
  let c0_i32_14 : BitVec 32 := 0#32
  let arg1 : BitVec 32 := BitVec.ofNat 32 (i 1).val
  let c2_i32 : BitVec 32 := 2#32
  let v21 : BitVec 32 := Scalar.muli arg1 c2_i32
  let v22 : BitVec 32 := Scalar.subi v21 c0_i32_14
  let c1_i32 : BitVec 32 := 1#32
  let v24 : BitVec 32 := Scalar.divsi v22 c1_i32
  let v25 : BitVec 32 := Scalar.muli v24 c1_i32
  let v26 : BitVec 32 := Scalar.addi c0_i32_14 v25
  let c1_i32_16 : BitVec 32 := 1#32
  let arg14 : BitVec 32 := Scf.iv v26 c1_i32_16 k1_t2
  let c512_i32_77 : BitVec 32 := 512#32
  let v135 : BitVec 32 := Scalar.muli arg14 c512_i32_77
  let v136 : BitVec 32 := v135
  let v137 : Index := Scalar.indexCast v136
  let c0_78 : Index := 0#32
  ![v137.toNat, 0]
def k1_mult3 (i : grid1.Coords) : BitVec 32 :=
  let arg1 : BitVec 32 := BitVec.ofNat 32 (i 1).val
  let c1024_i32 : BitVec 32 := 1024#32
  let v27 : BitVec 32 := Scalar.muli arg1 c1024_i32
  let c0_i32_17 : BitVec 32 := 0#32
  let v28 : BitVec 32 := Scalar.addi v27 c0_i32_17
  v28
def k1_off3 (i : grid1.Coords) (c0_i32_17 : BitVec 32) : Fin 2 → Nat :=
  let arg1 : BitVec 32 := BitVec.ofNat 32 (i 1).val
  let c1024_i32 : BitVec 32 := 1024#32
  let v27 : BitVec 32 := Scalar.muli arg1 c1024_i32
  let v28 : BitVec 32 := Scalar.addi v27 c0_i32_17
  let v29 : BitVec 32 := v28
  let v30 : Index := Scalar.indexCast v29
  let c0_18 : Index := 0#32
  ![v30.toNat, 0]
def k1_mult4 (i : grid1.Coords) : BitVec 32 :=
  let arg1 : BitVec 32 := BitVec.ofNat 32 (i 1).val
  let c1024_i32_45 : BitVec 32 := 1024#32
  let v79 : BitVec 32 := Scalar.muli arg1 c1024_i32_45
  let c512_i32 : BitVec 32 := 512#32
  let v80 : BitVec 32 := Scalar.addi v79 c512_i32
  v80
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S8192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "mask" => some ⊥
  | _ => none
-- ==== ReferenceIdeal.lean ====
abbrev S8192x4x96 : Shape := ⟨3, ![8192, 4, 96]⟩
abbrev S8192x4x64 : Shape := ⟨3, ![8192, 4, 64]⟩
abbrev S4x8192x8192 : Shape := ⟨3, ![4, 8192, 8192]⟩
abbrev S_ : Shape := ⟨0, ![]⟩
abbrev S8192x8192 : Shape := ⟨2, ![8192, 8192]⟩
abbrev S1x8192x8192 : Shape := ⟨3, ![1, 8192, 8192]⟩
abbrev S4x8192 : Shape := ⟨2, ![4, 8192]⟩
abbrev S4x8192x1 : Shape := ⟨3, ![4, 8192, 1]⟩
abbrev S4x64x8192 : Shape := ⟨3, ![4, 64, 8192]⟩
abbrev S4x8192x96 : Shape := ⟨3, ![4, 8192, 96]⟩
abbrev S4x128x8192 : Shape := ⟨3, ![4, 128, 8192]⟩
abbrev S4x96x8192 : Shape := ⟨3, ![4, 96, 8192]⟩
abbrev S8192x4x128 : Shape := ⟨3, ![8192, 4, 128]⟩
abbrev S8192x512 : Shape := ⟨2, ![8192, 512]⟩

abbrev nBuf : Space → Nat
  | .hbm => 103
  | .vmem => 0
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x4x64, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S1x8192x8192, .i1⟩
  | .hbm, ⟨12, _⟩ => ⟨S_, .f32⟩
  | .hbm, ⟨13, _⟩ => ⟨S_, .f32⟩
  | .hbm, ⟨14, _⟩ => ⟨S4x8192x8192, .i1⟩
  | .hbm, ⟨15, _⟩ => ⟨S4x8192x8192, .f32⟩
  | .hbm, ⟨16, _⟩ => ⟨S4x8192x8192, .f32⟩
  | .hbm, ⟨17, _⟩ => ⟨S_, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x8192, .f32⟩
  | .hbm, ⟨23, _⟩ => ⟨S4x8192x8192, .i1⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S4x8192, .i1⟩
  | .hbm, ⟨33, _⟩ => ⟨S_, .f32⟩
  | .hbm, ⟨34, _⟩ => ⟨S4x8192, .f32⟩
  | .hbm, ⟨35, _⟩ => ⟨S4x8192, .i1⟩
  | .hbm, ⟨36, _⟩ => ⟨S_, .f32⟩
  | .hbm, ⟨37, _⟩ => ⟨S4x8192, .f32⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S4x8192, .f32⟩
  | .hbm, ⟨43, _⟩ => ⟨S4x8192, .f32⟩
  | .hbm, ⟨44, _⟩ => ⟨S4x8192x1, .f32⟩
  | .hbm, ⟨45, _⟩ => ⟨S4x8192x8192, .f32⟩
  | .hbm, ⟨46, _⟩ => ⟨S4x8192x8192, .f32⟩
  | .hbm, ⟨47, _⟩ => ⟨S4x8192x8192, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S4x8192x8192, .f32⟩
  | .hbm, ⟨52, _⟩ => ⟨S4x8192x8192, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x64x8192, .f32⟩
  | .hbm, ⟨58, _⟩ => ⟨S8192x4x64, .f32⟩
  | .hbm, ⟨59, _⟩ => ⟨S4x64x8192, .f32⟩
  | .hbm, ⟨60, _⟩ => ⟨S4x8192x8192, .f32⟩
  | .hbm, ⟨61, _⟩ => ⟨S4x64x8192, .f32⟩
  | .hbm, ⟨62, _⟩ => ⟨S8192x4x64, .f32⟩
  | .hbm, ⟨63, _⟩ => ⟨S4x8192x8192, .f32⟩
  | .hbm, ⟨64, _⟩ => ⟨S4x8192x8192, .f32⟩
  | .hbm, ⟨65, _⟩ => ⟨S4x8192x8192, .f32⟩
  | .hbm, ⟨66, _⟩ => ⟨S_, .f32⟩
  | .hbm, ⟨67, _⟩ => ⟨S4x8192, .f32⟩
  | .hbm, ⟨68, _⟩ => ⟨S4x8192x1, .f32⟩
  | .hbm, ⟨69, _⟩ => ⟨S4x8192x1, .f32⟩
  | .hbm, ⟨70, _⟩ => ⟨S4x8192x8192, .f32⟩
  | .hbm, ⟨71, _⟩ => ⟨S4x8192x8192, .f32⟩
  | .hbm, ⟨72, _⟩ => ⟨S_, .f32⟩
  | .hbm, ⟨73, _⟩ => ⟨S4x8192, .f32⟩
  | .hbm, ⟨74, _⟩ => ⟨S4x8192x8192, .f32⟩
  | .hbm, ⟨75, _⟩ => ⟨S4x8192x8192, .f32⟩
  | .hbm, ⟨76, _⟩ => ⟨S4x8192x8192, .f32⟩
  | .hbm, ⟨77, _⟩ => ⟨S_, .f32⟩
  | .hbm, ⟨78, _⟩ => ⟨S4x8192x8192, .f32⟩
  | .hbm, ⟨79, _⟩ => ⟨S4x8192x8192, .f32⟩
  | .hbm, ⟨80, _⟩ => ⟨S_, .f32⟩
  | .hbm, ⟨81, _⟩ => ⟨S4x8192x8192, .f32⟩
  | .hbm, ⟨82, _⟩ => ⟨S4x8192x8192, .f32⟩
  | .hbm, ⟨83, _⟩ => ⟨S4x8192x96, .f32⟩
  | .hbm, ⟨84, _⟩ => ⟨S8192x4x96, .f32⟩
  | .hbm, ⟨85, _⟩ => ⟨S4x8192x96, .f32⟩
  | .hbm, ⟨86, _⟩ => ⟨S8192x4x96, .f32⟩
  | .hbm, ⟨87, _⟩ => ⟨S4x64x8192, .f32⟩
  | .hbm, ⟨88, _⟩ => ⟨S_, .i32⟩
  | .hbm, ⟨89, _⟩ => ⟨S_, .f32⟩
  | .hbm, ⟨90, _⟩ => ⟨S4x128x8192, .f32⟩
  | .hbm, ⟨91, _⟩ => ⟨S4x96x8192, .f32⟩
  | .hbm, ⟨92, _⟩ => ⟨S_, .i32⟩
  | .hbm, ⟨93, _⟩ => ⟨S_, .f32⟩
  | .hbm, ⟨94, _⟩ => ⟨S4x128x8192, .f32⟩
  | .hbm, ⟨95, _⟩ => ⟨S_, .i32⟩
  | .hbm, ⟨96, _⟩ => ⟨S_, .f32⟩
  | .hbm, ⟨97, _⟩ => ⟨S8192x4x128, .f32⟩
  | .hbm, ⟨98, _⟩ => ⟨S8192x512, .f32⟩
  | .hbm, ⟨99, _⟩ => ⟨S_, .i32⟩
  | .hbm, ⟨100, _⟩ => ⟨S_, .f32⟩
  | .hbm, ⟨101, _⟩ => ⟨S8192x4x128, .f32⟩
  | .hbm, ⟨102, _⟩ => ⟨S8192x512, .f32⟩
  | _, _ => ⟨S8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_call0_v0 : Ref sig .tc := ⟨.hbm, 13, rfl⟩
abbrev main_v7_1 : Ref sig .tc := ⟨.hbm, 14, rfl⟩
abbrev main_call0_v2 : Ref sig .tc := ⟨.hbm, 15, rfl⟩
abbrev main_v7_0 : Ref sig .tc := ⟨.hbm, 16, rfl⟩
abbrev main_call0_cst : Ref sig .tc := ⟨.hbm, 17, rfl⟩
abbrev main_v7_2 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c : Ref sig .tc := ⟨.hbm, 88, rfl⟩
abbrev main_call2_v0 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_call3_v0 : Ref sig .tc := ⟨.hbm, 93, rfl⟩
abbrev main_v64 : Ref sig .tc := ⟨.hbm, 94, rfl⟩
abbrev main_c_15 : Ref sig .tc := ⟨.hbm, 95, rfl⟩
abbrev main_call4_v0 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_call5_v0 : Ref sig .tc := ⟨.hbm, 100, rfl⟩
abbrev main_v67 : Ref sig .tc := ⟨.hbm, 101, rfl⟩
abbrev main_v68 : Ref sig .tc := ⟨.hbm, 102, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S2816x1024, .bf16⟩
  | .hbm, ⟨3, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S1024x5632 : Shape := ⟨2, ![1024, 5632]⟩
abbrev S8192x2816 : Shape := ⟨2, ![8192, 2816]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x2816, .bf16⟩
  | .hbm, ⟨3, _⟩ => ⟨S1024x5632, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x5632 : Shape := ⟨2, ![1024, 5632]⟩
abbrev S8192x2816 : Shape := ⟨2, ![8192, 2816]⟩
abbrev S_ : Shape := ⟨0, ![]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S_, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S1024x5632 : Shape := ⟨2, ![1024, 5632]⟩
abbrev S8192x2816 : Shape := ⟨2, ![8192, 2816]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x1024, .f32⟩
  | .hbm, ⟨3, _⟩ => ⟨S8192x2816, .bf16⟩
  | .hbm, ⟨4, _⟩ => ⟨S1024x5632, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S1024x5632 : Shape := ⟨2, ![1024, 5632]⟩
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8192x1024 : Shape := ⟨2, ![8192, 1024]⟩
abbrev S1024x768 : Shape := ⟨2, ![1024, 768]⟩
abbrev S8192x768 : Shape := ⟨2, ![8192, 768]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x1024, .bf16⟩
  | .hbm, ⟨3, _⟩ => ⟨S1024x768, .bf16⟩
  | .hbm, ⟨4, _⟩ => ⟨S8192x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x768 : Shape := ⟨2, ![1024, 768]⟩
abbrev S8192x768 : Shape := ⟨2, ![8192, 768]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x768, .f32⟩
  | .hbm, ⟨3, _⟩ => ⟨S8192x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S1024x1024 : Shape := ⟨2, ![1024, 1024]⟩
abbrev S8192x1024 : Shape := ⟨2, ![8192, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S8192x768 : Shape := ⟨2, ![8192, 768]⟩
abbrev S1024x768 : Shape := ⟨2, ![1024, 768]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S8192x1024, .bf16⟩
  | .hbm, ⟨3, _⟩ => ⟨S8192x768, .bf16⟩
  | .hbm, ⟨4, _⟩ => ⟨S1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S_, .f32⟩
  | .hbm, ⟨3, _⟩ => ⟨S1024x768, .f32⟩
  | .hbm, ⟨4, _⟩ => ⟨S8192x768, .f32⟩
  | .hbm, ⟨5, _⟩ => ⟨S768x1024, .f32⟩
  | .hbm, ⟨6, _⟩ => ⟨S1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S1024x768 : Shape := ⟨2, ![1024, 768]⟩
abbrev S8192x768 : Shape := ⟨2, ![8192, 768]⟩
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x768, .f32⟩
  | .hbm, ⟨1, _⟩ => ⟨S8192x768, .f32⟩
  | .hbm, ⟨2, _⟩ => ⟨S8192x768, .bf16⟩
  | .hbm, ⟨3, _⟩ => ⟨S1024x768, .bf16⟩
  | .hbm, ⟨4, _⟩ => ⟨S8192x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S1024x768 : Shape := ⟨2, ![1024, 768]⟩
abbrev S8192x768 : Shape := ⟨2, ![8192, 768]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S8192x768, .f32⟩
  | .hbm, ⟨2, _⟩ => ⟨S_, .f32⟩
  | .hbm, ⟨3, _⟩ => ⟨S8192x1024, .f32⟩
  | .hbm, ⟨4, _⟩ => ⟨S8192x768, .f32⟩
  | .hbm, ⟨5, _⟩ => ⟨S8192x1024, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S1024x2048 : Shape := ⟨2, ![1024, 2048]⟩
abbrev S8192x2048 : Shape := ⟨2, ![8192, 2048]⟩
abbrev S8192x1024 : Shape := ⟨2, ![8192, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S8192x1024, .f32⟩
  | .hbm, ⟨3, _⟩ => ⟨S8192x2048, .bf16⟩
  | .hbm, ⟨4, _⟩ => ⟨S1024x2048, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S1024x2048 : Shape := ⟨2, ![1024, 2048]⟩
abbrev S8192x2048 : Shape := ⟨2, ![8192, 2048]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x2048, .f32⟩
  | .hbm, ⟨6, _⟩ => ⟨S8192x1024, .f32⟩
  | .hbm, ⟨7, _⟩ => ⟨S8192x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel18.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S1x5632 : Shape := ⟨2, ![1, 5632]⟩
abbrev S3x2816 : Shape := ⟨2, ![3, 2816]⟩
abbrev S1x2816 : Shape := ⟨2, ![1, 2816]⟩
abbrev S1024x256 : Shape := ⟨2, ![1024, 256]⟩
abbrev S8x256 : Shape := ⟨2, ![8, 256]⟩
abbrev S3x256 : Shape := ⟨2, ![3, 256]⟩
abbrev S1x256 : Shape := ⟨2, ![1, 256]⟩
abbrev S16x256 : Shape := ⟨2, ![16, 256]⟩
abbrev S1040x256 : Shape := ⟨2, ![1040, 256]⟩
abbrev S1032x256 : Shape := ⟨2, ![1032, 256]⟩
abbrev S256 : Shape := ⟨1, ![256]⟩

abbrev nBuf : Space → Nat
  | .hbm => 12
  | .vmem => 40
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S8192x2816, .f32⟩
  | .hbm, ⟨4, _⟩ => ⟨S1x5632, .f32⟩
  | .hbm, ⟨5, _⟩ => ⟨S8192x2816, .bf16⟩
  | .hbm, ⟨6, _⟩ => ⟨S8192x2816, .bf16⟩
  | .hbm, ⟨7, _⟩ => ⟨S8192x2816, .bf16⟩
  | .hbm, ⟨8, _⟩ => ⟨S3x2816, .f32⟩
  | .hbm, ⟨9, _⟩ => ⟨S3x2816, .f32⟩
  | .hbm, ⟨10, _⟩ => ⟨S1x2816, .f32⟩
  | .hbm, ⟨11, _⟩ => ⟨S1x2816, .f32⟩
  | .local _ .vmem, ⟨0, _⟩ => ⟨S1024x256, .f32⟩
  | .local _ .vmem, ⟨1, _⟩ => ⟨S1024x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S1024x256, .f32⟩
  | .local _ .vmem, ⟨7, _⟩ => ⟨S1024x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1024x256, .bf16⟩
  | .local _ .vmem, ⟨21, _⟩ => ⟨S1024x256, .bf16⟩
  | .local _ .vmem, ⟨22, _⟩ => ⟨S16x256, .bf16⟩
  | .local _ .vmem, ⟨23, _⟩ => ⟨S16x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S3x256, .f32⟩
  | .local _ .vmem, ⟨29, _⟩ => ⟨S3x256, .f32⟩
  | .local _ .vmem, ⟨30, _⟩ => ⟨S3x256, .f32⟩
  | .local _ .vmem, ⟨31, _⟩ => ⟨S3x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1040x256, .f32⟩
  | .local _ .vmem, ⟨37, _⟩ => ⟨S1040x256, .f32⟩
  | .local _ .vmem, ⟨38, _⟩ => ⟨S1032x256, .f32⟩
  | .local _ .vmem, ⟨39, _⟩ => ⟨S1032x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c11_i32 : BitVec 32 := 11#32
  let v3 : BitVec 32 := Scalar.addi c11_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S3x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S3x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference18Ideal.lean ====
abbrev S8192x5632 : Shape := ⟨2, ![8192, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S3x2816 : Shape := ⟨2, ![3, 2816]⟩
abbrev S1x2816 : Shape := ⟨2, ![1, 2816]⟩

abbrev nBuf : Space → Nat
  | .hbm => 113
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S8192x2816, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S_, .f32⟩
  | .hbm, ⟨8, _⟩ => ⟨S2x5632, .f32⟩
  | .hbm, ⟨9, _⟩ => ⟨S8192x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x5632, .f32⟩
  | .hbm, ⟨55, _⟩ => ⟨S_, .f32⟩
  | .hbm, ⟨56, _⟩ => ⟨S5632, .f32⟩
  | .hbm, ⟨57, _⟩ => ⟨S1x5632, .f32⟩
  | .hbm, ⟨58, _⟩ => ⟨S_, .f32⟩
  | .hbm, ⟨59, _⟩ => ⟨S5632, .f32⟩
  | .hbm, ⟨60, _⟩ => ⟨S8192x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S8192x5632, .f32⟩
  | .hbm, ⟨65, _⟩ => ⟨S8192x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S_, .f32⟩
  | .hbm, ⟨70, _⟩ => ⟨S3x5632, .f32⟩
  | .hbm, ⟨71, _⟩ => ⟨S_, .f32⟩
  | .hbm, ⟨72, _⟩ => ⟨S8194x5632, .f32⟩
  | .hbm, ⟨73, _⟩ => ⟨S8192x5632, .f32⟩
  | .hbm, ⟨74, _⟩ => ⟨S_, .f32⟩
  | .hbm, ⟨75, _⟩ => ⟨S5632, .f32⟩
  | .hbm, ⟨76, _⟩ => ⟨S1x5632, .f32⟩
  | .hbm, ⟨77, _⟩ => ⟨S8192x5632, .f32⟩
  | .hbm, ⟨78, _⟩ => ⟨S8192x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S3x5632, .f32⟩
  | .hbm, ⟨85, _⟩ => ⟨S_, .f32⟩
  | .hbm, ⟨86, _⟩ => ⟨S8194x5632, .f32⟩
  | .hbm, ⟨87, _⟩ => ⟨S8194x5632, .f32⟩
  | .hbm, ⟨88, _⟩ => ⟨S8192x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S8192x5632, .f32⟩
  | .hbm, ⟨93, _⟩ => ⟨S8192x5632, .f32⟩
  | .hbm, ⟨94, _⟩ => ⟨S_, .f32⟩
  | .hbm, ⟨95, _⟩ => ⟨S5632, .f32⟩
  | .hbm, ⟨96, _⟩ => ⟨S1x5632, .f32⟩
  | .hbm, ⟨97, _⟩ => ⟨S_, .f32⟩
  | .hbm, ⟨98, _⟩ => ⟨S3x5632, .f32⟩
  | .hbm, ⟨99, _⟩ => ⟨S3x5632, .f32⟩
  | .hbm, ⟨100, _⟩ => ⟨S_, .f32⟩
  | .hbm, ⟨101, _⟩ => ⟨S8194x5632, .f32⟩
  | .hbm, ⟨102, _⟩ => ⟨S8194x5632, .f32⟩
  | .hbm, ⟨103, _⟩ => ⟨S2x5632, .f32⟩
  | .hbm, ⟨104, _⟩ => ⟨S8192x5632, .f32⟩
  | .hbm, ⟨105, _⟩ => ⟨S8192x5632, .bf16⟩
  | .hbm, ⟨106, _⟩ => ⟨S1x5632, .f32⟩
  | .hbm, ⟨107, _⟩ => ⟨S8192x2816, .bf16⟩
  | .hbm, ⟨108, _⟩ => ⟨S8192x2816, .bf16⟩
  | .hbm, ⟨109, _⟩ => ⟨S3x2816, .f32⟩
  | .hbm, ⟨110, _⟩ => ⟨S3x2816, .f32⟩
  | .hbm, ⟨111, _⟩ => ⟨S1x2816, .f32⟩
  | .hbm, ⟨112, _⟩ => ⟨S1x2816, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v28_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v28_1 : Ref sig .tc := ⟨.hbm, 45, rfl⟩
abbrev main_v28_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩

abbrev nD : Nat := 1
abbrev τ : Topo := Topo.v7x

variable {F : FTy → Type} [FloatOps F]
-- ==== Kernel19.lean ====
abbrev S8192x5632 : Shape := ⟨2, ![8192, 5632]⟩
abbrev S3x5632 : Shape := ⟨2, ![3, 5632]⟩
abbrev S5632 : Shape := ⟨1, ![5632]⟩
abbrev S1x5632 : Shape := ⟨2, ![1, 5632]⟩
abbrev S8192x2816 : Shape := ⟨2, ![8192, 2816]⟩
abbrev S512x1408 : Shape := ⟨2, ![512, 1408]⟩
abbrev S8x1408 : Shape := ⟨2, ![8, 1408]⟩
abbrev S3x1408 : Shape := ⟨2, ![3, 1408]⟩
abbrev S1x1408 : Shape := ⟨2, ![1, 1408]⟩
abbrev S520x1408 : Shape := ⟨2, ![520, 1408]⟩

abbrev nBuf : Space → Nat
  | .hbm => 5
  | .vmem => 20
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S8192x2816, .bf16⟩
  | .local _ .vmem, ⟨0, _⟩ => ⟨S512x1408, .f32⟩
  | .local _ .vmem, ⟨1, _⟩ => ⟨S512x1408, .f32⟩
  | .local _ .vmem, ⟨2, _⟩ => ⟨S8x1408, .f32⟩
  | .local _ .vmem, ⟨3, _⟩ => ⟨S8x1408, .f32⟩
  | .local _ .vmem, ⟨4, _⟩ => ⟨S512x1408, .f32⟩
  | .local _ .vmem, ⟨5, _⟩ => ⟨S512x1408, .f32⟩
  | .local _ .vmem, ⟨6, _⟩ => ⟨S8x1408, .f32⟩
  | .local _ .vmem, ⟨7, _⟩ => ⟨S8x1408, .f32⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | .local _ .vmem, ⟨18, _⟩ => ⟨S520x1408, .f32⟩
  | .local _ .vmem, ⟨19, _⟩ => ⟨S520x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S2x5632, .f32⟩
  | .hbm, ⟨5, _⟩ => ⟨S8194x5632, .f32⟩
  | .hbm, ⟨6, _⟩ => ⟨S8192x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel20.lean ====
abbrev S8192x2048 : Shape := ⟨2, ![8192, 2048]⟩
abbrev S4x768 : Shape := ⟨2, ![4, 768]⟩
abbrev S768 : Shape := ⟨1, ![768]⟩
abbrev S8192x768 : Shape := ⟨2, ![8192, 768]⟩
abbrev S1x768 : Shape := ⟨2, ![1, 768]⟩
abbrev S512x256 : Shape := ⟨2, ![512, 256]⟩
abbrev S8x256 : Shape := ⟨2, ![8, 256]⟩
abbrev S4x256 : Shape := ⟨2, ![4, 256]⟩
abbrev S1x256 : Shape := ⟨2, ![1, 256]⟩
abbrev S520x256 : Shape := ⟨2, ![520, 256]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S4x768, .f32⟩
  | .hbm, ⟨2, _⟩ => ⟨S768, .f32⟩
  | .hbm, ⟨3, _⟩ => ⟨S8192x768, .f32⟩
  | .hbm, ⟨4, _⟩ => ⟨S1x768, .f32⟩
  | .hbm, ⟨5, _⟩ => ⟨S8192x768, .f32⟩
  | .local _ .vmem, ⟨0, _⟩ => ⟨S512x256, .f32⟩
  | .local _ .vmem, ⟨1, _⟩ => ⟨S512x256, .f32⟩
  | .local _ .vmem, ⟨2, _⟩ => ⟨S8x256, .f32⟩
  | .local _ .vmem, ⟨3, _⟩ => ⟨S8x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S520x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference20Ideal.lean ====
abbrev S8192x2048 : Shape := ⟨2, ![8192, 2048]⟩
abbrev S4x768 : Shape := ⟨2, ![4, 768]⟩
abbrev S768 : Shape := ⟨1, ![768]⟩
abbrev S8192x768 : Shape := ⟨2, ![8192, 768]⟩
abbrev S_ : Shape := ⟨0, ![]⟩
abbrev S3x768 : Shape := ⟨2, ![3, 768]⟩
abbrev S8195x768 : Shape := ⟨2, ![8195, 768]⟩
abbrev S1x768 : Shape := ⟨2, ![1, 768]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x768, .f32⟩
  | .hbm, ⟨2, _⟩ => ⟨S768, .f32⟩
  | .hbm, ⟨3, _⟩ => ⟨S8192x768, .f32⟩
  | .hbm, ⟨4, _⟩ => ⟨S8192x768, .f32⟩
  | .hbm, ⟨5, _⟩ => ⟨S_, .f32⟩
  | .hbm, ⟨6, _⟩ => ⟨S3x768, .f32⟩
  | .hbm, ⟨7, _⟩ => ⟨S8195x768, .f32⟩
  | .hbm, ⟨8, _⟩ => ⟨S8192x768, .f32⟩
  | .hbm, ⟨9, _⟩ => ⟨S1x768, .f32⟩
  | .hbm, ⟨10, _⟩ => ⟨S768, .f32⟩
  | .hbm, ⟨11, _⟩ => ⟨S1x768, .f32⟩
  | .hbm, ⟨12, _⟩ => ⟨S8192x768, .f32⟩
  | .hbm, ⟨13, _⟩ => ⟨S8192x768, .f32⟩
  | .hbm, ⟨14, _⟩ => ⟨S8192x768, .f32⟩
  | .hbm, ⟨15, _⟩ => ⟨S1x768, .f32⟩
  | .hbm, ⟨16, _⟩ => ⟨S768, .f32⟩
  | .hbm, ⟨17, _⟩ => ⟨S1x768, .f32⟩
  | .hbm, ⟨18, _⟩ => ⟨S8192x768, .f32⟩
  | .hbm, ⟨19, _⟩ => ⟨S8192x768, .f32⟩
  | .hbm, ⟨20, _⟩ => ⟨S8192x768, .f32⟩
  | .hbm, ⟨21, _⟩ => ⟨S8192x768, .f32⟩
  | .hbm, ⟨22, _⟩ => ⟨S1x768, .f32⟩
  | .hbm, ⟨23, _⟩ => ⟨S768, .f32⟩
  | .hbm, ⟨24, _⟩ => ⟨S1x768, .f32⟩
  | .hbm, ⟨25, _⟩ => ⟨S8192x768, .f32⟩
  | .hbm, ⟨26, _⟩ => ⟨S8192x768, .f32⟩
  | .hbm, ⟨27, _⟩ => ⟨S8192x768, .f32⟩
  | .hbm, ⟨28, _⟩ => ⟨S8192x768, .f32⟩
  | .hbm, ⟨29, _⟩ => ⟨S1x768, .f32⟩
  | .hbm, ⟨30, _⟩ => ⟨S768, .f32⟩
  | .hbm, ⟨31, _⟩ => ⟨S1x768, .f32⟩
  | .hbm, ⟨32, _⟩ => ⟨S8192x768, .f32⟩
  | .hbm, ⟨33, _⟩ => ⟨S8192x768, .f32⟩
  | .hbm, ⟨34, _⟩ => ⟨S8192x768, .f32⟩
  | .hbm, ⟨35, _⟩ => ⟨S1x768, .f32⟩
  | .hbm, ⟨36, _⟩ => ⟨S8192x768, .f32⟩
  | .hbm, ⟨37, _⟩ => ⟨S8192x768, .f32⟩
  | .hbm, ⟨38, _⟩ => ⟨S8192x768, .f32⟩
  | .hbm, ⟨39, _⟩ => ⟨S8192x768, .f32⟩
  | .hbm, ⟨40, _⟩ => ⟨S_, .f32⟩
  | .hbm, ⟨41, _⟩ => ⟨S8192x768, .f32⟩
  | .hbm, ⟨42, _⟩ => ⟨S8192x768, .f32⟩
  | .hbm, ⟨43, _⟩ => ⟨S_, .f32⟩
  | .hbm, ⟨44, _⟩ => ⟨S8192x768, .f32⟩
  | .hbm, ⟨45, _⟩ => ⟨S8192x768, .f32⟩
  | .hbm, ⟨46, _⟩ => ⟨S_, .f32⟩
  | .hbm, ⟨47, _⟩ => ⟨S8192x768, .f32⟩
  | .hbm, ⟨48, _⟩ => ⟨S8192x768, .f32⟩
  | .hbm, ⟨49, _⟩ => ⟨S8192x768, .f32⟩
  | .hbm, ⟨50, _⟩ => ⟨S8192x768, .f32⟩
  | .hbm, ⟨51, _⟩ => ⟨S8192x768, .f32⟩
  | .hbm, ⟨52, _⟩ => ⟨S8192x768, .f32⟩
  | .hbm, ⟨53, _⟩ => ⟨S8192x768, .f32⟩
  | .hbm, ⟨54, _⟩ => ⟨S8192x768, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v33_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v33_1 : Ref sig .tc := ⟨.hbm, 49, rfl⟩
abbrev main_v33_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel21.lean ====
abbrev S8192x2048 : Shape := ⟨2, ![8192, 2048]⟩
abbrev S4x768 : Shape := ⟨2, ![4, 768]⟩
abbrev S8192x768 : Shape := ⟨2, ![8192, 768]⟩
abbrev S1x768 : Shape := ⟨2, ![1, 768]⟩
abbrev S512x256 : Shape := ⟨2, ![512, 256]⟩
abbrev S8x256 : Shape := ⟨2, ![8, 256]⟩
abbrev S4x256 : Shape := ⟨2, ![4, 256]⟩
abbrev S1x256 : Shape := ⟨2, ![1, 256]⟩
abbrev S520x256 : Shape := ⟨2, ![520, 256]⟩
abbrev S256 : Shape := ⟨1, ![256]⟩

abbrev nBuf : Space → Nat
  | .hbm => 6
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S4x768, .f32⟩
  | .hbm, ⟨2, _⟩ => ⟨S8192x768, .f32⟩
  | .hbm, ⟨3, _⟩ => ⟨S8192x768, .bf16⟩
  | .hbm, ⟨4, _⟩ => ⟨S4x768, .f32⟩
  | .hbm, ⟨5, _⟩ => ⟨S1x768, .f32⟩
  | .local _ .vmem, ⟨0, _⟩ => ⟨S512x256, .f32⟩
  | .local _ .vmem, ⟨1, _⟩ => ⟨S512x256, .f32⟩
  | .local _ .vmem, ⟨2, _⟩ => ⟨S8x256, .f32⟩
  | .local _ .vmem, ⟨3, _⟩ => ⟨S8x256, .f32⟩
  | .local _ .vmem, ⟨4, _⟩ => ⟨S512x256, .f32⟩
  | .local _ .vmem, ⟨5, _⟩ => ⟨S512x256, .f32⟩
  | .local _ .vmem, ⟨6, _⟩ => ⟨S4x256, .f32⟩
  | .local _ .vmem, ⟨7, _⟩ => ⟨S4x256, .f32⟩
  | .local _ .vmem, ⟨8, _⟩ => ⟨S512x256, .bf16⟩
  | .local _ .vmem, ⟨9, _⟩ => ⟨S512x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | .local _ .vmem, ⟨14, _⟩ => ⟨S520x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference21Ideal.lean ====
abbrev S8192x2048 : Shape := ⟨2, ![8192, 2048]⟩
abbrev S4x768 : Shape := ⟨2, ![4, 768]⟩
abbrev S8192x768 : Shape := ⟨2, ![8192, 768]⟩
abbrev S_ : Shape := ⟨0, ![]⟩
abbrev S768 : Shape := ⟨1, ![768]⟩
abbrev S3x768 : Shape := ⟨2, ![3, 768]⟩
abbrev S8195x768 : Shape := ⟨2, ![8195, 768]⟩
abbrev S1x768 : Shape := ⟨2, ![1, 768]⟩

abbrev nBuf : Space → Nat
  | .hbm => 109
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x768, .f32⟩
  | .hbm, ⟨2, _⟩ => ⟨S8192x768, .f32⟩
  | .hbm, ⟨3, _⟩ => ⟨S_, .f32⟩
  | .hbm, ⟨4, _⟩ => ⟨S768, .f32⟩
  | .hbm, ⟨5, _⟩ => ⟨S8192x768, .f32⟩
  | .hbm, ⟨6, _⟩ => ⟨S_, .f32⟩
  | .hbm, ⟨7, _⟩ => ⟨S3x768, .f32⟩
  | .hbm, ⟨8, _⟩ => ⟨S8195x768, .f32⟩
  | .hbm, ⟨9, _⟩ => ⟨S_, .f32⟩
  | .hbm, ⟨10, _⟩ => ⟨S3x768, .f32⟩
  | .hbm, ⟨11, _⟩ => ⟨S8192x768, .f32⟩
  | .hbm, ⟨12, _⟩ => ⟨S1x768, .f32⟩
  | .hbm, ⟨13, _⟩ => ⟨S768, .f32⟩
  | .hbm, ⟨14, _⟩ => ⟨S1x768, .f32⟩
  | .hbm, ⟨15, _⟩ => ⟨S8192x768, .f32⟩
  | .hbm, ⟨16, _⟩ => ⟨S8192x768, .f32⟩
  | .hbm, ⟨17, _⟩ => ⟨S8192x768, .f32⟩
  | .hbm, ⟨18, _⟩ => ⟨S1x768, .f32⟩
  | .hbm, ⟨19, _⟩ => ⟨S768, .f32⟩
  | .hbm, ⟨20, _⟩ => ⟨S1x768, .f32⟩
  | .hbm, ⟨21, _⟩ => ⟨S8192x768, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S1x768, .f32⟩
  | .hbm, ⟨26, _⟩ => ⟨S768, .f32⟩
  | .hbm, ⟨27, _⟩ => ⟨S1x768, .f32⟩
  | .hbm, ⟨28, _⟩ => ⟨S8192x768, .f32⟩
  | .hbm, ⟨29, _⟩ => ⟨S8192x768, .f32⟩
  | .hbm, ⟨30, _⟩ => ⟨S8192x768, .f32⟩
  | .hbm, ⟨31, _⟩ => ⟨S8192x768, .f32⟩
  | .hbm, ⟨32, _⟩ => ⟨S1x768, .f32⟩
  | .hbm, ⟨33, _⟩ => ⟨S768, .f32⟩
  | .hbm, ⟨34, _⟩ => ⟨S1x768, .f32⟩
  | .hbm, ⟨35, _⟩ => ⟨S8192x768, .f32⟩
  | .hbm, ⟨36, _⟩ => ⟨S8192x768, .f32⟩
  | .hbm, ⟨37, _⟩ => ⟨S8192x768, .f32⟩
  | .hbm, ⟨38, _⟩ => ⟨S1x768, .f32⟩
  | .hbm, ⟨39, _⟩ => ⟨S8192x768, .f32⟩
  | .hbm, ⟨40, _⟩ => ⟨S8192x768, .f32⟩
  | .hbm, ⟨41, _⟩ => ⟨S8192x768, .f32⟩
  | .hbm, ⟨42, _⟩ => ⟨S_, .f32⟩
  | .hbm, ⟨43, _⟩ => ⟨S768, .f32⟩
  | .hbm, ⟨44, _⟩ => ⟨S1x768, .f32⟩
  | .hbm, ⟨45, _⟩ => ⟨S_, .f32⟩
  | .hbm, ⟨46, _⟩ => ⟨S768, .f32⟩
  | .hbm, ⟨47, _⟩ => ⟨S8192x768, .f32⟩
  | .hbm, ⟨48, _⟩ => ⟨S_, .f32⟩
  | .hbm, ⟨49, _⟩ => ⟨S768, .f32⟩
  | .hbm, ⟨50, _⟩ => ⟨S1x768, .f32⟩
  | .hbm, ⟨51, _⟩ => ⟨S8192x768, .f32⟩
  | .hbm, ⟨52, _⟩ => ⟨S8192x768, .f32⟩
  | .hbm, ⟨53, _⟩ => ⟨S_, .f32⟩
  | .hbm, ⟨54, _⟩ => ⟨S768, .f32⟩
  | .hbm, ⟨55, _⟩ => ⟨S1x768, .f32⟩
  | .hbm, ⟨56, _⟩ => ⟨S_, .f32⟩
  | .hbm, ⟨57, _⟩ => ⟨S4x768, .f32⟩
  | .hbm, ⟨58, _⟩ => ⟨S_, .f32⟩
  | .hbm, ⟨59, _⟩ => ⟨S8195x768, .f32⟩
  | .hbm, ⟨60, _⟩ => ⟨S8192x768, .f32⟩
  | .hbm, ⟨61, _⟩ => ⟨S_, .f32⟩
  | .hbm, ⟨62, _⟩ => ⟨S768, .f32⟩
  | .hbm, ⟨63, _⟩ => ⟨S1x768, .f32⟩
  | .hbm, ⟨64, _⟩ => ⟨S8192x768, .f32⟩
  | .hbm, ⟨65, _⟩ => ⟨S8192x768, .f32⟩
  | .hbm, ⟨66, _⟩ => ⟨S_, .f32⟩
  | .hbm, ⟨67, _⟩ => ⟨S768, .f32⟩
  | .hbm, ⟨68, _⟩ => ⟨S1x768, .f32⟩
  | .hbm, ⟨69, _⟩ => ⟨S_, .f32⟩
  | .hbm, ⟨70, _⟩ => ⟨S4x768, .f32⟩
  | .hbm, ⟨71, _⟩ => ⟨S4x768, .f32⟩
  | .hbm, ⟨72, _⟩ => ⟨S_, .f32⟩
  | .hbm, ⟨73, _⟩ => ⟨S8195x768, .f32⟩
  | .hbm, ⟨74, _⟩ => ⟨S8195x768, .f32⟩
  | .hbm, ⟨75, _⟩ => ⟨S8192x768, .f32⟩
  | .hbm, ⟨76, _⟩ => ⟨S_, .f32⟩
  | .hbm, ⟨77, _⟩ => ⟨S768, .f32⟩
  | .hbm, ⟨78, _⟩ => ⟨S1x768, .f32⟩
  | .hbm, ⟨79, _⟩ => ⟨S8192x768, .f32⟩
  | .hbm, ⟨80, _⟩ => ⟨S8192x768, .f32⟩
  | .hbm, ⟨81, _⟩ => ⟨S_, .f32⟩
  | .hbm, ⟨82, _⟩ => ⟨S768, .f32⟩
  | .hbm, ⟨83, _⟩ => ⟨S1x768, .f32⟩
  | .hbm, ⟨84, _⟩ => ⟨S_, .f32⟩
  | .hbm, ⟨85, _⟩ => ⟨S4x768, .f32⟩
  | .hbm, ⟨86, _⟩ => ⟨S4x768, .f32⟩
  | .hbm, ⟨87, _⟩ => ⟨S_, .f32⟩
  | .hbm, ⟨88, _⟩ => ⟨S8195x768, .f32⟩
  | .hbm, ⟨89, _⟩ => ⟨S8195x768, .f32⟩
  | .hbm, ⟨90, _⟩ => ⟨S8192x768, .f32⟩
  | .hbm, ⟨91, _⟩ => ⟨S_, .f32⟩
  | .hbm, ⟨92, _⟩ => ⟨S768, .f32⟩
  | .hbm, ⟨93, _⟩ => ⟨S1x768, .f32⟩
  | .hbm, ⟨94, _⟩ => ⟨S8192x768, .f32⟩
  | .hbm, ⟨95, _⟩ => ⟨S8192x768, .f32⟩
  | .hbm, ⟨96, _⟩ => ⟨S_, .f32⟩
  | .hbm, ⟨97, _⟩ => ⟨S768, .f32⟩
  | .hbm, ⟨98, _⟩ => ⟨S1x768, .f32⟩
  | .hbm, ⟨99, _⟩ => ⟨S_, .f32⟩
  | .hbm, ⟨100, _⟩ => ⟨S4x768, .f32⟩
  | .hbm, ⟨101, _⟩ => ⟨S4x768, .f32⟩
  | .hbm, ⟨102, _⟩ => ⟨S_, .f32⟩
  | .hbm, ⟨103, _⟩ => ⟨S8195x768, .f32⟩
  | .hbm, ⟨104, _⟩ => ⟨S8195x768, .f32⟩
  | .hbm, ⟨105, _⟩ => ⟨S3x768, .f32⟩
  | .hbm, ⟨106, _⟩ => ⟨S8192x768, .f32⟩
  | .hbm, ⟨107, _⟩ => ⟨S8192x768, .bf16⟩
  | .hbm, ⟨108, _⟩ => ⟨S1x768, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_cst_19 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Kernel22.lean ====
abbrev S8192x2048 : Shape := ⟨2, ![8192, 2048]⟩
abbrev S4x768 : Shape := ⟨2, ![4, 768]⟩
abbrev S768 : Shape := ⟨1, ![768]⟩
abbrev S1x768 : Shape := ⟨2, ![1, 768]⟩
abbrev S8x8192x64 : Shape := ⟨3, ![8, 8192, 64]⟩
abbrev S2x8192x64 : Shape := ⟨3, ![2, 8192, 64]⟩
abbrev S512x256 : Shape := ⟨2, ![512, 256]⟩
abbrev S8x256 : Shape := ⟨2, ![8, 256]⟩
abbrev S8x512x64 : Shape := ⟨3, ![8, 512, 64]⟩
abbrev S2x512x64 : Shape := ⟨3, ![2, 512, 64]⟩
abbrev S520x256 : Shape := ⟨2, ![520, 256]⟩
abbrev S1x256 : Shape := ⟨2, ![1, 256]⟩
abbrev S512x64 : Shape := ⟨2, ![512, 64]⟩
abbrev S1x512x64 : Shape := ⟨3, ![1, 512, 64]⟩

abbrev nBuf : Space → Nat
  | .hbm => 7
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S4x768, .f32⟩
  | .hbm, ⟨2, _⟩ => ⟨S768, .f32⟩
  | .hbm, ⟨3, _⟩ => ⟨S1x768, .f32⟩
  | .hbm, ⟨4, _⟩ => ⟨S8x8192x64, .f32⟩
  | .hbm, ⟨5, _⟩ => ⟨S2x8192x64, .f32⟩
  | .hbm, ⟨6, _⟩ => ⟨S2x8192x64, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S4x768, .f32⟩
  | .local _ .vmem, ⟨13, _⟩ => ⟨S1x768, .f32⟩
  | .local _ .vmem, ⟨14, _⟩ => ⟨S8x512x64, .f32⟩
  | .local _ .vmem, ⟨15, _⟩ => ⟨S8x512x64, .f32⟩
  | .local _ .vmem, ⟨16, _⟩ => ⟨S2x512x64, .f32⟩
  | .local _ .vmem, ⟨17, _⟩ => ⟨S2x512x64, .f32⟩
  | .local _ .vmem, ⟨18, _⟩ => ⟨S2x512x64, .f32⟩
  | .local _ .vmem, ⟨19, _⟩ => ⟨S2x512x64, .f32⟩
  | .local _ .vmem, ⟨20, _⟩ => ⟨S520x256, .f32⟩
  | .local _ .vmem, ⟨21, _⟩ => ⟨S520x256, .f32⟩
  | .local _ .vmem, ⟨22, _⟩ => ⟨S520x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference22Ideal.lean ====
abbrev S8192x2048 : Shape := ⟨2, ![8192, 2048]⟩
abbrev S4x768 : Shape := ⟨2, ![4, 768]⟩
abbrev S768 : Shape := ⟨1, ![768]⟩
abbrev S8192x768 : Shape := ⟨2, ![8192, 768]⟩
abbrev S_ : Shape := ⟨0, ![]⟩
abbrev S3x768 : Shape := ⟨2, ![3, 768]⟩
abbrev S8195x768 : Shape := ⟨2, ![8195, 768]⟩
abbrev S1x768 : Shape := ⟨2, ![1, 768]⟩
abbrev S8192x512 : Shape := ⟨2, ![8192, 512]⟩
abbrev S8192x128 : Shape := ⟨2, ![8192, 128]⟩
abbrev S8192x8x64 : Shape := ⟨3, ![8192, 8, 64]⟩
abbrev S8x8192x64 : Shape := ⟨3, ![8, 8192, 64]⟩
abbrev S8192x2x64 : Shape := ⟨3, ![8192, 2, 64]⟩
abbrev S2x8192x64 : Shape := ⟨3, ![2, 8192, 64]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x768, .f32⟩
  | .hbm, ⟨2, _⟩ => ⟨S768, .f32⟩
  | .hbm, ⟨3, _⟩ => ⟨S8192x768, .f32⟩
  | .hbm, ⟨4, _⟩ => ⟨S_, .f32⟩
  | .hbm, ⟨5, _⟩ => ⟨S3x768, .f32⟩
  | .hbm, ⟨6, _⟩ => ⟨S8195x768, .f32⟩
  | .hbm, ⟨7, _⟩ => ⟨S8192x768, .f32⟩
  | .hbm, ⟨8, _⟩ => ⟨S1x768, .f32⟩
  | .hbm, ⟨9, _⟩ => ⟨S768, .f32⟩
  | .hbm, ⟨10, _⟩ => ⟨S1x768, .f32⟩
  | .hbm, ⟨11, _⟩ => ⟨S8192x768, .f32⟩
  | .hbm, ⟨12, _⟩ => ⟨S8192x768, .f32⟩
  | .hbm, ⟨13, _⟩ => ⟨S8192x768, .f32⟩
  | .hbm, ⟨14, _⟩ => ⟨S1x768, .f32⟩
  | .hbm, ⟨15, _⟩ => ⟨S768, .f32⟩
  | .hbm, ⟨16, _⟩ => ⟨S1x768, .f32⟩
  | .hbm, ⟨17, _⟩ => ⟨S8192x768, .f32⟩
  | .hbm, ⟨18, _⟩ => ⟨S8192x768, .f32⟩
  | .hbm, ⟨19, _⟩ => ⟨S8192x768, .f32⟩
  | .hbm, ⟨20, _⟩ => ⟨S8192x768, .f32⟩
  | .hbm, ⟨21, _⟩ => ⟨S1x768, .f32⟩
  | .hbm, ⟨22, _⟩ => ⟨S768, .f32⟩
  | .hbm, ⟨23, _⟩ => ⟨S1x768, .f32⟩
  | .hbm, ⟨24, _⟩ => ⟨S8192x768, .f32⟩
  | .hbm, ⟨25, _⟩ => ⟨S8192x768, .f32⟩
  | .hbm, ⟨26, _⟩ => ⟨S8192x768, .f32⟩
  | .hbm, ⟨27, _⟩ => ⟨S8192x768, .f32⟩
  | .hbm, ⟨28, _⟩ => ⟨S1x768, .f32⟩
  | .hbm, ⟨29, _⟩ => ⟨S768, .f32⟩
  | .hbm, ⟨30, _⟩ => ⟨S1x768, .f32⟩
  | .hbm, ⟨31, _⟩ => ⟨S8192x768, .f32⟩
  | .hbm, ⟨32, _⟩ => ⟨S8192x768, .f32⟩
  | .hbm, ⟨33, _⟩ => ⟨S8192x768, .f32⟩
  | .hbm, ⟨34, _⟩ => ⟨S1x768, .f32⟩
  | .hbm, ⟨35, _⟩ => ⟨S8192x768, .f32⟩
  | .hbm, ⟨36, _⟩ => ⟨S8192x768, .f32⟩
  | .hbm, ⟨37, _⟩ => ⟨S8192x768, .f32⟩
  | .hbm, ⟨38, _⟩ => ⟨S8192x768, .f32⟩
  | .hbm, ⟨39, _⟩ => ⟨S_, .f32⟩
  | .hbm, ⟨40, _⟩ => ⟨S8192x768, .f32⟩
  | .hbm, ⟨41, _⟩ => ⟨S8192x768, .f32⟩
  | .hbm, ⟨42, _⟩ => ⟨S_, .f32⟩
  | .hbm, ⟨43, _⟩ => ⟨S8192x768, .f32⟩
  | .hbm, ⟨44, _⟩ => ⟨S8192x768, .f32⟩
  | .hbm, ⟨45, _⟩ => ⟨S8192x768, .f32⟩
  | .hbm, ⟨46, _⟩ => ⟨S8192x512, .f32⟩
  | .hbm, ⟨47, _⟩ => ⟨S8192x128, .f32⟩
  | .hbm, ⟨48, _⟩ => ⟨S8192x128, .f32⟩
  | .hbm, ⟨49, _⟩ => ⟨S8192x8x64, .f32⟩
  | .hbm, ⟨50, _⟩ => ⟨S8x8192x64, .f32⟩
  | .hbm, ⟨51, _⟩ => ⟨S8192x2x64, .f32⟩
  | .hbm, ⟨52, _⟩ => ⟨S2x8192x64, .f32⟩
  | .hbm, ⟨53, _⟩ => ⟨S8192x2x64, .f32⟩
  | .hbm, ⟨54, _⟩ => ⟨S2x8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.Col.lean ====
/- One column of a softmax taken block by block. A column holds a running maximum `m`, a running sum `l` of exponentials
   and running weighted sums `A`; a block of keys with scores `s` replaces the maximum, rescales the sums and adds the
   block's own terms. `Inv` says what the three hold after the first `n` keys, for some reference point `μ`: the sums of
   `exp (S k − μ)` over the keys that are allowed. That `μ` is the maximum is never needed. -/
module

public import Idealize.ShloMosaic.Lib.Pointwise

@[expose] public section

noncomputable section

namespace Cert.KernelIdeal.Val

open Idealize.ShloMosaic

/-- The weight of key `k` against the reference point `μ`: zero unless the key is allowed. -/
def wt (ok : ℕ → Prop) [DecidablePred ok] (S : ℕ → ℝ) (μ : ℝ) (k : ℕ) : ℝ := if ok k then Real.exp (S k - μ) else 0

/-- What a column holds after the first `n` keys. -/
def Inv {ι : Type} (ok : ℕ → Prop) [DecidablePred ok] (S : ℕ → ℝ) (V : ℕ → ι → ℝ) (n : ℕ) (m l : EReal) (A : ι → EReal) : Prop :=
  (n = 0 ∧ m = ⊥ ∧ l = 0 ∧ ∀ d, A d = 0) ∨
    ∃ μ : ℝ, m = (μ : EReal) ∧ l = ((∑ k ∈ Finset.range n, wt ok S μ k : ℝ) : EReal) ∧
      ∀ d, A d = ((∑ k ∈ Finset.range n, wt ok S μ k * V k d : ℝ) : EReal)

/-- A finite sum of reals is the real sum. -/
theorem coe_sum {α : Type} (s : Finset α) (f : α → ℝ) : ((∑ a ∈ s, f a : ℝ) : EReal) = ∑ a ∈ s, (f a : EReal) := by
  classical
  induction s using Finset.induction_on with
  | empty => simp
  | insert a s h ih => rw [Finset.sum_insert h, Finset.sum_insert h, EReal.coe_add, ih]

/-- The sum over the keys below `n + N` is that over those below `n` and the `N` after them. -/
theorem sum_range_fin (f : ℕ → ℝ) (n N : ℕ) :
    ∑ k ∈ Finset.range (n + N), f k = ∑ k ∈ Finset.range n, f k + ∑ k : Fin N, f (n + k.val) := by
  rw [Finset.sum_range_add, Finset.sum_range (fun k => f (n + k))]

theorem exp_mul_wt (ok : ℕ → Prop) [DecidablePred ok] (S : ℕ → ℝ) (μ ν : ℝ) (k : ℕ) :
    Real.exp (μ - ν) * wt ok S μ k = wt ok S ν k := by
  unfold wt
  split
  · rw [← Real.exp_add]; congr 1; ring
  · ring

/-- Terms that are zero add nothing: keys that are not allowed may be counted or not. -/
theorem Inv.extend {ι : Type} {ok : ℕ → Prop} [DecidablePred ok] {S : ℕ → ℝ} {V : ℕ → ι → ℝ} {n N : ℕ} {m l : EReal} {A : ι → EReal}
    (h : Inv ok S V n m l A) (hn : n ≠ 0) (hk : ∀ k, n ≤ k → ¬ ok k) : Inv ok S V (n + N) m l A := by
  rcases h with ⟨h0, _⟩ | ⟨μ, hm, hl, hA⟩
  · exact absurd h0 hn
  · have z : ∀ k : Fin N, wt ok S μ (n + k.val) = 0 := fun k => if_neg (hk _ (Nat.le_add_right _ _))
    refine .inr ⟨μ, hm, ?_, fun d => ?_⟩
    · rw [sum_range_fin, Finset.sum_eq_zero (fun k _ => z k), add_zero]; exact hl
    · rw [sum_range_fin (fun k => wt ok S μ k * V k d), Finset.sum_eq_zero (s := (Finset.univ : Finset (Fin N))) (fun k _ => by rw [z k, zero_mul]), add_zero]
      exact hA d

/-- The maximum of a running maximum that is not `+∞` and of scores that are not `+∞`, one of them real, is real. -/
theorem max_fold_real {N : ℕ} (m : EReal) (s : Fin N → EReal) (hm : m ≠ ⊤) (hs : ∀ k, s k ≠ ⊤)
    (h : m ≠ ⊥ ∨ ∃ k, s k ≠ ⊥) : ∃ ν : ℝ, max m (Finset.univ.fold max ⊥ s) = (ν : EReal) := by
  have ht : max m (Finset.univ.fold max ⊥ s) ≠ ⊤ := by
    rw [← lt_top_iff_ne_top, max_lt_iff, Finset.fold_max_lt]
    exact ⟨lt_top_iff_ne_top.2 hm, bot_lt_top, fun k _ => lt_top_iff_ne_top.2 (hs k)⟩
  have hb : max m (Finset.univ.fold max ⊥ s) ≠ ⊥ := by
    rw [← bot_lt_iff_ne_bot, lt_max_iff, Finset.lt_fold_max]
    rcases h with h | ⟨k, h⟩
    · exact .inl (bot_lt_iff_ne_bot.2 h)
    · exact .inr (.inr ⟨k, Finset.mem_univ _, bot_lt_iff_ne_bot.2 h⟩)
  exact ⟨_, (EReal.coe_toReal ht hb).symm⟩

/-- One block of `N` keys: the column after it holds what it should after `n + N` keys. -/
theorem Inv.step {ι : Type} {ok : ℕ → Prop} [DecidablePred ok] {S : ℕ → ℝ} {V : ℕ → ι → ℝ} {n N : ℕ} {m l : EReal} {A : ι → EReal}
    (h : Inv ok S V n m l A) (hN : 0 < N) (h0 : ok 0) (s : Fin N → EReal) (v : Fin N → ι → EReal)
    (hs : ∀ k, s k = if ok (n + k.val) then (S (n + k.val) : EReal) else ⊥)
    (hv : ∀ k d, v k d = (V (n + k.val) d : EReal)) :
    Inv ok S V (n + N) (max m (Finset.univ.fold max ⊥ s))
      (Ideal.exp (m - max m (Finset.univ.fold max ⊥ s)) * l + ∑ k, Ideal.exp (s k - max m (Finset.univ.fold max ⊥ s)))
      (fun d => Ideal.exp (m - max m (Finset.univ.fold max ⊥ s)) * A d
        + ∑ k, v k d * Ideal.exp (s k - max m (Finset.univ.fold max ⊥ s))) := by
  have hst : ∀ k, s k ≠ ⊤ := fun k => by rw [hs]; split <;> simp
  have key : ∀ ν : ℝ, ∀ k, Ideal.exp (s k - (ν : EReal)) = (wt ok S ν (n + k.val) : EReal) := fun ν k => by
    rw [hs]; unfold wt
    split
    · rw [← EReal.coe_sub, Ideal.exp_coe]
    · rw [EReal.bot_sub, Ideal.exp_bot, EReal.coe_zero]
  rcases h with ⟨hn, hm, hl, hA⟩ | ⟨μ, hm, hl, hA⟩
  · subst hn
    obtain ⟨ν, hν⟩ := max_fold_real m s (by rw [hm]; simp) hst (.inr ⟨⟨0, hN⟩, by rw [hs, if_pos (by simpa using h0)]; simp⟩)
    rw [hν]
    refine .inr ⟨ν, rfl, ?_, fun d => ?_⟩
    · rw [hl, mul_zero, zero_add, sum_range_fin, Finset.range_zero, Finset.sum_empty, zero_add, coe_sum]
      exact Finset.sum_congr rfl fun k _ => key ν k
    · dsimp only
      rw [hA, mul_zero, zero_add, sum_range_fin (fun k => wt ok S ν k * V k d), Finset.range_zero, Finset.sum_empty, zero_add, coe_sum]
      exact Finset.sum_congr rfl fun k _ => by rw [key ν k, hv, EReal.coe_mul, mul_comm]
  · obtain ⟨ν, hν⟩ := max_fold_real m s (by rw [hm]; simp) hst (.inl (by rw [hm]; simp))
    rw [hν]
    have ha : Ideal.exp (m - (ν : EReal)) = (Real.exp (μ - ν) : EReal) := by rw [hm, ← EReal.coe_sub, Ideal.exp_coe]
    refine .inr ⟨ν, rfl, ?_, fun d => ?_⟩
    · rw [hl, ha, ← EReal.coe_mul, sum_range_fin, EReal.coe_add, Finset.mul_sum, coe_sum (Finset.univ : Finset (Fin N))]
      exact congrArg₂ _ (congrArg _ (Finset.sum_congr rfl fun k _ => exp_mul_wt ok S μ ν k))
        (Finset.sum_congr rfl fun k _ => key ν k)
    · dsimp only
      rw [hA, ha, ← EReal.coe_mul, sum_range_fin (fun k => wt ok S ν k * V k d), EReal.coe_add, Finset.mul_sum, coe_sum (Finset.univ : Finset (Fin N))]
      exact congrArg₂ _ (congrArg _ (Finset.sum_congr rfl fun k _ => by rw [← mul_assoc, exp_mul_wt]))
        (Finset.sum_congr rfl fun k _ => by rw [key ν k, hv, EReal.coe_mul, mul_comm])

/-- The quotient and the logarithm at the end do not depend on the reference point. -/
theorem Inv.final {ι : Type} {ok : ℕ → Prop} [DecidablePred ok] {S : ℕ → ℝ} {V : ℕ → ι → ℝ} {n : ℕ} {m l : EReal} {A : ι → EReal}
    (h : Inv ok S V n m l A) (hn : n ≠ 0) (h0 : ok 0) :
    (∀ d, Ideal.div (A d) l = (((∑ k ∈ Finset.range n, (if ok k then Real.exp (S k) else 0) * V k d)
        / ∑ k ∈ Finset.range n, (if ok k then Real.exp (S k) else 0) : ℝ) : EReal))
      ∧ m + Ideal.log l = ((Real.log (∑ k ∈ Finset.range n, (if ok k then Real.exp (S k) else 0)) : ℝ) : EReal) := by
  rcases h with ⟨h0, _⟩ | ⟨μ, hm, hl, hA⟩
  · exact absurd h0 hn
  have pos : 0 < ∑ k ∈ Finset.range n, wt ok S μ k := by
    refine Finset.sum_pos' (fun k _ => ?_) ⟨0, Finset.mem_range.2 (Nat.pos_of_ne_zero hn), ?_⟩
    · unfold wt; split <;> positivity
    · unfold wt; rw [if_pos h0]; positivity
  have e : ∀ k, (if ok k then Real.exp (S k) else 0) = Real.exp μ * wt ok S μ k := fun k => by
    unfold wt; split
    · rw [← Real.exp_add]; congr 1; ring
    · ring
  refine ⟨fun d => ?_, ?_⟩
  · rw [hA, hl, Ideal.div_coe pos.ne', ← EReal.coe_mul]
    congr 1
    simp only [e, mul_assoc, ← Finset.mul_sum]
    rw [mul_div_mul_left _ _ (Real.exp_pos μ).ne', mul_one_div]
  · rw [hm, hl, Ideal.log_coe, if_neg (not_le.2 pos), ← EReal.coe_add]
    congr 1
    simp only [e, ← Finset.mul_sum]
    rw [Real.log_mul (Real.exp_pos μ).ne' pos.ne', Real.log_exp]

end Cert.KernelIdeal.Val

end
-- ==== Proof.Mask.lean ====
/- The causal mask of a block at the diagonal: local column minus local key, compared with zero as 32-bit words. -/
module

public import Idealize.ShloMosaic.Lib.Pointwise

@[expose] public section

noncomputable section

namespace Cert.KernelIdeal.Val

open Idealize.ShloMosaic

theorem mask_word {α : Type} (k c : ℕ) (hk : k < 1024) (hc : c < 1024) (a b : α) :
    Scalar.select (IntOp.cmpi CmpIPredicate.sge (IntOp.subi (BitVec.ofNat 32 c) (BitVec.ofNat 32 k)) 0#32) a b = if k ≤ c then a else b := by
  have h : (0#32).sle (BitVec.ofNat 32 c - BitVec.ofNat 32 k) = decide (k ≤ c) := by
    rw [BitVec.sle_eq_decide]
    congr 1
    rw [BitVec.toInt_zero, BitVec.toInt_sub, BitVec.toInt_eq_toNat_cond, BitVec.toInt_eq_toNat_cond, BitVec.toNat_ofNat, BitVec.toNat_ofNat,
      Nat.mod_eq_of_lt (by omega), Nat.mod_eq_of_lt (by omega), if_pos (by omega), if_pos (by omega), Int.bmod_def]
    apply propext
    split <;> omega
  unfold Scalar.select IntOp.cmpi IntOp.subi
  simp only [h]
  by_cases e : k ≤ c <;> simp [e]

end Cert.KernelIdeal.Val
-- ==== Proof.PayF.lean ====
/- The forward attention's block of keys, entry by entry: each of the three stores of a block, at a column, is one step
   of `Inv` (Proof/Col.lean). -/
module

public import proofs.«01_k».proof.Proof.Gen.KernelIdeal.Skeleton
public import proofs.«01_k».proof.Proof.Col
public import proofs.«01_k».proof.Proof.Mask
public import Idealize.ShloMosaic.Lib.StableHlo.Run
public import Idealize.ShloMosaic.Lib.Pointwise

@[expose] public section

noncomputable section

namespace Cert.KernelIdeal.Val

open Idealize.ShloMosaic Idealize.SL.Sem Cert.KernelIdeal.Gen

/-- The score of key `k` against a query `x`. -/
def sc (x : Fin 128 → ℝ) (X1 : ℕ → Fin 128 → ℝ) (k : ℕ) : ℝ := ∑ d, X1 k d * x d

/-- The word of minus infinity. -/
theorem bot_word : Ideal.ofBits FTy.f32 4286578688#32 = ⊥ := by simp [Ideal.ofBits, Ideal.ieee]

theorem zero_word : Ideal.ofBits FTy.f32 0#32 = 0 := by simp [Ideal.ofBits, Ideal.ieee]

theorem coe_dot {n : ℕ} (a b : Fin n → EReal) (x y : Fin n → ℝ) (ha : ∀ d, a d = (x d : EReal)) (hb : ∀ d, b d = (y d : EReal)) :
    ∑ d, a d * b d = ((∑ d, x d * y d : ℝ) : EReal) := by
  rw [coe_sum]; exact Finset.sum_congr rfl fun d _ => by rw [ha, hb, EReal.coe_mul]

/-! ### A block below the diagonal -/

section Full
variable (K V : Vec Ideal S512x128 .bf16) (Q : Vec Ideal S1x128x1024 .bf16) (m l : Vec Ideal S1x1024 .f32) (a : Vec Ideal S128x1024 .f32)

theorem pay5_at (k : Fin 512) (c : Fin 1024) : k0_pay5 (F := Ideal) K Q (ix2 k c) = ∑ d : Fin 128, K (ix2 k d) * Q (ix3 0 d c) := by
  pointwise [k0_pay5]

theorem pay6_at (c : Fin 1024) : k0_pay6 (F := Ideal) K Q m (ix2 0 c)
    = max (m (ix2 0 c)) (Finset.univ.fold max ⊥ fun k => k0_pay5 (F := Ideal) K Q (ix2 k c)) := by
  rw [← bot_word]; pointwise [k0_pay6]

theorem pay20_at (x : Vec Ideal S1x1024 .f32) (c : Fin 1024) : k0_pay20 (F := Ideal) x (ix2 0 c) = x (ix2 0 c) := by
  pointwise [k0_pay20]

theorem pay9_at (c : Fin 1024) : k0_pay9 (F := Ideal) K Q m l (ix2 0 c)
    = Ideal.exp (m (ix2 0 c) - k0_pay6 (F := Ideal) K Q m (ix2 0 c)) * l (ix2 0 c)
      + ∑ k, Ideal.exp (k0_pay5 (F := Ideal) K Q (ix2 k c) - k0_pay6 (F := Ideal) K Q m (ix2 0 c)) := by
  pointwise [k0_pay9, k0_pay8, k0_pay7]

theorem pay10_at (d : Fin 128) (c : Fin 1024) : k0_pay10 (F := Ideal) K V Q m a (ix2 d c)
    = Ideal.exp (m (ix2 0 c) - k0_pay6 (F := Ideal) K Q m (ix2 0 c)) * a (ix2 d c)
      + ∑ k, V (ix2 k d) * Ideal.exp (k0_pay5 (F := Ideal) K Q (ix2 k c) - k0_pay6 (F := Ideal) K Q m (ix2 0 c)) := by
  pointwise [k0_pay10, k0_pay8, k0_pay7]

/-- A block of keys that are all allowed. -/
theorem full_step (ok : ℕ → Prop) [DecidablePred ok] (x : Fin 128 → ℝ) (X1 X2 : ℕ → Fin 128 → ℝ) (n : ℕ) (c : Fin 1024)
    (h0 : ok 0) (hok : ∀ k : Fin 512, ok (n + k.val))
    (hQ : ∀ d, Q (ix3 0 d c) = ((x d : ℝ) : EReal)) (hK : ∀ (k : Fin 512) d, K (ix2 k d) = ((X1 (n + k.val) d : ℝ) : EReal))
    (hV : ∀ (k : Fin 512) d, V (ix2 k d) = ((X2 (n + k.val) d : ℝ) : EReal))
    (h : Inv ok (sc x X1) X2 n (m (ix2 0 c)) (l (ix2 0 c)) fun d => a (ix2 d c)) :
    Inv ok (sc x X1) X2 (n + 512) (k0_pay20 (F := Ideal) (k0_pay6 (F := Ideal) K Q m) (ix2 0 c))
      (k0_pay9 (F := Ideal) K Q m l (ix2 0 c)) fun d => k0_pay10 (F := Ideal) K V Q m a (ix2 d c) := by
  simp only [pay20_at, pay9_at, pay10_at, pay6_at]
  refine Inv.step h (by norm_num) h0 _ (fun k d => V (ix2 k d)) (fun k => ?_) hV
  rw [if_pos (hok k), pay5_at]
  exact coe_dot _ _ _ _ (hK k) hQ
end Full

/-! ### The first block at the diagonal: every query of the tile against its first half of keys -/

section Band0
variable (K V : Vec Ideal S512x128 .bf16) (Q : Vec Ideal S1x128x1024 .bf16) (m l : Vec Ideal S1x1024 .f32) (a : Vec Ideal S128x1024 .f32)
  (s : Vec Ideal S512x1024 .f32)

theorem pay23_at (k : Fin 512) (c : Fin 1024) : k0_pay23 (F := Ideal) K Q (ix2 k c) = ∑ d : Fin 128, K (ix2 k d) * Q (ix3 0 d c) := by
  pointwise [k0_pay23]

theorem pay22_at (k : Fin 512) (d : Fin 128) : k0_pay22 (F := Ideal) V (ix2 k d) = V (ix2 k d) := by
  pointwise [k0_pay22]

theorem pay25_at (c : Fin 1024) : k0_pay25 (F := Ideal) s m (ix2 0 c)
    = max (m (ix2 0 c)) (Finset.univ.fold max ⊥ fun k => k0_pay24 (F := Ideal) s (ix2 k c)) := by
  rw [← bot_word]; pointwise [k0_pay25]

theorem pay30_at (c : Fin 1024) : k0_pay30 (F := Ideal) s m (ix2 0 c) = k0_pay25 (F := Ideal) s m (ix2 0 c) := by
  pointwise [k0_pay30]

theorem pay28_at (c : Fin 1024) : k0_pay28 (F := Ideal) s m l (ix2 0 c)
    = Ideal.exp (m (ix2 0 c) - k0_pay25 (F := Ideal) s m (ix2 0 c)) * l (ix2 0 c)
      + ∑ k, Ideal.exp (k0_pay24 (F := Ideal) s (ix2 k c) - k0_pay25 (F := Ideal) s m (ix2 0 c)) := by
  pointwise [k0_pay28, k0_pay27, k0_pay26]

theorem pay29_at (d : Fin 128) (c : Fin 1024) : k0_pay29 (F := Ideal) V s m a (ix2 d c)
    = Ideal.exp (m (ix2 0 c) - k0_pay25 (F := Ideal) s m (ix2 0 c)) * a (ix2 d c)
      + ∑ k, V (ix2 k d) * Ideal.exp (k0_pay24 (F := Ideal) s (ix2 k c) - k0_pay25 (F := Ideal) s m (ix2 0 c)) := by
  pointwise [k0_pay29, k0_pay27, k0_pay26]

theorem pay24_at (k : Fin 512) (c : Fin 1024) : k0_pay24 (F := Ideal) s (ix2 k c) = if k.val ≤ c.val then s (ix2 k c) else ⊥ := by
  pointwise [k0_pay24]
  rw [mask_word _ _ (by omega) (by omega), IdealRules.named_const.ideal_named_scalar κ "mask" _ ⊥ rfl]

/-- The first block at the diagonal is a step: local key against local column is key against query. -/
theorem band0_step (ok : ℕ → Prop) [DecidablePred ok] (x : Fin 128 → ℝ) (X1 X2 : ℕ → Fin 128 → ℝ) (n : ℕ) (c : Fin 1024)
    (h0 : ok 0) (hok : ∀ k : Fin 512, ok (n + k.val) ↔ k.val ≤ c.val)
    (hQ : ∀ d, Q (ix3 0 d c) = ((x d : ℝ) : EReal)) (hK : ∀ (k : Fin 512) d, K (ix2 k d) = ((X1 (n + k.val) d : ℝ) : EReal))
    (hV : ∀ (k : Fin 512) d, V (ix2 k d) = ((X2 (n + k.val) d : ℝ) : EReal))
    (h : Inv ok (sc x X1) X2 n (m (ix2 0 c)) (l (ix2 0 c)) fun d => a (ix2 d c)) :
    Inv ok (sc x X1) X2 (n + 512) (k0_pay30 (F := Ideal) (k0_pay23 (F := Ideal) K Q) m (ix2 0 c))
      (k0_pay28 (F := Ideal) (k0_pay23 (F := Ideal) K Q) m l (ix2 0 c))
      fun d => k0_pay29 (F := Ideal) (k0_pay22 (F := Ideal) V) (k0_pay23 (F := Ideal) K Q) m a (ix2 d c) := by
  simp only [pay30_at, pay28_at, pay29_at, pay25_at, pay22_at]
  refine Inv.step h (by norm_num) h0 _ (fun k d => V (ix2 k d)) (fun k => ?_) hV
  rw [pay24_at, if_congr (hok k).symm rfl rfl, pay23_at]
  split
  · exact coe_dot _ _ _ _ (hK k) hQ
  · rfl

end Band0

section Band1
variable (K V : Vec Ideal S512x128 .bf16) (Q : Vec Ideal S1x128x512 .bf16) (m l : Vec Ideal S1x512 .f32) (a : Vec Ideal S128x512 .f32)

theorem pay31_at (k c : Fin 512) : k0_pay31 (F := Ideal) K Q (ix2 k c)
    = if k.val ≤ c.val then ∑ d : Fin 128, K (ix2 k d) * Q (ix3 0 d c) else ⊥ := by
  pointwise [k0_pay31]
  rw [mask_word _ _ (by omega) (by omega), IdealRules.named_const.ideal_named_scalar κ "mask" _ ⊥ rfl]

theorem pay32_at (c : Fin 512) : k0_pay32 (F := Ideal) K Q m (ix2 0 c)
    = max (m (ix2 0 c)) (Finset.univ.fold max ⊥ fun k => k0_pay31 (F := Ideal) K Q (ix2 k c)) := by
  rw [← bot_word]; pointwise [k0_pay32]

theorem pay2_at (x : Vec Ideal S1x512 .f32) (c : Fin 512) : k0_pay2 (F := Ideal) x (ix2 0 c) = x (ix2 0 c) := by
  pointwise [k0_pay2]

theorem pay1_at (x : Vec Ideal S128x512 .f32) (d : Fin 128) (c : Fin 512) : k0_pay1 (F := Ideal) x (ix2 d c) = x (ix2 d c) := by
  pointwise [k0_pay1]

theorem pay35_at (c : Fin 512) : k0_pay35 (F := Ideal) K Q m l (ix2 0 c)
    = Ideal.exp (m (ix2 0 c) - k0_pay32 (F := Ideal) K Q m (ix2 0 c)) * l (ix2 0 c)
      + ∑ k, Ideal.exp (k0_pay31 (F := Ideal) K Q (ix2 k c) - k0_pay32 (F := Ideal) K Q m (ix2 0 c)) := by
  pointwise [k0_pay35, k0_pay34, k0_pay33]

theorem pay36_at (d : Fin 128) (c : Fin 512) : k0_pay36 (F := Ideal) K V Q m a (ix2 d c)
    = Ideal.exp (m (ix2 0 c) - k0_pay32 (F := Ideal) K Q m (ix2 0 c)) * a (ix2 d c)
      + ∑ k, V (ix2 k d) * Ideal.exp (k0_pay31 (F := Ideal) K Q (ix2 k c) - k0_pay32 (F := Ideal) K Q m (ix2 0 c)) := by
  pointwise [k0_pay36, k0_pay34, k0_pay33]

/-- The second block at the diagonal is a step of the tile's later columns. -/
theorem band1_step (ok : ℕ → Prop) [DecidablePred ok] (x : Fin 128 → ℝ) (X1 X2 : ℕ → Fin 128 → ℝ) (n : ℕ) (c : Fin 512)
    (h0 : ok 0) (hok : ∀ k : Fin 512, ok (n + k.val) ↔ k.val ≤ c.val)
    (hQ : ∀ d, Q (ix3 0 d c) = ((x d : ℝ) : EReal)) (hK : ∀ (k : Fin 512) d, K (ix2 k d) = ((X1 (n + k.val) d : ℝ) : EReal))
    (hV : ∀ (k : Fin 512) d, V (ix2 k d) = ((X2 (n + k.val) d : ℝ) : EReal))
    (h : Inv ok (sc x X1) X2 n (m (ix2 0 c)) (l (ix2 0 c)) fun d => a (ix2 d c)) :
    Inv ok (sc x X1) X2 (n + 512) (k0_pay2 (F := Ideal) (k0_pay32 (F := Ideal) K Q m) (ix2 0 c))
      (k0_pay35 (F := Ideal) K Q m l (ix2 0 c))
      fun d => k0_pay1 (F := Ideal) (k0_pay36 (F := Ideal) K V Q m a) (ix2 d c) := by
  simp only [pay2_at, pay1_at, pay35_at, pay36_at, pay32_at]
  refine Inv.step h (by norm_num) h0 _ (fun k d => V (ix2 k d)) (fun k => ?_) hV
  rw [pay31_at, if_congr (hok k).symm rfl rfl]
  split
  · exact coe_dot _ _ _ _ (hK k) hQ
  · rfl
end Band1

/-! ### The stores before the first block and after the last -/

theorem pay17_at (d : Fin 128) (c : Fin 1024) : k0_pay17 (F := Ideal) (ix2 d c) = 0 := by
  rw [← zero_word]; pointwise [k0_pay17]

theorem pay19_at (c : Fin 1024) : k0_pay19 (F := Ideal) (ix2 0 c) = 0 := by
  rw [← zero_word]; pointwise [k0_pay19]

theorem pay18_at (c : Fin 1024) : k0_pay18 (F := Ideal) (ix2 0 c) = ⊥ := by
  pointwise [k0_pay18]
  exact IdealRules.named_const.ideal_named_scalar κ "mask" _ ⊥ rfl

theorem pay3_at (a : Vec Ideal S128x1024 .f32) (l : Vec Ideal S1x1024 .f32) (d : Fin 128) (c : Fin 1024) :
    k0_pay3 (F := Ideal) a l (ix3 0 d c) = Ideal.div (a (ix2 d c)) (l (ix2 0 c)) := by
  pointwise [k0_pay3]

theorem pay4_at (m l : Vec Ideal S1x1024 .f32) (c : Fin 1024) :
    k0_pay4 (F := Ideal) m l (ix3 0 0 c) = m (ix2 0 c) + Ideal.log (l (ix2 0 c)) := by
  pointwise [k0_pay4]

end Cert.KernelIdeal.Val
-- ==== Proof.BodyF.lean ====
/- What the forward body leaves: the loop over the blocks below the diagonal and the two blocks at it, as steps of `Inv` at every column of the tile. -/
module

public import proofs.«01_k».proof.Proof.Gen.KernelIdeal.Frame
public import proofs.«01_k».proof.Proof.PayF
public import Idealize.ShloMosaic.Lib.VecWindow
public import Idealize.ShloMosaic.Lib.WholeRead

@[expose] public section

noncomputable section

namespace Cert.KernelIdeal.Val

open Idealize.ShloMosaic Idealize.SL.Sem Cert.KernelIdeal.Gen

/-- Column `c` of the later half. -/
def hiC (c : Fin 512) : Fin 1024 := ⟨512 + c.val, by omega⟩

/-! ### Loads of part of a buffer, at an entry -/

section Loads
variable {sg : RefSig} {κ : Kind} {sp : Space} {e : EltTy} {Val : EltTy → Type}

/-- A load of 512 rows from row `n`. -/
theorem rows_at {off : Fin 2 → ℕ} (v : View sg κ sp S8192x128 e) (f : v.ty.Contents Val) (inb : ∀ a, off a + S512x128.size a ≤ S8192x128.size a)
    (n : ℕ) (hoff : off = ![n, 0]) (k : Fin 512) (d : Fin 128) (h : n + k.val < 8192) :
    v.readAt Val (Rect.unit (s := S8192x128) off S512x128.size inb).toLoadRect f (ix2 k d) = v.read Val f (ix2 ⟨n + k.val, h⟩ d) := by
  subst hoff
  refine congrArg (v.read Val f) (funext fun a => Fin.ext ?_)
  match a with
  | ⟨0, _⟩ => show n + 1 * k.val = n + k.val; omega
  | ⟨1, _⟩ => show 0 + 1 * d.val = d.val; omega

/-- A load of the later half of the columns. -/
theorem cols_at (v : View sg κ sp S128x1024 e) (f : v.ty.Contents Val) (inb : ∀ a, (![0, 512] : Fin 2 → ℕ) a + S128x512.size a ≤ S128x1024.size a)
    (d : Fin 128) (c : Fin 512) :
    v.readAt Val (Rect.unit (s := S128x1024) ![0, 512] S128x512.size inb).toLoadRect f (ix2 d c) = v.read Val f (ix2 d (hiC c)) := by
  refine congrArg (v.read Val f) (funext fun a => Fin.ext ?_)
  match a with
  | ⟨0, _⟩ => show 0 + 1 * d.val = d.val; omega
  | ⟨1, _⟩ => show 512 + 1 * c.val = 512 + c.val; omega

theorem row1_at (v : View sg κ sp S1x1024 e) (f : v.ty.Contents Val) (inb : ∀ a, (![0, 512] : Fin 2 → ℕ) a + S1x512.size a ≤ S1x1024.size a) (c : Fin 512) :
    v.readAt Val (Rect.unit (s := S1x1024) ![0, 512] S1x512.size inb).toLoadRect f (ix2 0 c) = v.read Val f (ix2 0 (hiC c)) := by
  refine congrArg (v.read Val f) (funext fun a => Fin.ext ?_)
  match a with
  | ⟨0, _⟩ => rfl
  | ⟨1, _⟩ => show 512 + 1 * c.val = 512 + c.val; omega

theorem tile_at (v : View sg κ sp S1x128x1024 e) (f : v.ty.Contents Val)
    (inb : ∀ a, (![0, 0, 512] : Fin 3 → ℕ) a + S1x128x512.size a ≤ S1x128x1024.size a) (d : Fin 128) (c : Fin 512) :
    v.readAt Val (Rect.unit (s := S1x128x1024) ![0, 0, 512] S1x128x512.size inb).toLoadRect f (ix3 0 d c) = v.read Val f (ix3 0 d (hiC c)) := by
  refine congrArg (v.read Val f) (funext fun a => Fin.ext ?_)
  match a with
  | ⟨0, _⟩ => rfl
  | ⟨1, _⟩ => show 0 + 1 * d.val = d.val; omega
  | ⟨2, _⟩ => show 512 + 1 * c.val = 512 + c.val; omega

/-! ### A store into the later half of the columns -/

theorem put_cols_hi (v : View sg κ sp S128x1024 e) (f : v.ty.Contents Val) (inb : ∀ a, (![0, 512] : Fin 2 → ℕ) a + S128x512.size a ≤ S128x1024.size a)
    (w : S128x512.Idx → Val e) (L : List (View.Piece Val S128x1024 e)) (d : Fin 128) (c : Fin 512) :
    v.read Val (v.writes Val f (⟨Rect.unit (s := S128x1024) ![0, 512] S128x512.size inb, w⟩ :: L)) (ix2 d (hiC c)) = w (ix2 d c) := by
  refine View.read_writes_cons_unit_of_mem v f inb w L _ (ix2 d c) rfl fun a => ?_
  match a with
  | ⟨0, _⟩ => show d.val = 0 + d.val; omega
  | ⟨1, _⟩ => rfl

theorem put_cols_lo (v : View sg κ sp S128x1024 e) (f : v.ty.Contents Val) (inb : ∀ a, (![0, 512] : Fin 2 → ℕ) a + S128x512.size a ≤ S128x1024.size a)
    (w : S128x512.Idx → Val e) (L : List (View.Piece Val S128x1024 e)) (d : Fin 128) (c : Fin 1024) (h : c.val < 512) :
    v.read Val (v.writes Val f (⟨Rect.unit (s := S128x1024) ![0, 512] S128x512.size inb, w⟩ :: L)) (ix2 d c) = v.read Val (v.writes Val f L) (ix2 d c) :=
  View.read_writes_cons_unit_of_not_mem v f inb w L _ rfl 1 (.inl h)

theorem put_row1_hi (v : View sg κ sp S1x1024 e) (f : v.ty.Contents Val) (inb : ∀ a, (![0, 512] : Fin 2 → ℕ) a + S1x512.size a ≤ S1x1024.size a)
    (w : S1x512.Idx → Val e) (L : List (View.Piece Val S1x1024 e)) (c : Fin 512) :
    v.read Val (v.writes Val f (⟨Rect.unit (s := S1x1024) ![0, 512] S1x512.size inb, w⟩ :: L)) (ix2 0 (hiC c)) = w (ix2 0 c) := by
  refine View.read_writes_cons_unit_of_mem v f inb w L _ (ix2 0 c) rfl fun a => ?_
  match a with
  | ⟨0, _⟩ => rfl
  | ⟨1, _⟩ => rfl

theorem put_row1_lo (v : View sg κ sp S1x1024 e) (f : v.ty.Contents Val) (inb : ∀ a, (![0, 512] : Fin 2 → ℕ) a + S1x512.size a ≤ S1x1024.size a)
    (w : S1x512.Idx → Val e) (L : List (View.Piece Val S1x1024 e)) (c : Fin 1024) (h : c.val < 512) :
    v.read Val (v.writes Val f (⟨Rect.unit (s := S1x1024) ![0, 512] S1x512.size inb, w⟩ :: L)) (ix2 0 c) = v.read Val (v.writes Val f L) (ix2 0 c) :=
  View.read_writes_cons_unit_of_not_mem v f inb w L _ rfl 1 (.inl h)
end Loads

/-! ### The state of a tile -/

/-- Every column of the tile that starts at query `T` after the first `n` keys. -/
def ColF (T : ℕ) (X0 : Fin 1024 → Fin 128 → ℝ) (X1 X2 : ℕ → Fin 128 → ℝ) (n : ℕ) (A : Vec Ideal S128x1024 .f32) (M L : Vec Ideal S1x1024 .f32) : Prop :=
  ∀ c : Fin 1024, Inv (fun k => k ≤ T + c.val) (sc (X0 c) X1) X2 n (M (ix2 0 c)) (L (ix2 0 c)) fun d => A (ix2 d c)

theorem trips0 : ∀ i : grid0.Coords, (k0_t1_loop i).trips = 2 * (i 1).val := by decide +kernel

section Body
variable (c : Dev nD) (i : grid0.Coords) (arg2 : Memref sig .tc .vmem S1x128x1024 .bf16) (harg2 : arg2.IsWhole) (arg3 : Memref sig .tc .vmem S8192x128 .bf16) (harg3 : arg3.IsWhole) (arg4 : Memref sig .tc .vmem S8192x128 .bf16) (harg4 : arg4.IsWhole)
  (arg5 : Memref sig .tc .vmem S1x128x1024 .f32) (harg5 : arg5.IsWhole) (arg6 : Memref sig .tc .vmem S1x1x1024 .f32) (harg6 : arg6.IsWhole) (arg7 : Memref sig .tc .vmem S128x1024 .f32) (harg7 : arg7.IsWhole)
  (arg8 : Memref sig .tc .vmem S1x1024 .f32) (harg8 : arg8.IsWhole) (arg9 : Memref sig .tc .vmem S1x1024 .f32) (harg9 : arg9.IsWhole)
  (Y2 : BufTy.Contents (Elt Ideal) arg2.view.ty) (Y3 : BufTy.Contents (Elt Ideal) arg3.view.ty) (Y4 : BufTy.Contents (Elt Ideal) arg4.view.ty)

/-- The three stores of a trip, each a store of the whole buffer. -/
theorem trip_reads (k : Fin (k0_t1_loop i).trips) (f7 : BufTy.Contents (Elt Ideal) arg7.view.ty) (f8 : BufTy.Contents (Elt Ideal) arg8.view.ty) (f9 : BufTy.Contents (Elt Ideal) arg9.view.ty)
    (L7 : List (View.Piece (Elt Ideal) S128x1024 .f32)) (L8 L9 : List (View.Piece (Elt Ideal) S1x1024 .f32)) (g7 : BufTy.Contents (Elt Ideal) arg7.view.ty) (g8 : BufTy.Contents (Elt Ideal) arg8.view.ty) (g9 : BufTy.Contents (Elt Ideal) arg9.view.ty) :
    let K := arg3.view.readAt (Elt Ideal) (Rect.unit (s := S8192x128) (k0_off1 i k) S512x128.size (k0_off1_inb i k)).toLoadRect Y3
    let V := arg4.view.readAt (Elt Ideal) (Rect.unit (s := S8192x128) (k0_off1 i k) S512x128.size (k0_off1_inb i k)).toLoadRect Y4
    let Q := arg2.view.read (Elt Ideal) Y2
    let t := tripL_k0_t1 (F := Ideal) Variants.none c none i arg2 harg2 arg3 harg3 arg4 harg4 arg5 harg5 arg6 harg6 arg7 harg7 arg8 harg8 arg9 harg9 Y2 Y3 Y4 k f7 f8 f9
    arg7.view.read (Elt Ideal) (arg7.view.writes (Elt Ideal) g7 (t.1 ++ L7)) = k0_pay10 (F := Ideal) K V Q (arg8.view.read (Elt Ideal) f8) (arg7.view.read (Elt Ideal) f7)
    ∧ arg8.view.read (Elt Ideal) (arg8.view.writes (Elt Ideal) g8 (t.2.1 ++ L8)) = k0_pay20 (F := Ideal) (k0_pay6 (F := Ideal) K Q (arg8.view.read (Elt Ideal) f8))
    ∧ arg9.view.read (Elt Ideal) (arg9.view.writes (Elt Ideal) g9 (t.2.2 ++ L9)) = k0_pay9 (F := Ideal) K Q (arg8.view.read (Elt Ideal) f8) (arg9.view.read (Elt Ideal) f9) := by
  intro K V Q t
  have e2 := View.readAt_full arg2.view Y2 inb_S1x128x1024_S1x128x1024_0_0_0
  have e7 := View.readAt_full arg7.view f7 inb_S128x1024_S128x1024_0_0
  have e8 := View.readAt_full arg8.view f8 inb_S1x1024_S1x1024_0_0
  have e9 := View.readAt_full arg9.view f9 inb_S1x1024_S1x1024_0_0
  show _ = k0_pay10 (F := Ideal) K V (arg2.view.read (Elt Ideal) Y2) _ _ ∧ _ = k0_pay20 (F := Ideal) (k0_pay6 (F := Ideal) K (arg2.view.read (Elt Ideal) Y2) _) ∧ _ = k0_pay9 (F := Ideal) K (arg2.view.read (Elt Ideal) Y2) _ _
  rw [← e2, ← e7, ← e8, ← e9]
  unfold t
  unfold tripL_k0_t1 trip_k0_t1
  dsimp only [List.cons_append, List.nil_append]
  refine ⟨?_, ?_, ?_⟩
  · rw [View.read_writes_full]; rfl
  · rw [View.read_writes_full]; rfl
  · rw [View.read_writes_full]; rfl

/-- The blocks below the diagonal. -/
theorem loopF (X0 : Fin 1024 → Fin 128 → ℝ) (X1 X2 : ℕ → Fin 128 → ℝ)
    (h2 : ∀ d c, arg2.view.read (Elt Ideal) Y2 (ix3 0 d c) = ((X0 c d : ℝ) : EReal))
    (h3 : ∀ (k : Fin 8192) d, arg3.view.read (Elt Ideal) Y3 (ix2 k d) = ((X1 k.val d : ℝ) : EReal))
    (h4 : ∀ (k : Fin 8192) d, arg4.view.read (Elt Ideal) Y4 (ix2 k d) = ((X2 k.val d : ℝ) : EReal))
    (G7 : BufTy.Contents (Elt Ideal) arg7.view.ty) (G8 : BufTy.Contents (Elt Ideal) arg8.view.ty) (G9 : BufTy.Contents (Elt Ideal) arg9.view.ty)
    (h0 : ColF (1024 * (i 1).val) X0 X1 X2 0 (arg7.view.read (Elt Ideal) G7) (arg8.view.read (Elt Ideal) G8) (arg9.view.read (Elt Ideal) G9)) (k : ℕ)
    (hk : k ≤ (k0_t1_loop i).trips) :
    let p := pb_k0_t1 (F := Ideal) Variants.none c none i arg2 harg2 arg3 harg3 arg4 harg4 arg5 harg5 arg6 harg6 arg7 harg7 arg8 harg8 arg9 harg9 Y2 Y3 Y4 G7 G8 G9 k
    ColF (1024 * (i 1).val) X0 X1 X2 (512 * k) (arg7.view.read (Elt Ideal) (arg7.view.writes (Elt Ideal) G7 p.1))
      (arg8.view.read (Elt Ideal) (arg8.view.writes (Elt Ideal) G8 p.2.1)) (arg9.view.read (Elt Ideal) (arg9.view.writes (Elt Ideal) G9 p.2.2)) := by
  induction k with
  | zero => exact h0
  | succ k ih =>
    have hlt : k < (k0_t1_loop i).trips := hk
    have ih := ih hlt.le
    have ht := trips0 i
    have hi : (i 1).val < 8 := (i 1).isLt
    intro p
    unfold p
    rw [show k + 1 = (⟨k, hlt⟩ : Fin (k0_t1_loop i).trips).val + 1 from rfl, pb_k0_t1_succ]
    obtain ⟨r7, r8, r9⟩ := trip_reads c i arg2 harg2 arg3 harg3 arg4 harg4 arg5 harg5 arg6 harg6 arg7 harg7 arg8 harg8 arg9 harg9 Y2 Y3 Y4 ⟨k, hlt⟩ _ _ _ _ _ _ G7 G8 G9
    dsimp only at ih ⊢
    rw [r7, r8, r9]
    intro c
    have e : 512 * (k + 1) = 512 * k + 512 := by ring
    rw [e]
    refine full_step _ _ _ _ _ _ _ _ X1 X2 (512 * k) c (by omega) (fun kk => by omega) (fun d => h2 d c) (fun kk d => ?_) (fun kk d => ?_) (ih c)
    · rw [rows_at arg3.view Y3 _ (512 * k) (k0_off1_eq i ⟨k, hlt⟩) kk d (by omega)]; exact h3 _ d
    · rw [rows_at arg4.view Y4 _ (512 * k) (k0_off1_eq i ⟨k, hlt⟩) kk d (by omega)]; exact h4 _ d

end Body

theorem trips0' : ∀ i : grid0.Coords, (k0_t2_loop i).trips = 0 := by decide +kernel

/-- The normaliser of query `q`: the weights of the keys up to it. -/
def ZF (Q K : ℕ → Fin 128 → ℝ) (q : ℕ) : ℝ := ∑ k ∈ Finset.range 8192, if k ≤ q then Real.exp (sc (Q q) K k) else 0

/-- The output of query `q`. -/
def OF (Q K V : ℕ → Fin 128 → ℝ) (q : ℕ) (d : Fin 128) : ℝ :=
  (∑ k ∈ Finset.range 8192, (if k ≤ q then Real.exp (sc (Q q) K k) else 0) * V k d) / ZF Q K q

/-- The two halves of a tile's columns. -/
theorem halves {P : Fin 1024 → Prop} (lo : ∀ e : Fin 1024, e.val < 512 → P e) (hi : ∀ f : Fin 512, P (hiC f)) (e : Fin 1024) : P e := by
  by_cases he : e.val < 512
  · exact lo e he
  · have h := hi ⟨e.val - 512, by omega⟩
    have e1 : hiC ⟨e.val - 512, by omega⟩ = e := Fin.ext (by show 512 + (e.val - 512) = e.val; omega)
    rwa [e1] at h

theorem sum_cut (f : ℕ → ℝ) (q n : ℕ) (hq : q < n) (hn : n ≤ 8192) (hf : ∀ k, q < k → f k = 0) :
    ∑ k ∈ Finset.range n, f k = ∑ k ∈ Finset.range 8192, f k := by
  refine Finset.sum_subset (fun k hk => ?_) fun k _ hk => hf k ?_
  · simp only [Finset.mem_range] at *; omega
  · simp only [Finset.mem_range] at hk; omega

section Out
variable (c : Dev nD) (i : grid0.Coords) (arg2 : Memref sig .tc .vmem S1x128x1024 .bf16) (harg2 : arg2.IsWhole) (arg3 : Memref sig .tc .vmem S8192x128 .bf16) (harg3 : arg3.IsWhole) (arg4 : Memref sig .tc .vmem S8192x128 .bf16) (harg4 : arg4.IsWhole)
  (arg5 : Memref sig .tc .vmem S1x128x1024 .f32) (harg5 : arg5.IsWhole) (arg6 : Memref sig .tc .vmem S1x1x1024 .f32) (harg6 : arg6.IsWhole) (arg7 : Memref sig .tc .vmem S128x1024 .f32) (harg7 : arg7.IsWhole)
  (arg8 : Memref sig .tc .vmem S1x1024 .f32) (harg8 : arg8.IsWhole) (arg9 : Memref sig .tc .vmem S1x1024 .f32) (harg9 : arg9.IsWhole)
  (x0 : Vec Ideal S1x128x1024 .bf16) (x1 x2 : Vec Ideal S8192x128 .bf16)
  (X0 : Fin 1024 → Fin 128 → ℝ) (X1 X2 : ℕ → Fin 128 → ℝ)

theorem pb2_nil (v : BitVec 32) (Y2 : BufTy.Contents (Elt Ideal) arg2.view.ty) (Y3 : BufTy.Contents (Elt Ideal) arg3.view.ty) (Y4 : BufTy.Contents (Elt Ideal) arg4.view.ty)
    (G7 : BufTy.Contents (Elt Ideal) arg7.view.ty) (G8 : BufTy.Contents (Elt Ideal) arg8.view.ty) (G9 : BufTy.Contents (Elt Ideal) arg9.view.ty) :
    pb_k0_t2 (F := Ideal) Variants.none c none i arg2 harg2 arg3 harg3 arg4 harg4 arg5 harg5 arg6 harg6 arg7 harg7 arg8 harg8 arg9 harg9 v Y2 Y3 Y4 G7 G8 G9 (Scf.trips (k0_t2_loop i).lb (k0_t2_loop i).ub (k0_t2_loop i).st) = ([], [], []) := by
  rw [show Scf.trips (k0_t2_loop i).lb (k0_t2_loop i).ub (k0_t2_loop i).st = 0 from trips0' i]
  exact pb_k0_t2.eq_1 ..

variable (h0 : ∀ d c, x0 (ix3 0 d c) = ((X0 c d : ℝ) : EReal)) (h1 : ∀ (k : Fin 8192) d, x1 (ix2 k d) = ((X1 k.val d : ℝ) : EReal))
  (h2 : ∀ (k : Fin 8192) d, x2 (ix2 k d) = ((X2 k.val d : ℝ) : EReal))

include h0 h1 h2

/-- Before the blocks at the diagonal. -/
theorem state0 : ColF (1024 * (i 1).val) X0 X1 X2 (1024 * (i 1).val)
    (kernelRun0_A.sl.v54 (F := Ideal) c i arg2 harg2 arg3 harg3 arg4 harg4 arg5 harg5 arg6 harg6 arg7 harg7 arg8 harg8 arg9 harg9 x0 x1 x2) (kernelRun0_A.sl.v37 (F := Ideal) c i arg2 harg2 arg3 harg3 arg4 harg4 arg5 harg5 arg6 harg6 arg7 harg7 arg8 harg8 arg9 harg9 x0 x1 x2) (kernelRun0_A.sl.v46 (F := Ideal) c i arg2 harg2 arg3 harg3 arg4 harg4 arg5 harg5 arg6 harg6 arg7 harg7 arg8 harg8 arg9 harg9 x0 x1 x2) := by
  unfold kernelRun0_A.sl.v54 kernelRun0_A.sl.v37 kernelRun0_A.sl.v46 View.readCov
  rw [pb2_nil]
  dsimp only [List.nil_append]
  simp only [View.writes_append]
  have e7 := View.readAt_full (Val := Elt Ideal) arg7.view (inb := inb_S128x1024_S128x1024_0_0)
  have e8 := View.readAt_full (Val := Elt Ideal) arg8.view (inb := inb_S1x1024_S1x1024_0_0)
  have e9 := View.readAt_full (Val := Elt Ideal) arg9.view (inb := inb_S1x1024_S1x1024_0_0)
  rw [e7, e8, e9]
  have h := loopF c i arg2 harg2 arg3 harg3 arg4 harg4 arg5 harg5 arg6 harg6 arg7 harg7 arg8 harg8 arg9 harg9 (harg2.unread x0) (harg3.unread x1) (harg4.unread x2) X0 X1 X2
    (fun d c => by rw [harg2.read_unread]; exact h0 d c) (fun k d => by rw [harg3.read_unread]; exact h1 k d) (fun k d => by rw [harg4.read_unread]; exact h2 k d)
    (arg7.view.writes (Elt Ideal) arg7.view.junk (kernelRun0_A.sl.HS0_1 (F := Ideal))) (arg8.view.writes (Elt Ideal) arg8.view.junk (kernelRun0_A.sl.HS1_1 (F := Ideal)))
    (arg9.view.writes (Elt Ideal) arg9.view.junk (kernelRun0_A.sl.HS2_1 (F := Ideal))) ?_ (k0_t1_loop i).trips le_rfl
  · have e : 512 * (k0_t1_loop i).trips = 1024 * (i 1).val := by rw [trips0]; ring
    rw [e] at h
    exact h
  · unfold kernelRun0_A.sl.HS0_1 kernelRun0_A.sl.HS1_1 kernelRun0_A.sl.HS2_1
    rw [View.read_writes_full, View.read_writes_full, View.read_writes_full]
    exact fun c => .inl ⟨rfl, pay18_at c, pay19_at c, fun d => pay17_at d c⟩

/-- After the first block at the diagonal. -/
theorem state1 : ColF (1024 * (i 1).val) X0 X1 X2 (1024 * (i 1).val + 512)
    (arg7.view.read (Elt Ideal) (arg7.view.writes (Elt Ideal) arg7.view.junk (kernelRun0_A.sl.HS0_1_1 (F := Ideal) c i arg2 harg2 arg3 harg3 arg4 harg4 arg5 harg5 arg6 harg6 arg7 harg7 arg8 harg8 arg9 harg9 x0 x1 x2)))
    (arg8.view.read (Elt Ideal) (arg8.view.writes (Elt Ideal) arg8.view.junk (kernelRun0_A.sl.HS1_1_1 (F := Ideal) c i arg2 harg2 arg3 harg3 arg4 harg4 arg5 harg5 arg6 harg6 arg7 harg7 arg8 harg8 arg9 harg9 x0 x1 x2)))
    (arg9.view.read (Elt Ideal) (arg9.view.writes (Elt Ideal) arg9.view.junk (kernelRun0_A.sl.HS2_1_1 (F := Ideal) c i arg2 harg2 arg3 harg3 arg4 harg4 arg5 harg5 arg6 harg6 arg7 harg7 arg8 harg8 arg9 harg9 x0 x1 x2))) := by
  have hi : (i 1).val < 8 := (i 1).isLt
  have s := state0 c i arg2 harg2 arg3 harg3 arg4 harg4 arg5 harg5 arg6 harg6 arg7 harg7 arg8 harg8 arg9 harg9 x0 x1 x2 X0 X1 X2 h0 h1 h2
  unfold kernelRun0_A.sl.HS0_1_1 kernelRun0_A.sl.HS1_1_1 kernelRun0_A.sl.HS2_1_1
  have e7 := View.read_writes_full (Val := Elt Ideal) arg7.view arg7.view.junk inb_S128x1024_S128x1024_0_0
  have e8 := View.read_writes_full (Val := Elt Ideal) arg8.view arg8.view.junk inb_S1x1024_S1x1024_0_0
  have e9 := View.read_writes_full (Val := Elt Ideal) arg9.view arg9.view.junk inb_S1x1024_S1x1024_0_0
  rw [e7, e8, e9]
  unfold kernelRun0_A.sl.r kernelRun0_A.sl.r_1
  intro e
  refine band0_step _ _ _ _ _ _ _ _ X1 X2 (1024 * (i 1).val) e (by omega) (fun kk => by omega) (fun d => ?_) (fun kk d => ?_) (fun kk d => ?_) (s e)
  · rw [View.readAt_full, harg2.read_unread]; exact h0 d e
  · rw [rows_at arg3.view _ _ (1024 * (i 1).val) (show k0_off3 i 0#32 = _ from k0_off3_eq i 0) kk d (by omega), harg3.read_unread]; exact h1 _ d
  · rw [rows_at arg4.view _ _ (1024 * (i 1).val) (show k0_off3 i 0#32 = _ from k0_off3_eq i 0) kk d (by omega), harg4.read_unread]; exact h2 _ d

/-- After the second, which only the later half of the tile's columns meets. -/
theorem state2 : ColF (1024 * (i 1).val) X0 X1 X2 (1024 * (i 1).val + 512 + 512)
    (kernelRun0_A.sl.v114 (F := Ideal) c i arg2 harg2 arg3 harg3 arg4 harg4 arg5 harg5 arg6 harg6 arg7 harg7 arg8 harg8 arg9 harg9 x0 x1 x2) (kernelRun0_A.sl.v121 (F := Ideal) c i arg2 harg2 arg3 harg3 arg4 harg4 arg5 harg5 arg6 harg6 arg7 harg7 arg8 harg8 arg9 harg9 x0 x1 x2) (kernelRun0_A.sl.v115 (F := Ideal) c i arg2 harg2 arg3 harg3 arg4 harg4 arg5 harg5 arg6 harg6 arg7 harg7 arg8 harg8 arg9 harg9 x0 x1 x2) := by
  have hi : (i 1).val < 8 := (i 1).isLt
  have s := state1 c i arg2 harg2 arg3 harg3 arg4 harg4 arg5 harg5 arg6 harg6 arg7 harg7 arg8 harg8 arg9 harg9 x0 x1 x2 X0 X1 X2 h0 h1 h2
  unfold kernelRun0_A.sl.v114 kernelRun0_A.sl.v121 kernelRun0_A.sl.v115 View.readCov
  have e7 := View.readAt_full (Val := Elt Ideal) arg7.view (inb := inb_S128x1024_S128x1024_0_0)
  have e8 := View.readAt_full (Val := Elt Ideal) arg8.view (inb := inb_S1x1024_S1x1024_0_0)
  have e9 := View.readAt_full (Val := Elt Ideal) arg9.view (inb := inb_S1x1024_S1x1024_0_0)
  rw [e7, e8, e9]
  unfold kernelRun0_A.sl.HS0_2 kernelRun0_A.sl.HS1_2 kernelRun0_A.sl.HS2_2
  refine halves (fun e he => ?_) fun f => ?_
  · have se := s e
    rw [put_row1_lo (h := he), put_row1_lo (h := he)]
    simp only [put_cols_lo (h := he)]
    exact se.extend (by omega) fun k hk => by omega
  · have se := s (hiC f)
    rw [put_row1_hi, put_row1_hi]
    rw [funext fun d => put_cols_hi arg7.view arg7.view.junk inb_S128x1024_S128x512_0_512 (k0_pay1 (F := Ideal) (kernelRun0_A.sl.r_3 (F := Ideal) c i arg2 harg2 arg3 harg3 arg4 harg4 arg5 harg5 arg6 harg6 arg7 harg7 arg8 harg8 arg9 harg9 x0 x1 x2)) (kernelRun0_A.sl.HS0_1_1 (F := Ideal) c i arg2 harg2 arg3 harg3 arg4 harg4 arg5 harg5 arg6 harg6 arg7 harg7 arg8 harg8 arg9 harg9 x0 x1 x2) d f]
    unfold kernelRun0_A.sl.r_2 kernelRun0_A.sl.r_3
    refine band1_step _ _ _ _ _ _ (fun k => k ≤ 1024 * (i 1).val + (512 + f.val)) (X0 (hiC f)) X1 X2 (1024 * (i 1).val + 512) f (Nat.zero_le _)
      (fun kk => show 1024 * (i 1).val + 512 + kk.val ≤ 1024 * (i 1).val + (512 + f.val) ↔ kk.val ≤ f.val by omega) (fun d => ?_) (fun kk d => ?_) (fun kk d => ?_) ?_
    · rw [tile_at, harg2.read_unread]; exact h0 d _
    · rw [rows_at arg3.view _ _ (1024 * (i 1).val + 512) (show k0_off3 i 512#32 = _ from k0_off3_eq i 1) kk d (by omega), harg3.read_unread]; exact h1 _ d
    · rw [rows_at arg4.view _ _ (1024 * (i 1).val + 512) (show k0_off3 i 512#32 = _ from k0_off3_eq i 1) kk d (by omega), harg4.read_unread]; exact h2 _ d
    · unfold kernelRun0_A.sl.v85 kernelRun0_A.sl.v94 kernelRun0_A.sl.v102 View.readCov
      rw [row1_at, row1_at]
      rw [funext fun d => cols_at arg7.view (arg7.view.writes (Elt Ideal) arg7.view.junk (kernelRun0_A.sl.HS0_1_1 (F := Ideal) c i arg2 harg2 arg3 harg3 arg4 harg4 arg5 harg5 arg6 harg6 arg7 harg7 arg8 harg8 arg9 harg9 x0 x1 x2)) inb_S128x1024_S128x512_0_512 d f]
      exact se

end Out

/-- The two arrays a point of the forward call leaves in its staging buffers. -/
theorem outF (c : Dev nD) (i : grid0.Coords) (arg2 : Memref sig .tc .vmem S1x128x1024 .bf16) (harg2 : arg2.IsWhole) (arg3 : Memref sig .tc .vmem S8192x128 .bf16) (harg3 : arg3.IsWhole) (arg4 : Memref sig .tc .vmem S8192x128 .bf16) (harg4 : arg4.IsWhole)
  (arg5 : Memref sig .tc .vmem S1x128x1024 .f32) (harg5 : arg5.IsWhole) (arg6 : Memref sig .tc .vmem S1x1x1024 .f32) (harg6 : arg6.IsWhole) (arg7 : Memref sig .tc .vmem S128x1024 .f32) (harg7 : arg7.IsWhole)
  (arg8 : Memref sig .tc .vmem S1x1024 .f32) (harg8 : arg8.IsWhole) (arg9 : Memref sig .tc .vmem S1x1024 .f32) (harg9 : arg9.IsWhole)
    (x0 : Vec Ideal S1x128x1024 .bf16) (x1 x2 : Vec Ideal S8192x128 .bf16) (Q K V : ℕ → Fin 128 → ℝ)
    (h0 : ∀ d (c : Fin 1024), x0 (ix3 0 d c) = ((Q (1024 * (i 1).val + c.val) d : ℝ) : EReal)) (h1 : ∀ (k : Fin 8192) d, x1 (ix2 k d) = ((K k.val d : ℝ) : EReal))
    (h2 : ∀ (k : Fin 8192) d, x2 (ix2 k d) = ((V k.val d : ℝ) : EReal)) (e : Fin 1024) :
    (∀ d, out0_A_3 (F := Ideal) c i arg2 harg2 arg3 harg3 arg4 harg4 arg5 harg5 arg6 harg6 arg7 harg7 arg8 harg8 arg9 harg9 x0 x1 x2 (ix3 0 d e) = ((OF Q K V (1024 * (i 1).val + e.val) d : ℝ) : EReal))
    ∧ out0_A_4 (F := Ideal) c i arg2 harg2 arg3 harg3 arg4 harg4 arg5 harg5 arg6 harg6 arg7 harg7 arg8 harg8 arg9 harg9 x0 x1 x2 (ix3 0 0 e) = ((Real.log (ZF Q K (1024 * (i 1).val + e.val)) : ℝ) : EReal) := by
  have hi : (i 1).val < 8 := (i 1).isLt
  have s := (state2 c i arg2 harg2 arg3 harg3 arg4 harg4 arg5 harg5 arg6 harg6 arg7 harg7 arg8 harg8 arg9 harg9 x0 x1 x2 (fun c => Q (1024 * (i 1).val + c.val)) K V h0 h1 h2 e).final (by omega) (by omega)
  have hz := sum_cut (fun k => if k ≤ 1024 * (i 1).val + e.val then Real.exp (sc (Q (1024 * (i 1).val + e.val)) K k) else 0) (1024 * (i 1).val + e.val) (1024 * (i 1).val + 512 + 512)
    (by omega) (by omega) (fun k hk => if_neg (by omega))
  rw [hz] at s
  unfold out0_A_3 out0_A_4 kernelRun0_A
  dsimp only
  rw [View.read_writes_full, View.read_writes_full]
  refine ⟨fun d => ?_, ?_⟩
  · rw [pay3_at, s.1 d, sum_cut (fun k => (if k ≤ 1024 * (i 1).val + e.val then Real.exp (sc (Q (1024 * (i 1).val + e.val)) K k) else 0) * V k d) (1024 * (i 1).val + e.val) (1024 * (i 1).val + 512 + 512)
      (by omega) (by omega) (fun k hk => by rw [if_neg (by omega), zero_mul])]
    rfl
  · rw [pay4_at, s.2]; rfl

end Cert.KernelIdeal.Val
-- ==== Proof.PayB.lean ====
/- The backward attention's block of keys, entry by entry, over real inputs: what each of a block's stores adds. -/
module

public import proofs.«01_k».proof.Proof.PayF

@[expose] public section

noncomputable section

namespace Cert.KernelIdeal.Val

open Idealize.ShloMosaic Idealize.SL.Sem Cert.KernelIdeal.Gen

/-- The probability of key `k` at column `c` of the tile that starts at query `T`, from the logarithm `L` of the row's sum. -/
def PP (T : ℕ) (X0 : Fin 1024 → Fin 128 → ℝ) (X1 : ℕ → Fin 128 → ℝ) (L : Fin 1024 → ℝ) (k : ℕ) (c : Fin 1024) : ℝ :=
  if k ≤ T + c.val then Real.exp (sc (X0 c) X1 k - L c) else 0

/-- The gradient of the score. -/
def DS (T : ℕ) (X0 : Fin 1024 → Fin 128 → ℝ) (X1 X2 : ℕ → Fin 128 → ℝ) (C : Fin 1024 → Fin 128 → ℝ) (L D : Fin 1024 → ℝ) (k : ℕ) (c : Fin 1024) : ℝ :=
  PP T X0 X1 L k c * (sc (C c) X2 k - D c)

theorem exp_coe_sub (x y : ℝ) : Ideal.exp ((x : EReal) - (y : EReal)) = ((Real.exp (x - y) : ℝ) : EReal) := by
  rw [← EReal.coe_sub, Ideal.exp_coe]

section Full
variable (K V : Vec Ideal S512x128 .bf16) (Q : Vec Ideal S1x128x1024 .bf16) (G : Vec Ideal S128x1024 .bf16) (l : Vec Ideal S1x1x1024 .f32)
  (dl : Vec Ideal S1x1024 .f32) (a : Vec Ideal S128x1024 .f32) (b : Vec Ideal S512x128 .f32)

theorem bpay9_at (k : Fin 512) (c : Fin 1024) : k1_pay9 (F := Ideal) K Q l (ix2 k c)
    = Ideal.exp ((∑ d : Fin 128, K (ix2 k d) * Q (ix3 0 d c)) - l (ix3 0 0 c)) := by
  pointwise [k1_pay9, k1_pay7, k1_pay8]

theorem bpay10_at (k : Fin 512) (c : Fin 1024) : k1_pay10 (F := Ideal) K V Q G l dl (ix2 k c)
    = k1_pay9 (F := Ideal) K Q l (ix2 k c) * ((∑ d : Fin 128, V (ix2 k d) * G (ix2 d c)) - dl (ix2 0 c)) := by
  pointwise [k1_pay10]

theorem bpay11_at (d : Fin 128) (c : Fin 1024) : k1_pay11 (F := Ideal) K V Q G l dl a (ix2 d c)
    = a (ix2 d c) + ∑ k : Fin 512, K (ix2 k d) * k1_pay10 (F := Ideal) K V Q G l dl (ix2 k c) := by
  pointwise [k1_pay11, k1_pay7]

theorem bpay12_at (k : Fin 512) (d : Fin 128) : k1_pay12 (F := Ideal) K V Q G l dl b (ix2 k d)
    = b (ix2 k d) + ∑ c : Fin 1024, k1_pay10 (F := Ideal) K V Q G l dl (ix2 k c) * Q (ix3 0 d c) := by
  pointwise [k1_pay12, k1_pay8]

theorem bpay25_at (p : Vec Ideal S512x1024 .f32) (k : Fin 512) (d : Fin 128) : k1_pay25 (F := Ideal) G p b (ix2 k d)
    = b (ix2 k d) + ∑ c : Fin 1024, p (ix2 k c) * G (ix2 d c) := by
  pointwise [k1_pay25]
end Full

section Band0
variable (K V : Vec Ideal S512x128 .bf16) (Q : Vec Ideal S1x128x1024 .bf16) (G : Vec Ideal S128x1024 .bf16) (l : Vec Ideal S1x1x1024 .f32)
  (dl : Vec Ideal S1x1024 .f32) (a : Vec Ideal S128x1024 .f32) (b : Vec Ideal S512x128 .f32)

theorem bpay29_at (k : Fin 512) (c : Fin 1024) : k1_pay29 (F := Ideal) K Q l (ix2 k c)
    = if k.val ≤ c.val then Ideal.exp ((∑ d : Fin 128, K (ix2 k d) * Q (ix3 0 d c)) - l (ix3 0 0 c)) else 0 := by
  rw [← zero_word]
  pointwise [k1_pay29, k1_pay27, k1_pay28]
  rw [mask_word _ _ (by omega) (by omega)]

theorem bpay30_at (k : Fin 512) (c : Fin 1024) : k1_pay30 (F := Ideal) K V Q G l dl (ix2 k c)
    = k1_pay29 (F := Ideal) K Q l (ix2 k c) * ((∑ d : Fin 128, V (ix2 k d) * G (ix2 d c)) - dl (ix2 0 c)) := by
  pointwise [k1_pay30]

theorem bpay31_at (d : Fin 128) (c : Fin 1024) : k1_pay31 (F := Ideal) K V Q G l dl a (ix2 d c)
    = a (ix2 d c) + ∑ k : Fin 512, K (ix2 k d) * k1_pay30 (F := Ideal) K V Q G l dl (ix2 k c) := by
  pointwise [k1_pay31, k1_pay27]

theorem bpay32_at (s : Vec Ideal S512x1024 .bf16) (k : Fin 512) (d : Fin 128) : k1_pay32 (F := Ideal) (k1_pay28 (F := Ideal) Q) s b (ix2 k d)
    = b (ix2 k d) + ∑ c : Fin 1024, s (ix2 k c) * Q (ix3 0 d c) := by
  pointwise [k1_pay32, k1_pay28]

theorem bpay33_at (p : Vec Ideal S512x1024 .f32) (k : Fin 512) (d : Fin 128) : k1_pay33 (F := Ideal) G p b (ix2 k d)
    = b (ix2 k d) + ∑ c : Fin 1024, p (ix2 k c) * G (ix2 d c) := by
  pointwise [k1_pay33]
end Band0

section Band1
variable (K V : Vec Ideal S512x128 .bf16) (Q : Vec Ideal S1x128x512 .bf16) (G : Vec Ideal S128x512 .bf16) (l : Vec Ideal S1x1x512 .f32)
  (dl : Vec Ideal S1x512 .f32) (a : Vec Ideal S128x512 .f32) (b : Vec Ideal S512x128 .f32) (p : Vec Ideal S512x512 .f32)

theorem bpay37_at (k c : Fin 512) : k1_pay37 (F := Ideal) K Q l (ix2 k c)
    = Ideal.exp ((∑ d : Fin 128, K (ix2 k d) * Q (ix3 0 d c)) - l (ix3 0 0 c)) := by
  pointwise [k1_pay37, k1_pay34, k1_pay36]

theorem bpay1_at (k c : Fin 512) : k1_pay1 (F := Ideal) p k1_pay38 (k1_pay39 (F := Ideal)) (ix2 k c)
    = if k.val ≤ c.val then p (ix2 k c) else 0 := by
  rw [← zero_word]
  pointwise [k1_pay1, k1_pay38, k1_pay39]
  rw [mask_word _ _ (by omega) (by omega)]

theorem bpay2_at (w : IVec S512x512 1) (z : Vec Ideal S512x512 .f32) (k c : Fin 512) :
    k1_pay2 (F := Ideal) (k1_pay35 (F := Ideal) V) G p w z dl (ix2 k c)
      = k1_pay1 (F := Ideal) p w z (ix2 k c) * ((∑ d : Fin 128, V (ix2 k d) * G (ix2 d c)) - dl (ix2 0 c)) := by
  pointwise [k1_pay2, k1_pay35]

theorem bpay3_at (v : Vec Ideal S512x128 .bf16) (w : IVec S512x512 1) (z : Vec Ideal S512x512 .f32) (d : Fin 128) (c : Fin 512) :
    k1_pay3 (F := Ideal) (k1_pay34 (F := Ideal) K) v G p w z dl a (ix2 d c)
      = a (ix2 d c) + ∑ k : Fin 512, K (ix2 k d) * k1_pay2 (F := Ideal) v G p w z dl (ix2 k c) := by
  pointwise [k1_pay3, k1_pay34]

theorem bpay4_at (v : Vec Ideal S512x128 .bf16) (w : IVec S512x512 1) (z : Vec Ideal S512x512 .f32) (k : Fin 512) (d : Fin 128) :
    k1_pay4 (F := Ideal) v (k1_pay36 (F := Ideal) Q) G p w z dl b (ix2 k d)
      = b (ix2 k d) + ∑ c : Fin 512, k1_pay2 (F := Ideal) v G p w z dl (ix2 k c) * Q (ix3 0 d c) := by
  pointwise [k1_pay4, k1_pay36]

theorem bpay5_at (w : IVec S512x512 1) (z : Vec Ideal S512x512 .f32) (k : Fin 512) (d : Fin 128) :
    k1_pay5 (F := Ideal) G p w z b (ix2 k d) = b (ix2 k d) + ∑ c : Fin 512, k1_pay1 (F := Ideal) p w z (ix2 k c) * G (ix2 d c) := by
  pointwise [k1_pay5]
end Band1

/-! ### The other stores -/

theorem bpay6_at (a : Vec Ideal S128x1024 .f32) (d : Fin 128) (c : Fin 1024) : k1_pay6 (F := Ideal) a (ix3 0 d c) = a (ix2 d c) := by
  pointwise [k1_pay6]

theorem bpay19_at (k : Fin 8192) (d : Fin 128) : k1_pay19 (F := Ideal) (ix2 k d) = 0 := by
  rw [← zero_word]; pointwise [k1_pay19]

theorem bpay20_at (k : Fin 8192) (d : Fin 128) : k1_pay20 (F := Ideal) (ix2 k d) = 0 := by
  rw [← zero_word]; pointwise [k1_pay20]

theorem bpay21_at (d : Fin 128) (c : Fin 1024) : k1_pay21 (F := Ideal) (ix2 d c) = 0 := by
  rw [← zero_word]; pointwise [k1_pay21]

theorem bpay23_at (x : Vec Ideal S1x128x1024 .f32) (d : Fin 128) (c : Fin 1024) : k1_pay23 (F := Ideal) x (ix2 d c) = x (ix3 0 d c) := by
  pointwise [k1_pay23, k1_pay22]

theorem bpay24_at (x y : Vec Ideal S1x128x1024 .f32) (c : Fin 1024) : k1_pay24 (F := Ideal) x y (ix2 0 c)
    = ∑ d : Fin 128, x (ix3 0 d c) * y (ix3 0 d c) := by
  pointwise [k1_pay24, k1_pay22]

end Cert.KernelIdeal.Val
-- ==== Proof.StepB.lean ====
/- The backward attention's blocks over real inputs: the probabilities, the gradients of the scores, and what each block adds to the three gradients. -/
module

public import proofs.«01_k».proof.Proof.BodyF
public import proofs.«01_k».proof.Proof.PayB

@[expose] public section

noncomputable section

namespace Cert.KernelIdeal.Val

open Idealize.ShloMosaic Idealize.SL.Sem Cert.KernelIdeal.Gen

/-! ### Sums -/

/-- A block's terms join the sum over the keys before it. -/
theorem add_block (f : ℕ → ℝ) (n : ℕ) (a : EReal) (ha : a = ((∑ k ∈ Finset.range n, f k : ℝ) : EReal)) (t : Fin 512 → EReal)
    (ht : ∀ k, t k = ((f (n + k.val) : ℝ) : EReal)) : a + ∑ k, t k = ((∑ k ∈ Finset.range (n + 512), f k : ℝ) : EReal) := by
  rw [sum_range_fin, EReal.coe_add, coe_sum Finset.univ, ha, Finset.sum_congr rfl fun k _ => ht k]

/-- A sum over the tile's columns whose earlier half is zero. -/
theorem sum_half (f : Fin 1024 → ℝ) (h : ∀ c : Fin 1024, c.val < 512 → f c = 0) : ∑ c, f c = ∑ c : Fin 512, f (hiC c) := by
  have e := Fin.sum_univ_add (a := 512) (b := 512) (f := f)
  have z : ∑ c : Fin 512, f (Fin.castAdd 512 c) = 0 := Finset.sum_eq_zero fun c _ => h _ c.isLt
  rw [z, zero_add] at e
  exact e

/-! ### The stores of a block of rows -/

section Rows
variable {sg : RefSig} {κ : Kind} {sp : Space} (v : View sg κ sp S8192x128 .f32) (f : v.ty.Contents (Elt Ideal))
  {off : Fin 2 → ℕ} (inb : ∀ a, off a + S512x128.size a ≤ S8192x128.size a) (n : ℕ) (hoff : off = ![n, 0]) (hn : n + 512 ≤ 8192)

include hoff hn in
theorem rows_step (w : S512x128.Idx → EReal) (L : List (View.Piece (Elt Ideal) S8192x128 .f32)) (B g : ℕ → Fin 128 → ℝ)
    (hs : ∀ (k : Fin 8192) d, v.read (Elt Ideal) (v.writes (Elt Ideal) f L) (ix2 k d) = ((B k.val d + if k.val < n then g k.val d else 0 : ℝ) : EReal))
    (hw : ∀ (k : Fin 512) d, w (ix2 k d) = v.read (Elt Ideal) (v.writes (Elt Ideal) f L) (ix2 ⟨n + k.val, by omega⟩ d) + ((g (n + k.val) d : ℝ) : EReal))
    (k : Fin 8192) (d : Fin 128) :
    v.read (Elt Ideal) (v.writes (Elt Ideal) f (⟨Rect.unit (s := S8192x128) off S512x128.size inb, w⟩ :: L)) (ix2 k d)
      = ((B k.val d + if k.val < n + 512 then g k.val d else 0 : ℝ) : EReal) := by
  by_cases h1 : k.val < n
  · rw [View.read_writes_cons_unit_of_not_mem v f inb w L (ix2 k d) hoff 0 (.inl h1), hs, if_pos h1, if_pos (by omega)]
  · by_cases h2 : k.val < n + 512
    · obtain ⟨j, hj⟩ : ∃ j : Fin 512, k = ⟨n + j.val, by omega⟩ := ⟨⟨k.val - n, by omega⟩, Fin.ext (by show k.val = n + (k.val - n); omega)⟩
      have e : v.read (Elt Ideal) (v.writes (Elt Ideal) f (⟨Rect.unit (s := S8192x128) off S512x128.size inb, w⟩ :: L)) (ix2 k d) = w (ix2 j d) := by
        refine View.read_writes_cons_unit_of_mem v f inb w L _ (ix2 j d) hoff fun a => ?_
        match a with
        | ⟨0, _⟩ => show k.val = n + j.val; rw [hj]
        | ⟨1, _⟩ => show d.val = 0 + d.val; omega
      rw [e, hw j d, ← hj, hs, if_neg h1, if_pos h2, add_zero, hj, EReal.coe_add]
    · rw [View.read_writes_cons_unit_of_not_mem v f inb w L (ix2 k d) hoff 0 (.inr (by show n + 512 ≤ k.val; omega)), hs, if_neg h1, if_neg h2]
end Rows

/-- Loads of the later half of the columns. -/
theorem lse_at {sg : RefSig} {κ : Kind} {sp : Space} {e : EltTy} {Val : EltTy → Type} (v : View sg κ sp S1x1x1024 e) (f : v.ty.Contents Val)
    (inb : ∀ a, (![0, 0, 512] : Fin 3 → ℕ) a + S1x1x512.size a ≤ S1x1x1024.size a) (c : Fin 512) :
    v.readAt Val (Rect.unit (s := S1x1x1024) ![0, 0, 512] S1x1x512.size inb).toLoadRect f (ix3 0 0 c) = v.read Val f (ix3 0 0 (hiC c)) := by
  refine congrArg (v.read Val f) (funext fun a => Fin.ext ?_)
  match a with
  | ⟨0, _⟩ => rfl
  | ⟨1, _⟩ => rfl
  | ⟨2, _⟩ => show 512 + 1 * c.val = 512 + c.val; omega

/-! ### The three kinds of block -/

section Real
variable (T : ℕ) (X0 : Fin 1024 → Fin 128 → ℝ) (X1 X2 : ℕ → Fin 128 → ℝ) (C : Fin 1024 → Fin 128 → ℝ) (L D : Fin 1024 → ℝ) (n : ℕ)

/-- The probability of a key the column meets. -/
theorem pp_pos (k : ℕ) (c : Fin 1024) (h : k ≤ T + c.val) : PP T X0 X1 L k c = Real.exp (sc (X0 c) X1 k - L c) := if_pos h

theorem pp_neg (k : ℕ) (c : Fin 1024) (h : ¬ k ≤ T + c.val) : PP T X0 X1 L k c = 0 := if_neg h

theorem ds_neg (k : ℕ) (c : Fin 1024) (h : ¬ k ≤ T + c.val) : DS T X0 X1 X2 C L D k c = 0 := by
  unfold DS; rw [pp_neg _ _ _ _ _ _ h, zero_mul]

/-- The terms of the gradient of the keys, and of the values. -/
def gK (k : ℕ) (d : Fin 128) : ℝ := ∑ c, DS T X0 X1 X2 C L D k c * X0 c d
def gV (k : ℕ) (d : Fin 128) : ℝ := ∑ c, PP T X0 X1 L k c * C c d

section B1024
variable (K V : Vec Ideal S512x128 .bf16) (Q : Vec Ideal S1x128x1024 .bf16) (G : Vec Ideal S128x1024 .bf16) (l : Vec Ideal S1x1x1024 .f32)
  (dl : Vec Ideal S1x1024 .f32)
  (hQ : ∀ d c, Q (ix3 0 d c) = ((X0 c d : ℝ) : EReal)) (hK : ∀ (k : Fin 512) d, K (ix2 k d) = ((X1 (n + k.val) d : ℝ) : EReal))
  (hV : ∀ (k : Fin 512) d, V (ix2 k d) = ((X2 (n + k.val) d : ℝ) : EReal)) (hG : ∀ d c, G (ix2 d c) = ((C c d : ℝ) : EReal))
  (hl : ∀ c, l (ix3 0 0 c) = ((L c : ℝ) : EReal)) (hd : ∀ c, dl (ix2 0 c) = ((D c : ℝ) : EReal))

include hQ hK hl in
theorem real9 (hn : n + 512 ≤ T) (k : Fin 512) (c : Fin 1024) : k1_pay9 (F := Ideal) K Q l (ix2 k c) = ((PP T X0 X1 L (n + k.val) c : ℝ) : EReal) := by
  rw [bpay9_at, coe_dot _ _ _ _ (hK k) (fun d => hQ d c), hl, exp_coe_sub, pp_pos _ _ _ _ _ _ (by omega)]; rfl

include hQ hK hl in
theorem real29 (hn : n = T) (k : Fin 512) (c : Fin 1024) : k1_pay29 (F := Ideal) K Q l (ix2 k c) = ((PP T X0 X1 L (n + k.val) c : ℝ) : EReal) := by
  rw [bpay29_at, coe_dot _ _ _ _ (hK k) (fun d => hQ d c), hl, exp_coe_sub]
  by_cases h : k.val ≤ c.val
  · rw [if_pos h, pp_pos _ _ _ _ _ _ (by omega)]; rfl
  · rw [if_neg h, pp_neg _ _ _ _ _ _ (by omega)]; rfl

include hV hG hd in
theorem real_ds (p : EReal) (k : Fin 512) (c : Fin 1024) (hp : p = ((PP T X0 X1 L (n + k.val) c : ℝ) : EReal)) :
    p * ((∑ d : Fin 128, V (ix2 k d) * G (ix2 d c)) - dl (ix2 0 c)) = ((DS T X0 X1 X2 C L D (n + k.val) c : ℝ) : EReal) := by
  rw [coe_dot _ _ _ _ (hV k) (fun d => hG d c), hd, hp, ← EReal.coe_sub, ← EReal.coe_mul]; rfl

include hQ in
theorem real_gK (s : Fin 1024 → EReal) (k : Fin 512) (d : Fin 128) (hs : ∀ c, s c = ((DS T X0 X1 X2 C L D (n + k.val) c : ℝ) : EReal)) :
    ∑ c, s c * Q (ix3 0 d c) = ((gK T X0 X1 X2 C L D (n + k.val) d : ℝ) : EReal) :=
  coe_dot _ _ _ _ hs fun c => hQ d c

include hG in
theorem real_gV (p : Fin 1024 → EReal) (k : Fin 512) (d : Fin 128) (hp : ∀ c, p c = ((PP T X0 X1 L (n + k.val) c : ℝ) : EReal)) :
    ∑ c, p c * G (ix2 d c) = ((gV T X0 X1 C L (n + k.val) d : ℝ) : EReal) :=
  coe_dot _ _ _ _ hp fun c => hG d c

include hK in
theorem real_dq (s : Fin 512 → EReal) (a : EReal) (c : Fin 1024) (d : Fin 128) (hs : ∀ k : Fin 512, s k = ((DS T X0 X1 X2 C L D (n + k.val) c : ℝ) : EReal))
    (ha : a = ((∑ k ∈ Finset.range n, X1 k d * DS T X0 X1 X2 C L D k c : ℝ) : EReal)) :
    a + ∑ k : Fin 512, K (ix2 k d) * s k = ((∑ k ∈ Finset.range (n + 512), X1 k d * DS T X0 X1 X2 C L D k c : ℝ) : EReal) :=
  add_block (fun k => X1 k d * DS T X0 X1 X2 C L D k c) n a ha _ fun k => by rw [hK, hs, ← EReal.coe_mul]
end B1024

section B512
variable (K V : Vec Ideal S512x128 .bf16) (Q : Vec Ideal S1x128x512 .bf16) (G : Vec Ideal S128x512 .bf16) (l : Vec Ideal S1x1x512 .f32)
  (dl : Vec Ideal S1x512 .f32)
  (hQ : ∀ d (c : Fin 512), Q (ix3 0 d c) = ((X0 (hiC c) d : ℝ) : EReal)) (hK : ∀ (k : Fin 512) d, K (ix2 k d) = ((X1 (n + k.val) d : ℝ) : EReal))
  (hV : ∀ (k : Fin 512) d, V (ix2 k d) = ((X2 (n + k.val) d : ℝ) : EReal)) (hG : ∀ d (c : Fin 512), G (ix2 d c) = ((C (hiC c) d : ℝ) : EReal))
  (hl : ∀ c : Fin 512, l (ix3 0 0 c) = ((L (hiC c) : ℝ) : EReal)) (hd : ∀ c : Fin 512, dl (ix2 0 c) = ((D (hiC c) : ℝ) : EReal))

include hQ hK hl in
theorem real1 (hn : n = T + 512) (k c : Fin 512) : k1_pay1 (F := Ideal) (k1_pay37 (F := Ideal) K Q l) k1_pay38 (k1_pay39 (F := Ideal)) (ix2 k c)
    = ((PP T X0 X1 L (n + k.val) (hiC c) : ℝ) : EReal) := by
  rw [bpay1_at, bpay37_at, coe_dot _ _ _ _ (hK k) (fun d => hQ d c), hl, exp_coe_sub]
  by_cases h : k.val ≤ c.val
  · rw [if_pos h, pp_pos _ _ _ _ _ _ (by show n + k.val ≤ T + (512 + c.val); omega)]; rfl
  · rw [if_neg h, pp_neg _ _ _ _ _ _ (by show ¬ n + k.val ≤ T + (512 + c.val); omega)]; rfl

include hQ hK hl hV hG hd in
theorem real2 (hn : n = T + 512) (k c : Fin 512) :
    k1_pay2 (F := Ideal) (k1_pay35 (F := Ideal) V) G (k1_pay37 (F := Ideal) K Q l) k1_pay38 (k1_pay39 (F := Ideal)) dl (ix2 k c)
      = ((DS T X0 X1 X2 C L D (n + k.val) (hiC c) : ℝ) : EReal) := by
  rw [bpay2_at, real1 T X0 X1 L n K Q l hQ hK hl hn k c, coe_dot _ _ _ _ (hV k) (fun d => hG d c), hd, ← EReal.coe_sub, ← EReal.coe_mul]; rfl

include hQ in
theorem real_gK' (hn : n = T + 512) (s : Fin 512 → EReal) (k : Fin 512) (d : Fin 128)
    (hs : ∀ c : Fin 512, s c = ((DS T X0 X1 X2 C L D (n + k.val) (hiC c) : ℝ) : EReal)) :
    ∑ c, s c * Q (ix3 0 d c) = ((gK T X0 X1 X2 C L D (n + k.val) d : ℝ) : EReal) := by
  rw [coe_dot _ _ _ _ hs fun c => hQ d c]
  unfold gK
  rw [sum_half _ fun c hc => by rw [ds_neg _ _ _ _ _ _ _ _ _ (by omega), zero_mul]]

include hG in
theorem real_gV' (hn : n = T + 512) (p : Fin 512 → EReal) (k : Fin 512) (d : Fin 128)
    (hp : ∀ c : Fin 512, p c = ((PP T X0 X1 L (n + k.val) (hiC c) : ℝ) : EReal)) :
    ∑ c, p c * G (ix2 d c) = ((gV T X0 X1 C L (n + k.val) d : ℝ) : EReal) := by
  rw [coe_dot _ _ _ _ hp fun c => hG d c]
  unfold gV
  rw [sum_half _ fun c hc => by rw [pp_neg _ _ _ _ _ _ (by omega), zero_mul]]
end B512

end Real

end Cert.KernelIdeal.Val
-- ==== Proof.BodyB.lean ====
/- What the backward body leaves: the loop over the blocks below the diagonal, the two blocks at it, and the three gradients a point stores. -/
module

public import proofs.«01_k».proof.Proof.StepB

@[expose] public section

noncomputable section

namespace Cert.KernelIdeal.Val

open Idealize.ShloMosaic Idealize.SL.Sem Cert.KernelIdeal.Gen

theorem trips1 : ∀ i : grid1.Coords, (k1_t1_loop i).trips = 2 * (i 1).val := by decide +kernel
theorem trips1' : ∀ i : grid1.Coords, (k1_t2_loop i).trips = 0 := by decide +kernel

/-- The two gradients of the keys' side and that of the queries after the first `n` keys, over what the buffers held before the tile. -/
def ColB (T : ℕ) (X0 : Fin 1024 → Fin 128 → ℝ) (X1 X2 : ℕ → Fin 128 → ℝ) (C : Fin 1024 → Fin 128 → ℝ) (L D : Fin 1024 → ℝ) (B9 B10 : ℕ → Fin 128 → ℝ) (n : ℕ)
    (DK DV : Vec Ideal S8192x128 .f32) (DQ : Vec Ideal S128x1024 .f32) : Prop :=
  (∀ (k : Fin 8192) d, DK (ix2 k d) = ((B9 k.val d + if k.val < n then gK T X0 X1 X2 C L D k.val d else 0 : ℝ) : EReal))
  ∧ (∀ (k : Fin 8192) d, DV (ix2 k d) = ((B10 k.val d + if k.val < n then gV T X0 X1 C L k.val d else 0 : ℝ) : EReal))
  ∧ ∀ d c, DQ (ix2 d c) = ((∑ k ∈ Finset.range n, X1 k d * DS T X0 X1 X2 C L D k c : ℝ) : EReal)

/-! ### The blocks at the diagonal, over any buffers -/

section Bands
variable {sg : RefSig} {κ : Kind} {sp : Space} (v9 v10 : View sg κ sp S8192x128 .f32) (f9 : v9.ty.Contents (Elt Ideal)) (f10 : v10.ty.Contents (Elt Ideal))
  (P9 P10 : List (View.Piece (Elt Ideal) S8192x128 .f32))
  {off : Fin 2 → ℕ} (inb : ∀ a, off a + S512x128.size a ≤ S8192x128.size a) (n : ℕ) (hoff : off = ![n, 0]) (hn : n + 512 ≤ 8192)
  (T : ℕ) (X0 : Fin 1024 → Fin 128 → ℝ) (X1 X2 : ℕ → Fin 128 → ℝ) (C : Fin 1024 → Fin 128 → ℝ) (L D : Fin 1024 → ℝ) (B9 B10 : ℕ → Fin 128 → ℝ)

section First
variable (K V : Vec Ideal S512x128 .bf16) (Q : Vec Ideal S1x128x1024 .bf16) (G : Vec Ideal S128x1024 .bf16) (l : Vec Ideal S1x1x1024 .f32)
  (dl : Vec Ideal S1x1024 .f32) (A : Vec Ideal S128x1024 .f32)
  (hQ : ∀ d c, Q (ix3 0 d c) = ((X0 c d : ℝ) : EReal)) (hK : ∀ (k : Fin 512) d, K (ix2 k d) = ((X1 (n + k.val) d : ℝ) : EReal))
  (hV : ∀ (k : Fin 512) d, V (ix2 k d) = ((X2 (n + k.val) d : ℝ) : EReal)) (hG : ∀ d c, G (ix2 d c) = ((C c d : ℝ) : EReal))
  (hl : ∀ c, l (ix3 0 0 c) = ((L c : ℝ) : EReal)) (hd : ∀ c, dl (ix2 0 c) = ((D c : ℝ) : EReal))

include hoff hn hQ hK hV hG hl hd

/-- A block below the diagonal. -/
theorem below (hT : n + 512 ≤ T)
    (h : ColB T X0 X1 X2 C L D B9 B10 n (v9.read (Elt Ideal) (v9.writes (Elt Ideal) f9 P9)) (v10.read (Elt Ideal) (v10.writes (Elt Ideal) f10 P10)) A) :
    ColB T X0 X1 X2 C L D B9 B10 (n + 512)
      (v9.read (Elt Ideal) (v9.writes (Elt Ideal) f9 (⟨Rect.unit (s := S8192x128) off S512x128.size inb, k1_pay12 (F := Ideal) K V Q G l dl (v9.readAt (Elt Ideal) (Rect.unit (s := S8192x128) off S512x128.size inb).toLoadRect (v9.writes (Elt Ideal) f9 P9))⟩ :: P9)))
      (v10.read (Elt Ideal) (v10.writes (Elt Ideal) f10 (⟨Rect.unit (s := S8192x128) off S512x128.size inb, k1_pay25 (F := Ideal) G (k1_pay9 (F := Ideal) K Q l) (v10.readAt (Elt Ideal) (Rect.unit (s := S8192x128) off S512x128.size inb).toLoadRect (v10.writes (Elt Ideal) f10 P10))⟩ :: P10)))
      (k1_pay11 (F := Ideal) K V Q G l dl A) := by
  have h9 := real9 T X0 X1 L n K Q l hQ hK hl hT
  have h10 : ∀ k c, k1_pay10 (F := Ideal) K V Q G l dl (ix2 k c) = ((DS T X0 X1 X2 C L D (n + k.val) c : ℝ) : EReal) := fun k c => by
    rw [bpay10_at, real_ds T X0 X1 X2 C L D n V G dl hV hG hd _ k c (h9 k c)]
  refine ⟨rows_step v9 f9 inb n hoff hn _ P9 B9 _ h.1 fun k d => ?_, rows_step v10 f10 inb n hoff hn _ P10 B10 _ h.2.1 fun k d => ?_, fun d c => ?_⟩
  · rw [bpay12_at, rows_at v9 _ inb n hoff k d (by omega), real_gK T X0 X1 X2 C L D n Q hQ _ k d (h10 k)]
  · rw [bpay25_at, rows_at v10 _ inb n hoff k d (by omega), real_gV T X0 X1 C L n G hG _ k d (h9 k)]
  · rw [bpay11_at, real_dq T X0 X1 X2 C L D n K hK _ _ c d (fun k => h10 k c) (h.2.2 d c)]

/-- The first block at the diagonal. -/
theorem diag0 (hT : n = T)
    (h : ColB T X0 X1 X2 C L D B9 B10 n (v9.read (Elt Ideal) (v9.writes (Elt Ideal) f9 P9)) (v10.read (Elt Ideal) (v10.writes (Elt Ideal) f10 P10)) A) :
    ColB T X0 X1 X2 C L D B9 B10 (n + 512)
      (v9.read (Elt Ideal) (v9.writes (Elt Ideal) f9 (⟨Rect.unit (s := S8192x128) off S512x128.size inb, k1_pay32 (F := Ideal) (k1_pay28 (F := Ideal) Q) (k1_pay30 (F := Ideal) K V Q G l dl) (v9.readAt (Elt Ideal) (Rect.unit (s := S8192x128) off S512x128.size inb).toLoadRect (v9.writes (Elt Ideal) f9 P9))⟩ :: P9)))
      (v10.read (Elt Ideal) (v10.writes (Elt Ideal) f10 (⟨Rect.unit (s := S8192x128) off S512x128.size inb, k1_pay33 (F := Ideal) G (k1_pay29 (F := Ideal) K Q l) (v10.readAt (Elt Ideal) (Rect.unit (s := S8192x128) off S512x128.size inb).toLoadRect (v10.writes (Elt Ideal) f10 P10))⟩ :: P10)))
      (k1_pay31 (F := Ideal) K V Q G l dl A) := by
  have h9 := real29 T X0 X1 L n K Q l hQ hK hl hT
  have h10 : ∀ k c, k1_pay30 (F := Ideal) K V Q G l dl (ix2 k c) = ((DS T X0 X1 X2 C L D (n + k.val) c : ℝ) : EReal) := fun k c => by
    rw [bpay30_at, real_ds T X0 X1 X2 C L D n V G dl hV hG hd _ k c (h9 k c)]
  refine ⟨rows_step v9 f9 inb n hoff hn _ P9 B9 _ h.1 fun k d => ?_, rows_step v10 f10 inb n hoff hn _ P10 B10 _ h.2.1 fun k d => ?_, fun d c => ?_⟩
  · rw [bpay32_at, rows_at v9 _ inb n hoff k d (by omega), real_gK T X0 X1 X2 C L D n Q hQ _ k d (h10 k)]
  · rw [bpay33_at, rows_at v10 _ inb n hoff k d (by omega), real_gV T X0 X1 C L n G hG _ k d (h9 k)]
  · rw [bpay31_at, real_dq T X0 X1 X2 C L D n K hK _ _ c d (fun k => h10 k c) (h.2.2 d c)]
end First

section Second
variable {sp' : Space} (v11 : View sg κ sp' S128x1024 .f32) (f11 : v11.ty.Contents (Elt Ideal)) (P11 : List (View.Piece (Elt Ideal) S128x1024 .f32))
  (inb11 : ∀ a, (![0, 512] : Fin 2 → ℕ) a + S128x512.size a ≤ S128x1024.size a)
  (K V : Vec Ideal S512x128 .bf16) (Q : Vec Ideal S1x128x512 .bf16) (G : Vec Ideal S128x512 .bf16) (l : Vec Ideal S1x1x512 .f32)
  (dl : Vec Ideal S1x512 .f32)
  (hQ : ∀ d (c : Fin 512), Q (ix3 0 d c) = ((X0 (hiC c) d : ℝ) : EReal)) (hK : ∀ (k : Fin 512) d, K (ix2 k d) = ((X1 (n + k.val) d : ℝ) : EReal))
  (hV : ∀ (k : Fin 512) d, V (ix2 k d) = ((X2 (n + k.val) d : ℝ) : EReal)) (hG : ∀ d (c : Fin 512), G (ix2 d c) = ((C (hiC c) d : ℝ) : EReal))
  (hl : ∀ c : Fin 512, l (ix3 0 0 c) = ((L (hiC c) : ℝ) : EReal)) (hd : ∀ c : Fin 512, dl (ix2 0 c) = ((D (hiC c) : ℝ) : EReal))

include hoff hn hQ hK hV hG hl hd

/-- The second, which only the later half of the tile's columns meets. -/
theorem diag1 (hT : n = T + 512)
    (h : ColB T X0 X1 X2 C L D B9 B10 n (v9.read (Elt Ideal) (v9.writes (Elt Ideal) f9 P9)) (v10.read (Elt Ideal) (v10.writes (Elt Ideal) f10 P10)) (v11.read (Elt Ideal) (v11.writes (Elt Ideal) f11 P11))) :
    ColB T X0 X1 X2 C L D B9 B10 (n + 512)
      (v9.read (Elt Ideal) (v9.writes (Elt Ideal) f9 (⟨Rect.unit (s := S8192x128) off S512x128.size inb, k1_pay4 (F := Ideal) (k1_pay35 (F := Ideal) V) (k1_pay36 (F := Ideal) Q) G (k1_pay37 (F := Ideal) K Q l) k1_pay38 (k1_pay39 (F := Ideal)) dl (v9.readAt (Elt Ideal) (Rect.unit (s := S8192x128) off S512x128.size inb).toLoadRect (v9.writes (Elt Ideal) f9 P9))⟩ :: P9)))
      (v10.read (Elt Ideal) (v10.writes (Elt Ideal) f10 (⟨Rect.unit (s := S8192x128) off S512x128.size inb, k1_pay5 (F := Ideal) G (k1_pay37 (F := Ideal) K Q l) k1_pay38 (k1_pay39 (F := Ideal)) (v10.readAt (Elt Ideal) (Rect.unit (s := S8192x128) off S512x128.size inb).toLoadRect (v10.writes (Elt Ideal) f10 P10))⟩ :: P10)))
      (v11.read (Elt Ideal) (v11.writes (Elt Ideal) f11 (⟨Rect.unit (s := S128x1024) ![0, 512] S128x512.size inb11, k1_pay3 (F := Ideal) (k1_pay34 (F := Ideal) K) (k1_pay35 (F := Ideal) V) G (k1_pay37 (F := Ideal) K Q l) k1_pay38 (k1_pay39 (F := Ideal)) dl (v11.readAt (Elt Ideal) (Rect.unit (s := S128x1024) ![0, 512] S128x512.size inb11).toLoadRect (v11.writes (Elt Ideal) f11 P11))⟩ :: P11))) := by
  have h1 := real1 T X0 X1 L n K Q l hQ hK hl hT
  have h2 := real2 T X0 X1 X2 C L D n K V Q G l dl hQ hK hV hG hl hd hT
  refine ⟨rows_step v9 f9 inb n hoff hn _ P9 B9 _ h.1 fun k d => ?_, rows_step v10 f10 inb n hoff hn _ P10 B10 _ h.2.1 fun k d => ?_, fun d => halves (fun c hc => ?_) fun c => ?_⟩
  · rw [bpay4_at, rows_at v9 _ inb n hoff k d (by omega), real_gK' T X0 X1 X2 C L D n Q hQ hT _ k d (h2 k)]
  · rw [bpay5_at, rows_at v10 _ inb n hoff k d (by omega), real_gV' T X0 X1 C L n G hG hT _ k d (h1 k)]
  · rw [put_cols_lo v11 f11 inb11 _ P11 d c hc, h.2.2, sum_range_fin,
      Finset.sum_eq_zero (s := (Finset.univ : Finset (Fin 512))) (fun k _ => by rw [ds_neg _ _ _ _ _ _ _ _ _ (by omega), mul_zero]), add_zero]
  · rw [put_cols_hi v11 f11 inb11 _ P11 d c, bpay3_at, cols_at,
      real_dq T X0 X1 X2 C L D n K hK _ _ (hiC c) d (fun k => h2 k c) (h.2.2 d _)]
end Second
end Bands

/-! ### The loop -/

section Loop
variable (c : Dev nD) (i : grid1.Coords) (arg2 : Memref sig .tc .vmem S1x128x1024 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x1x1024 .f32) (harg7 : arg7.IsWhole) (arg8 : Memref sig .tc .vmem S1x128x1024 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S128x1024 .f32) (harg11 : arg11.IsWhole) (arg12 : Memref sig .tc .vmem S1x1024 .f32) (harg12 : arg12.IsWhole) (arg13 : Memref sig .tc .vmem S128x1024 .bf16) (harg13 : arg13.IsWhole)
  (Y2 : BufTy.Contents (Elt Ideal) arg2.view.ty) (Y3 : BufTy.Contents (Elt Ideal) arg3.view.ty) (Y4 : BufTy.Contents (Elt Ideal) arg4.view.ty) (Y7 : BufTy.Contents (Elt Ideal) arg7.view.ty) (Y12 : BufTy.Contents (Elt Ideal) arg12.view.ty) (Y13 : BufTy.Contents (Elt Ideal) arg13.view.ty)

theorem trip1_pieces (k : Fin (k1_t1_loop i).trips) (f9 : BufTy.Contents (Elt Ideal) arg9.view.ty) (f10 : BufTy.Contents (Elt Ideal) arg10.view.ty) (f11 : BufTy.Contents (Elt Ideal) arg11.view.ty) :
    let K := arg3.view.readAt (Elt Ideal) (Rect.unit (s := S8192x128) (k1_off1 i k) S512x128.size (k1_off1_inb i k)).toLoadRect Y3
    let V := arg4.view.readAt (Elt Ideal) (Rect.unit (s := S8192x128) (k1_off1 i k) S512x128.size (k1_off1_inb i k)).toLoadRect Y4
    let Q := arg2.view.readAt (Elt Ideal) (Rect.unit (s := S1x128x1024) ![0, 0, 0] S1x128x1024.size inb_S1x128x1024_S1x128x1024_0_0_0).toLoadRect Y2
    let G := arg13.view.readAt (Elt Ideal) (Rect.unit (s := S128x1024) ![0, 0] S128x1024.size inb_S128x1024_S128x1024_0_0).toLoadRect Y13
    let l := arg7.view.readAt (Elt Ideal) (Rect.unit (s := S1x1x1024) ![0, 0, 0] S1x1x1024.size inb_S1x1x1024_S1x1x1024_0_0_0).toLoadRect Y7
    let dl := arg12.view.readAt (Elt Ideal) (Rect.unit (s := S1x1024) ![0, 0] S1x1024.size inb_S1x1024_S1x1024_0_0).toLoadRect Y12
    tripL_k1_t1 (F := Ideal) Variants.none c none i arg2 harg2 arg3 harg3 arg4 harg4 arg5 harg5 arg6 harg6 arg7 harg7 arg8 harg8 arg9 harg9 arg10 harg10 arg11 harg11 arg12 harg12 arg13 harg13 Y2 Y3 Y4 Y7 Y12 Y13 k f9 f10 f11
      = ([⟨Rect.unit (s := S8192x128) (k1_off1 i k) S512x128.size (k1_off1_inb i k), k1_pay12 (F := Ideal) K V Q G l dl (arg9.view.readAt (Elt Ideal) (Rect.unit (s := S8192x128) (k1_off1 i k) S512x128.size (k1_off1_inb i k)).toLoadRect f9)⟩],
         [⟨Rect.unit (s := S8192x128) (k1_off1 i k) S512x128.size (k1_off1_inb i k), k1_pay25 (F := Ideal) G (k1_pay9 (F := Ideal) K Q l) (arg10.view.readAt (Elt Ideal) (Rect.unit (s := S8192x128) (k1_off1 i k) S512x128.size (k1_off1_inb i k)).toLoadRect f10)⟩],
         [⟨Rect.unit (s := S128x1024) ![0, 0] S128x1024.size inb_S128x1024_S128x1024_0_0, k1_pay11 (F := Ideal) K V Q G l dl (arg11.view.readAt (Elt Ideal) (Rect.unit (s := S128x1024) ![0, 0] S128x1024.size inb_S128x1024_S128x1024_0_0).toLoadRect f11)⟩]) := by
  intro K V Q G l dl
  unfold tripL_k1_t1 trip_k1_t1
  rfl

theorem loopB (X0 : Fin 1024 → Fin 128 → ℝ) (X1 X2 : ℕ → Fin 128 → ℝ) (C : Fin 1024 → Fin 128 → ℝ) (L D : Fin 1024 → ℝ) (B9 B10 : ℕ → Fin 128 → ℝ)
    (h2 : ∀ d c, arg2.view.read (Elt Ideal) Y2 (ix3 0 d c) = ((X0 c d : ℝ) : EReal))
    (h3 : ∀ (k : Fin 8192) d, arg3.view.read (Elt Ideal) Y3 (ix2 k d) = ((X1 k.val d : ℝ) : EReal))
    (h4 : ∀ (k : Fin 8192) d, arg4.view.read (Elt Ideal) Y4 (ix2 k d) = ((X2 k.val d : ℝ) : EReal))
    (h7 : ∀ c, arg7.view.read (Elt Ideal) Y7 (ix3 0 0 c) = ((L c : ℝ) : EReal))
    (h12 : ∀ c, arg12.view.read (Elt Ideal) Y12 (ix2 0 c) = ((D c : ℝ) : EReal))
    (h13 : ∀ d c, arg13.view.read (Elt Ideal) Y13 (ix2 d c) = ((C c d : ℝ) : EReal))
    (G9 : BufTy.Contents (Elt Ideal) arg9.view.ty) (G10 : BufTy.Contents (Elt Ideal) arg10.view.ty) (G11 : BufTy.Contents (Elt Ideal) arg11.view.ty)
    (h0 : ColB (1024 * (i 1).val) X0 X1 X2 C L D B9 B10 0 (arg9.view.read (Elt Ideal) G9) (arg10.view.read (Elt Ideal) G10) (arg11.view.read (Elt Ideal) G11)) (k : ℕ)
    (hk : k ≤ (k1_t1_loop i).trips) :
    let p := pb_k1_t1 (F := Ideal) Variants.none c none i arg2 harg2 arg3 harg3 arg4 harg4 arg5 harg5 arg6 harg6 arg7 harg7 arg8 harg8 arg9 harg9 arg10 harg10 arg11 harg11 arg12 harg12 arg13 harg13 Y2 Y3 Y4 Y7 Y12 Y13 G9 G10 G11 k
    ColB (1024 * (i 1).val) X0 X1 X2 C L D B9 B10 (512 * k) (arg9.view.read (Elt Ideal) (arg9.view.writes (Elt Ideal) G9 p.1))
      (arg10.view.read (Elt Ideal) (arg10.view.writes (Elt Ideal) G10 p.2.1)) (arg11.view.read (Elt Ideal) (arg11.view.writes (Elt Ideal) G11 p.2.2)) := by
  induction k with
  | zero => exact h0
  | succ k ih =>
    have hlt : k < (k1_t1_loop i).trips := hk
    have ih := ih hlt.le
    have ht := trips1 i
    have hi : (i 1).val < 8 := (i 1).isLt
    intro p
    unfold p
    rw [show k + 1 = (⟨k, hlt⟩ : Fin (k1_t1_loop i).trips).val + 1 from rfl, pb_k1_t1_succ, trip1_pieces]
    dsimp only [List.cons_append, List.nil_append] at ih ⊢
    rw [show 512 * (k + 1) = 512 * k + 512 by ring, View.read_writes_full arg11.view]
    have hoff : k1_off1 i ⟨k, hlt⟩ = ![512 * k, 0] := k1_off1_eq i ⟨k, hlt⟩
    refine below arg9.view arg10.view G9 G10 _ _ (k1_off1_inb i ⟨k, hlt⟩) (512 * k) hoff (by omega) (1024 * (i 1).val) X0 X1 X2 C L D B9 B10 _ _ _ _ _ _ _
      (fun d c => ?_) (fun kk d => ?_) (fun kk d => ?_) (fun d c => ?_) (fun c => ?_) (fun c => ?_) (by omega) ?_
    · rw [View.readAt_full]; exact h2 d c
    · rw [rows_at arg3.view Y3 _ (512 * k) hoff kk d (by omega)]; exact h3 _ d
    · rw [rows_at arg4.view Y4 _ (512 * k) hoff kk d (by omega)]; exact h4 _ d
    · rw [View.readAt_full]; exact h13 d c
    · rw [View.readAt_full]; exact h7 c
    · rw [View.readAt_full]; exact h12 c
    · rw [View.readAt_full]; exact ih

theorem pb1_nil (v : BitVec 32) (G9 : BufTy.Contents (Elt Ideal) arg9.view.ty) (G10 : BufTy.Contents (Elt Ideal) arg10.view.ty) (G11 : BufTy.Contents (Elt Ideal) arg11.view.ty) :
    pb_k1_t2 (F := Ideal) Variants.none c none i arg2 harg2 arg3 harg3 arg4 harg4 arg5 harg5 arg6 harg6 arg7 harg7 arg8 harg8 arg9 harg9 arg10 harg10 arg11 harg11 arg12 harg12 arg13 harg13 v Y2 Y3 Y4 Y7 Y12 Y13 G9 G10 G11 (Scf.trips (k1_t2_loop i).lb (k1_t2_loop i).ub (k1_t2_loop i).st) = ([], [], []) := by
  rw [show Scf.trips (k1_t2_loop i).lb (k1_t2_loop i).ub (k1_t2_loop i).st = 0 from trips1' i]
  exact pb_k1_t2.eq_1 ..
end Loop

end Cert.KernelIdeal.Val
-- ==== Proof.OutB.lean ====
/- The three gradients one point of the backward call leaves: at the first point of a head over zeros, at the later ones over what the point before left. -/
module

public import proofs.«01_k».proof.Proof.BodyB

@[expose] public section

noncomputable section

namespace Cert.KernelIdeal.Val

open Idealize.ShloMosaic Idealize.SL.Sem Cert.KernelIdeal.Gen

theorem off1_inb {off : Fin 2 → ℕ} (n : ℕ) (hoff : off = ![n, 0]) (hn : n + 512 ≤ 8192) (a : Fin 2) : off a + S512x128.size a ≤ S8192x128.size a := by
  subst hoff
  match a with
  | ⟨0, _⟩ => exact hn
  | ⟨1, _⟩ => exact (show 0 + 128 ≤ 128 by omega)

/-- The row sums the body forms before the loop. -/
def Dl (C O : Fin 1024 → Fin 128 → ℝ) (c : Fin 1024) : ℝ := ∑ d, C c d * O c d

section CaseA
variable (c : Dev nD) (i : grid1.Coords) (arg2 : Memref sig .tc .vmem S1x128x1024 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x1x1024 .f32) (harg7 : arg7.IsWhole) (arg8 : Memref sig .tc .vmem S1x128x1024 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S128x1024 .f32) (harg11 : arg11.IsWhole) (arg12 : Memref sig .tc .vmem S1x1024 .f32) (harg12 : arg12.IsWhole) (arg13 : Memref sig .tc .vmem S128x1024 .bf16) (harg13 : arg13.IsWhole) (hc0 : cond1_0 i)
  (x0 : Vec Ideal S1x128x1024 .bf16) (x1 x2 : Vec Ideal S8192x128 .bf16) (x3 x4 : Vec Ideal S1x128x1024 .f32) (x5 : Vec Ideal S1x1x1024 .f32)
  (X0 : Fin 1024 → Fin 128 → ℝ) (X1 X2 : ℕ → Fin 128 → ℝ) (C O : Fin 1024 → Fin 128 → ℝ) (L : Fin 1024 → ℝ)
  (h0 : ∀ d c, x0 (ix3 0 d c) = ((X0 c d : ℝ) : EReal)) (h1 : ∀ (k : Fin 8192) d, x1 (ix2 k d) = ((X1 k.val d : ℝ) : EReal))
  (h2 : ∀ (k : Fin 8192) d, x2 (ix2 k d) = ((X2 k.val d : ℝ) : EReal)) (h3 : ∀ d c, x3 (ix3 0 d c) = ((C c d : ℝ) : EReal))
  (h4 : ∀ d c, x4 (ix3 0 d c) = ((O c d : ℝ) : EReal)) (h5 : ∀ c, x5 (ix3 0 0 c) = ((L c : ℝ) : EReal))

include h3 in
theorem gA_at (d : Fin 128) (e : Fin 1024) : arg13.view.read (Elt Ideal) (arg13.view.writes (Elt Ideal) arg13.view.junk (kernelRun1_A.sl.HS2_1 (F := Ideal) c arg5 harg5 x3)) (ix2 d e) = ((C e d : ℝ) : EReal) := by
  unfold kernelRun1_A.sl.HS2_1
  rw [View.read_writes_full, View.readAt_full, harg5.read_unread, bpay23_at, h3]

include h3 h4 in
theorem dA_at (e : Fin 1024) : arg12.view.read (Elt Ideal) (arg12.view.writes (Elt Ideal) arg12.view.junk (kernelRun1_A.sl.HS1_1 (F := Ideal) c arg5 harg5 arg6 harg6 x3 x4)) (ix2 0 e) = ((Dl C O e : ℝ) : EReal) := by
  unfold kernelRun1_A.sl.HS1_1
  rw [View.read_writes_full, View.readAt_full, View.readAt_full, harg5.read_unread, harg6.read_unread, bpay24_at]
  exact coe_dot _ _ _ _ (fun d => h3 d e) fun d => h4 d e

include h0 h1 h2 h3 h4 h5

theorem state1A : ColB (1024 * (i 1).val) X0 X1 X2 C L (Dl C O) (fun _ _ => 0) (fun _ _ => 0) (1024 * (i 1).val + 512)
    (arg9.view.read (Elt Ideal) (arg9.view.writes (Elt Ideal) arg9.view.junk (kernelRun1_A.sl.H7_1_1 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 )))
    (arg10.view.read (Elt Ideal) (arg10.view.writes (Elt Ideal) arg10.view.junk (kernelRun1_A.sl.H8_1_1 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 )))
    (arg11.view.read (Elt Ideal) (arg11.view.writes (Elt Ideal) arg11.view.junk (kernelRun1_A.sl.HS0_1_1 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 ))) := by
  have hi : (i 1).val < 8 := (i 1).isLt
  have hoff : k1_off3 i 0#32 = ![1024 * (i 1).val, 0] := k1_off3_eq i 0
  unfold kernelRun1_A.sl.H7_1_1 kernelRun1_A.sl.H8_1_1 kernelRun1_A.sl.HS0_1_1 kernelRun1_A.sl.r kernelRun1_A.sl.r_1 kernelRun1_A.sl.r_2 kernelRun1_A.sl.v65 kernelRun1_A.sl.v72 kernelRun1_A.sl.v58 kernelRun1_A.sl.v38 kernelRun1_A.sl.v53 View.readCov
  rw [pb1_nil]
  dsimp only [List.nil_append]
  rw [View.read_writes_full arg11.view]
  refine diag0 arg9.view arg10.view arg9.view.junk arg10.view.junk _ _ _ (1024 * (i 1).val) hoff (by omega) (1024 * (i 1).val) X0 X1 X2 C L (Dl C O) (fun _ _ => 0) (fun _ _ => 0) _ _ _ _ _ _ _
      (fun d c => ?_) (fun kk d => ?_) (fun kk d => ?_) (fun d e => ?_) (fun c => ?_) (fun e => ?_) rfl ?_
  · rw [View.readAt_full, harg2.read_unread]; exact h0 d c
  · rw [rows_at arg3.view _ _ (1024 * (i 1).val) hoff kk d (by omega), harg3.read_unread]; exact h1 _ d
  · rw [rows_at arg4.view _ _ (1024 * (i 1).val) hoff kk d (by omega), harg4.read_unread]; exact h2 _ d
  · rw [View.readAt_full]; exact gA_at c arg5 harg5 arg13 x3 C h3 d e
  · rw [View.readAt_full, harg7.read_unread]; exact h5 c
  · rw [View.readAt_full]; exact dA_at c arg5 harg5 arg6 harg6 arg12 x3 x4 C O h3 h4 e
  · rw [View.readAt_full, View.writes_append arg11.view, View.writes_append arg9.view, View.writes_append arg10.view]
    have h := loopB c i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg7.unread x5)
      (arg12.view.writes (Elt Ideal) arg12.view.junk (kernelRun1_A.sl.HS1_1 (F := Ideal) c arg5 harg5 arg6 harg6 x3 x4))
      (arg13.view.writes (Elt Ideal) arg13.view.junk (kernelRun1_A.sl.HS2_1 (F := Ideal) c arg5 harg5 x3)) X0 X1 X2 C L (Dl C O) (fun _ _ => 0) (fun _ _ => 0)
      (fun d c => by rw [harg2.read_unread]; exact h0 d c) (fun k d => by rw [harg3.read_unread]; exact h1 k d) (fun k d => by rw [harg4.read_unread]; exact h2 k d)
      (fun c => by rw [harg7.read_unread]; exact h5 c) (dA_at c arg5 harg5 arg6 harg6 arg12 x3 x4 C O h3 h4) (gA_at c arg5 harg5 arg13 x3 C h3)
      (arg9.view.writes (Elt Ideal) arg9.view.junk (kernelRun1_A.sl.H7_1 (F := Ideal))) (arg10.view.writes (Elt Ideal) arg10.view.junk (kernelRun1_A.sl.H8_1 (F := Ideal))) (arg11.view.writes (Elt Ideal) arg11.view.junk (kernelRun1_A.sl.HS0_1 (F := Ideal)))
      ⟨fun k d => by unfold kernelRun1_A.sl.H7_1; rw [View.read_writes_full, bpay19_at]; simp, fun k d => by unfold kernelRun1_A.sl.H8_1; rw [View.read_writes_full, bpay20_at]; simp, fun d c => by unfold kernelRun1_A.sl.HS0_1; rw [View.read_writes_full, bpay21_at]; simp⟩
      (k1_t1_loop i).trips le_rfl
    have e : 512 * (k1_t1_loop i).trips = 1024 * (i 1).val := by rw [trips1]; ring
    rw [e] at h
    exact h

theorem outA :
    (∀ (k : Fin 8192) d, out1_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5  (ix2 k d) = (((fun _ _ => 0) k.val d + if k.val < 1024 * (i 1).val + 512 + 512 then gK (1024 * (i 1).val) X0 X1 X2 C L (Dl C O) k.val d else 0 : ℝ) : EReal))
    ∧ (∀ (k : Fin 8192) d, out1_A_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5  (ix2 k d) = (((fun _ _ => 0) k.val d + if k.val < 1024 * (i 1).val + 512 + 512 then gV (1024 * (i 1).val) X0 X1 C L k.val d else 0 : ℝ) : EReal))
    ∧ ∀ d e, out1_A_6 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5  (ix3 0 d e)
      = ((∑ k ∈ Finset.range (1024 * (i 1).val + 512 + 512), X1 k d * DS (1024 * (i 1).val) X0 X1 X2 C L (Dl C O) k e : ℝ) : EReal) := by
  have hi : (i 1).val < 8 := (i 1).isLt
  have hoff : k1_off3 i 512#32 = ![1024 * (i 1).val + 512, 0] := k1_off3_eq i 1
  have s := state1A c i arg2 harg2 arg3 harg3 arg4 harg4 arg5 harg5 arg6 harg6 arg7 harg7 arg8 harg8 arg9 harg9 arg10 harg10 arg11 harg11 arg12 harg12 arg13 harg13 x0 x1 x2 x3 x4 x5  X0 X1 X2 C O L  h0 h1 h2 h3 h4 h5
  have inb := off1_inb (1024 * (i 1).val + 512) hoff (by omega)
  have h := diag1 arg9.view arg10.view arg9.view.junk arg10.view.junk _ _ inb (1024 * (i 1).val + 512) hoff (by omega) (1024 * (i 1).val) X0 X1 X2 C L (Dl C O) (fun _ _ => 0) (fun _ _ => 0) arg11.view arg11.view.junk _ inb_S128x1024_S128x512_0_512
      (arg3.view.readAt (Elt Ideal) (Rect.unit (s := S8192x128) (k1_off3 i 512#32) S512x128.size inb).toLoadRect (harg3.unread x1))
      (arg4.view.readAt (Elt Ideal) (Rect.unit (s := S8192x128) (k1_off3 i 512#32) S512x128.size inb).toLoadRect (harg4.unread x2))
      (arg2.view.readAt (Elt Ideal) (Rect.unit (s := S1x128x1024) ![0, 0, 512] S1x128x512.size inb_S1x128x1024_S1x128x512_0_0_512).toLoadRect (harg2.unread x0))
      (arg13.view.readAt (Elt Ideal) (Rect.unit (s := S128x1024) ![0, 512] S128x512.size inb_S128x1024_S128x512_0_512).toLoadRect (arg13.view.writes (Elt Ideal) arg13.view.junk (kernelRun1_A.sl.HS2_1 (F := Ideal) c arg5 harg5 x3)))
      (arg7.view.readAt (Elt Ideal) (Rect.unit (s := S1x1x1024) ![0, 0, 512] S1x1x512.size inb_S1x1x1024_S1x1x512_0_0_512).toLoadRect (harg7.unread x5))
      (arg12.view.readAt (Elt Ideal) (Rect.unit (s := S1x1024) ![0, 512] S1x512.size inb_S1x1024_S1x512_0_512).toLoadRect (arg12.view.writes (Elt Ideal) arg12.view.junk (kernelRun1_A.sl.HS1_1 (F := Ideal) c arg5 harg5 arg6 harg6 x3 x4)))
      (fun d e => by rw [tile_at, harg2.read_unread]; exact h0 d _)
      (fun kk d => by rw [rows_at arg3.view _ _ (1024 * (i 1).val + 512) hoff kk d (by omega), harg3.read_unread]; exact h1 _ d)
      (fun kk d => by rw [rows_at arg4.view _ _ (1024 * (i 1).val + 512) hoff kk d (by omega), harg4.read_unread]; exact h2 _ d)
      (fun d e => by rw [cols_at]; exact gA_at c arg5 harg5 arg13 x3 C h3 d _)
      (fun e => by rw [lse_at, harg7.read_unread]; exact h5 _)
      (fun e => by rw [row1_at]; exact dA_at c arg5 harg5 arg6 harg6 arg12 x3 x4 C O h3 h4 _)
      rfl s
  unfold out1_A_6 out1_A_7 out1_A_8 kernelRun1_A
  dsimp only
  rw [View.read_writes_full VO1_6, View.read_writes_junk_eq_canon VO1_7, ← View.read_writes_junk_eq_canon arg9.view, View.read_writes_junk_eq_canon VO1_8, ← View.read_writes_junk_eq_canon arg10.view]
  unfold kernelRun1_A.sl.v117 kernelRun1_A.sl.v124 kernelRun1_A.sl.r_4 kernelRun1_A.sl.r_5 kernelRun1_A.sl.r_6 kernelRun1_A.sl.v90 kernelRun1_A.sl.v105 kernelRun1_A.sl.v131 kernelRun1_A.sl.HS0_2 kernelRun1_A.sl.r_3 kernelRun1_A.sl.r_4 kernelRun1_A.sl.r_6 kernelRun1_A.sl.v90 kernelRun1_A.sl.v105 kernelRun1_A.sl.v110 View.readCov
  refine ⟨h.1, h.2.1, fun d e => ?_⟩
  rw [bpay6_at, View.readAt_full]
  exact h.2.2 d e
end CaseA

section CaseB
variable (c : Dev nD) (i : grid1.Coords) (arg2 : Memref sig .tc .vmem S1x128x1024 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x1x1024 .f32) (harg7 : arg7.IsWhole) (arg8 : Memref sig .tc .vmem S1x128x1024 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S128x1024 .f32) (harg11 : arg11.IsWhole) (arg12 : Memref sig .tc .vmem S1x1024 .f32) (harg12 : arg12.IsWhole) (arg13 : Memref sig .tc .vmem S128x1024 .bf16) (harg13 : arg13.IsWhole) (hc0 : ¬ cond1_0 i)
  (x0 : Vec Ideal S1x128x1024 .bf16) (x1 x2 : Vec Ideal S8192x128 .bf16) (x3 x4 : Vec Ideal S1x128x1024 .f32) (x5 : Vec Ideal S1x1x1024 .f32) (xo7 xo8 : Vec Ideal S8192x128 .f32)
  (X0 : Fin 1024 → Fin 128 → ℝ) (X1 X2 : ℕ → Fin 128 → ℝ) (C O : Fin 1024 → Fin 128 → ℝ) (L : Fin 1024 → ℝ) (B9 B10 : ℕ → Fin 128 → ℝ)
  (h0 : ∀ d c, x0 (ix3 0 d c) = ((X0 c d : ℝ) : EReal)) (h1 : ∀ (k : Fin 8192) d, x1 (ix2 k d) = ((X1 k.val d : ℝ) : EReal))
  (h2 : ∀ (k : Fin 8192) d, x2 (ix2 k d) = ((X2 k.val d : ℝ) : EReal)) (h3 : ∀ d c, x3 (ix3 0 d c) = ((C c d : ℝ) : EReal))
  (h4 : ∀ d c, x4 (ix3 0 d c) = ((O c d : ℝ) : EReal)) (h5 : ∀ c, x5 (ix3 0 0 c) = ((L c : ℝ) : EReal))
  (h7 : ∀ (k : Fin 8192) d, xo7 (ix2 k d) = ((B9 k.val d : ℝ) : EReal)) (h8 : ∀ (k : Fin 8192) d, xo8 (ix2 k d) = ((B10 k.val d : ℝ) : EReal))

include h3 in
theorem gB_at (d : Fin 128) (e : Fin 1024) : arg13.view.read (Elt Ideal) (arg13.view.writes (Elt Ideal) arg13.view.junk (kernelRun1_B.sl.HS2_1 (F := Ideal) c arg5 harg5 x3)) (ix2 d e) = ((C e d : ℝ) : EReal) := by
  unfold kernelRun1_B.sl.HS2_1
  rw [View.read_writes_full, View.readAt_full, harg5.read_unread, bpay23_at, h3]

include h3 h4 in
theorem dB_at (e : Fin 1024) : arg12.view.read (Elt Ideal) (arg12.view.writes (Elt Ideal) arg12.view.junk (kernelRun1_B.sl.HS1_1 (F := Ideal) c arg5 harg5 arg6 harg6 x3 x4)) (ix2 0 e) = ((Dl C O e : ℝ) : EReal) := by
  unfold kernelRun1_B.sl.HS1_1
  rw [View.read_writes_full, View.readAt_full, View.readAt_full, harg5.read_unread, harg6.read_unread, bpay24_at]
  exact coe_dot _ _ _ _ (fun d => h3 d e) fun d => h4 d e

include h0 h1 h2 h3 h4 h5 h7 h8

theorem state1B : ColB (1024 * (i 1).val) X0 X1 X2 C L (Dl C O) B9 B10 (1024 * (i 1).val + 512)
    (arg9.view.read (Elt Ideal) (arg9.view.writes (Elt Ideal) (harg9.unread xo7) (kernelRun1_B.sl.H7_1 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 xo7 xo8)))
    (arg10.view.read (Elt Ideal) (arg10.view.writes (Elt Ideal) (harg10.unread xo8) (kernelRun1_B.sl.H8_1 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 xo7 xo8)))
    (arg11.view.read (Elt Ideal) (arg11.view.writes (Elt Ideal) arg11.view.junk (kernelRun1_B.sl.HS0_1_1 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 xo7 xo8))) := by
  have hi : (i 1).val < 8 := (i 1).isLt
  have hoff : k1_off3 i 0#32 = ![1024 * (i 1).val, 0] := k1_off3_eq i 0
  unfold kernelRun1_B.sl.H7_1 kernelRun1_B.sl.H8_1 kernelRun1_B.sl.HS0_1_1 kernelRun1_B.sl.r kernelRun1_B.sl.r_1 kernelRun1_B.sl.r_2 kernelRun1_B.sl.v65 kernelRun1_B.sl.v72 kernelRun1_B.sl.v58 kernelRun1_B.sl.v38 kernelRun1_B.sl.v53 View.readCov
  rw [pb1_nil]
  dsimp only [List.nil_append]
  rw [View.read_writes_full arg11.view]
  refine diag0 arg9.view arg10.view (harg9.unread xo7) (harg10.unread xo8) _ _ _ (1024 * (i 1).val) hoff (by omega) (1024 * (i 1).val) X0 X1 X2 C L (Dl C O) B9 B10 _ _ _ _ _ _ _
      (fun d c => ?_) (fun kk d => ?_) (fun kk d => ?_) (fun d e => ?_) (fun c => ?_) (fun e => ?_) rfl ?_
  · rw [View.readAt_full, harg2.read_unread]; exact h0 d c
  · rw [rows_at arg3.view _ _ (1024 * (i 1).val) hoff kk d (by omega), harg3.read_unread]; exact h1 _ d
  · rw [rows_at arg4.view _ _ (1024 * (i 1).val) hoff kk d (by omega), harg4.read_unread]; exact h2 _ d
  · rw [View.readAt_full]; exact gB_at c arg5 harg5 arg13 x3 C h3 d e
  · rw [View.readAt_full, harg7.read_unread]; exact h5 c
  · rw [View.readAt_full]; exact dB_at c arg5 harg5 arg6 harg6 arg12 x3 x4 C O h3 h4 e
  · rw [View.readAt_full, View.writes_append arg11.view]
    have h := loopB c i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg7.unread x5)
      (arg12.view.writes (Elt Ideal) arg12.view.junk (kernelRun1_B.sl.HS1_1 (F := Ideal) c arg5 harg5 arg6 harg6 x3 x4))
      (arg13.view.writes (Elt Ideal) arg13.view.junk (kernelRun1_B.sl.HS2_1 (F := Ideal) c arg5 harg5 x3)) X0 X1 X2 C L (Dl C O) B9 B10
      (fun d c => by rw [harg2.read_unread]; exact h0 d c) (fun k d => by rw [harg3.read_unread]; exact h1 k d) (fun k d => by rw [harg4.read_unread]; exact h2 k d)
      (fun c => by rw [harg7.read_unread]; exact h5 c) (dB_at c arg5 harg5 arg6 harg6 arg12 x3 x4 C O h3 h4) (gB_at c arg5 harg5 arg13 x3 C h3)
      (harg9.unread xo7) (harg10.unread xo8) (arg11.view.writes (Elt Ideal) arg11.view.junk (kernelRun1_B.sl.HS0_1 (F := Ideal)))
      ⟨fun k d => by rw [harg9.read_unread, h7]; simp, fun k d => by rw [harg10.read_unread, h8]; simp, fun d c => by unfold kernelRun1_B.sl.HS0_1; rw [View.read_writes_full, bpay21_at]; simp⟩
      (k1_t1_loop i).trips le_rfl
    have e : 512 * (k1_t1_loop i).trips = 1024 * (i 1).val := by rw [trips1]; ring
    rw [e] at h
    exact h

theorem outB :
    (∀ (k : Fin 8192) d, out1_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 (ix2 k d) = ((B9 k.val d + if k.val < 1024 * (i 1).val + 512 + 512 then gK (1024 * (i 1).val) X0 X1 X2 C L (Dl C O) k.val d else 0 : ℝ) : EReal))
    ∧ (∀ (k : Fin 8192) d, out1_B_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 (ix2 k d) = ((B10 k.val d + if k.val < 1024 * (i 1).val + 512 + 512 then gV (1024 * (i 1).val) X0 X1 C L k.val d else 0 : ℝ) : EReal))
    ∧ ∀ d e, out1_B_6 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 xo7 xo8 (ix3 0 d e)
      = ((∑ k ∈ Finset.range (1024 * (i 1).val + 512 + 512), X1 k d * DS (1024 * (i 1).val) X0 X1 X2 C L (Dl C O) k e : ℝ) : EReal) := by
  have hi : (i 1).val < 8 := (i 1).isLt
  have hoff : k1_off3 i 512#32 = ![1024 * (i 1).val + 512, 0] := k1_off3_eq i 1
  have s := state1B c i arg2 harg2 arg3 harg3 arg4 harg4 arg5 harg5 arg6 harg6 arg7 harg7 arg8 harg8 arg9 harg9 arg10 harg10 arg11 harg11 arg12 harg12 arg13 harg13 x0 x1 x2 x3 x4 x5 xo7 xo8 X0 X1 X2 C O L B9 B10 h0 h1 h2 h3 h4 h5 h7 h8
  have inb := off1_inb (1024 * (i 1).val + 512) hoff (by omega)
  have h := diag1 arg9.view arg10.view (harg9.unread xo7) (harg10.unread xo8) _ _ inb (1024 * (i 1).val + 512) hoff (by omega) (1024 * (i 1).val) X0 X1 X2 C L (Dl C O) B9 B10 arg11.view arg11.view.junk _ inb_S128x1024_S128x512_0_512
      (arg3.view.readAt (Elt Ideal) (Rect.unit (s := S8192x128) (k1_off3 i 512#32) S512x128.size inb).toLoadRect (harg3.unread x1))
      (arg4.view.readAt (Elt Ideal) (Rect.unit (s := S8192x128) (k1_off3 i 512#32) S512x128.size inb).toLoadRect (harg4.unread x2))
      (arg2.view.readAt (Elt Ideal) (Rect.unit (s := S1x128x1024) ![0, 0, 512] S1x128x512.size inb_S1x128x1024_S1x128x512_0_0_512).toLoadRect (harg2.unread x0))
      (arg13.view.readAt (Elt Ideal) (Rect.unit (s := S128x1024) ![0, 512] S128x512.size inb_S128x1024_S128x512_0_512).toLoadRect (arg13.view.writes (Elt Ideal) arg13.view.junk (kernelRun1_B.sl.HS2_1 (F := Ideal) c arg5 harg5 x3)))
      (arg7.view.readAt (Elt Ideal) (Rect.unit (s := S1x1x1024) ![0, 0, 512] S1x1x512.size inb_S1x1x1024_S1x1x512_0_0_512).toLoadRect (harg7.unread x5))
      (arg12.view.readAt (Elt Ideal) (Rect.unit (s := S1x1024) ![0, 512] S1x512.size inb_S1x1024_S1x512_0_512).toLoadRect (arg12.view.writes (Elt Ideal) arg12.view.junk (kernelRun1_B.sl.HS1_1 (F := Ideal) c arg5 harg5 arg6 harg6 x3 x4)))
      (fun d e => by rw [tile_at, harg2.read_unread]; exact h0 d _)
      (fun kk d => by rw [rows_at arg3.view _ _ (1024 * (i 1).val + 512) hoff kk d (by omega), harg3.read_unread]; exact h1 _ d)
      (fun kk d => by rw [rows_at arg4.view _ _ (1024 * (i 1).val + 512) hoff kk d (by omega), harg4.read_unread]; exact h2 _ d)
      (fun d e => by rw [cols_at]; exact gB_at c arg5 harg5 arg13 x3 C h3 d _)
      (fun e => by rw [lse_at, harg7.read_unread]; exact h5 _)
      (fun e => by rw [row1_at]; exact dB_at c arg5 harg5 arg6 harg6 arg12 x3 x4 C O h3 h4 _)
      rfl s
  unfold out1_B_6 out1_B_7 out1_B_8 kernelRun1_B
  dsimp only
  rw [View.read_writes_full VO1_6]
  unfold kernelRun1_B.sl.r_4 kernelRun1_B.sl.r_5 kernelRun1_B.sl.r_6 kernelRun1_B.sl.v90 kernelRun1_B.sl.v105 kernelRun1_B.sl.v131 kernelRun1_B.sl.HS0_2 kernelRun1_B.sl.r_3 kernelRun1_B.sl.r_4 kernelRun1_B.sl.r_6 kernelRun1_B.sl.v90 kernelRun1_B.sl.v105 kernelRun1_B.sl.v110 View.readCov
  refine ⟨h.1, h.2.1, fun d e => ?_⟩
  rw [bpay6_at, View.readAt_full]
  exact h.2.2 d e
end CaseB

end Cert.KernelIdeal.Val
-- ==== Proof.Arr0.lean ====
/- The arrays that the forward call leaves: its blocks put together over the heads and the tiles of queries. -/
module

public import proofs.«01_k».proof.Proof.OutB
public import Idealize.ShloMosaic.Lib.Pipeline.ValueKit

@[expose] public section

noncomputable section

namespace Cert.KernelIdeal.Val

open Idealize.ShloMosaic Idealize.ShloMosaic.TcCoe Idealize.SL.Sem Cert.KernelIdeal.Gen

/-- Lane `d` of head `h` in a row that holds every head's lanes. -/
def lane (h : Fin 4) (d : Fin 128) : Fin 512 := ⟨128 * h.val + d.val, by omega⟩

theorem idx0 : ∀ t : Fin cfg0.N, (grid0.coords t 0).val = t.val / 8 ∧ (grid0.coords t 1).val = t.val % 8
    ∧ win0_0.index t = ![t.val / 8, 0, t.val % 8] ∧ win0_1.index t = ![0, t.val / 8] ∧ win0_2.index t = ![0, t.val / 8]
    ∧ win0_3.index t = ![t.val / 8, 0, t.val % 8] ∧ win0_4.index t = ![t.val / 8, 0, t.val % 8] := by decide +kernel

section
variable (V : (c : Dev nD) → (b : Ref sig .tc) → Buf (Elt Ideal) ((c : Thread nD τ).loc b)) (c : Dev nD) (Q K X : ℕ → ℕ → Fin 128 → ℝ)

theorem blk0_0 (hq : ∀ (h : Fin 4) (d : Fin 128) (q : Fin 8192), (V c main_v4 : S4x128x8192.Idx → EReal) (ix3 h d q) = ((Q h.val q.val d : ℝ) : EReal))
    (t : Fin cfg0.N) (d : Fin 128) (f : Fin 1024) :
    (iblk0 V c 0 t : S1x128x1024.Idx → EReal) (ix3 0 d f) = ((Q (t.val / 8) (1024 * (grid0.coords t 1).val + f.val) d : ℝ) : EReal) := by
  have ht : t.val < 32 := t.isLt
  have hi := (idx0 t).2.2.1
  rw [(idx0 t).2.1]
  refine Eq.trans ?_ (hq ⟨t.val / 8, by omega⟩ d ⟨1024 * (t.val % 8) + f.val, by omega⟩)
  blk_ext [iblk0, hi]

theorem blk0_1 (hk : ∀ (k : Fin 8192) (h : Fin 4) (d : Fin 128), (V c main_v7 : S8192x512.Idx → EReal) (ix2 k (lane h d)) = ((K h.val k.val d : ℝ) : EReal))
    (t : Fin cfg0.N) (k : Fin 8192) (d : Fin 128) :
    (iblk0 V c 1 t : S8192x128.Idx → EReal) (ix2 k d) = ((K (t.val / 8) k.val d : ℝ) : EReal) := by
  have ht : t.val < 32 := t.isLt
  have hi := (idx0 t).2.2.2.1
  refine Eq.trans ?_ (hk k ⟨t.val / 8, by omega⟩ d)
  blk_ext [iblk0, hi, lane]

theorem blk0_2 (hv : ∀ (k : Fin 8192) (h : Fin 4) (d : Fin 128), (V c main_v10 : S8192x512.Idx → EReal) (ix2 k (lane h d)) = ((X h.val k.val d : ℝ) : EReal))
    (t : Fin cfg0.N) (k : Fin 8192) (d : Fin 128) :
    (iblk0 V c 2 t : S8192x128.Idx → EReal) (ix2 k d) = ((X (t.val / 8) k.val d : ℝ) : EReal) := by
  have ht : t.val < 32 := t.isLt
  have hi := (idx0 t).2.2.2.2.1
  refine Eq.trans ?_ (hv k ⟨t.val / 8, by omega⟩ d)
  blk_ext [iblk0, hi, lane]

variable (hq : ∀ (h : Fin 4) (d : Fin 128) (q : Fin 8192), (V c main_v4 : S4x128x8192.Idx → EReal) (ix3 h d q) = ((Q h.val q.val d : ℝ) : EReal))
  (hk : ∀ (k : Fin 8192) (h : Fin 4) (d : Fin 128), (V c main_v7 : S8192x512.Idx → EReal) (ix2 k (lane h d)) = ((K h.val k.val d : ℝ) : EReal))
  (hv : ∀ (k : Fin 8192) (h : Fin 4) (d : Fin 128), (V c main_v10 : S8192x512.Idx → EReal) (ix2 k (lane h d)) = ((X h.val k.val d : ℝ) : EReal))
include hq hk hv in
/-- What the body leaves at a grid point. -/
theorem point0 (t : Fin cfg0.N) (e : Fin 1024) :
    (∀ d : Fin 128, (outsAt0 V c t).1 (ix3 0 d e) = ((OF (Q (t.val / 8)) (K (t.val / 8)) (X (t.val / 8)) (1024 * (t.val % 8) + e.val) d : ℝ) : EReal))
    ∧ (outsAt0 V c t).2 (ix3 0 0 e) = ((Real.log (ZF (Q (t.val / 8)) (K (t.val / 8)) (1024 * (t.val % 8) + e.val)) : ℝ) : EReal) := by
  have h := outF c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) (iblk0 V c 0 t) (iblk0 V c 1 t) (iblk0 V c 2 t)
    (Q (t.val / 8)) (K (t.val / 8)) (X (t.val / 8)) (blk0_0 V c Q hq t) (blk0_1 V c K hk t) (blk0_2 V c X hv t) e
  have hi := (idx0 t).2.1
  refine ⟨fun d => (?_ : _ = _), (?_ : _ = _)⟩
  · have h1 := h.1 d
    rw [hi] at h1
    refine Eq.trans ?_ h1
    dsimp only [outsAt0]
  · have h2 := h.2
    rw [hi] at h2
    refine Eq.trans ?_ h2
    dsimp only [outsAt0]

theorem eta3 (y : S1x128x1024.Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

theorem eta3' (y : S1x1x1024.Idx) : y = ix3 0 0 (y 2) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

include hq hk hv in
/-- The output's array. -/
theorem arr0_3 : (dat0 V c).arrAt 3 cfg0.N = fun j : S4x128x8192.Idx => ((OF (Q (j 0).val) (K (j 0).val) (X (j 0).val) (j 2).val (j 1) : ℝ) : EReal) := by
  refine (dat0 V c).arrAt_eq_of_covers 3 _ (by decide +kernel) fun t hf y => ?_
  have hi := (idx0 t).2.2.2.2.2.1
  rw [after0_3]
  have h := (point0 V c Q K X hq hk hv t (y 2)).1 (y 1)
  have e2 : (win0_3.blk t).view.emb y 1 = y 1 := Fin.ext (by blk_simp [hi])
  blk_simp [hi]
  refine (congrArg (fun z : S1x128x1024.Idx => (outsAt0 V c t).1 z) (eta3 y)).trans (h.trans ?_)
  rw [Nat.mul_comm]
  exact congrArg (fun z : Fin 128 => ((OF (Q (t.val / 8)) (K (t.val / 8)) (X (t.val / 8)) (t.val % 8 * 1024 + (y 2).val) z : ℝ) : EReal)) e2.symm

include hq hk hv in
/-- The array of the logarithms of the sums. -/
theorem arr0_4 : (dat0 V c).arrAt 4 cfg0.N = fun j : S4x1x8192.Idx => ((Real.log (ZF (Q (j 0).val) (K (j 0).val) (j 2).val) : ℝ) : EReal) := by
  refine (dat0 V c).arrAt_eq_of_covers 4 _ (by decide +kernel) fun t hf y => ?_
  have hi := (idx0 t).2.2.2.2.2.2
  rw [after0_4]
  have h := (point0 V c Q K X hq hk hv t (y 2)).2
  blk_simp [hi]
  refine (congrArg (fun z : S1x1x1024.Idx => (outsAt0 V c t).2 z) (eta3' y)).trans (h.trans ?_)
  rw [Nat.mul_comm]
end

end Cert.KernelIdeal.Val
-- ==== Proof.Arr1.lean ====
/- The arrays that the backward call leaves: the queries' gradient tile by tile, and the keys' and the values' gradients
   added up over the tiles of a head. -/
module

public import proofs.«01_k».proof.Proof.Arr0

@[expose] public section

noncomputable section

namespace Cert.KernelIdeal.Val

open Idealize.ShloMosaic Idealize.ShloMosaic.TcCoe Idealize.SL.Sem Cert.KernelIdeal.Gen

/-! ### The gradients over all the tokens -/

/-- Query `q`'s weight of key `k`. -/
def pr (Q K : ℕ → Fin 128 → ℝ) (L : ℕ → ℝ) (k q : ℕ) : ℝ := if k ≤ q then Real.exp (sc (Q q) K k - L q) else 0

/-- The gradient of the score of query `q` and key `k`. -/
def gs (Q K X C O : ℕ → Fin 128 → ℝ) (L : ℕ → ℝ) (k q : ℕ) : ℝ := pr Q K L k q * (sc (C q) X k - ∑ d, C q d * O q d)

/-- The values at the tokens of tile `s`. -/
def tl {α : Type} (s : ℕ) (f : ℕ → α) (c : Fin 1024) : α := f (1024 * s + c.val)

section Tiles
variable (Q K X C O : ℕ → Fin 128 → ℝ) (L : ℕ → ℝ) (s : ℕ) (k : ℕ) (d : Fin 128)

theorem gK_tile : (if k < 1024 * s + 512 + 512 then gK (1024 * s) (tl s Q) K X (tl s C) (tl s L) (Dl (tl s C) (tl s O)) k d else 0)
    = ∑ x ∈ Finset.range 1024, gs Q K X C O L k (1024 * s + x) * Q (1024 * s + x) d := by
  rw [← Fin.sum_univ_eq_sum_range (fun x => gs Q K X C O L k (1024 * s + x) * Q (1024 * s + x) d) 1024]
  split
  · rfl
  · rename_i h
    refine (Finset.sum_eq_zero (s := Finset.univ) fun (x : Fin 1024) _ => ?_).symm
    unfold gs pr
    rw [if_neg (by omega), zero_mul, zero_mul]

theorem gV_tile : (if k < 1024 * s + 512 + 512 then gV (1024 * s) (tl s Q) K (tl s C) (tl s L) k d else 0)
    = ∑ x ∈ Finset.range 1024, pr Q K L k (1024 * s + x) * C (1024 * s + x) d := by
  rw [← Fin.sum_univ_eq_sum_range (fun x => pr Q K L k (1024 * s + x) * C (1024 * s + x) d) 1024]
  split
  · rfl
  · rename_i h
    refine (Finset.sum_eq_zero (s := Finset.univ) fun (x : Fin 1024) _ => ?_).symm
    unfold pr
    rw [if_neg (by omega), zero_mul]

theorem gQ_tile (hs : s < 8) (e : Fin 1024) : (∑ k ∈ Finset.range (1024 * s + 512 + 512), K k d * DS (1024 * s) (tl s Q) K X (tl s C) (tl s L) (Dl (tl s C) (tl s O)) k e)
    = ∑ k ∈ Finset.range 8192, K k d * gs Q K X C O L k (1024 * s + e.val) :=
  sum_cut (fun k => K k d * gs Q K X C O L k (1024 * s + e.val)) (1024 * s + e.val) (1024 * s + 512 + 512) (by omega) (by omega)
    (fun k hk => by unfold gs pr; rw [if_neg (by omega), zero_mul, mul_zero])

/-- One more tile. -/
theorem tile_add (f : ℕ → ℝ) : ∑ q ∈ Finset.range (1024 * s), f q + ∑ x ∈ Finset.range 1024, f (1024 * s + x) = ∑ q ∈ Finset.range (1024 * (s + 1)), f q := by
  rw [Nat.mul_succ, Finset.sum_range_add]
end Tiles

theorem idx1 : ∀ t : Fin cfg1.N, (grid1.coords t 0).val = t.val / 8 ∧ (grid1.coords t 1).val = t.val % 8
    ∧ win1_0.index t = ![t.val / 8, 0, t.val % 8] ∧ win1_1.index t = ![0, t.val / 8] ∧ win1_2.index t = ![0, t.val / 8]
    ∧ win1_3.index t = ![t.val / 8, 0, t.val % 8] ∧ win1_4.index t = ![t.val / 8, 0, t.val % 8] ∧ win1_5.index t = ![t.val / 8, 0, t.val % 8]
    ∧ win1_6.index t = ![t.val / 8, 0, t.val % 8] ∧ win1_7.index t = ![0, t.val / 8] ∧ win1_8.index t = ![0, t.val / 8] := by decide +kernel

section Blocks
variable (V : (c : Dev nD) → (b : Ref sig .tc) → Buf (Elt Ideal) ((c : Thread nD τ).loc b)) (c : Dev nD)

theorem blk1_0 (A : ℕ → ℕ → Fin 128 → ℝ) (hA : ∀ (h : Fin 4) (d : Fin 128) (q : Fin 8192), (V c main_v4 : S4x128x8192.Idx → EReal) (ix3 h d q) = ((A h.val q.val d : ℝ) : EReal))
    (t : Fin cfg1.N) (d : Fin 128) (f : Fin 1024) :
    (iblk1 V c 0 t : S1x128x1024.Idx → EReal) (ix3 0 d f) = ((tl (t.val % 8) (A (t.val / 8)) f d : ℝ) : EReal) := by
  have ht : t.val < 32 := t.isLt
  have hi := (idx1 t).2.2.1
  refine Eq.trans ?_ (hA ⟨t.val / 8, by omega⟩ d ⟨1024 * (t.val % 8) + f.val, by omega⟩)
  blk_ext [iblk1, hi]

theorem blk1_3 (A : ℕ → ℕ → Fin 128 → ℝ) (hA : ∀ (h : Fin 4) (d : Fin 128) (q : Fin 8192), (V c main_v13 : S4x128x8192.Idx → EReal) (ix3 h d q) = ((A h.val q.val d : ℝ) : EReal))
    (t : Fin cfg1.N) (d : Fin 128) (f : Fin 1024) :
    (iblk1 V c 3 t : S1x128x1024.Idx → EReal) (ix3 0 d f) = ((tl (t.val % 8) (A (t.val / 8)) f d : ℝ) : EReal) := by
  have ht : t.val < 32 := t.isLt
  have hi := (idx1 t).2.2.2.2.2.1
  refine Eq.trans ?_ (hA ⟨t.val / 8, by omega⟩ d ⟨1024 * (t.val % 8) + f.val, by omega⟩)
  blk_ext [iblk1, hi]

theorem blk1_4 (A : ℕ → ℕ → Fin 128 → ℝ) (hA : ∀ (h : Fin 4) (d : Fin 128) (q : Fin 8192), (V c main_v11_0 : S4x128x8192.Idx → EReal) (ix3 h d q) = ((A h.val q.val d : ℝ) : EReal))
    (t : Fin cfg1.N) (d : Fin 128) (f : Fin 1024) :
    (iblk1 V c 4 t : S1x128x1024.Idx → EReal) (ix3 0 d f) = ((tl (t.val % 8) (A (t.val / 8)) f d : ℝ) : EReal) := by
  have ht : t.val < 32 := t.isLt
  have hi := (idx1 t).2.2.2.2.2.2.1
  refine Eq.trans ?_ (hA ⟨t.val / 8, by omega⟩ d ⟨1024 * (t.val % 8) + f.val, by omega⟩)
  blk_ext [iblk1, hi]

theorem blk1_1 (A : ℕ → ℕ → Fin 128 → ℝ) (hA : ∀ (k : Fin 8192) (h : Fin 4) (d : Fin 128), (V c main_v7 : S8192x512.Idx → EReal) (ix2 k (lane h d)) = ((A h.val k.val d : ℝ) : EReal))
    (t : Fin cfg1.N) (k : Fin 8192) (d : Fin 128) :
    (iblk1 V c 1 t : S8192x128.Idx → EReal) (ix2 k d) = ((A (t.val / 8) k.val d : ℝ) : EReal) := by
  have ht : t.val < 32 := t.isLt
  have hi := (idx1 t).2.2.2.1
  refine Eq.trans ?_ (hA k ⟨t.val / 8, by omega⟩ d)
  blk_ext [iblk1, hi, lane]

theorem blk1_2 (A : ℕ → ℕ → Fin 128 → ℝ) (hA : ∀ (k : Fin 8192) (h : Fin 4) (d : Fin 128), (V c main_v10 : S8192x512.Idx → EReal) (ix2 k (lane h d)) = ((A h.val k.val d : ℝ) : EReal))
    (t : Fin cfg1.N) (k : Fin 8192) (d : Fin 128) :
    (iblk1 V c 2 t : S8192x128.Idx → EReal) (ix2 k d) = ((A (t.val / 8) k.val d : ℝ) : EReal) := by
  have ht : t.val < 32 := t.isLt
  have hi := (idx1 t).2.2.2.2.1
  refine Eq.trans ?_ (hA k ⟨t.val / 8, by omega⟩ d)
  blk_ext [iblk1, hi, lane]

theorem blk1_5 (L : ℕ → ℕ → ℝ) (hA : ∀ (h : Fin 4) (q : Fin 8192), (V c main_v11_1 : S4x1x8192.Idx → EReal) (ix3 h 0 q) = ((L h.val q.val : ℝ) : EReal))
    (t : Fin cfg1.N) (f : Fin 1024) :
    (iblk1 V c 5 t : S1x1x1024.Idx → EReal) (ix3 0 0 f) = ((tl (t.val % 8) (L (t.val / 8)) f : ℝ) : EReal) := by
  have ht : t.val < 32 := t.isLt
  have hi := (idx1 t).2.2.2.2.2.2.2.1
  refine Eq.trans ?_ (hA ⟨t.val / 8, by omega⟩ ⟨1024 * (t.val % 8) + f.val, by omega⟩)
  blk_ext [iblk1, hi]

variable (Q K X C O : ℕ → ℕ → Fin 128 → ℝ) (L : ℕ → ℕ → ℝ)
  (h0 : ∀ (h : Fin 4) (d : Fin 128) (q : Fin 8192), (V c main_v4 : S4x128x8192.Idx → EReal) (ix3 h d q) = ((Q h.val q.val d : ℝ) : EReal))
  (h1 : ∀ (k : Fin 8192) (h : Fin 4) (d : Fin 128), (V c main_v7 : S8192x512.Idx → EReal) (ix2 k (lane h d)) = ((K h.val k.val d : ℝ) : EReal))
  (h2 : ∀ (k : Fin 8192) (h : Fin 4) (d : Fin 128), (V c main_v10 : S8192x512.Idx → EReal) (ix2 k (lane h d)) = ((X h.val k.val d : ℝ) : EReal))
  (h3 : ∀ (h : Fin 4) (d : Fin 128) (q : Fin 8192), (V c main_v13 : S4x128x8192.Idx → EReal) (ix3 h d q) = ((C h.val q.val d : ℝ) : EReal))
  (h4 : ∀ (h : Fin 4) (d : Fin 128) (q : Fin 8192), (V c main_v11_0 : S4x128x8192.Idx → EReal) (ix3 h d q) = ((O h.val q.val d : ℝ) : EReal))
  (h5 : ∀ (h : Fin 4) (q : Fin 8192), (V c main_v11_1 : S4x1x8192.Idx → EReal) (ix3 h 0 q) = ((L h.val q.val : ℝ) : EReal))

include h0 h1 h2 h3 h4 h5 in
theorem point1A (t : Fin cfg1.N) (hz : t.val % 8 = 0) :
    (∀ (k : Fin 8192) (d : Fin 128), (outsAt1 V c t.val t.isLt).2.1 (ix2 k d)
      = ((0 + ∑ x ∈ Finset.range 1024, gs (Q (t.val / 8)) (K (t.val / 8)) (X (t.val / 8)) (C (t.val / 8)) (O (t.val / 8)) (L (t.val / 8)) k.val (1024 * (t.val % 8) + x) * Q (t.val / 8) (1024 * (t.val % 8) + x) d : ℝ) : EReal))
    ∧ (∀ (k : Fin 8192) (d : Fin 128), (outsAt1 V c t.val t.isLt).2.2 (ix2 k d)
      = ((0 + ∑ x ∈ Finset.range 1024, pr (Q (t.val / 8)) (K (t.val / 8)) (L (t.val / 8)) k.val (1024 * (t.val % 8) + x) * C (t.val / 8) (1024 * (t.val % 8) + x) d : ℝ) : EReal))
    ∧ ∀ (d : Fin 128) (e : Fin 1024), (outsAt1 V c t.val t.isLt).1 (ix3 0 d e)
      = ((∑ k ∈ Finset.range 8192, K (t.val / 8) k d * gs (Q (t.val / 8)) (K (t.val / 8)) (X (t.val / 8)) (C (t.val / 8)) (O (t.val / 8)) (L (t.val / 8)) k (1024 * (t.val % 8) + e.val) : ℝ) : EReal) := by
  have h := outA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) ((hcond1_0 t).mpr hz) (iblk1 V c 0 t) (iblk1 V c 1 t) (iblk1 V c 2 t) (iblk1 V c 3 t) (iblk1 V c 4 t) (iblk1 V c 5 t)
    (tl (t.val % 8) (Q (t.val / 8))) (K (t.val / 8)) (X (t.val / 8)) (tl (t.val % 8) (C (t.val / 8))) (tl (t.val % 8) (O (t.val / 8))) (tl (t.val % 8) (L (t.val / 8))) (blk1_0 V c Q h0 t) (blk1_1 V c K h1 t) (blk1_2 V c X h2 t) (blk1_3 V c C h3 t) (blk1_4 V c O h4 t) (blk1_5 V c L h5 t)
  rw [(idx1 t).2.1] at h
  rw [outsAt1_A V c t hz]
  dsimp only
  have hs : t.val % 8 < 8 := Nat.mod_lt _ (by omega)
  refine ⟨fun k d => ?_, fun k d => ?_, fun d e => ?_⟩
  · rw [← gK_tile]; exact h.1 k d
  · rw [← gV_tile]; exact h.2.1 k d
  · exact (h.2.2 d e).trans (congrArg (fun r : ℝ => (r : EReal)) (gQ_tile (Q (t.val / 8)) (K (t.val / 8)) (X (t.val / 8)) (C (t.val / 8)) (O (t.val / 8)) (L (t.val / 8)) (t.val % 8) d hs e))

include h0 h1 h2 h3 h4 h5 in
theorem point1B (t : Fin cfg1.N) (hz : ¬t.val % 8 = 0) (B9 B10 : ℕ → Fin 128 → ℝ)
    (h7 : ∀ (k : Fin 8192) (d : Fin 128), (outsAt1 V c (t.val - 1) (Nat.lt_of_le_of_lt (Nat.sub_le _ _) t.isLt)).2.1 (ix2 k d) = ((B9 k.val d : ℝ) : EReal))
    (h8 : ∀ (k : Fin 8192) (d : Fin 128), (outsAt1 V c (t.val - 1) (Nat.lt_of_le_of_lt (Nat.sub_le _ _) t.isLt)).2.2 (ix2 k d) = ((B10 k.val d : ℝ) : EReal)) :
    (∀ (k : Fin 8192) (d : Fin 128), (outsAt1 V c t.val t.isLt).2.1 (ix2 k d)
      = ((B9 k.val d + ∑ x ∈ Finset.range 1024, gs (Q (t.val / 8)) (K (t.val / 8)) (X (t.val / 8)) (C (t.val / 8)) (O (t.val / 8)) (L (t.val / 8)) k.val (1024 * (t.val % 8) + x) * Q (t.val / 8) (1024 * (t.val % 8) + x) d : ℝ) : EReal))
    ∧ (∀ (k : Fin 8192) (d : Fin 128), (outsAt1 V c t.val t.isLt).2.2 (ix2 k d)
      = ((B10 k.val d + ∑ x ∈ Finset.range 1024, pr (Q (t.val / 8)) (K (t.val / 8)) (L (t.val / 8)) k.val (1024 * (t.val % 8) + x) * C (t.val / 8) (1024 * (t.val % 8) + x) d : ℝ) : EReal))
    ∧ ∀ (d : Fin 128) (e : Fin 1024), (outsAt1 V c t.val t.isLt).1 (ix3 0 d e)
      = ((∑ k ∈ Finset.range 8192, K (t.val / 8) k d * gs (Q (t.val / 8)) (K (t.val / 8)) (X (t.val / 8)) (C (t.val / 8)) (O (t.val / 8)) (L (t.val / 8)) k (1024 * (t.val % 8) + e.val) : ℝ) : EReal) := by
  have h := outB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (fun h => hz ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2
    (tl (t.val % 8) (Q (t.val / 8))) (K (t.val / 8)) (X (t.val / 8)) (tl (t.val % 8) (C (t.val / 8))) (tl (t.val % 8) (O (t.val / 8))) (tl (t.val % 8) (L (t.val / 8))) B9 B10 (blk1_0 V c Q h0 t) (blk1_1 V c K h1 t) (blk1_2 V c X h2 t) (blk1_3 V c C h3 t) (blk1_4 V c O h4 t) (blk1_5 V c L h5 t) h7 h8
  rw [(idx1 t).2.1] at h
  rw [outsAt1_B V c t hz]
  dsimp only
  have hs : t.val % 8 < 8 := Nat.mod_lt _ (by omega)
  refine ⟨fun k d => ?_, fun k d => ?_, fun d e => ?_⟩
  · rw [← gK_tile]; exact h.1 k d
  · rw [← gV_tile]; exact h.2.1 k d
  · exact (h.2.2 d e).trans (congrArg (fun r : ℝ => (r : EReal)) (gQ_tile (Q (t.val / 8)) (K (t.val / 8)) (X (t.val / 8)) (C (t.val / 8)) (O (t.val / 8)) (L (t.val / 8)) (t.val % 8) d hs e))

include h0 h1 h2 h3 h4 h5 in
/-- What the keys' and the values' blocks hold after a grid point: the sums over the head's tiles so far. -/
theorem run1 (n : ℕ) (hn : n < cfg1.N) :
    (∀ (k : Fin 8192) (d : Fin 128), (outsAt1 V c n hn).2.1 (ix2 k d)
      = ((∑ q ∈ Finset.range (1024 * (n % 8 + 1)), gs (Q (n / 8)) (K (n / 8)) (X (n / 8)) (C (n / 8)) (O (n / 8)) (L (n / 8)) k.val q * Q (n / 8) q d : ℝ) : EReal))
    ∧ (∀ (k : Fin 8192) (d : Fin 128), (outsAt1 V c n hn).2.2 (ix2 k d)
      = ((∑ q ∈ Finset.range (1024 * (n % 8 + 1)), pr (Q (n / 8)) (K (n / 8)) (L (n / 8)) k.val q * C (n / 8) q d : ℝ) : EReal)) := by
  induction n with
  | zero =>
    have h := point1A V c Q K X C O L h0 h1 h2 h3 h4 h5 ⟨0, hn⟩ rfl
    refine ⟨fun k d => (h.1 k d).trans (congrArg (fun r : ℝ => (r : EReal)) ?_), fun k d => (h.2.1 k d).trans (congrArg (fun r : ℝ => (r : EReal)) ?_)⟩
    · rw [← tile_add (0 % 8) (fun q => gs (Q (0 / 8)) (K (0 / 8)) (X (0 / 8)) (C (0 / 8)) (O (0 / 8)) (L (0 / 8)) k.val q * Q (0 / 8) q d)]; simp
    · rw [← tile_add (0 % 8) (fun q => pr (Q (0 / 8)) (K (0 / 8)) (L (0 / 8)) k.val q * C (0 / 8) q d)]; simp
  | succ n ih =>
    by_cases hz : (n + 1) % 8 = 0
    · have h := point1A V c Q K X C O L h0 h1 h2 h3 h4 h5 ⟨n + 1, hn⟩ hz
      refine ⟨fun k d => (h.1 k d).trans (congrArg (fun r : ℝ => (r : EReal)) ?_), fun k d => (h.2.1 k d).trans (congrArg (fun r : ℝ => (r : EReal)) ?_)⟩
      · rw [← tile_add ((n + 1) % 8)]; dsimp only; rw [hz]; simp
      · rw [← tile_add ((n + 1) % 8)]; dsimp only; rw [hz]; simp
    · have hd : (n + 1) / 8 = n / 8 := by omega
      have hm : n % 8 + 1 = (n + 1) % 8 := by omega
      have i := ih (Nat.lt_of_succ_lt hn)
      rw [← hd, hm] at i
      have h := point1B V c Q K X C O L h0 h1 h2 h3 h4 h5 ⟨n + 1, hn⟩ hz (fun k d => ∑ q ∈ Finset.range (1024 * ((n + 1) % 8)), gs (Q ((n + 1) / 8)) (K ((n + 1) / 8)) (X ((n + 1) / 8)) (C ((n + 1) / 8)) (O ((n + 1) / 8)) (L ((n + 1) / 8)) k q * Q ((n + 1) / 8) q d) (fun k d => ∑ q ∈ Finset.range (1024 * ((n + 1) % 8)), pr (Q ((n + 1) / 8)) (K ((n + 1) / 8)) (L ((n + 1) / 8)) k q * C ((n + 1) / 8) q d) i.1 i.2
      refine ⟨fun k d => (h.1 k d).trans (congrArg (fun r : ℝ => (r : EReal)) ?_), fun k d => (h.2.1 k d).trans (congrArg (fun r : ℝ => (r : EReal)) ?_)⟩
      · exact tile_add ((n + 1) % 8) (fun q => gs (Q ((n + 1) / 8)) (K ((n + 1) / 8)) (X ((n + 1) / 8)) (C ((n + 1) / 8)) (O ((n + 1) / 8)) (L ((n + 1) / 8)) k.val q * Q ((n + 1) / 8) q d)
      · exact tile_add ((n + 1) % 8) (fun q => pr (Q ((n + 1) / 8)) (K ((n + 1) / 8)) (L ((n + 1) / 8)) k.val q * C ((n + 1) / 8) q d)

include h0 h1 h2 h3 h4 h5 in
theorem point1Q (t : Fin cfg1.N) (d : Fin 128) (e : Fin 1024) : (outsAt1 V c t.val t.isLt).1 (ix3 0 d e)
      = ((∑ k ∈ Finset.range 8192, K (t.val / 8) k d * gs (Q (t.val / 8)) (K (t.val / 8)) (X (t.val / 8)) (C (t.val / 8)) (O (t.val / 8)) (L (t.val / 8)) k (1024 * (t.val % 8) + e.val) : ℝ) : EReal) := by
  by_cases hz : t.val % 8 = 0
  · exact (point1A V c Q K X C O L h0 h1 h2 h3 h4 h5 t hz).2.2 d e
  · have r := run1 V c Q K X C O L h0 h1 h2 h3 h4 h5 (t.val - 1) (Nat.lt_of_le_of_lt (Nat.sub_le _ _) t.isLt)
    exact (point1B V c Q K X C O L h0 h1 h2 h3 h4 h5 t hz (fun k d => ∑ q ∈ Finset.range (1024 * ((t.val - 1) % 8 + 1)), gs (Q ((t.val - 1) / 8)) (K ((t.val - 1) / 8)) (X ((t.val - 1) / 8)) (C ((t.val - 1) / 8)) (O ((t.val - 1) / 8)) (L ((t.val - 1) / 8)) k q * Q ((t.val - 1) / 8) q d) (fun k d => ∑ q ∈ Finset.range (1024 * ((t.val - 1) % 8 + 1)), pr (Q ((t.val - 1) / 8)) (K ((t.val - 1) / 8)) (L ((t.val - 1) / 8)) k q * C ((t.val - 1) / 8) q d) r.1 r.2).2.2 d e

theorem eta2 (y : S8192x128.Idx) : y = ix2 (y 0) (y 1) := by
  funext a
  match a with
  | ⟨0, _⟩ => rfl
  | ⟨1, _⟩ => rfl

/-- The lane within its head. -/
def inl (j : Fin 512) : Fin 128 := ⟨j.val % 128, Nat.mod_lt _ (by decide)⟩

include h0 h1 h2 h3 h4 h5 in
/-- The queries' gradient. -/
theorem arr1_6 : (dat1 V c).arrAt 6 cfg1.N = fun j : S4x128x8192.Idx => ((∑ k ∈ Finset.range 8192, K (j 0).val k (j 1) * gs (Q (j 0).val) (K (j 0).val) (X (j 0).val) (C (j 0).val) (O (j 0).val) (L (j 0).val) k (j 2).val : ℝ) : EReal) := by
  refine (dat1 V c).arrAt_eq_of_covers 6 _ (by decide +kernel) fun t hf y => ?_
  have hi := (idx1 t).2.2.2.2.2.2.2.2.1
  rw [after1_6]
  have h := point1Q V c Q K X C O L h0 h1 h2 h3 h4 h5 t (y 1) (y 2)
  have e2 : (win1_6.blk t).view.emb y 1 = y 1 := Fin.ext (by blk_simp [hi])
  blk_simp [hi]
  refine (congrArg (fun z : S1x128x1024.Idx => (outsAt1 V c t.val t.isLt).1 z) (eta3 y)).trans (h.trans ?_)
  rw [Nat.mul_comm]
  exact congrArg (fun z : Fin 128 => ((∑ k ∈ Finset.range 8192, K (t.val / 8) k z * gs (Q (t.val / 8)) (K (t.val / 8)) (X (t.val / 8)) (C (t.val / 8)) (O (t.val / 8)) (L (t.val / 8)) k (t.val % 8 * 1024 + (y 2).val) : ℝ) : EReal)) e2.symm

include h0 h1 h2 h3 h4 h5 in
/-- The keys' gradient. -/
theorem arr1_7 : (dat1 V c).arrAt 7 cfg1.N = fun j : S8192x512.Idx => ((∑ q ∈ Finset.range 8192, gs (Q ((j 1).val / 128)) (K ((j 1).val / 128)) (X ((j 1).val / 128)) (C ((j 1).val / 128)) (O ((j 1).val / 128)) (L ((j 1).val / 128)) (j 0).val q * Q ((j 1).val / 128) q (inl (j 1)) : ℝ) : EReal) := by
  refine (dat1 V c).arrAt_eq_of_covers 7 _ (by decide +kernel) fun t hf y => ?_
  have hi := (idx1 t).2.2.2.2.2.2.2.2.2.1
  have ht : t.val % 8 = 7 := (flush1_7 t).mp hf
  rw [after1_7]
  have h := (run1 V c Q K X C O L h0 h1 h2 h3 h4 h5 t.val t.isLt).1 (y 0) (y 1)
  rw [ht] at h
  have hy : (y 1).val < 128 := (y 1).isLt
  have e2 : inl ((win1_7.blk t).view.emb y 1) = y 1 := Fin.ext (by show ((win1_7.blk t).view.emb y 1).val % 128 = (y 1).val; blk_simp [hi]; omega)
  have e3 : (t.val / 8 * 128 + (y 1).val) / 128 = t.val / 8 := by omega
  blk_simp [hi]
  refine (congrArg (fun z : S8192x128.Idx => (outsAt1 V c t.val t.isLt).2.1 z) (eta2 y)).trans (h.trans ?_)
  rw [e3]
  exact congrArg (fun z : Fin 128 => ((∑ q ∈ Finset.range 8192, gs (Q (t.val / 8)) (K (t.val / 8)) (X (t.val / 8)) (C (t.val / 8)) (O (t.val / 8)) (L (t.val / 8)) (y 0).val q * Q (t.val / 8) q z : ℝ) : EReal)) e2.symm

include h0 h1 h2 h3 h4 h5 in
/-- The values' gradient. -/
theorem arr1_8 : (dat1 V c).arrAt 8 cfg1.N = fun j : S8192x512.Idx => ((∑ q ∈ Finset.range 8192, pr (Q ((j 1).val / 128)) (K ((j 1).val / 128)) (L ((j 1).val / 128)) (j 0).val q * C ((j 1).val / 128) q (inl (j 1)) : ℝ) : EReal) := by
  refine (dat1 V c).arrAt_eq_of_covers 8 _ (by decide +kernel) fun t hf y => ?_
  have hi := (idx1 t).2.2.2.2.2.2.2.2.2.2
  have ht : t.val % 8 = 7 := (flush1_8 t).mp hf
  rw [after1_8]
  have h := (run1 V c Q K X C O L h0 h1 h2 h3 h4 h5 t.val t.isLt).2 (y 0) (y 1)
  rw [ht] at h
  have hy : (y 1).val < 128 := (y 1).isLt
  have e2 : inl ((win1_8.blk t).view.emb y 1) = y 1 := Fin.ext (by show ((win1_8.blk t).view.emb y 1).val % 128 = (y 1).val; blk_simp [hi]; omega)
  have e3 : (t.val / 8 * 128 + (y 1).val) / 128 = t.val / 8 := by omega
  blk_simp [hi]
  refine (congrArg (fun z : S8192x128.Idx => (outsAt1 V c t.val t.isLt).2.2 z) (eta2 y)).trans (h.trans ?_)
  rw [e3]
  exact congrArg (fun z : Fin 128 => ((∑ q ∈ Finset.range 8192, pr (Q (t.val / 8)) (K (t.val / 8)) (L (t.val / 8)) (y 0).val q * C (t.val / 8) q z : ℝ) : EReal)) e2.symm

end Blocks

end Cert.KernelIdeal.Val
-- ==== Proof.Entry.lean ====
/- What the two calls find in their arrays: the queries scaled, with the tokens along the columns, the keys and values with every head's lanes along the rows, each padded with zeros to 128 lanes. -/
module

public import proofs.«01_k».proof.Proof.Arr1
public import Idealize.ShloMosaic.Lib.StableHlo.ReadAt

@[expose] public section

noncomputable section

namespace Cert.KernelIdeal.Val

open Idealize.ShloMosaic Idealize.ShloMosaic.TcCoe Idealize.SL.Sem Cert.KernelIdeal.Gen

/-- The scale. -/
def cs : ℝ := 13698540 * (2 ^ 27)⁻¹

theorem cs_word : Ideal.ofBits FTy.f32 0x3DD105EC#32 = ((cs : ℝ) : EReal) := by
  simp [Ideal.ofBits, Ideal.ieee, cs]

/-- Head `h`, token `q`, lane `d` of an array of 96 lanes, zero past its ends. -/
def a96 (x : S8192x4x96.Idx → EReal) (h q : ℕ) (d : Fin 128) : ℝ :=
  if H : q < 8192 ∧ h < 4 ∧ d.val < 96 then (x (ix3 ⟨q, H.1⟩ ⟨h, H.2.1⟩ ⟨d.val, H.2.2⟩)).toReal else 0

/-- The same of an array of 64 lanes. -/
def a64 (x : S8192x4x64.Idx → EReal) (h q : ℕ) (d : Fin 128) : ℝ :=
  if H : q < 8192 ∧ h < 4 ∧ d.val < 64 then (x (ix3 ⟨q, H.1⟩ ⟨h, H.2.1⟩ ⟨d.val, H.2.2⟩)).toReal else 0

/-- Every entry is a real number. -/
def IsFin {s : Shape} (x : s.Idx → EReal) : Prop := ∀ j, x j ≠ ⊤ ∧ x j ≠ ⊥

theorem a96_of (x : S8192x4x96.Idx → EReal) (hx : IsFin x) (q : Fin 8192) (h : Fin 4) (d : Fin 128) (hd : d.val < 96) :
    x (ix3 q h ⟨d.val, hd⟩) = ((a96 x h.val q.val d : ℝ) : EReal) := by
  unfold a96
  rw [dif_pos ⟨q.isLt, h.isLt, hd⟩]
  exact (EReal.coe_toReal (hx _).1 (hx _).2).symm

theorem a96_zero (x : S8192x4x96.Idx → EReal) (h q : ℕ) (d : Fin 128) (hd : ¬d.val < 96) : a96 x h q d = 0 := dif_neg fun H => hd H.2.2

theorem a64_of (x : S8192x4x64.Idx → EReal) (hx : IsFin x) (q : Fin 8192) (h : Fin 4) (d : Fin 128) (hd : d.val < 64) :
    x (ix3 q h ⟨d.val, hd⟩) = ((a64 x h.val q.val d : ℝ) : EReal) := by
  unfold a64
  rw [dif_pos ⟨q.isLt, h.isLt, hd⟩]
  exact (EReal.coe_toReal (hx _).1 (hx _).2).symm

theorem a64_zero (x : S8192x4x64.Idx → EReal) (h q : ℕ) (d : Fin 128) (hd : ¬d.val < 64) : a64 x h q d = 0 := dif_neg fun H => hd H.2.2

theorem zero_int : (FloatOps.sitofp (F := Ideal) FTy.f32 0#32 : EReal) = ((0 : ℝ) : EReal) := by
  show ((((0#32 : BitVec 32).toInt : ℝ)) : EReal) = _
  simp

section
variable (U : Valuation τ sig (Elt Ideal))

theorem rd4 (hx : IsFin (s := S8192x4x96) (U (Proc.devRef .tc main_arg0)))
    (h : Fin 4) (d : Fin 128) (q : Fin 8192) :
    (StableHlo.after hostOps0_2 (StableHlo.after hostOps0_1 (StableHlo.after hostOps0 U)) (Proc.devRef .tc main_v4) : S4x128x8192.Idx → EReal) (ix3 h d q)
      = ((a96 (U (Proc.devRef .tc main_arg0)) h.val q.val d * cs : ℝ) : EReal) := by
  after_reads_at
  split
  · rename_i hd
    rw [cs_word, EReal.coe_mul, ← a96_of _ hx q h d hd]
  · rename_i hd
    rw [zero_int, a96_zero _ _ _ _ hd, zero_mul]

theorem lane_div (h : Fin 4) (d : Fin 128) : (lane h d).val / 128 = h.val := by unfold lane; dsimp only; omega
theorem lane_mod (h : Fin 4) (d : Fin 128) : (lane h d).val % 128 = d.val := by unfold lane; dsimp only; omega

theorem rd7 (hx : IsFin (s := S8192x4x96) (U (Proc.devRef .tc main_arg1)))
    (k : Fin 8192) (h : Fin 4) (d : Fin 128) :
    (StableHlo.after hostOps0_4 (StableHlo.after hostOps0_3 (StableHlo.after hostOps0_2 U)) (Proc.devRef .tc main_v7) : S8192x512.Idx → EReal) (ix2 k (lane h d))
      = ((a96 (U (Proc.devRef .tc main_arg1)) h.val k.val d : ℝ) : EReal) := by
  after_reads_at
  split
  · rename_i hd
    refine Eq.trans ?_ (a96_of _ hx k h d (by rw [← lane_mod h d]; exact hd.2))
    congr 2
    · exact Fin.ext (lane_div h d)
    · exact Fin.ext (lane_mod h d)
  · rename_i hd
    rw [zero_int, a96_zero _ _ _ _ (fun H => hd ⟨by rw [lane_div]; exact h.isLt, by rw [lane_mod]; exact H⟩)]

theorem rd10 (hx : IsFin (s := S8192x4x64) (U (Proc.devRef .tc main_arg2)))
    (k : Fin 8192) (h : Fin 4) (d : Fin 128) :
    (StableHlo.after hostOps0_6 (StableHlo.after hostOps0_5 (StableHlo.after hostOps0_4 U)) (Proc.devRef .tc main_v10) : S8192x512.Idx → EReal) (ix2 k (lane h d))
      = ((a64 (U (Proc.devRef .tc main_arg2)) h.val k.val d : ℝ) : EReal) := by
  after_reads_at
  split
  · rename_i hd
    refine Eq.trans ?_ (a64_of _ hx k h d (by rw [← lane_mod h d]; exact hd.2))
    congr 2
    · exact Fin.ext (lane_div h d)
    · exact Fin.ext (lane_mod h d)
  · rename_i hd
    rw [zero_int, a64_zero _ _ _ _ (fun H => hd ⟨by rw [lane_div]; exact h.isLt, by rw [lane_mod]; exact H⟩)]

theorem rd13 (hx : IsFin (s := S8192x4x64) (U (Proc.devRef .tc main_arg3)))
    (h : Fin 4) (d : Fin 128) (q : Fin 8192) :
    (StableHlo.after hostOps1_1 (StableHlo.after hostOps1 U) (Proc.devRef .tc main_v13) : S4x128x8192.Idx → EReal) (ix3 h d q)
      = ((a64 (U (Proc.devRef .tc main_arg3)) h.val q.val d : ℝ) : EReal) := by
  after_reads_at
  split
  · rename_i hd
    exact a64_of _ hx q h d hd
  · rename_i hd
    rw [zero_int, a64_zero _ _ _ _ hd]

theorem rd16 (j : S4x128x8192.Idx) :
    (StableHlo.after hostOps2 U (Proc.devRef .tc main_v16) : S4x128x8192.Idx → EReal) j
      = (fun x : S4x128x8192.Idx → EReal => x j * ((cs : ℝ) : EReal)) (U (Proc.devRef .tc main_v14_0)) := by
  rw [← cs_word]
  after_reads_at
end

section
variable (m : (ℓ : Loc nD τ sig) → Buf (Elt Ideal) ℓ) (ρ : Dev nD → PrngReg) (c : Dev nD)

/-- The four arrays of a device are finite. -/
structure Fin4 : Prop where
  h0 : IsFin (s := S8192x4x96) (m ((c : Thread nD τ).loc main_arg0))
  h1 : IsFin (s := S8192x4x96) (m ((c : Thread nD τ).loc main_arg1))
  h2 : IsFin (s := S8192x4x64) (m ((c : Thread nD τ).loc main_arg2))
  h3 : IsFin (s := S8192x4x64) (m ((c : Thread nD τ).loc main_arg3))

/-- The scaled queries. -/
def Qs (h q : ℕ) (d : Fin 128) : ℝ := a96 (m ((c : Thread nD τ).loc main_arg0)) h q d * cs
def Ks (h q : ℕ) (d : Fin 128) : ℝ := a96 (m ((c : Thread nD τ).loc main_arg1)) h q d
def Xs (h q : ℕ) (d : Fin 128) : ℝ := a64 (m ((c : Thread nD τ).loc main_arg2)) h q d
def Cs (h q : ℕ) (d : Fin 128) : ℝ := a64 (m ((c : Thread nD τ).loc main_arg3)) h q d
/-- The output. -/
def Os (h q : ℕ) (d : Fin 128) : ℝ := OF (Qs m c h) (Ks m c h) (Xs m c h) q d
/-- The logarithm of the sum. -/
def Ls (h q : ℕ) : ℝ := Real.log (ZF (Qs m c h) (Ks m c h) q)

variable (hf : Fin4 m c)
include hf

theorem v7_4 (h : Fin 4) (d : Fin 128) (q : Fin 8192) : (V7 m ρ c main_v4 : S4x128x8192.Idx → EReal) (ix3 h d q) = ((Qs m c h.val q.val d : ℝ) : EReal) := by
  have e : W7 m ρ c (Proc.devRef .tc main_v4) = W3 m ρ c (Proc.devRef .tc main_v4) :=
    (W7_of m ρ c main_v4 (by decide)).trans ((W6_of m ρ c main_v4 (by decide)).trans ((W5_of m ρ c main_v4 (by decide)).trans (W4_of m ρ c main_v4 (by decide))))
  exact (congrFun e _).trans (rd4 (W0 m ρ c) hf.h0 h d q)

theorem v7_7 (k : Fin 8192) (h : Fin 4) (d : Fin 128) : (V7 m ρ c main_v7 : S8192x512.Idx → EReal) (ix2 k (lane h d)) = ((Ks m c h.val k.val d : ℝ) : EReal) := by
  have e : W7 m ρ c (Proc.devRef .tc main_v7) = W5 m ρ c (Proc.devRef .tc main_v7) :=
    (W7_of m ρ c main_v7 (by decide)).trans (W6_of m ρ c main_v7 (by decide))
  have ea : W2 m ρ c (Proc.devRef .tc main_arg1) = m ((c : Thread nD τ).loc main_arg1) := W2_args m ρ c main_arg1 (by decide)
  have := rd7 (W2 m ρ c) (by rw [ea]; exact hf.h1) k h d
  rw [ea] at this
  exact (congrFun e _).trans this

theorem v7_10 (k : Fin 8192) (h : Fin 4) (d : Fin 128) : (V7 m ρ c main_v10 : S8192x512.Idx → EReal) (ix2 k (lane h d)) = ((Xs m c h.val k.val d : ℝ) : EReal) := by
  have ea : W4 m ρ c (Proc.devRef .tc main_arg2) = m ((c : Thread nD τ).loc main_arg2) := W4_args m ρ c main_arg2 (by decide)
  have := rd10 (W4 m ρ c) (by rw [ea]; exact hf.h2) k h d
  rw [ea] at this
  exact this

theorem w8_0 : W8 m ρ c (Proc.devRef .tc main_v11_0) = fun j : S4x128x8192.Idx => ((Os m c (j 0).val (j 2).val (j 1) : ℝ) : EReal) :=
  (W8_arr m ρ c 3).trans (arr0_3 (V7 m ρ) c (Qs m c) (Ks m c) (Xs m c) (v7_4 m ρ c hf) (v7_7 m ρ c hf) (v7_10 m ρ c hf))

theorem w8_1 : W8 m ρ c (Proc.devRef .tc main_v11_1) = fun j : S4x1x8192.Idx => ((Ls m c (j 0).val (j 2).val : ℝ) : EReal) :=
  (W8_arr m ρ c 4).trans (arr0_4 (V7 m ρ) c (Qs m c) (Ks m c) (Xs m c) (v7_4 m ρ c hf) (v7_7 m ρ c hf) (v7_10 m ρ c hf))

omit hf in
theorem w10_of (r : Ref sig .tc) (h : r ∉ hostOps1_W) (h' : r ∉ hostOps1_1_W) : W10 m ρ c (Proc.devRef .tc r) = W8 m ρ c (Proc.devRef .tc r) :=
  (W10_of m ρ c r h').trans (W9_of m ρ c r h)

theorem v10_4 (h : Fin 4) (d : Fin 128) (q : Fin 8192) : (V10 m ρ c main_v4 : S4x128x8192.Idx → EReal) (ix3 h d q) = ((Qs m c h.val q.val d : ℝ) : EReal) := by
  have e : W10 m ρ c (Proc.devRef .tc main_v4) = W7 m ρ c (Proc.devRef .tc main_v4) :=
    (w10_of m ρ c main_v4 (by decide) (by decide)).trans (W8_of m ρ c main_v4 (by decide))
  exact (congrFun e _).trans (v7_4 m ρ c hf h d q)

theorem v10_7 (k : Fin 8192) (h : Fin 4) (d : Fin 128) : (V10 m ρ c main_v7 : S8192x512.Idx → EReal) (ix2 k (lane h d)) = ((Ks m c h.val k.val d : ℝ) : EReal) := by
  have e : W10 m ρ c (Proc.devRef .tc main_v7) = W7 m ρ c (Proc.devRef .tc main_v7) :=
    (w10_of m ρ c main_v7 (by decide) (by decide)).trans (W8_of m ρ c main_v7 (by decide))
  exact (congrFun e _).trans (v7_7 m ρ c hf k h d)

theorem v10_10 (k : Fin 8192) (h : Fin 4) (d : Fin 128) : (V10 m ρ c main_v10 : S8192x512.Idx → EReal) (ix2 k (lane h d)) = ((Xs m c h.val k.val d : ℝ) : EReal) := by
  have e : W10 m ρ c (Proc.devRef .tc main_v10) = W7 m ρ c (Proc.devRef .tc main_v10) :=
    (w10_of m ρ c main_v10 (by decide) (by decide)).trans (W8_of m ρ c main_v10 (by decide))
  exact (congrFun e _).trans (v7_10 m ρ c hf k h d)

theorem v10_13 (h : Fin 4) (d : Fin 128) (q : Fin 8192) : (V10 m ρ c main_v13 : S4x128x8192.Idx → EReal) (ix3 h d q) = ((Cs m c h.val q.val d : ℝ) : EReal) := by
  have ea : W8 m ρ c (Proc.devRef .tc main_arg3) = m ((c : Thread nD τ).loc main_arg3) := W8_args m ρ c main_arg3 (by decide)
  have := rd13 (W8 m ρ c) (by rw [ea]; exact hf.h3) h d q
  rw [ea] at this
  exact this

theorem v10_o (h : Fin 4) (d : Fin 128) (q : Fin 8192) : (V10 m ρ c main_v11_0 : S4x128x8192.Idx → EReal) (ix3 h d q) = ((Os m c h.val q.val d : ℝ) : EReal) :=
  congrFun ((w10_of m ρ c main_v11_0 (by decide) (by decide)).trans (w8_0 m ρ c hf)) _

theorem v10_l (h : Fin 4) (q : Fin 8192) : (V10 m ρ c main_v11_1 : S4x1x8192.Idx → EReal) (ix3 h 0 q) = ((Ls m c h.val q.val : ℝ) : EReal) :=
  congrFun ((w10_of m ρ c main_v11_1 (by decide) (by decide)).trans (w8_1 m ρ c hf)) _

/-! ### What the results hold at the end -/

theorem out_o : W12 m ρ c (Proc.devRef .tc main_v11_0) = fun j : S4x128x8192.Idx => ((Os m c (j 0).val (j 2).val (j 1) : ℝ) : EReal) :=
  (W12_of m ρ c main_v11_0 (by decide)).trans ((W11_of m ρ c main_v11_0 (by decide)).trans ((w10_of m ρ c main_v11_0 (by decide) (by decide)).trans (w8_0 m ρ c hf)))

theorem out_dk : W12 m ρ c (Proc.devRef .tc main_v14_1) = fun j : S8192x512.Idx =>
    ((∑ q ∈ Finset.range 8192, gs (Qs m c ((j 1).val / 128)) (Ks m c ((j 1).val / 128)) (Xs m c ((j 1).val / 128)) (Cs m c ((j 1).val / 128)) (Os m c ((j 1).val / 128)) (Ls m c ((j 1).val / 128)) (j 0).val q
      * Qs m c ((j 1).val / 128) q (inl (j 1)) : ℝ) : EReal) :=
  (W12_of m ρ c main_v14_1 (by decide)).trans ((W11_arr m ρ c 7).trans (arr1_7 (V10 m ρ) c (Qs m c) (Ks m c) (Xs m c) (Cs m c) (Os m c) (Ls m c)
    (v10_4 m ρ c hf) (v10_7 m ρ c hf) (v10_10 m ρ c hf) (v10_13 m ρ c hf) (v10_o m ρ c hf) (v10_l m ρ c hf)))

theorem out_dv : W12 m ρ c (Proc.devRef .tc main_v14_2) = fun j : S8192x512.Idx =>
    ((∑ q ∈ Finset.range 8192, pr (Qs m c ((j 1).val / 128)) (Ks m c ((j 1).val / 128)) (Ls m c ((j 1).val / 128)) (j 0).val q
      * Cs m c ((j 1).val / 128) q (inl (j 1)) : ℝ) : EReal) :=
  (W12_of m ρ c main_v14_2 (by decide)).trans ((W11_arr m ρ c 8).trans (arr1_8 (V10 m ρ) c (Qs m c) (Ks m c) (Xs m c) (Cs m c) (Os m c) (Ls m c)
    (v10_4 m ρ c hf) (v10_7 m ρ c hf) (v10_10 m ρ c hf) (v10_13 m ρ c hf) (v10_o m ρ c hf) (v10_l m ρ c hf)))

theorem out_dq : W12 m ρ c (Proc.devRef .tc main_v16) = fun j : S4x128x8192.Idx =>
    (((∑ k ∈ Finset.range 8192, Ks m c (j 0).val k (j 1)
      * gs (Qs m c (j 0).val) (Ks m c (j 0).val) (Xs m c (j 0).val) (Cs m c (j 0).val) (Os m c (j 0).val) (Ls m c (j 0).val) k (j 2).val) * cs : ℝ) : EReal) := by
  funext j
  refine (rd16 (W11 m ρ c) j).trans ?_
  rw [EReal.coe_mul]
  exact congrArg (· * ((cs : ℝ) : EReal)) (congrFun ((W11_arr m ρ c 6).trans (arr1_6 (V10 m ρ) c (Qs m c) (Ks m c) (Xs m c) (Cs m c) (Os m c) (Ls m c)
    (v10_4 m ρ c hf) (v10_7 m ρ c hf) (v10_10 m ρ c hf) (v10_13 m ρ c hf) (v10_o m ρ c hf) (v10_l m ρ c hf))) j)
end

end Cert.KernelIdeal.Val
-- ==== Proof.Launch.lean ====
/- The run of the two calls over the extended reals, ending with the four results at the contents the last stretch leaves. -/
module

public import proofs.«01_k».proof.Proof.Entry

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen

/-- The resources of the launch. -/
abbrev Resources := MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends with the results at their contents after the last stretch, and the arguments as launched. -/
theorem run : θ_run defs (onTc (τ := τ) (main (F := Ideal))) ⟨m, fun _ => 0, ρ⟩ (fun r => ∀ c : Dev nD,
      r.2.mem ((c.tc : Thread nD τ).loc main_v11_0) = W12 m ρ c (Proc.devRef .tc main_v11_0)
      ∧ r.2.mem ((c.tc : Thread nD τ).loc main_v16) = W12 m ρ c (Proc.devRef .tc main_v16)
      ∧ r.2.mem ((c.tc : Thread nD τ).loc main_v14_1) = W12 m ρ c (Proc.devRef .tc main_v14_1)
      ∧ r.2.mem ((c.tc : Thread nD τ).loc main_v14_2) = W12 m ρ c (Proc.devRef .tc main_v14_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Resources)
            ⊢ BI.own (emb₁ (initOf (Pipeline.cells cfgs cellOf_inj) (Pipeline.launchToks cfgs cellOf_inj))) from .rfl)
        iexact Hu
      iapply (show (BI.emp : sProp Resources) ⊢ bigSep Finset.univ (fun _ : Dev nD => (BI.emp : sProp Resources)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨h c _ (mem_uc main_v11_0 (by decide)), h c _ (mem_uc main_v16 (by decide)), h c _ (mem_uc main_v14_1 (by decide)), h c _ (mem_uc main_v14_2 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c)⟩)

end Cert.KernelIdeal.Val
-- ==== Proof.Finite.lean ====
/- What the precondition says: every entry of the four arrays is a real number. -/
module

public import proofs.«01_k».proof.Proof.Entry
public import proofs.«01_k».proof.Pre_finite
public import Idealize.ShloMosaic.Lib.ReduceAll

@[expose] public section

noncomputable section

namespace Cert.Pre_finite

open Idealize.ShloMosaic
open Cert.KernelIdeal.Val (IsFin)

/-- The shape relations the precondition's operations state. -/
theorem facts : Facts where
  bcast_S_S8192x4x96 := by decide
  reducesTo_S8192x4x96_S_d0_1_2 := by decide
  h_S_ := by decide
  bcast_S_S8192x4x64 := by decide
  reducesTo_S8192x4x64_S_d0_1_2 := by decide

theorem top_word : Ideal.ofBits FTy.f32 0x7F800000#32 = ⊤ := by simp [Ideal.ofBits, Ideal.ieee]

/-- A magnitude below plus infinity is that of a real number. -/
theorem real_of_lt (x : EReal) (h : FloatOps.cmpf (F := Ideal) (φ := FTy.f32) CmpFPredicate.olt (FloatOps.hostAbsf x) (Ideal.ofBits FTy.f32 0x7F800000#32) = 1#1) :
    x ≠ ⊤ ∧ x ≠ ⊥ := by
  rw [top_word] at h
  have lt : max x (-x) < ⊤ := by
    by_contra H
    have : FloatOps.cmpf (F := Ideal) (φ := FTy.f32) CmpFPredicate.olt (FloatOps.hostAbsf x) ⊤ = 0#1 := by
      show BitVec.ofBool (decide (max x (-x) < ⊤)) = 0#1
      rw [decide_eq_false H]; rfl
    rw [this] at h
    exact absurd h (by decide)
  constructor
  · rintro rfl
    exact absurd lt (by simp)
  · rintro rfl
    exact absurd lt (by simp)

variable [Facts]

theorem all_real {x0 x1 : S8192x4x96.Idx → EReal} {x2 x3 : S8192x4x64.Idx → EReal} (h : fn (F := Ideal) x0 x1 x2 x3 = fun _ => 1#1) :
    IsFin x0 ∧ IsFin x1 ∧ IsFin x2 ∧ IsFin x3 := by
  haveI : Subsingleton S_.Idx := ⟨fun a b => funext fun i => i.elim0⟩
  have h0 := congrFun h ValueIdx.ix0
  dsimp only [fn, fn_part1] at h0
  obtain ⟨ha, hb⟩ := IntOp.andi_eq_one.1 h0
  obtain ⟨h1, h2⟩ := IntOp.andi_eq_one.1 ha
  obtain ⟨h3, h4⟩ := IntOp.andi_eq_one.1 hb
  exact ⟨fun j => real_of_lt _ (Host.reduce_andi_all _ _ _ _ _ h1 j), fun j => real_of_lt _ (Host.reduce_andi_all _ _ _ _ _ h2 j),
    fun j => real_of_lt _ (Host.reduce_andi_all _ _ _ _ _ h3 j), fun j => real_of_lt _ (Host.reduce_andi_all _ _ _ _ _ h4 j)⟩

end Cert.Pre_finite
-- ==== Proof.Ref.lean ====
/- The reference on finite arrays: every stage is an array of real numbers, written head by head over zero-extended lanes. -/
module

public import proofs.«01_k».proof.Proof.Entry
public import proofs.«01_k».proof.Proof.Gen.ReferenceIdeal.Read

@[expose] public section

noncomputable section

namespace Cert.ReferenceIdeal.Val

open Idealize.ShloMosaic Cert.ReferenceIdeal Cert.ReferenceIdeal.Gen Cert.ReferenceIdeal.Read
open Cert.KernelIdeal.Val (a96 a64 a96_of a64_of a96_zero a64_zero IsFin cs cs_word sc pr gs ZF OF coe_sum sum_range_fin max_fold_real)

/-- A sum over the first lanes is the sum over all of them where the others are zero. -/
theorem sum_lanes {n N : ℕ} (hn : n ≤ N) (f : Fin N → ℝ) (hf : ∀ d, ¬d.val < n → f d = 0) : ∑ d : Fin n, f (Fin.castLE hn d) = ∑ d, f d := by
  obtain ⟨m, rfl⟩ := Nat.exists_eq_add_of_le hn
  rw [Fin.sum_univ_add, Finset.sum_eq_zero (s := (Finset.univ : Finset (Fin m))) (fun i _ => hf _ (by simp)), add_zero]
  rfl

theorem at96 (x : S8192x4x96.Idx → EReal) (hx : IsFin x) (i : S8192x4x96.Idx) :
    x i = ((a96 x (i 1).val (i 0).val (Fin.castLE (by decide) (i 2)) : ℝ) : EReal) :=
  (congrArg x (eq_ix3 i)).trans (a96_of x hx (i 0) (i 1) (Fin.castLE (by decide) (i 2)) (i 2).isLt)

theorem at64 (x : S8192x4x64.Idx → EReal) (hx : IsFin x) (i : S8192x4x64.Idx) :
    x i = ((a64 x (i 1).val (i 0).val (Fin.castLE (by decide) (i 2)) : ℝ) : EReal) :=
  (congrArg x (eq_ix3 i)).trans (a64_of x hx (i 0) (i 1) (Fin.castLE (by decide) (i 2)) (i 2).isLt)

theorem sel_le {α : Type} (k q : ℕ) (hk : k < 8192) (hq : q < 8192) (a b : α) :
    Scalar.select (IntOp.cmpi CmpIPredicate.sle (BitVec.ofNat 32 k) (BitVec.ofNat 32 q)) a b = if k ≤ q then a else b := by
  have h : (BitVec.ofNat 32 k).sle (BitVec.ofNat 32 q) = decide (k ≤ q) := by
    rw [BitVec.sle_eq_decide]
    congr 1
    rw [BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    apply propext
    omega
  unfold Scalar.select IntOp.cmpi
  simp only [h]
  by_cases e : k ≤ q <;> simp [e]

theorem bot_word : (FloatOps.ofBits (F := Ideal) FTy.f32 0xFF800000#32 : EReal) = ⊥ := by
  show Ideal.ofBits FTy.f32 0xFF800000#32 = ⊥
  simp [Ideal.ofBits, Ideal.ieee]

theorem zero_word : (FloatOps.ofBits (F := Ideal) FTy.f32 0x00000000#32 : EReal) = ((0 : ℝ) : EReal) := by
  show Ideal.ofBits FTy.f32 0x00000000#32 = _
  simp [Ideal.ofBits, Ideal.ieee]

theorem one_word : (FloatOps.ofBits (F := Ideal) FTy.f32 0x3F800000#32 : EReal) = ((1 : ℝ) : EReal) := by
  show Ideal.ofBits FTy.f32 0x3F800000#32 = _
  simp [Ideal.ofBits, Ideal.ieee]
  rw [← EReal.coe_mul]
  exact_mod_cast (by norm_num : (8388608 : ℝ) * (2 ^ 23)⁻¹ = 1)

theorem quot (a b : ℝ) (hb : b ≠ 0) : Ideal.div (a : EReal) (b : EReal) = ((a / b : ℝ) : EReal) := by
  rw [Ideal.div_coe hb, ← EReal.coe_mul, mul_one_div]

/-- The scaled queries of a head. -/
def RQ (x0 : S8192x4x96.Idx → EReal) (h q : ℕ) (d : Fin 128) : ℝ := a96 x0 h q d * cs

section
variable (x0 x1 : S8192x4x96.Idx → EReal) (x2 x3 : S8192x4x64.Idx → EReal)

/-- The score of a query against a key. -/
def RS (h q k : ℕ) : ℝ := sc (RQ x0 h q) (a96 x1 h) k

variable (f0 : IsFin x0) (f1 : IsFin x1) (f2 : IsFin x2) (f3 : IsFin x3)

include f0 f1 in
theorem r2 (i : S4x8192x8192.Idx) : val_main_v2 (F := Ideal) x0 x1 i = ((RS x0 x1 (i 0).val (i 1).val (i 2).val : ℝ) : EReal) := by
  have h0 : val_main_v0 (F := Ideal) x0 x1 i = ((∑ d : Fin 128, a96 x0 (i 0).val (i 1).val d * a96 x1 (i 0).val (i 2).val d : ℝ) : EReal) := by
    rw [val_main_v0_apply, ← sum_lanes (show 96 ≤ 128 by decide) _ (fun d hd => by rw [a96_zero _ _ _ _ hd, zero_mul]), coe_sum]
    refine Finset.sum_congr rfl fun d _ => ?_
    rw [at96 x0 f0, at96 x1 f1, EReal.coe_mul]
    rfl
  rw [val_main_v2_apply, val_main_v1_apply, val_main_cst_apply, h0]
  show _ * Ideal.ofBits FTy.f32 0x3DD105EC#32 = _
  rw [cs_word, ← EReal.coe_mul]
  congr 1
  unfold RS sc RQ
  rw [Finset.sum_mul]
  exact Finset.sum_congr rfl fun d _ => by ring

theorem r7_1 (i : S4x8192x8192.Idx) : val_main_v7_1 (F := Ideal) i = IntOp.cmpi CmpIPredicate.sle (BitVec.ofNat 32 (i 2).val) (BitVec.ofNat 32 (i 1).val) := by
  rw [val_main_v7_1_apply, val_main_v6_apply, val_main_v5_apply, val_main_v3_apply, val_main_v4_apply]

include f0 f1 in
theorem r7 (i : S4x8192x8192.Idx) :
    val_main_v7_0 (F := Ideal) x0 x1 i = if (i 2).val ≤ (i 1).val then ((RS x0 x1 (i 0).val (i 1).val (i 2).val : ℝ) : EReal) else ⊥ := by
  rw [val_main_v7_0_apply, r7_1, sel_le _ _ (i 2).isLt (i 1).isLt, r2 x0 x1 f0 f1, val_main_call0_v2_apply, val_main_call0_v0_apply, val_main_cst_0_apply, bot_word]

/-- The greatest score of a query. -/
def RM (h q : ℕ) : ℝ := if H : h < 4 ∧ q < 8192 then (val_main_v8 (F := Ideal) x0 x1 (ix2 ⟨h, H.1⟩ ⟨q, H.2⟩) : EReal).toReal else 0

theorem fold8 (y : S4x8192x8192.Idx → EReal) (j : S4x8192.Idx) :
    Host.reduce (FloatOps.maximumf (F := Ideal) (φ := FTy.f32)) y (val_main_cst_1 (F := Ideal)) reducesTo_S4x8192x8192_S4x8192_d2 h_S_ j
      = Finset.univ.fold max ⊥ fun k : Fin 8192 => y (ix3 (j 0) (j 1) k) := by
  pointwise [val_main_cst_1]
  rw [show Ideal.ofBits FTy.f32 4286578688#32 = ⊥ from bot_word]

include f0 f1 in
theorem r8 (j : S4x8192.Idx) : val_main_v8 (F := Ideal) x0 x1 j = ((RM x0 x1 (j 0).val (j 1).val : ℝ) : EReal) := by
  have e : val_main_v8 (F := Ideal) x0 x1 j = Finset.univ.fold max ⊥ fun k : Fin 8192 => val_main_v7_0 (F := Ideal) x0 x1 (ix3 (j 0) (j 1) k) := by
    unfold val_main_v8
    exact fold8 _ j
  obtain ⟨ν, hν⟩ := max_fold_real (⊥ : EReal) (fun k : Fin 8192 => val_main_v7_0 (F := Ideal) x0 x1 (ix3 (j 0) (j 1) k)) bot_ne_top
    (fun k => by rw [r7 x0 x1 f0 f1]; split; exacts [EReal.coe_ne_top _, bot_ne_top])
    (.inr ⟨⟨0, by decide⟩, by rw [r7 x0 x1 f0 f1]; exact (if_pos (Nat.zero_le _)).trans_ne (EReal.coe_ne_bot _)⟩)
  rw [max_eq_right bot_le, ← e] at hν
  have hj : ix2 (j 0) (j 1) = j := (eq_ix2 j).symm
  unfold RM
  rw [dif_pos ⟨(j 0).isLt, (j 1).isLt⟩]
  refine hν.trans ?_
  have : val_main_v8 (F := Ideal) x0 x1 (ix2 (j 0) (j 1)) = (ν : EReal) := (congrArg _ hj).trans hν
  exact (congrArg (fun z : EReal => ((z.toReal : ℝ) : EReal)) this).symm

/-- The weight of a key before it is normalised, from the greatest score. -/
def RE (h q k : ℕ) : ℝ := if k ≤ q then Real.exp (RS x0 x1 h q k - RM x0 x1 h q) else 0

include f0 f1 in
theorem r28 (i : S4x8192x8192.Idx) : val_main_v28 (F := Ideal) x0 x1 i = ((RE x0 x1 (i 0).val (i 1).val (i 2).val : ℝ) : EReal) := by
  have hm : val_main_v26 (F := Ideal) x0 x1 i = ((RM x0 x1 (i 0).val (i 1).val : ℝ) : EReal) := by
    rw [val_main_v26_apply, val_main_v25_apply, val_main_v15_apply, val_main_v14_apply, val_main_cst_3_apply, bot_word, r8 x0 x1 f0 f1]
    exact max_eq_right bot_le
  rw [val_main_v28_apply, val_main_v27_apply, hm, r7 x0 x1 f0 f1]
  show Ideal.exp (_ - _) = _
  unfold RE
  split
  · rw [← EReal.coe_sub, Ideal.exp_coe]
  · rw [EReal.bot_sub, Ideal.exp_bot]; rfl

/-- The sum of the weights. -/
def RL (h q : ℕ) : ℝ := ∑ k ∈ Finset.range 8192, RE x0 x1 h q k

theorem sum_fin (f : ℕ → ℝ) (n : ℕ) : ∑ k : Fin n, ((f k.val : ℝ) : EReal) = ((∑ k ∈ Finset.range n, f k : ℝ) : EReal) := by
  rw [Finset.sum_range, coe_sum]

include f0 f1 in
theorem r29 (j : S4x8192.Idx) : val_main_v29 (F := Ideal) x0 x1 j = ((RL x0 x1 (j 0).val (j 1).val : ℝ) : EReal) := by
  rw [val_main_v29_apply, val_main_cst_9_apply, zero_word, EReal.coe_zero, zero_add]
  exact (Finset.sum_congr rfl fun k _ => r28 x0 x1 f0 f1 (idx_main_v29 j k)).trans (sum_fin (RE x0 x1 (j 0).val (j 1).val) 8192)

theorem ZF_pos (Q K : ℕ → Fin 128 → ℝ) (q : ℕ) : 0 < ZF Q K q := by
  unfold ZF
  refine Finset.sum_pos' (fun k _ => ?_) ⟨0, by simp, ?_⟩
  · split
    · exact (Real.exp_pos _).le
    · exact le_rfl
  · rw [if_pos (Nat.zero_le _)]
    exact Real.exp_pos _

theorem RL_eq (h q : ℕ) : RL x0 x1 h q = Real.exp (-RM x0 x1 h q) * ZF (RQ x0 h) (a96 x1 h) q := by
  unfold RL ZF RE
  rw [Finset.mul_sum]
  refine Finset.sum_congr rfl fun k _ => ?_
  split
  · rw [← Real.exp_add, neg_add_eq_sub]; rfl
  · rw [mul_zero]

theorem RL_ne (h q : ℕ) : RL x0 x1 h q ≠ 0 := by
  rw [RL_eq]
  exact mul_ne_zero (Real.exp_ne_zero _) (ZF_pos _ _ _).ne'

/-- The logarithm of the normaliser. -/
def RG (h q : ℕ) : ℝ := Real.log (ZF (RQ x0 h) (a96 x1 h) q)

theorem pr_weight (h q k : ℕ) : pr (RQ x0 h) (a96 x1 h) (RG x0 x1 h) k q
    = (if k ≤ q then Real.exp (sc (RQ x0 h q) (a96 x1 h) k) else 0) / ZF (RQ x0 h) (a96 x1 h) q := by
  unfold pr RG
  split
  · rw [Real.exp_sub, Real.exp_log (ZF_pos _ _ _)]
  · rw [zero_div]

theorem RE_div (h q k : ℕ) : RE x0 x1 h q k / RL x0 x1 h q = pr (RQ x0 h) (a96 x1 h) (RG x0 x1 h) k q := by
  rw [RL_eq, pr_weight]
  unfold RE
  split
  · rw [show RS x0 x1 h q k - RM x0 x1 h q = -RM x0 x1 h q + sc (RQ x0 h q) (a96 x1 h) k by unfold RS; ring, Real.exp_add]
    exact mul_div_mul_left _ _ (Real.exp_ne_zero _)
  · rw [zero_div, zero_div]

include f0 f1 in
theorem r30 (i : S4x8192x1.Idx) : val_main_v30 (F := Ideal) x0 x1 i = ((RL x0 x1 (i 0).val (i 1).val : ℝ) : EReal) := by
  rw [val_main_v30_apply, r29 x0 x1 f0 f1]

include f0 f1 in
theorem r32 (i : S4x8192x8192.Idx) :
    val_main_v32 (F := Ideal) x0 x1 i = ((pr (RQ x0 (i 0).val) (a96 x1 (i 0).val) (RG x0 x1 (i 0).val) (i 2).val (i 1).val : ℝ) : EReal) := by
  rw [val_main_v32_apply, r28 x0 x1 f0 f1, val_main_v31_apply, r30 x0 x1 f0 f1]
  exact (quot _ _ (RL_ne _ _ _ _)).trans (congrArg _ (RE_div x0 x1 (i 0).val (i 1).val (i 2).val))

/-- The output of a head. -/
def RO (h : ℕ) : ℕ → Fin 128 → ℝ := OF (RQ x0 h) (a96 x1 h) (a64 x2 h)

theorem RO_eq (h q : ℕ) (d : Fin 128) :
    RO x0 x1 x2 h q d = ∑ k ∈ Finset.range 8192, a64 x2 h k d * pr (RQ x0 h) (a96 x1 h) (RG x0 x1 h) k q := by
  unfold RO OF
  rw [Finset.sum_div]
  exact Finset.sum_congr rfl fun k _ => by rw [pr_weight]; ring

include f0 f1 f2 in
theorem r36 (i : S4x64x8192.Idx) :
    val_main_v36 (F := Ideal) x0 x1 x2 i = ((RO x0 x1 x2 (i 0).val (i 2).val (Fin.castLE (by decide) (i 1)) : ℝ) : EReal) := by
  rw [val_main_v36_apply, RO_eq, ← sum_fin]
  refine Finset.sum_congr rfl fun k _ => ?_
  rw [at64 x2 f2, r32 x0 x1 f0 f1, EReal.coe_mul]
  rfl

include f3 in
theorem r38 (i : S4x64x8192.Idx) :
    val_main_v38 (F := Ideal) x3 i = ((a64 x3 (i 0).val (i 2).val (Fin.castLE (by decide) (i 1)) : ℝ) : EReal) := by
  rw [val_main_v38_apply, at64 x3 f3]
  rfl

include f2 f3 in
theorem r39 (i : S4x8192x8192.Idx) :
    val_main_v39 (F := Ideal) x2 x3 i = ((sc (a64 x3 (i 0).val (i 1).val) (a64 x2 (i 0).val) (i 2).val : ℝ) : EReal) := by
  unfold sc
  rw [val_main_v39_apply, ← sum_lanes (show 64 ≤ 128 by decide) _ (fun d hd => by rw [a64_zero _ _ _ _ hd, zero_mul]), coe_sum]
  refine Finset.sum_congr rfl fun d _ => ?_
  rw [at64 x2 f2, r38 x3 f3, ← EReal.coe_mul, mul_comm]
  rfl

include f0 f1 f3 in
theorem r40 (i : S4x64x8192.Idx) :
    val_main_v40 (F := Ideal) x0 x1 x3 i = ((∑ q ∈ Finset.range 8192, pr (RQ x0 (i 0).val) (a96 x1 (i 0).val) (RG x0 x1 (i 0).val) (i 2).val q
      * a64 x3 (i 0).val q (Fin.castLE (by decide) (i 1)) : ℝ) : EReal) := by
  rw [val_main_v40_apply, ← sum_fin (fun q => pr (RQ x0 (i 0).val) (a96 x1 (i 0).val) (RG x0 x1 (i 0).val) (i 2).val q
      * a64 x3 (i 0).val q (Fin.castLE (by decide) (i 1)))]
  refine Finset.sum_congr rfl fun q _ => ?_
  rw [r38 x3 f3, r32 x0 x1 f0 f1, ← EReal.coe_mul, mul_comm]
  rfl

end

end Cert.ReferenceIdeal.Val
-- ==== Proof.RefB.lean ====
/- The reference's gradients on finite arrays. -/
module

public import proofs.«01_k».proof.Proof.Ref

@[expose] public section

noncomputable section

namespace Cert.ReferenceIdeal.Val

open Idealize.ShloMosaic Cert.ReferenceIdeal Cert.ReferenceIdeal.Gen Cert.ReferenceIdeal.Read
open Cert.KernelIdeal.Val (a96 a64 a96_of a64_of a96_zero a64_zero IsFin cs cs_word sc pr gs ZF OF coe_sum sum_range_fin)

section
variable (x0 x1 : S8192x4x96.Idx → EReal) (x2 x3 : S8192x4x64.Idx → EReal)

/-- The gradient of the weight of a key. -/
def RD (h q k : ℕ) : ℝ := sc (a64 x3 h q) (a64 x2 h) k

/-- The gradient of the score of query `q` and key `k`. -/
def RGS (h k q : ℕ) : ℝ := gs (RQ x0 h) (a96 x1 h) (a64 x2 h) (a64 x3 h) (RO x0 x1 x2 h) (RG x0 x1 h) k q

/-- The output against its gradient is the mean of the gradients of the weights. -/
theorem delta_eq (h q : ℕ) : ∑ d, a64 x3 h q d * RO x0 x1 x2 h q d
    = ∑ k ∈ Finset.range 8192, RD x2 x3 h q k * pr (RQ x0 h) (a96 x1 h) (RG x0 x1 h) k q := by
  simp only [RO_eq, Finset.mul_sum]
  rw [Finset.sum_comm]
  refine Finset.sum_congr rfl fun k _ => ?_
  unfold RD sc
  rw [Finset.sum_mul]
  exact Finset.sum_congr rfl fun d _ => by ring

variable (f0 : IsFin x0) (f1 : IsFin x1) (f2 : IsFin x2) (f3 : IsFin x3)

include f0 f1 in
theorem r42 (i : S4x8192x8192.Idx) :
    val_main_v42 (F := Ideal) x0 x1 i = ((1 / (RL x0 x1 (i 0).val (i 1).val * RL x0 x1 (i 0).val (i 1).val) : ℝ) : EReal) := by
  rw [val_main_v42_apply, val_main_v35_apply, val_main_v34_apply, val_main_cst_10_apply, val_main_v33_apply, r30 x0 x1 f0 f1, one_word]
  show Ideal.div _ (_ * _) = _
  rw [← EReal.coe_mul]
  exact quot _ _ (mul_ne_zero (RL_ne _ _ _ _) (RL_ne _ _ _ _))

include f0 f1 f2 f3 in
theorem r44 (i : S4x8192x8192.Idx) :
    val_main_v44 (F := Ideal) x0 x1 x2 x3 i = ((RD x2 x3 (i 0).val (i 1).val (i 2).val * (1 / (RL x0 x1 (i 0).val (i 1).val * RL x0 x1 (i 0).val (i 1).val))
      * RE x0 x1 (i 0).val (i 1).val (i 2).val : ℝ) : EReal) := by
  rw [val_main_v44_apply, val_main_v43_apply, r42 x0 x1 f0 f1, r39 x2 x3 f2 f3, r28 x0 x1 f0 f1, EReal.coe_mul, EReal.coe_mul]
  rfl

/-- The gradient of the normaliser of query `q`, its sign turned. -/
def RN (h q : ℕ) : ℝ := ∑ k ∈ Finset.range 8192, RD x2 x3 h q k * (1 / (RL x0 x1 h q * RL x0 x1 h q)) * RE x0 x1 h q k

include f0 f1 f2 f3 in
theorem r45 (j : S4x8192.Idx) : val_main_v45 (F := Ideal) x0 x1 x2 x3 j = ((RN x0 x1 x2 x3 (j 0).val (j 1).val : ℝ) : EReal) := by
  rw [val_main_v45_apply, val_main_cst_11_apply, zero_word, EReal.coe_zero, zero_add]
  unfold RN
  rw [← sum_fin]
  exact Finset.sum_congr rfl fun k _ => r44 x0 x1 x2 x3 f0 f1 f2 f3 (idx_main_v45 j k)

include f0 f1 f2 f3 in
theorem r51 (i : S4x8192x8192.Idx) : val_main_v51 (F := Ideal) x0 x1 x2 x3 i = ((-RN x0 x1 x2 x3 (i 0).val (i 1).val : ℝ) : EReal) := by
  rw [val_main_v51_apply, val_main_v50_apply, val_main_cst_12_apply, zero_word, EReal.coe_zero, zero_add, Fin.sum_univ_one,
    val_main_v47_apply, val_main_v46_apply, r45 x0 x1 x2 x3 f0 f1 f2 f3]
  show -(_ : EReal) = _
  rw [EReal.coe_neg]
  have e : ∀ j : S4x8192x1.Idx, ((idx_main_v46 j) 0).val = (j 0).val ∧ ((idx_main_v46 j) 1).val = (j 1).val := fun j => by
    have h0 : (j 0).val < 4 := (j 0).isLt
    have h1 : (j 1).val < 8192 := (j 1).isLt
    have h2 : (j 2).val < 1 := (j 2).isLt
    constructor
    · show (((j 0).val * 8192 + (j 1).val) * 1 + (j 2).val) / 8192 = _; omega
    · show (((j 0).val * 8192 + (j 1).val) * 1 + (j 2).val) % 8192 = _; omega
  rw [(e _).1, (e _).2]

theorem step_eq (h q k : ℕ) (H : k ≤ q) : (RD x2 x3 h q k / RL x0 x1 h q + -RN x0 x1 x2 x3 h q) * RE x0 x1 h q k = RGS x0 x1 x2 x3 h k q := by
  have hL := RL_ne x0 x1 h q
  have hN : RN x0 x1 x2 x3 h q * RL x0 x1 h q = ∑ d, a64 x3 h q d * RO x0 x1 x2 h q d := by
    rw [delta_eq]
    unfold RN
    rw [Finset.sum_mul]
    refine Finset.sum_congr rfl fun k _ => ?_
    rw [← RE_div]
    field_simp
  unfold RGS gs
  rw [← hN, ← RE_div, show sc (a64 x3 h q) (a64 x2 h) k = RD x2 x3 h q k from rfl]
  field_simp
  ring

include f0 f1 f2 f3 in
theorem r56 (i : S4x8192x8192.Idx) :
    val_main_v56 (F := Ideal) x0 x1 x2 x3 i = ((RGS x0 x1 x2 x3 (i 0).val (i 2).val (i 1).val * cs : ℝ) : EReal) := by
  have h53 : val_main_v53 (F := Ideal) x0 x1 x2 x3 i
      = (((RD x2 x3 (i 0).val (i 1).val (i 2).val / RL x0 x1 (i 0).val (i 1).val + -RN x0 x1 x2 x3 (i 0).val (i 1).val) * RE x0 x1 (i 0).val (i 1).val (i 2).val : ℝ) : EReal) := by
    rw [val_main_v53_apply, val_main_v52_apply, val_main_v49_apply, r51 x0 x1 x2 x3 f0 f1 f2 f3, r28 x0 x1 f0 f1, r39 x2 x3 f2 f3,
      val_main_v48_apply, r30 x0 x1 f0 f1, EReal.coe_mul, EReal.coe_add]
    refine congrArg (fun z : EReal => (z + _) * _) ?_
    exact quot _ _ (RL_ne _ _ _ _)
  rw [val_main_v56_apply, val_main_v54_apply, r7_1, sel_le _ _ (i 2).isLt (i 1).isLt, h53, val_main_call1_v0_apply, val_main_call1_cst_apply, zero_word,
    val_main_v55_apply, val_main_cst_13_apply, show (FloatOps.ofBits (F := Ideal) FTy.f32 0x3DD105EC#32 : EReal) = ((cs : ℝ) : EReal) from cs_word]
  by_cases H : (i 2).val ≤ (i 1).val
  · rw [if_pos H, step_eq _ _ _ _ _ _ _ H]
    exact (EReal.coe_mul _ _).symm
  · have e : RGS x0 x1 x2 x3 (i 0).val (i 2).val (i 1).val = 0 := by
      unfold RGS gs pr
      rw [if_neg H, zero_mul]
    rw [if_neg H, e]
    exact (EReal.coe_mul _ _).symm

include f0 f1 f2 f3 in
theorem r57 (i : S4x8192x96.Idx) :
    val_main_v57 (F := Ideal) x0 x1 x2 x3 i = ((∑ q ∈ Finset.range 8192, RGS x0 x1 x2 x3 (i 0).val (i 1).val q
      * RQ x0 (i 0).val q (Fin.castLE (by decide) (i 2)) : ℝ) : EReal) := by
  rw [val_main_v57_apply, ← sum_fin (fun q => RGS x0 x1 x2 x3 (i 0).val (i 1).val q * RQ x0 (i 0).val q (Fin.castLE (by decide) (i 2)))]
  refine Finset.sum_congr rfl fun q _ => ?_
  rw [r56 x0 x1 x2 x3 f0 f1 f2 f3, at96 x0 f0, ← EReal.coe_mul]
  unfold RQ
  rw [← mul_assoc, mul_right_comm]
  rfl

include f0 f1 f2 f3 in
theorem r59 (i : S4x8192x96.Idx) :
    val_main_v59 (F := Ideal) x0 x1 x2 x3 i = (((∑ k ∈ Finset.range 8192, a96 x1 (i 0).val k (Fin.castLE (by decide) (i 2))
      * RGS x0 x1 x2 x3 (i 0).val k (i 1).val) * cs : ℝ) : EReal) := by
  rw [val_main_v59_apply, Finset.sum_mul,
    ← sum_fin (fun k => a96 x1 (i 0).val k (Fin.castLE (by decide) (i 2)) * RGS x0 x1 x2 x3 (i 0).val k (i 1).val * cs)]
  refine Finset.sum_congr rfl fun k _ => ?_
  rw [r56 x0 x1 x2 x3 f0 f1 f2 f3, at96 x1 f1, ← EReal.coe_mul, mul_comm, ← mul_assoc]
  rfl

end

end Cert.ReferenceIdeal.Val
-- ==== Proof.RefOut.lean ====
/- The reference's four results on finite arrays. -/
module

public import proofs.«01_k».proof.Proof.RefB
public import Idealize.ShloMosaic.Lib.StableHlo.ReadAt

@[expose] public section

noncomputable section

namespace Cert.ReferenceIdeal.Val

open Idealize.ShloMosaic Cert.ReferenceIdeal Cert.ReferenceIdeal.Gen Cert.ReferenceIdeal.Read
open Cert.KernelIdeal.Val (a96 a64 a96_of a64_of a96_zero a64_zero IsFin cs cs_word sc pr gs ZF OF coe_sum sum_range_fin zero_int inl)

theorem pad62 (y : S4x64x8192.Idx → EReal) (z : S_.Idx → EReal) (j : S4x128x8192.Idx) :
    pad S4x128x8192 ![0, 0, 0] ![0, 64, 0] ![0, 0, 0] y z pads_S4x64x8192_S4x128x8192_000_0640_000 h_S_ j
      = if H : (j 1).val < 64 then y (ix3 (j 0) ⟨(j 1).val, H⟩ (j 2)) else z (Shape.Idx.first h_S_) := by
  pointwise

theorem pad64 (y : S4x96x8192.Idx → EReal) (z : S_.Idx → EReal) (j : S4x128x8192.Idx) :
    pad S4x128x8192 ![0, 0, 0] ![0, 32, 0] ![0, 0, 0] y z pads_S4x96x8192_S4x128x8192_000_0320_000 h_S_ j
      = if H : (j 1).val < 96 then y (ix3 (j 0) ⟨(j 1).val, H⟩ (j 2)) else z (Shape.Idx.first h_S_) := by
  pointwise

theorem pad65 (y : S8192x4x96.Idx → EReal) (z : S_.Idx → EReal) (j : S8192x4x128.Idx) :
    pad S8192x4x128 ![0, 0, 0] ![0, 0, 32] ![0, 0, 0] y z pads_S8192x4x96_S8192x4x128_000_000_0320 h_S_ j
      = if H : (j 2).val < 96 then y (ix3 (j 0) (j 1) ⟨(j 2).val, H⟩) else z (Shape.Idx.first h_S_) := by
  pointwise

theorem pad67 (y : S8192x4x64.Idx → EReal) (z : S_.Idx → EReal) (j : S8192x4x128.Idx) :
    pad S8192x4x128 ![0, 0, 0] ![0, 0, 64] ![0, 0, 0] y z pads_S8192x4x64_S8192x4x128_000_000_0640 h_S_ j
      = if H : (j 2).val < 64 then y (ix3 (j 0) (j 1) ⟨(j 2).val, H⟩) else z (Shape.Idx.first h_S_) := by
  pointwise

section
variable (x0 x1 : S8192x4x96.Idx → EReal) (x2 x3 : S8192x4x64.Idx → EReal)
variable (f0 : IsFin x0) (f1 : IsFin x1) (f2 : IsFin x2) (f3 : IsFin x3)

include f0 f1 f2 in
theorem r62 : val_main_v62 (F := Ideal) x0 x1 x2 = fun j : S4x128x8192.Idx => ((RO x0 x1 x2 (j 0).val (j 2).val (j 1) : ℝ) : EReal) := by
  funext j
  unfold val_main_v62
  refine (pad62 _ _ j).trans ?_
  split
  · rename_i H
    rw [val_main_v61_apply, val_main_v37_apply, r36 x0 x1 x2 f0 f1 f2]
    rfl
  · rename_i H
    have e : RO x0 x1 x2 (j 0).val (j 2).val (j 1) = 0 :=
      (RO_eq x0 x1 x2 (j 0).val (j 2).val (j 1)).trans (Finset.sum_eq_zero fun k _ => by rw [a64_zero _ _ _ _ H, zero_mul])
    rw [val_main_call2_v0_apply, val_main_c_apply, zero_int]
    exact congrArg _ e.symm

include f0 f1 f2 f3 in
theorem r64 : val_main_v64 (F := Ideal) x0 x1 x2 x3 = fun j : S4x128x8192.Idx => (((∑ k ∈ Finset.range 8192, a96 x1 (j 0).val k (j 1)
    * RGS x0 x1 x2 x3 (j 0).val k (j 2).val) * cs : ℝ) : EReal) := by
  funext j
  unfold val_main_v64
  refine (pad64 _ _ j).trans ?_
  split
  · rename_i H
    rw [val_main_v63_apply, val_main_v60_apply, r59 x0 x1 x2 x3 f0 f1 f2 f3]
    rfl
  · rename_i H
    rw [val_main_call3_v0_apply, val_main_c_14_apply, zero_int, Finset.sum_eq_zero fun k _ => by rw [a96_zero _ _ _ _ H, zero_mul], zero_mul]

theorem flat1 (j : S8192x512.Idx) : ((j 0).val * 512 + (j 1).val) / 512 = (j 0).val ∧ ((j 0).val * 512 + (j 1).val) / 128 % 4 = (j 1).val / 128
    ∧ ((j 0).val * 512 + (j 1).val) % 128 = (j 1).val % 128 := by
  have h1 : (j 1).val < 512 := (j 1).isLt
  omega

include f0 f1 f2 f3 in
theorem r65 (i : S8192x4x128.Idx) : val_main_v65 (F := Ideal) x0 x1 x2 x3 i
    = ((∑ q ∈ Finset.range 8192, RGS x0 x1 x2 x3 (i 1).val (i 0).val q * RQ x0 (i 1).val q (i 2) : ℝ) : EReal) := by
  unfold val_main_v65
  refine (pad65 _ _ i).trans ?_
  split
  · rename_i H
    rw [val_main_v58_apply, r57 x0 x1 x2 x3 f0 f1 f2 f3]
    rfl
  · rename_i H
    rw [val_main_call4_v0_apply, val_main_c_15_apply, zero_int,
      Finset.sum_eq_zero fun q _ => by unfold RQ; rw [a96_zero _ _ _ _ H, zero_mul, mul_zero]]

include f0 f1 f3 in
theorem r67 (i : S8192x4x128.Idx) : val_main_v67 (F := Ideal) x0 x1 x3 i
    = ((∑ q ∈ Finset.range 8192, pr (RQ x0 (i 1).val) (a96 x1 (i 1).val) (RG x0 x1 (i 1).val) (i 0).val q * a64 x3 (i 1).val q (i 2) : ℝ) : EReal) := by
  unfold val_main_v67
  refine (pad67 _ _ i).trans ?_
  split
  · rename_i H
    rw [val_main_v41_apply, r40 x0 x1 x3 f0 f1 f3]
    rfl
  · rename_i H
    rw [val_main_call5_v0_apply, val_main_c_16_apply, zero_int,
      Finset.sum_eq_zero fun q _ => by rw [a64_zero _ _ _ _ H, mul_zero]]

/-- A function of the head, the token and the lane at the index a row of all heads' lanes is read from. -/
theorem at_row (G : ℕ → ℕ → Fin 128 → EReal) (i : S8192x4x128.Idx) (j : S8192x512.Idx) (h0 : (i 0).val = (j 0).val) (h1 : (i 1).val = (j 1).val / 128)
    (h2 : (i 2).val = (j 1).val % 128) : G (i 1).val (i 0).val (i 2) = G ((j 1).val / 128) (j 0).val (inl (j 1)) := by
  have e : (i 2 : Fin 128) = inl (j 1) := Fin.ext h2
  exact congr (congr (congrArg G h1) h0) e

include f0 f1 f2 f3 in
theorem r66 : val_main_v66 (F := Ideal) x0 x1 x2 x3 = fun j : S8192x512.Idx => ((∑ q ∈ Finset.range 8192, RGS x0 x1 x2 x3 ((j 1).val / 128) (j 0).val q
    * RQ x0 ((j 1).val / 128) q (inl (j 1)) : ℝ) : EReal) := by
  funext j
  obtain ⟨e0, e1, e2⟩ := flat1 j
  rw [val_main_v66_apply, r65 x0 x1 x2 x3 f0 f1 f2 f3]
  exact at_row (fun h k d => ((∑ q ∈ Finset.range 8192, RGS x0 x1 x2 x3 h k q * RQ x0 h q d : ℝ) : EReal)) (idx_main_v66 j) j e0 e1 e2

include f0 f1 f3 in
theorem r68 : val_main_v68 (F := Ideal) x0 x1 x3 = fun j : S8192x512.Idx => ((∑ q ∈ Finset.range 8192,
    pr (RQ x0 ((j 1).val / 128)) (a96 x1 ((j 1).val / 128)) (RG x0 x1 ((j 1).val / 128)) (j 0).val q
    * a64 x3 ((j 1).val / 128) q (inl (j 1)) : ℝ) : EReal) := by
  funext j
  obtain ⟨e0, e1, e2⟩ := flat1 j
  rw [val_main_v68_apply, r67 x0 x1 x3 f0 f1 f3]
  exact at_row (fun h k d => ((∑ q ∈ Finset.range 8192, pr (RQ x0 h) (a96 x1 h) (RG x0 x1 h) k q * a64 x3 h q d : ℝ) : EReal)) (idx_main_v68 j) j e0 e1 e2
end

end Cert.ReferenceIdeal.Val
-- ==== Proof.Values.lean ====
/- The two programs' results are the same real formulas. -/
module

public import proofs.«01_k».proof.Defs
public import proofs.«01_k».proof.Proof.Launch
public import proofs.«01_k».proof.Proof.Finite
public import proofs.«01_k».proof.Proof.RefOut

@[expose] public section

noncomputable section

namespace Cert.Values

open Idealize.ShloMosaic Idealize.ShloMosaic.TcCoe Idealize.SL.Sem
open Cert.KernelIdeal.Val (Fin4 out_o out_dq out_dk out_dv)
open Cert.ReferenceIdeal.Val (r62 r64 r66 r68)

section
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

abbrev q := m ((c.tc : Thread Cert.KernelIdeal.nD Cert.KernelIdeal.τ).loc Cert.KernelIdeal.main_arg0)
abbrev k := m ((c.tc : Thread Cert.KernelIdeal.nD Cert.KernelIdeal.τ).loc Cert.KernelIdeal.main_arg1)
abbrev v := m ((c.tc : Thread Cert.KernelIdeal.nD Cert.KernelIdeal.τ).loc Cert.KernelIdeal.main_arg2)
abbrev ct := m ((c.tc : Thread Cert.KernelIdeal.nD Cert.KernelIdeal.τ).loc Cert.KernelIdeal.main_arg3)

variable (hf : Fin4 m c)
include hf

theorem same_o : Cert.ReferenceIdeal.Read.val_main_v62 (F := Ideal) (q m c) (k m c) (v m c) = Cert.KernelIdeal.Gen.W12 m ρ c (Proc.devRef .tc Cert.KernelIdeal.main_v11_0) :=
  (r62 _ _ _ hf.h0 hf.h1 hf.h2).trans (out_o m ρ c hf).symm

theorem same_dq : Cert.ReferenceIdeal.Read.val_main_v64 (F := Ideal) (q m c) (k m c) (v m c) (ct m c) = Cert.KernelIdeal.Gen.W12 m ρ c (Proc.devRef .tc Cert.KernelIdeal.main_v16) :=
  (r64 _ _ _ _ hf.h0 hf.h1 hf.h2 hf.h3).trans (out_dq m ρ c hf).symm

theorem same_dk : Cert.ReferenceIdeal.Read.val_main_v66 (F := Ideal) (q m c) (k m c) (v m c) (ct m c) = Cert.KernelIdeal.Gen.W12 m ρ c (Proc.devRef .tc Cert.KernelIdeal.main_v14_1) :=
  (r66 _ _ _ _ hf.h0 hf.h1 hf.h2 hf.h3).trans (out_dk m ρ c hf).symm

theorem same_dv : Cert.ReferenceIdeal.Read.val_main_v68 (F := Ideal) (q m c) (k m c) (ct m c) = Cert.KernelIdeal.Gen.W12 m ρ c (Proc.devRef .tc Cert.KernelIdeal.main_v14_2) :=
  (r68 _ _ _ hf.h0 hf.h1 hf.h3).trans (out_dv m ρ c hf).symm
end

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp ha
  have hf : ∀ c, Fin4 m c := fun c => by
    letI := Cert.Pre_finite.facts
    obtain ⟨h0, h1, h2, h3⟩ := Cert.Pre_finite.all_real (hp c)
    exact ⟨h0, h1, h2, h3⟩
  refine ⟨_, _, _, _, Cert.KernelIdeal.Val.run m g, (θ_run Cert.ReferenceIdeal.defs _ _).mono (fun r h c => ?_) (Cert.ReferenceIdeal.Value.run m' g')⟩
  obtain ⟨e0, e1, e2, e3⟩ := ha c
  obtain ⟨h0, h1, h2, h3, hr⟩ := h c
  refine ⟨(h0.trans (Cert.ReferenceIdeal.Read.val_main_v62_eq _ _ _)).trans ?_, (h1.trans (Cert.ReferenceIdeal.Read.val_main_v64_eq m' c)).trans ?_,
    (h2.trans (Cert.ReferenceIdeal.Read.val_main_v66_eq m' c)).trans ?_, (h3.trans (Cert.ReferenceIdeal.Read.val_main_v68_eq _ _ _)).trans ?_, hr⟩
  · rw [e0, e1, e2]; exact same_o m g c (hf c)
  · rw [e0, e1, e2, e3]; exact same_dq m g c (hf c)
  · rw [e0, e1, e2, e3]; exact same_dk m g c (hf c)
  · rw [e0, e1, e3]; exact same_dv m g c (hf c)

end Cert.Values
-- ==== Proof.Sums.lean ====
/- Sums of extended reals cut into runs of equal length. -/
module

public import Idealize.ShloMosaic.Lib.Pointwise

@[expose] public section

noncomputable section

namespace Cert.Sums

open Idealize.ShloMosaic

/-- A sum grows by the next `w` terms. -/
theorem grow (f : ℕ → EReal) (n w : ℕ) : ∑ k ∈ Finset.range (n + w), f k = ∑ k ∈ Finset.range n, f k + ∑ k : Fin w, f (n + k.val) := by
  rw [Finset.sum_range_add, Finset.sum_range (fun k => f (n + k))]

/-- A sum over the first `w` numbers is the sum over `Fin w`. -/
theorem start (f : ℕ → EReal) (w : ℕ) : ∑ k ∈ Finset.range w, f k = ∑ k : Fin w, f k.val := Finset.sum_range f

/-- The word of zero. -/
theorem zero_word : Ideal.ofBits FTy.f32 0x00000000#32 = 0 := by
  simp [Ideal.ofBits, Ideal.ieee]

end Cert.Sums
-- ==== Proof.Prod2.lean ====
/- The products of the feed-forward block with the matrix that widens it: a grid of tiles, each summed over 1 block of the inner axis, is the whole product. -/
module

public import proofs.«01_k».proof.Defs
public import proofs.«01_k».proof.Proof.Sums
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel2Ideal.Val

open Idealize.ShloMosaic Idealize.ShloMosaic.TcCoe Idealize.SL.Sem Cert.Kernel2Ideal Cert.Kernel2Ideal.Gen

section
variable (m : (ℓ : Loc nD τ sig) → Buf (Elt Ideal) ℓ) (c : Dev nD)

/-- The left factor. -/
abbrev A : S8192x1024.Idx → EReal := m ((c : Thread nD τ).loc main_arg0)
/-- The right factor. -/
abbrev B : S1024x5632.Idx → EReal := m ((c : Thread nD τ).loc main_arg1)

/-- Term `k` of the sum that is entry `(i, j)` of the product. -/
def term (i j k : ℕ) : EReal :=
  if h : i < 8192 ∧ j < 5632 ∧ k < 1024 then A m c (ix2 ⟨i, h.1⟩ ⟨k, h.2.2⟩) * B m c (ix2 ⟨k, h.2.2⟩ ⟨j, h.2.1⟩) else 0

theorem readA (y : S8192x1024.Idx) : (V m c main_v0 : S8192x1024.Idx → EReal) y = A m c y := by
  unfold V
  after_reads_at

theorem readB (y : S1024x5632.Idx) : (V m c main_v1 : S1024x5632.Idx → EReal) y = B m c y := by
  unfold V
  after_reads_at

theorem idx : ∀ t : Fin cfg0.N, win0_0.index t = ![t.val / 4, 0]
    ∧ win0_1.index t = ![0, t.val % 4]
    ∧ win0_2.index t = ![t.val / 4, t.val % 4] := by decide +kernel

/-- The blocks of the two factors at a grid point. -/
abbrev L (t : Fin cfg0.N) : S1024x1024.Idx → EReal := iblk m c 0 t
abbrev R (t : Fin cfg0.N) : S1024x1408.Idx → EReal := iblk m c 1 t

theorem blkA (t : Fin cfg0.N) (p : Fin 1024) (q : Fin 1024) (a b : ℕ) (ha : a < 8192) (hb : b < 1024)
    (ea : a = 1024 * (t.val / 4) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1408) (a b : ℕ) (ha : a < 1024) (hb : b < 5632)
    (ea : a = p.val) (eb : b = 1408 * (t.val % 4) + q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 1408) : k0_pay1 (F := Ideal) (ix2 p q) = 0 := by
  rw [← Sums.zero_word]
  pointwise [k0_pay1]

theorem pay2_at (x : Vec Ideal S1024x1024 .bf16) (y : Vec Ideal S1024x1408 .bf16) (z : Vec Ideal S1024x1408 .f32) (p : Fin 1024) (q : Fin 1408) :
    k0_pay2 (F := Ideal) x y z (ix2 p q) = z (ix2 p q) + ∑ k : Fin 1024, x (ix2 p k) * y (ix2 k q) := by
  pointwise [k0_pay2]

theorem sumBlk (t : Fin cfg0.N) (p : Fin 1024) (q : Fin 1408) :
    ∑ k : Fin 1024, L m c t (ix2 p k) * R m c t (ix2 k q) = ∑ k : Fin 1024, term m c (1024 * (t.val / 4) + p.val) (1408 * (t.val % 4) + q.val) (k.val) := by
  have ht : t.val < 32 := lt_of_lt_of_eq t.isLt N_0
  refine Finset.sum_congr rfl fun k _ => ?_
  unfold term
  rw [dif_pos ⟨by omega, by omega, by omega⟩, blkA m c t p k _ _ _ _ rfl rfl, blkB m c t k q _ _ _ _ rfl rfl]

/-- What the output's block holds after a grid point. -/
theorem last (t : Fin cfg0.N) (p : Fin 1024) (q : Fin 1408) :
    outsAt0 m c t (ix2 p q) = ∑ k ∈ Finset.range 1024, term m c (1024 * (t.val / 4) + p.val) (1408 * (t.val % 4) + q.val) k := by
  have e : outsAt0 m c t = (k0_pay2 (F := Ideal) (L m c t) (R m c t) (k0_pay1 (F := Ideal))) := by
    dsimp only [outsAt0]
    unfold out0_A_2 kernelRun0_A
    dsimp only
    unfold kernelRun0_A.sl.v16 kernelRun0_A.sl.HS0_2 View.readCov
    rw [View.read_writes_full, View.readAt_writes_full, View.readAt_full, View.readAt_full, (hs0_0 t).read_unread, (hs0_1 t).read_unread]
    unfold kernelRun0_A.sl.v7 kernelRun0_A.sl.HS0_1 View.readCov
    rw [View.readAt_writes_full]
  rw [e, pay2_at, pay1_at, sumBlk, zero_add, Sums.start]

/-- The product. -/
def prod : S8192x5632.Idx → EReal := fun j => ∑ k ∈ Finset.range 1024, term m c (j 0).val (j 1).val k

theorem eta (y : S1024x1408.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 32 := lt_of_lt_of_eq t.isLt N_0
  have hi := (idx t).2.2
  have h := last m c t (y 0) (y 1)
  have e0 : ((win0_2.blk t).view.emb y 0).val = 1024 * (t.val / 4) + (y 0).val := by blk_simp [hi] <;> omega
  have e1 : ((win0_2.blk t).view.emb y 1).val = 1408 * (t.val % 4) + (y 1).val := by blk_simp [hi] <;> omega
  rw [after0_2]
  generalize outsAt0 m c t = W at h ⊢
  refine (congrArg (fun z : S1024x1408.Idx => W z) (eta y)).trans (h.trans ?_)
  show _ = prod m c ((win0_2.blk t).view.emb y)
  unfold prod
  rw [e0, e1]

/-- The reference's product. -/
theorem ref (j : S8192x5632.Idx) : Cert.Reference2Ideal.Read.val_main_v0 (F := Ideal) (A m c) (B m c) j = prod m c j := by
  rw [Cert.Reference2Ideal.Read.val_main_v0_apply]
  unfold prod
  rw [Sums.start]
  refine Finset.sum_congr rfl fun k _ => ?_
  have h0 : (j 0).val < 8192 := (j 0).isLt
  have h1 : (j 1).val < 5632 := (j 1).isLt
  unfold term
  rw [dif_pos ⟨h0, h1, k.isLt⟩]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel2Ideal_Reference2Ideal (hKernel2Ideal := Cert.Kernel2Ideal.Gen.facts) (hReference2Ideal := Cert.Reference2Ideal.Gen.facts) := by
  intro m g m' g' _ ha
  refine ⟨_, Cert.Kernel2Ideal.Value.run_blocks m g, (θ_run Cert.Reference2Ideal.defs _ _).mono (fun r h c => ?_) (Cert.Reference2Ideal.Value.run m' g')⟩
  refine ⟨((h c).1.trans (Cert.Reference2Ideal.Read.val_main_v0_eq _ _)).trans ?_, (h c).2⟩
  obtain ⟨a0, a1⟩ := ha c
  rw [a0, a1]
  exact (funext fun j => ref m c j).trans (arr m c).symm

/-- The three frames. -/
theorem frame_kernel : Cert.quiescent_Kernel2 (hKernel2 := Cert.Kernel2.Gen.facts) := fun m ρ _ => Cert.Kernel2.Gen.frame m ρ

theorem frame_kernelIdeal : Cert.quiescent_Kernel2Ideal (hKernel2Ideal := Cert.Kernel2Ideal.Gen.facts) := fun m ρ _ => Cert.Kernel2Ideal.Gen.frame m ρ

theorem frame_referenceIdeal : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩) (Cert.Reference2Ideal.Value.run m ρ)

end Cert.Kernel2Ideal.Val
-- ==== Proof.Prod3.lean ====
/- The products of the feed-forward block with the matrix that narrows it, added to the residual stream: a grid of tiles, each summed over 2 blocks of the inner axis, is the whole product. -/
module

public import proofs.«01_k».proof.Defs
public import proofs.«01_k».proof.Proof.Sums
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel3Ideal.Val

open Idealize.ShloMosaic Idealize.ShloMosaic.TcCoe Idealize.SL.Sem Cert.Kernel3Ideal Cert.Kernel3Ideal.Gen

section
variable (m : (ℓ : Loc nD τ sig) → Buf (Elt Ideal) ℓ) (c : Dev nD)

/-- The left factor. -/
abbrev A : S8192x2816.Idx → EReal := m ((c : Thread nD τ).loc main_arg0)
/-- The right factor. -/
abbrev B : S2816x1024.Idx → EReal := m ((c : Thread nD τ).loc main_arg1)
/-- What the product is added to. -/
abbrev D : S8192x1024.Idx → EReal := m ((c : Thread nD τ).loc main_arg2)

/-- Term `k` of the sum that is entry `(i, j)` of the product. -/
def term (i j k : ℕ) : EReal :=
  if h : i < 8192 ∧ j < 1024 ∧ k < 2816 then A m c (ix2 ⟨i, h.1⟩ ⟨k, h.2.2⟩) * B m c (ix2 ⟨k, h.2.2⟩ ⟨j, h.2.1⟩) else 0

theorem readA (y : S8192x2816.Idx) : (V m c main_v0 : S8192x2816.Idx → EReal) y = A m c y := by
  unfold V
  after_reads_at

theorem readB (y : S2816x1024.Idx) : (V m c main_v1 : S2816x1024.Idx → EReal) y = B m c y := by
  unfold V
  after_reads_at

theorem readD (y : S8192x1024.Idx) : (V m c main_arg2 : S8192x1024.Idx → EReal) y = D m c y := by
  rw [V_main_arg2]

theorem idx : ∀ t : Fin cfg0.N, win0_0.index t = ![t.val / 2, t.val % 2]
    ∧ win0_1.index t = ![t.val % 2, 0]
    ∧ win0_2.index t = ![t.val / 2, 0]
    ∧ win0_3.index t = ![t.val / 2, 0] := by decide +kernel

/-- The blocks of the two factors and of the summand at a grid point. -/
abbrev L (t : Fin cfg0.N) : S1024x1408.Idx → EReal := iblk m c 0 t
abbrev R (t : Fin cfg0.N) : S1408x1024.Idx → EReal := iblk m c 1 t
abbrev E (t : Fin cfg0.N) : S1024x1024.Idx → EReal := iblk m c 2 t

theorem blkA (t : Fin cfg0.N) (p : Fin 1024) (q : Fin 1408) (a b : ℕ) (ha : a < 8192) (hb : b < 2816)
    (ea : a = 1024 * (t.val / 2) + p.val) (eb : b = 1408 * (t.val % 2) + q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1408) (q : Fin 1024) (a b : ℕ) (ha : a < 2816) (hb : b < 1024)
    (ea : a = 1408 * (t.val % 2) + p.val) (eb : b = q.val) :
    R m c t (ix2 p q) = B m c (ix2 ⟨a, ha⟩ ⟨b, hb⟩) := by
  have hx := (idx t).2.1
  subst ea eb
  refine Eq.trans ?_ (readB m c _)
  blk_ext [R, iblk, hx]

theorem blkD (t : Fin cfg0.N) (p : Fin 1024) (q : Fin 1024) (a b : ℕ) (ha : a < 8192) (hb : b < 1024)
    (ea : a = 1024 * (t.val / 2) + p.val) (eb : b = q.val) :
    E m c t (ix2 p q) = D m c (ix2 ⟨a, ha⟩ ⟨b, hb⟩) := by
  have hx := (idx t).2.2.1
  subst ea eb
  refine Eq.trans ?_ (readD m c _)
  blk_ext [E, iblk, hx]

theorem pay1_at (p : Fin 1024) (q : Fin 1024) : k0_pay1 (F := Ideal) (ix2 p q) = 0 := by
  rw [← Sums.zero_word]
  pointwise [k0_pay1]

theorem pay2_at (x : Vec Ideal S1024x1408 .bf16) (y : Vec Ideal S1408x1024 .bf16) (z : Vec Ideal S1024x1024 .f32) (p : Fin 1024) (q : Fin 1024) :
    k0_pay2 (F := Ideal) x y z (ix2 p q) = z (ix2 p q) + ∑ k : Fin 1408, x (ix2 p k) * y (ix2 k q) := by
  pointwise [k0_pay2]

theorem pay3_at (x y : Vec Ideal S1024x1024 .f32) (p : Fin 1024) (q : Fin 1024) :
    k0_pay3 (F := Ideal) x y (ix2 p q) = x (ix2 p q) + y (ix2 p q) := by
  pointwise [k0_pay3]

theorem sumBlk (t : Fin cfg0.N) (p : Fin 1024) (q : Fin 1024) :
    ∑ k : Fin 1408, L m c t (ix2 p k) * R m c t (ix2 k q) = ∑ k : Fin 1408, term m c (1024 * (t.val / 2) + p.val) (q.val) (1408 * (t.val % 2) + k.val) := by
  have ht : t.val < 16 := lt_of_lt_of_eq t.isLt N_0
  refine Finset.sum_congr rfl fun k _ => ?_
  unfold term
  rw [dif_pos ⟨by omega, by omega, by omega⟩, blkA m c t p k _ _ _ _ rfl rfl, blkB m c t k q _ _ _ _ rfl rfl]

theorem first (t : Fin cfg0.N) (h : t.val % 2 = 0) :
    (outsAt0 m c t.val t.isLt).2 = k0_pay2 (F := Ideal) (L m c t) (R m c t) (k0_pay1 (F := Ideal)) := by
  rw [outsAt0_A m c t h (by omega)]
  dsimp only
  unfold sout0_A_0 kernelRun0_A
  dsimp only
  rw [View.read_writes_full, View.readAt_full, View.readAt_full, (hs0_0 t).read_unread, (hs0_1 t).read_unread]
  unfold kernelRun0_A.sl.v7 kernelRun0_A.sl.HS0_1 View.readCov
  rw [View.readAt_writes_full]

theorem next (t : Fin cfg0.N) (h : ¬t.val % 2 = 0) :
    (outsAt0 m c t.val t.isLt).2 = k0_pay2 (F := Ideal) (L m c t) (R m c t) (outsAt0 m c (t.val - 1) (Nat.lt_of_le_of_lt (Nat.sub_le _ _) t.isLt)).2 := by
  have h1 : t.val % 2 = 1 := by omega
  · rw [outsAt0_B m c t h h1]
    dsimp only
    unfold sout0_B_0 kernelRun0_B
    dsimp only
    unfold kernelRun0_B.sl.HS0_1
    rw [View.read_writes_full, View.readAt_full, View.readAt_full, View.readAt_full, (hs0_0 t).read_unread, (hs0_1 t).read_unread, (Memref.isWhole_whole _).read_unread]

/-- What the accumulator holds after a grid point. -/
theorem acc : ∀ (n : ℕ) (hn : n < cfg0.N) (p : Fin 1024) (q : Fin 1024),
    (outsAt0 m c n hn).2 (ix2 p q) = ∑ k ∈ Finset.range (1408 * (n % 2) + 1408), term m c (1024 * (n / 2) + p.val) (q.val) k := by
  intro n
  induction n using Nat.strong_induction_on with
  | _ n ih =>
    intro hn p q
    rw [Sums.grow, ← sumBlk m c ⟨n, hn⟩]
    by_cases h : n % 2 = 0
    · refine (congrFun (first m c ⟨n, hn⟩ h) (ix2 p q)).trans ?_
      rw [pay2_at, pay1_at, h, Finset.range_zero, Finset.sum_empty]
    · refine (congrFun (next m c ⟨n, hn⟩ h) (ix2 p q)).trans ?_
      rw [pay2_at, ih (n - 1) (by omega)]
      have e0 : 1408 * ((n - 1) % 2) + 1408 = 1408 * (n % 2) := by omega
      have e1 : (n - 1) / 2 = n / 2 := by omega
      rw [e0, e1]

/-- What the output's block holds at the last point of a run. -/
theorem last (t : Fin cfg0.N) (h : t.val % 2 = 1) (p : Fin 1024) (q : Fin 1024) :
    (outsAt0 m c t.val t.isLt).1 (ix2 p q) = E m c t (ix2 p q) + ∑ k ∈ Finset.range 2816, term m c (1024 * (t.val / 2) + p.val) (q.val) k := by
  have e : (outsAt0 m c t.val t.isLt).1 = k0_pay3 (F := Ideal) (outsAt0 m c t.val t.isLt).2 (E m c t) := by
    rw [outsAt0_B m c t (by omega) h]
    dsimp only
    unfold out0_B_3 sout0_B_0 kernelRun0_B
    dsimp only
    unfold kernelRun0_B.sl.v16 kernelRun0_B.sl.HS0_1 View.readCov
    rw [View.read_writes_full, View.read_writes_full, View.readAt_writes_full, View.readAt_full _ ((hs0_2 t).unread _), (hs0_2 t).read_unread]
  rw [e, pay3_at, acc, h, add_comm]

/-- The product added to its summand. -/
def prod : S8192x1024.Idx → EReal := fun j => D m c j + ∑ k ∈ Finset.range 2816, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 3 cfg0.N = prod m c := by
  refine (dats m 0 c).arrAt_eq_of_covers 3 _ (by decide +kernel) fun t hf y => ?_
  have ht : t.val < 16 := lt_of_lt_of_eq t.isLt N_0
  have hi := (idx t).2.2.2
  have h := last m c t ((flush0_3 t).mp hf) (y 0) (y 1)
  have e0 : ((win0_3.blk t).view.emb y 0).val = 1024 * (t.val / 2) + (y 0).val := by blk_simp [hi] <;> omega
  have e1 : ((win0_3.blk t).view.emb y 1).val = (y 1).val := by blk_simp [hi]
  rw [after0_3]
  rw [blkD m c t (y 0) (y 1) _ _ ((win0_3.blk t).view.emb y 0).isLt ((win0_3.blk t).view.emb y 1).isLt e0 e1] at h
  generalize (outsAt0 m c t.val t.isLt).1 = W at h ⊢
  refine (congrArg (fun z : S1024x1024.Idx => W z) (eta y)).trans (h.trans ?_)
  show _ = prod m c ((win0_3.blk t).view.emb y)
  unfold prod
  refine congrArg₂ (· + ·) (congrArg (D m c) (funext fun a => ?_)) ?_
  · match a with
    | ⟨0, _⟩ => rfl
    | ⟨1, _⟩ => rfl
  · rw [e0, e1]

/-- The reference's product. -/
theorem ref (j : S8192x1024.Idx) : Cert.Reference3Ideal.Read.val_main_v1 (F := Ideal) (A m c) (B m c) (D m c) j = prod m c j := by
  rw [Cert.Reference3Ideal.Read.val_main_v1_apply, Cert.Reference3Ideal.Read.val_main_v0_apply]
  unfold prod
  rw [Sums.start]
  refine congrArg (D m c j + ·) ?_
  refine Finset.sum_congr rfl fun k _ => ?_
  have h0 : (j 0).val < 8192 := (j 0).isLt
  have h1 : (j 1).val < 1024 := (j 1).isLt
  unfold term
  rw [dif_pos ⟨h0, h1, k.isLt⟩]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel3Ideal_Reference3Ideal (hKernel3Ideal := Cert.Kernel3Ideal.Gen.facts) (hReference3Ideal := Cert.Reference3Ideal.Gen.facts) := by
  intro m g m' g' _ ha
  refine ⟨_, Cert.Kernel3Ideal.Value.run_blocks m g, (θ_run Cert.Reference3Ideal.defs _ _).mono (fun r h c => ?_) (Cert.Reference3Ideal.Value.run m' g')⟩
  refine ⟨((h c).1.trans (Cert.Reference3Ideal.Read.val_main_v1_eq _ _ _)).trans ?_, (h c).2⟩
  obtain ⟨a0, a1, a2⟩ := ha c
  rw [a0, a1, a2]
  exact (funext fun j => ref m c j).trans (arr m c).symm

/-- The three frames. -/
theorem frame_kernel : Cert.quiescent_Kernel3 (hKernel3 := Cert.Kernel3.Gen.facts) := fun m ρ _ => Cert.Kernel3.Gen.frame m ρ

theorem frame_kernelIdeal : Cert.quiescent_Kernel3Ideal (hKernel3Ideal := Cert.Kernel3Ideal.Gen.facts) := fun m ρ _ => Cert.Kernel3Ideal.Gen.frame m ρ

theorem frame_referenceIdeal : Cert.quiescent_Reference3Ideal (hReference3Ideal := Cert.Reference3Ideal.Gen.facts) := fun m ρ _ =>
  (θ_run Cert.Reference3Ideal.defs _ _).mono (fun r h => ⟨fun c => (h c).2, sem_eq_zero_of_no_sems rfl r.2⟩) (Cert.Reference3Ideal.Value.run m ρ)

end Cert.Kernel3Ideal.Val
-- ==== Proof.Prod4.lean ====
/- The gradient of the matrix that narrows the feed-forward block: a grid of tiles, each summed over 8 blocks of the inner axis, is the whole product. -/
module

public import proofs.«01_k».proof.Defs
public import proofs.«01_k».proof.Proof.Sums
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel4Ideal.Val

open Idealize.ShloMosaic Idealize.ShloMosaic.TcCoe Idealize.SL.Sem Cert.Kernel4Ideal Cert.Kernel4Ideal.Gen

section
variable (m : (ℓ : Loc nD τ sig) → Buf (Elt Ideal) ℓ) (c : Dev nD)

/-- The left factor. -/
abbrev A : S8192x2816.Idx → EReal := m ((c : Thread nD τ).loc main_arg0)
/-- The right factor. -/
abbrev B : S8192x1024.Idx → EReal := m ((c : Thread nD τ).loc main_arg1)

/-- Term `k` of the sum that is entry `(i, j)` of the product. -/
def term (i j k : ℕ) : EReal :=
  if h : i < 2816 ∧ j < 1024 ∧ k < 8192 then A m c (ix2 ⟨k, h.2.2⟩ ⟨i, h.1⟩) * B m c (ix2 ⟨k, h.2.2⟩ ⟨j, h.2.1⟩) else 0

theorem readA (y : S8192x2816.Idx) : (V m c main_v0 : S8192x2816.Idx → EReal) y = A m c y := by
  unfold V
  after_reads_at

theorem readB (y : S8192x1024.Idx) : (V m c main_arg1 : S8192x1024.Idx → EReal) y = B m c y := by
  rw [V_main_arg1]

theorem idx : ∀ t : Fin cfg0.N, win0_0.index t = ![t.val % 8, t.val / 8]
    ∧ win0_1.index t = ![t.val % 8, 0]
    ∧ win0_2.index t = ![t.val / 8, 0] := by decide +kernel

/-- The blocks of the two factors at a grid point. -/
abbrev L (t : Fin cfg0.N) : S1024x1408.Idx → EReal := iblk m c 0 t
abbrev R (t : Fin cfg0.N) : S1024x1024.Idx → EReal := iblk m c 1 t

theorem blkA (t : Fin cfg0.N) (p : Fin 1024) (q : Fin 1408) (a b : ℕ) (ha : a < 8192) (hb : b < 2816)
    (ea : a = 1024 * (t.val % 8) + p.val) (eb : b = 1408 * (t.val / 8) + q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1024) (a b : ℕ) (ha : a < 8192) (hb : b < 1024)
    (ea : a = 1024 * (t.val % 8) + p.val) (eb : b = q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1408) (q : Fin 1024) : k0_pay1 (F := Ideal) (ix2 p q) = 0 := by
  rw [← Sums.zero_word]
  pointwise [k0_pay1]

theorem pay2_at (x : Vec Ideal S1024x1408 .bf16) (y : Vec Ideal S1024x1024 .f32) (z : Vec Ideal S1408x1024 .f32) (p : Fin 1408) (q : Fin 1024) :
    k0_pay2 (F := Ideal) x y z (ix2 p q) = z (ix2 p q) + ∑ k : Fin 1024, x (ix2 k p) * y (ix2 k q) := by
  pointwise [k0_pay2]

theorem sumBlk (t : Fin cfg0.N) (p : Fin 1408) (q : Fin 1024) :
    ∑ k : Fin 1024, L m c t (ix2 k p) * R m c t (ix2 k q) = ∑ k : Fin 1024, term m c (1408 * (t.val / 8) + p.val) (q.val) (1024 * (t.val % 8) + k.val) := by
  have ht : t.val < 16 := lt_of_lt_of_eq t.isLt N_0
  refine Finset.sum_congr rfl fun k _ => ?_
  unfold term
  rw [dif_pos ⟨by omega, by omega, by omega⟩, blkA m c t k p _ _ _ _ rfl rfl, blkB m c t k q _ _ _ _ rfl rfl]

theorem first (t : Fin cfg0.N) (h : t.val % 8 = 0) :
    (outsAt0 m c t.val t.isLt).2 = k0_pay2 (F := Ideal) (L m c t) (R m c t) (k0_pay1 (F := Ideal)) := by
  rw [outsAt0_A m c t h (by omega)]
  dsimp only
  unfold sout0_A_0 kernelRun0_A
  dsimp only
  rw [View.read_writes_full, View.readAt_full, View.readAt_full, (hs0_0 t).read_unread, (hs0_1 t).read_unread]
  unfold kernelRun0_A.sl.v7 kernelRun0_A.sl.HS0_1 View.readCov
  rw [View.readAt_writes_full]

theorem next (t : Fin cfg0.N) (h : ¬t.val % 8 = 0) :
    (outsAt0 m c t.val t.isLt).2 = k0_pay2 (F := Ideal) (L m c t) (R m c t) (outsAt0 m c (t.val - 1) (Nat.lt_of_le_of_lt (Nat.sub_le _ _) t.isLt)).2 := by
  by_cases h1 : t.val % 8 = 7
  · rw [outsAt0_C m c t h h1]
    dsimp only
    unfold sout0_C_0 kernelRun0_C
    dsimp only
    unfold kernelRun0_C.sl.HS0_1
    rw [View.read_writes_full, View.readAt_full, View.readAt_full, View.readAt_full, (hs0_0 t).read_unread, (hs0_1 t).read_unread, (Memref.isWhole_whole _).read_unread]
  · rw [outsAt0_B m c t h h1]
    dsimp only
    unfold sout0_B_0 kernelRun0_B
    dsimp only
    rw [View.read_writes_full, View.readAt_full, View.readAt_full, View.readAt_full, (hs0_0 t).read_unread, (hs0_1 t).read_unread, (Memref.isWhole_whole _).read_unread]

/-- What the accumulator holds after a grid point. -/
theorem acc : ∀ (n : ℕ) (hn : n < cfg0.N) (p : Fin 1408) (q : Fin 1024),
    (outsAt0 m c n hn).2 (ix2 p q) = ∑ k ∈ Finset.range (1024 * (n % 8) + 1024), term m c (1408 * (n / 8) + p.val) (q.val) k := by
  intro n
  induction n using Nat.strong_induction_on with
  | _ n ih =>
    intro hn p q
    rw [Sums.grow, ← sumBlk m c ⟨n, hn⟩]
    by_cases h : n % 8 = 0
    · refine (congrFun (first m c ⟨n, hn⟩ h) (ix2 p q)).trans ?_
      rw [pay2_at, pay1_at, h, Finset.range_zero, Finset.sum_empty]
    · refine (congrFun (next m c ⟨n, hn⟩ h) (ix2 p q)).trans ?_
      rw [pay2_at, ih (n - 1) (by omega)]
      have e0 : 1024 * ((n - 1) % 8) + 1024 = 1024 * (n % 8) := by omega
      have e1 : (n - 1) / 8 = n / 8 := by omega
      rw [e0, e1]

/-- What the output's block holds at the last point of a run. -/
theorem last (t : Fin cfg0.N) (h : t.val % 8 = 7) (p : Fin 1408) (q : Fin 1024) :
    (outsAt0 m c t.val t.isLt).1 (ix2 p q) = ∑ k ∈ Finset.range 8192, term m c (1408 * (t.val / 8) + p.val) (q.val) k := by
  have e : (outsAt0 m c t.val t.isLt).1 = (outsAt0 m c t.val t.isLt).2 := by
    rw [outsAt0_C m c t (by omega) h]
    dsimp only
    unfold out0_C_2 sout0_C_0 kernelRun0_C
    dsimp only
    unfold kernelRun0_C.sl.v16 kernelRun0_C.sl.HS0_1 View.readCov
    rw [View.read_writes_full, View.read_writes_full, View.readAt_writes_full]
  rw [e, acc, h]

/-- The product. -/
def prod : S2816x1024.Idx → EReal := fun j => ∑ k ∈ Finset.range 8192, term m c (j 0).val (j 1).val k

theorem eta (y : S1408x1024.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 16 := lt_of_lt_of_eq t.isLt N_0
  have hi := (idx t).2.2
  have h := last m c t ((flush0_2 t).mp hf) (y 0) (y 1)
  have e0 : ((win0_2.blk t).view.emb y 0).val = 1408 * (t.val / 8) + (y 0).val := by blk_simp [hi] <;> omega
  have e1 : ((win0_2.blk t).view.emb y 1).val = (y 1).val := by blk_simp [hi]
  rw [after0_2]
  generalize (outsAt0 m c t.val t.isLt).1 = W at h ⊢
  refine (congrArg (fun z : S1408x1024.Idx => W z) (eta y)).trans (h.trans ?_)
  show _ = prod m c ((win0_2.blk t).view.emb y)
  unfold prod
  rw [e0, e1]

/-- The reference's product. -/
theorem ref (j : S2816x1024.Idx) : Cert.Reference4Ideal.Read.val_main_v3 (F := Ideal) (A m c) (B m c) j = prod m c j := by
  rw [Cert.Reference4Ideal.Read.val_main_v3_apply, Cert.Reference4Ideal.Read.val_main_v2_apply]
  unfold prod
  rw [Sums.start]
  refine Finset.sum_congr rfl fun k _ => ?_
  have h0 : (j 0).val < 2816 := (j 0).isLt
  have h1 : (j 1).val < 1024 := (j 1).isLt
  unfold term
  rw [dif_pos ⟨h0, h1, k.isLt⟩, mul_comm]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel4Ideal_Reference4Ideal (hKernel4Ideal := Cert.Kernel4Ideal.Gen.facts) (hReference4Ideal := Cert.Reference4Ideal.Gen.facts) := by
  intro m g m' g' _ ha
  refine ⟨_, Cert.Kernel4Ideal.Value.run_blocks m g, (θ_run Cert.Reference4Ideal.defs _ _).mono (fun r h c => ?_) (Cert.Reference4Ideal.Value.run m' g')⟩
  refine ⟨((h c).1.trans (Cert.Reference4Ideal.Read.val_main_v3_eq _ _)).trans ?_, (h c).2⟩
  obtain ⟨a0, a1⟩ := ha c
  rw [a0, a1]
  exact (funext fun j => ref m c j).trans (arr m c).symm

/-- The three frames. -/
theorem frame_kernel : Cert.quiescent_Kernel4 (hKernel4 := Cert.Kernel4.Gen.facts) := fun m ρ _ => Cert.Kernel4.Gen.frame m ρ

theorem frame_kernelIdeal : Cert.quiescent_Kernel4Ideal (hKernel4Ideal := Cert.Kernel4Ideal.Gen.facts) := fun m ρ _ => Cert.Kernel4Ideal.Gen.frame m ρ

theorem frame_referenceIdeal : Cert.quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩) (Cert.Reference4Ideal.Value.run m ρ)

end Cert.Kernel4Ideal.Val
-- ==== Proof.Prod5.lean ====
/- The gradient of what the narrowing matrix multiplies: a grid of tiles, each summed over 1 block of the inner axis, is the whole product. -/
module

public import proofs.«01_k».proof.Defs
public import proofs.«01_k».proof.Proof.Sums
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel5Ideal.Val

open Idealize.ShloMosaic Idealize.ShloMosaic.TcCoe Idealize.SL.Sem Cert.Kernel5Ideal Cert.Kernel5Ideal.Gen

section
variable (m : (ℓ : Loc nD τ sig) → Buf (Elt Ideal) ℓ) (c : Dev nD)

/-- The left factor. -/
abbrev A : S8192x1024.Idx → EReal := m ((c : Thread nD τ).loc main_arg1)
/-- The right factor. -/
abbrev B : S2816x1024.Idx → EReal := m ((c : Thread nD τ).loc main_arg0)

/-- Term `k` of the sum that is entry `(i, j)` of the product. -/
def term (i j k : ℕ) : EReal :=
  if h : i < 8192 ∧ j < 2816 ∧ k < 1024 then A m c (ix2 ⟨i, h.1⟩ ⟨k, h.2.2⟩) * B m c (ix2 ⟨j, h.2.1⟩ ⟨k, h.2.2⟩) else 0

theorem readA (y : S8192x1024.Idx) : (V m c main_arg1 : S8192x1024.Idx → EReal) y = A m c y := by
  rw [V_main_arg1]

theorem readB (y : S2816x1024.Idx) : (V m c main_v0 : S2816x1024.Idx → EReal) y = B m c y := by
  unfold V
  after_reads_at

theorem idx : ∀ t : Fin cfg0.N, win0_0.index t = ![t.val / 2, 0]
    ∧ win0_1.index t = ![t.val % 2, 0]
    ∧ win0_2.index t = ![t.val / 2, t.val % 2] := by decide +kernel

/-- The blocks of the two factors at a grid point. -/
abbrev L (t : Fin cfg0.N) : S1024x1024.Idx → EReal := iblk m c 0 t
abbrev R (t : Fin cfg0.N) : S1408x1024.Idx → EReal := iblk m c 1 t

theorem blkA (t : Fin cfg0.N) (p : Fin 1024) (q : Fin 1024) (a b : ℕ) (ha : a < 8192) (hb : b < 1024)
    (ea : a = 1024 * (t.val / 2) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1408) (q : Fin 1024) (a b : ℕ) (ha : a < 2816) (hb : b < 1024)
    (ea : a = 1408 * (t.val % 2) + p.val) (eb : b = q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 1408) : k0_pay1 (F := Ideal) (ix2 p q) = 0 := by
  rw [← Sums.zero_word]
  pointwise [k0_pay1]

theorem pay2_at (x : Vec Ideal S1024x1024 .f32) (y : Vec Ideal S1408x1024 .bf16) (z : Vec Ideal S1024x1408 .f32) (p : Fin 1024) (q : Fin 1408) :
    k0_pay2 (F := Ideal) x y z (ix2 p q) = z (ix2 p q) + ∑ k : Fin 1024, x (ix2 p k) * y (ix2 q k) := by
  pointwise [k0_pay2]

theorem pay3_at (x : Vec Ideal S1024x1408 .f32) (p : Fin 1024) (q : Fin 1408) : k0_pay3 (F := Ideal) x (ix2 p q) = x (ix2 p q) := by
  pointwise [k0_pay3]

theorem sumBlk (t : Fin cfg0.N) (p : Fin 1024) (q : Fin 1408) :
    ∑ k : Fin 1024, L m c t (ix2 p k) * R m c t (ix2 q k) = ∑ k : Fin 1024, term m c (1024 * (t.val / 2) + p.val) (1408 * (t.val % 2) + q.val) (k.val) := by
  have ht : t.val < 16 := lt_of_lt_of_eq t.isLt N_0
  refine Finset.sum_congr rfl fun k _ => ?_
  unfold term
  rw [dif_pos ⟨by omega, by omega, by omega⟩, blkA m c t p k _ _ _ _ rfl rfl, blkB m c t q k _ _ _ _ rfl rfl]

/-- What the output's block holds after a grid point. -/
theorem last (t : Fin cfg0.N) (p : Fin 1024) (q : Fin 1408) :
    outsAt0 m c t (ix2 p q) = ∑ k ∈ Finset.range 1024, term m c (1024 * (t.val / 2) + p.val) (1408 * (t.val % 2) + q.val) k := by
  have e : outsAt0 m c t = k0_pay3 (F := Ideal) (k0_pay2 (F := Ideal) (L m c t) (R m c t) (k0_pay1 (F := Ideal))) := by
    dsimp only [outsAt0]
    unfold out0_A_2 kernelRun0_A
    dsimp only
    unfold kernelRun0_A.sl.v16 kernelRun0_A.sl.HS0_2 View.readCov
    rw [View.read_writes_full, View.readAt_writes_full, View.readAt_full, View.readAt_full, (hs0_0 t).read_unread, (hs0_1 t).read_unread]
    unfold kernelRun0_A.sl.v7 kernelRun0_A.sl.HS0_1 View.readCov
    rw [View.readAt_writes_full]
  rw [e, pay3_at, pay2_at, pay1_at, sumBlk, zero_add, Sums.start]

/-- The product. -/
def prod : S8192x2816.Idx → EReal := fun j => ∑ k ∈ Finset.range 1024, term m c (j 0).val (j 1).val k

theorem eta (y : S1024x1408.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 16 := lt_of_lt_of_eq t.isLt N_0
  have hi := (idx t).2.2
  have h := last m c t (y 0) (y 1)
  have e0 : ((win0_2.blk t).view.emb y 0).val = 1024 * (t.val / 2) + (y 0).val := by blk_simp [hi] <;> omega
  have e1 : ((win0_2.blk t).view.emb y 1).val = 1408 * (t.val % 2) + (y 1).val := by blk_simp [hi] <;> omega
  rw [after0_2]
  generalize outsAt0 m c t = W at h ⊢
  refine (congrArg (fun z : S1024x1408.Idx => W z) (eta y)).trans (h.trans ?_)
  show _ = prod m c ((win0_2.blk t).view.emb y)
  unfold prod
  rw [e0, e1]

/-- The reference's product. -/
theorem ref (j : S8192x2816.Idx) : Cert.Reference5Ideal.Read.val_main_v3 (F := Ideal) (B m c) (A m c) j = prod m c j := by
  rw [Cert.Reference5Ideal.Read.val_main_v3_apply, Cert.Reference5Ideal.Read.val_main_v2_apply]
  unfold prod
  rw [Sums.start]
  refine Finset.sum_congr rfl fun k _ => ?_
  have h0 : (j 0).val < 8192 := (j 0).isLt
  have h1 : (j 1).val < 2816 := (j 1).isLt
  unfold term
  rw [dif_pos ⟨h0, h1, k.isLt⟩]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel5Ideal_Reference5Ideal (hKernel5Ideal := Cert.Kernel5Ideal.Gen.facts) (hReference5Ideal := Cert.Reference5Ideal.Gen.facts) := by
  intro m g m' g' _ ha
  refine ⟨_, Cert.Kernel5Ideal.Value.run_blocks m g, (θ_run Cert.Reference5Ideal.defs _ _).mono (fun r h c => ?_) (Cert.Reference5Ideal.Value.run m' g')⟩
  refine ⟨((h c).1.trans (Cert.Reference5Ideal.Read.val_main_v3_eq _ _)).trans ?_, (h c).2⟩
  obtain ⟨a0, a1⟩ := ha c
  rw [a0, a1]
  exact (funext fun j => ref m c j).trans (arr m c).symm

/-- The three frames. -/
theorem frame_kernel : Cert.quiescent_Kernel5 (hKernel5 := Cert.Kernel5.Gen.facts) := fun m ρ _ => Cert.Kernel5.Gen.frame m ρ

theorem frame_kernelIdeal : Cert.quiescent_Kernel5Ideal (hKernel5Ideal := Cert.Kernel5Ideal.Gen.facts) := fun m ρ _ => Cert.Kernel5Ideal.Gen.frame m ρ

theorem frame_referenceIdeal : Cert.quiescent_Reference5Ideal (hReference5Ideal := Cert.Reference5Ideal.Gen.facts) := fun m ρ _ =>
  (θ_run Cert.Reference5Ideal.defs _ _).mono (fun r h => ⟨fun c => (h c).2, sem_eq_zero_of_no_sems rfl r.2⟩) (Cert.Reference5Ideal.Value.run m ρ)

end Cert.Kernel5Ideal.Val
-- ==== Proof.Prod6.lean ====
/- The gradient of one half of the matrix that widens the feed-forward block: a grid of tiles, each summed over 8 blocks of the inner axis, is the whole product. -/
module

public import proofs.«01_k».proof.Defs
public import proofs.«01_k».proof.Proof.Sums
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel6Ideal.Val

open Idealize.ShloMosaic Idealize.ShloMosaic.TcCoe Idealize.SL.Sem Cert.Kernel6Ideal Cert.Kernel6Ideal.Gen

section
variable (m : (ℓ : Loc nD τ sig) → Buf (Elt Ideal) ℓ) (c : Dev nD)

/-- The left factor. -/
abbrev A : S8192x1024.Idx → EReal := m ((c : Thread nD τ).loc main_arg0)
/-- The right factor. -/
abbrev B : S8192x2816.Idx → EReal := m ((c : Thread nD τ).loc main_arg1)

/-- Term `k` of the sum that is entry `(i, j)` of the product. -/
def term (i j k : ℕ) : EReal :=
  if h : i < 1024 ∧ j < 2816 ∧ k < 8192 then A m c (ix2 ⟨k, h.2.2⟩ ⟨i, h.1⟩) * B m c (ix2 ⟨k, h.2.2⟩ ⟨j, h.2.1⟩) else 0

theorem readA (y : S8192x1024.Idx) : (V m c main_v0 : S8192x1024.Idx → EReal) y = A m c y := by
  unfold V
  after_reads_at

theorem readB (y : S8192x2816.Idx) : (V m c main_v1 : S8192x2816.Idx → EReal) y = B m c y := by
  unfold V
  after_reads_at

theorem idx : ∀ t : Fin cfg0.N, win0_0.index t = ![t.val % 8, 0]
    ∧ win0_1.index t = ![t.val % 8, t.val / 8]
    ∧ win0_2.index t = ![0, t.val / 8] := by decide +kernel

/-- The blocks of the two factors at a grid point. -/
abbrev L (t : Fin cfg0.N) : S1024x1024.Idx → EReal := iblk m c 0 t
abbrev R (t : Fin cfg0.N) : S1024x1408.Idx → EReal := iblk m c 1 t

theorem blkA (t : Fin cfg0.N) (p : Fin 1024) (q : Fin 1024) (a b : ℕ) (ha : a < 8192) (hb : b < 1024)
    (ea : a = 1024 * (t.val % 8) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1408) (a b : ℕ) (ha : a < 8192) (hb : b < 2816)
    (ea : a = 1024 * (t.val % 8) + p.val) (eb : b = 1408 * (t.val / 8) + q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 1408) : k0_pay1 (F := Ideal) (ix2 p q) = 0 := by
  rw [← Sums.zero_word]
  pointwise [k0_pay1]

theorem pay2_at (x : Vec Ideal S1024x1024 .bf16) (y : Vec Ideal S1024x1408 .bf16) (z : Vec Ideal S1024x1408 .f32) (p : Fin 1024) (q : Fin 1408) :
    k0_pay2 (F := Ideal) x y z (ix2 p q) = z (ix2 p q) + ∑ k : Fin 1024, x (ix2 k p) * y (ix2 k q) := by
  pointwise [k0_pay2]

theorem sumBlk (t : Fin cfg0.N) (p : Fin 1024) (q : Fin 1408) :
    ∑ k : Fin 1024, L m c t (ix2 k p) * R m c t (ix2 k q) = ∑ k : Fin 1024, term m c (p.val) (1408 * (t.val / 8) + q.val) (1024 * (t.val % 8) + k.val) := by
  have ht : t.val < 16 := lt_of_lt_of_eq t.isLt N_0
  refine Finset.sum_congr rfl fun k _ => ?_
  unfold term
  rw [dif_pos ⟨by omega, by omega, by omega⟩, blkA m c t k p _ _ _ _ rfl rfl, blkB m c t k q _ _ _ _ rfl rfl]

theorem first (t : Fin cfg0.N) (h : t.val % 8 = 0) :
    (outsAt0 m c t.val t.isLt).2 = k0_pay2 (F := Ideal) (L m c t) (R m c t) (k0_pay1 (F := Ideal)) := by
  rw [outsAt0_A m c t h (by omega)]
  dsimp only
  unfold sout0_A_0 kernelRun0_A
  dsimp only
  rw [View.read_writes_full, View.readAt_full, View.readAt_full, (hs0_0 t).read_unread, (hs0_1 t).read_unread]
  unfold kernelRun0_A.sl.v7 kernelRun0_A.sl.HS0_1 View.readCov
  rw [View.readAt_writes_full]

theorem next (t : Fin cfg0.N) (h : ¬t.val % 8 = 0) :
    (outsAt0 m c t.val t.isLt).2 = k0_pay2 (F := Ideal) (L m c t) (R m c t) (outsAt0 m c (t.val - 1) (Nat.lt_of_le_of_lt (Nat.sub_le _ _) t.isLt)).2 := by
  by_cases h1 : t.val % 8 = 7
  · rw [outsAt0_C m c t h h1]
    dsimp only
    unfold sout0_C_0 kernelRun0_C
    dsimp only
    unfold kernelRun0_C.sl.HS0_1
    rw [View.read_writes_full, View.readAt_full, View.readAt_full, View.readAt_full, (hs0_0 t).read_unread, (hs0_1 t).read_unread, (Memref.isWhole_whole _).read_unread]
  · rw [outsAt0_B m c t h h1]
    dsimp only
    unfold sout0_B_0 kernelRun0_B
    dsimp only
    rw [View.read_writes_full, View.readAt_full, View.readAt_full, View.readAt_full, (hs0_0 t).read_unread, (hs0_1 t).read_unread, (Memref.isWhole_whole _).read_unread]

/-- What the accumulator holds after a grid point. -/
theorem acc : ∀ (n : ℕ) (hn : n < cfg0.N) (p : Fin 1024) (q : Fin 1408),
    (outsAt0 m c n hn).2 (ix2 p q) = ∑ k ∈ Finset.range (1024 * (n % 8) + 1024), term m c (p.val) (1408 * (n / 8) + q.val) k := by
  intro n
  induction n using Nat.strong_induction_on with
  | _ n ih =>
    intro hn p q
    rw [Sums.grow, ← sumBlk m c ⟨n, hn⟩]
    by_cases h : n % 8 = 0
    · refine (congrFun (first m c ⟨n, hn⟩ h) (ix2 p q)).trans ?_
      rw [pay2_at, pay1_at, h, Finset.range_zero, Finset.sum_empty]
    · refine (congrFun (next m c ⟨n, hn⟩ h) (ix2 p q)).trans ?_
      rw [pay2_at, ih (n - 1) (by omega)]
      have e0 : 1024 * ((n - 1) % 8) + 1024 = 1024 * (n % 8) := by omega
      have e1 : (n - 1) / 8 = n / 8 := by omega
      rw [e0, e1]

/-- What the output's block holds at the last point of a run. -/
theorem last (t : Fin cfg0.N) (h : t.val % 8 = 7) (p : Fin 1024) (q : Fin 1408) :
    (outsAt0 m c t.val t.isLt).1 (ix2 p q) = ∑ k ∈ Finset.range 8192, term m c (p.val) (1408 * (t.val / 8) + q.val) k := by
  have e : (outsAt0 m c t.val t.isLt).1 = (outsAt0 m c t.val t.isLt).2 := by
    rw [outsAt0_C m c t (by omega) h]
    dsimp only
    unfold out0_C_2 sout0_C_0 kernelRun0_C
    dsimp only
    unfold kernelRun0_C.sl.v16 kernelRun0_C.sl.HS0_1 View.readCov
    rw [View.read_writes_full, View.read_writes_full, View.readAt_writes_full]
  rw [e, acc, h]

/-- The product. -/
def prod : S1024x2816.Idx → EReal := fun j => ∑ k ∈ Finset.range 8192, term m c (j 0).val (j 1).val k

theorem eta (y : S1024x1408.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 16 := lt_of_lt_of_eq t.isLt N_0
  have hi := (idx t).2.2
  have h := last m c t ((flush0_2 t).mp hf) (y 0) (y 1)
  have e0 : ((win0_2.blk t).view.emb y 0).val = (y 0).val := by blk_simp [hi]
  have e1 : ((win0_2.blk t).view.emb y 1).val = 1408 * (t.val / 8) + (y 1).val := by blk_simp [hi] <;> omega
  rw [after0_2]
  generalize (outsAt0 m c t.val t.isLt).1 = W at h ⊢
  refine (congrArg (fun z : S1024x1408.Idx => W z) (eta y)).trans (h.trans ?_)
  show _ = prod m c ((win0_2.blk t).view.emb y)
  unfold prod
  rw [e0, e1]

/-- The reference's product. -/
theorem ref (j : S1024x2816.Idx) : Cert.Reference6Ideal.Read.val_main_v3 (F := Ideal) (A m c) (B m c) j = prod m c j := by
  rw [Cert.Reference6Ideal.Read.val_main_v3_apply, Cert.Reference6Ideal.Read.val_main_v2_apply]
  unfold prod
  rw [Sums.start]
  refine Finset.sum_congr rfl fun k _ => ?_
  have h0 : (j 0).val < 1024 := (j 0).isLt
  have h1 : (j 1).val < 2816 := (j 1).isLt
  unfold term
  rw [dif_pos ⟨h0, h1, k.isLt⟩, mul_comm]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel6Ideal_Reference6Ideal (hKernel6Ideal := Cert.Kernel6Ideal.Gen.facts) (hReference6Ideal := Cert.Reference6Ideal.Gen.facts) := by
  intro m g m' g' _ ha
  refine ⟨_, Cert.Kernel6Ideal.Value.run_blocks m g, (θ_run Cert.Reference6Ideal.defs _ _).mono (fun r h c => ?_) (Cert.Reference6Ideal.Value.run m' g')⟩
  refine ⟨((h c).1.trans (Cert.Reference6Ideal.Read.val_main_v3_eq _ _)).trans ?_, (h c).2⟩
  obtain ⟨a0, a1⟩ := ha c
  rw [a0, a1]
  exact (funext fun j => ref m c j).trans (arr m c).symm

/-- The three frames. -/
theorem frame_kernel : Cert.quiescent_Kernel6 (hKernel6 := Cert.Kernel6.Gen.facts) := fun m ρ _ => Cert.Kernel6.Gen.frame m ρ

theorem frame_kernelIdeal : Cert.quiescent_Kernel6Ideal (hKernel6Ideal := Cert.Kernel6Ideal.Gen.facts) := fun m ρ _ => Cert.Kernel6Ideal.Gen.frame m ρ

theorem frame_referenceIdeal : Cert.quiescent_Reference6Ideal (hReference6Ideal := Cert.Reference6Ideal.Gen.facts) := fun m ρ _ =>
  (θ_run Cert.Reference6Ideal.defs _ _).mono (fun r h => ⟨fun c => (h c).2, sem_eq_zero_of_no_sems rfl r.2⟩) (Cert.Reference6Ideal.Value.run m ρ)

end Cert.Kernel6Ideal.Val
-- ==== Proof.Prod7.lean ====
/- The gradient that the gate half of the widened array hands back to the block's input: a grid of tiles, each summed over 2 blocks of the inner axis, is the whole product. -/
module

public import proofs.«01_k».proof.Defs
public import proofs.«01_k».proof.Proof.Sums
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel7Ideal.Val

open Idealize.ShloMosaic Idealize.ShloMosaic.TcCoe Idealize.SL.Sem Cert.Kernel7Ideal Cert.Kernel7Ideal.Gen

section
variable (m : (ℓ : Loc nD τ sig) → Buf (Elt Ideal) ℓ) (c : Dev nD)

/-- The left factor. -/
abbrev A : S8192x2816.Idx → EReal := m ((c : Thread nD τ).loc main_arg1)
/-- The right factor. -/
abbrev B : S1024x5632.Idx → EReal := m ((c : Thread nD τ).loc main_arg0)

/-- Term `k` of the sum that is entry `(i, j)` of the product. -/
def term (i j k : ℕ) : EReal :=
  if h : i < 8192 ∧ j < 1024 ∧ k < 2816 then A m c (ix2 ⟨i, h.1⟩ ⟨k, h.2.2⟩) * B m c (ix2 ⟨j, h.2.1⟩ ⟨k, by omega⟩) else 0

theorem readA (y : S8192x2816.Idx) : (V m c main_v0 : S8192x2816.Idx → EReal) y = A m c y := by
  unfold V
  after_reads_at

theorem readB (y : S1024x5632.Idx) : (V m c main_v1 : S1024x5632.Idx → EReal) y = B m c y := by
  unfold V
  after_reads_at

theorem idx : ∀ t : Fin cfg0.N, win0_0.index t = ![t.val / 2, t.val % 2]
    ∧ win0_1.index t = ![0, t.val % 2]
    ∧ win0_2.index t = ![t.val / 2, 0] := by decide +kernel

/-- The blocks of the two factors at a grid point. -/
abbrev L (t : Fin cfg0.N) : S1024x1408.Idx → EReal := iblk m c 0 t
abbrev R (t : Fin cfg0.N) : S1024x1408.Idx → EReal := iblk m c 1 t

theorem blkA (t : Fin cfg0.N) (p : Fin 1024) (q : Fin 1408) (a b : ℕ) (ha : a < 8192) (hb : b < 2816)
    (ea : a = 1024 * (t.val / 2) + p.val) (eb : b = 1408 * (t.val % 2) + q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1408) (a b : ℕ) (ha : a < 1024) (hb : b < 5632)
    (ea : a = p.val) (eb : b = 1408 * (t.val % 2) + q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 1024) : k0_pay1 (F := Ideal) (ix2 p q) = 0 := by
  rw [← Sums.zero_word]
  pointwise [k0_pay1]

theorem pay2_at (x : Vec Ideal S1024x1408 .bf16) (y : Vec Ideal S1024x1408 .bf16) (z : Vec Ideal S1024x1024 .f32) (p : Fin 1024) (q : Fin 1024) :
    k0_pay2 (F := Ideal) x y z (ix2 p q) = z (ix2 p q) + ∑ k : Fin 1408, x (ix2 p k) * y (ix2 q k) := by
  pointwise [k0_pay2]

theorem sumBlk (t : Fin cfg0.N) (p : Fin 1024) (q : Fin 1024) :
    ∑ k : Fin 1408, L m c t (ix2 p k) * R m c t (ix2 q k) = ∑ k : Fin 1408, term m c (1024 * (t.val / 2) + p.val) (q.val) (1408 * (t.val % 2) + k.val) := by
  have ht : t.val < 16 := lt_of_lt_of_eq t.isLt N_0
  refine Finset.sum_congr rfl fun k _ => ?_
  unfold term
  rw [dif_pos ⟨by omega, by omega, by omega⟩, blkA m c t p k _ _ _ _ rfl rfl, blkB m c t q k _ _ _ _ rfl rfl]

theorem first (t : Fin cfg0.N) (h : t.val % 2 = 0) :
    (outsAt0 m c t.val t.isLt).2 = k0_pay2 (F := Ideal) (L m c t) (R m c t) (k0_pay1 (F := Ideal)) := by
  rw [outsAt0_A m c t h (by omega)]
  dsimp only
  unfold sout0_A_0 kernelRun0_A
  dsimp only
  rw [View.read_writes_full, View.readAt_full, View.readAt_full, (hs0_0 t).read_unread, (hs0_1 t).read_unread]
  unfold kernelRun0_A.sl.v7 kernelRun0_A.sl.HS0_1 View.readCov
  rw [View.readAt_writes_full]

theorem next (t : Fin cfg0.N) (h : ¬t.val % 2 = 0) :
    (outsAt0 m c t.val t.isLt).2 = k0_pay2 (F := Ideal) (L m c t) (R m c t) (outsAt0 m c (t.val - 1) (Nat.lt_of_le_of_lt (Nat.sub_le _ _) t.isLt)).2 := by
  have h1 : t.val % 2 = 1 := by omega
  · rw [outsAt0_B m c t h h1]
    dsimp only
    unfold sout0_B_0 kernelRun0_B
    dsimp only
    unfold kernelRun0_B.sl.HS0_1
    rw [View.read_writes_full, View.readAt_full, View.readAt_full, View.readAt_full, (hs0_0 t).read_unread, (hs0_1 t).read_unread, (Memref.isWhole_whole _).read_unread]

/-- What the accumulator holds after a grid point. -/
theorem acc : ∀ (n : ℕ) (hn : n < cfg0.N) (p : Fin 1024) (q : Fin 1024),
    (outsAt0 m c n hn).2 (ix2 p q) = ∑ k ∈ Finset.range (1408 * (n % 2) + 1408), term m c (1024 * (n / 2) + p.val) (q.val) k := by
  intro n
  induction n using Nat.strong_induction_on with
  | _ n ih =>
    intro hn p q
    rw [Sums.grow, ← sumBlk m c ⟨n, hn⟩]
    by_cases h : n % 2 = 0
    · refine (congrFun (first m c ⟨n, hn⟩ h) (ix2 p q)).trans ?_
      rw [pay2_at, pay1_at, h, Finset.range_zero, Finset.sum_empty]
    · refine (congrFun (next m c ⟨n, hn⟩ h) (ix2 p q)).trans ?_
      rw [pay2_at, ih (n - 1) (by omega)]
      have e0 : 1408 * ((n - 1) % 2) + 1408 = 1408 * (n % 2) := by omega
      have e1 : (n - 1) / 2 = n / 2 := by omega
      rw [e0, e1]

/-- What the output's block holds at the last point of a run. -/
theorem last (t : Fin cfg0.N) (h : t.val % 2 = 1) (p : Fin 1024) (q : Fin 1024) :
    (outsAt0 m c t.val t.isLt).1 (ix2 p q) = ∑ k ∈ Finset.range 2816, term m c (1024 * (t.val / 2) + p.val) (q.val) k := by
  have e : (outsAt0 m c t.val t.isLt).1 = (outsAt0 m c t.val t.isLt).2 := by
    rw [outsAt0_B m c t (by omega) h]
    dsimp only
    unfold out0_B_2 sout0_B_0 kernelRun0_B
    dsimp only
    unfold kernelRun0_B.sl.v16 kernelRun0_B.sl.HS0_1 View.readCov
    rw [View.read_writes_full, View.read_writes_full, View.readAt_writes_full]
  rw [e, acc, h]

/-- The product. -/
def prod : S8192x1024.Idx → EReal := fun j => ∑ k ∈ Finset.range 2816, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 16 := lt_of_lt_of_eq t.isLt N_0
  have hi := (idx t).2.2
  have h := last m c t ((flush0_2 t).mp hf) (y 0) (y 1)
  have e0 : ((win0_2.blk t).view.emb y 0).val = 1024 * (t.val / 2) + (y 0).val := by blk_simp [hi] <;> omega
  have e1 : ((win0_2.blk t).view.emb y 1).val = (y 1).val := by blk_simp [hi]
  rw [after0_2]
  generalize (outsAt0 m c t.val t.isLt).1 = W at h ⊢
  refine (congrArg (fun z : S1024x1024.Idx => W z) (eta y)).trans (h.trans ?_)
  show _ = prod m c ((win0_2.blk t).view.emb y)
  unfold prod
  rw [e0, e1]

/-- The reference's product. -/
theorem ref (j : S8192x1024.Idx) : Cert.Reference7Ideal.Read.val_main_v3 (F := Ideal) (B m c) (A m c) j = prod m c j := by
  rw [Cert.Reference7Ideal.Read.val_main_v3_apply]
  unfold prod
  rw [Sums.start]
  refine Finset.sum_congr rfl fun k _ => ?_
  have h0 : (j 0).val < 8192 := (j 0).isLt
  have h1 : (j 1).val < 1024 := (j 1).isLt
  unfold term
  rw [dif_pos ⟨h0, h1, k.isLt⟩]
  refine congrArg₂ (· * ·) (congrArg (A m c) ?_) ((Cert.Reference7Ideal.Read.val_main_v1_apply _ _).trans (congrArg (B m c) ?_))
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel7Ideal_Reference7Ideal (hKernel7Ideal := Cert.Kernel7Ideal.Gen.facts) (hReference7Ideal := Cert.Reference7Ideal.Gen.facts) := by
  intro m g m' g' _ ha
  refine ⟨_, Cert.Kernel7Ideal.Value.run_blocks m g, (θ_run Cert.Reference7Ideal.defs _ _).mono (fun r h c => ?_) (Cert.Reference7Ideal.Value.run m' g')⟩
  refine ⟨((h c).1.trans (Cert.Reference7Ideal.Read.val_main_v3_eq _ _)).trans ?_, (h c).2⟩
  obtain ⟨a0, a1⟩ := ha c
  rw [a0, a1]
  exact (funext fun j => ref m c j).trans (arr m c).symm

/-- The three frames. -/
theorem frame_kernel : Cert.quiescent_Kernel7 (hKernel7 := Cert.Kernel7.Gen.facts) := fun m ρ _ => Cert.Kernel7.Gen.frame m ρ

theorem frame_kernelIdeal : Cert.quiescent_Kernel7Ideal (hKernel7Ideal := Cert.Kernel7Ideal.Gen.facts) := fun m ρ _ => Cert.Kernel7Ideal.Gen.frame m ρ

theorem frame_referenceIdeal : Cert.quiescent_Reference7Ideal (hReference7Ideal := Cert.Reference7Ideal.Gen.facts) := fun m ρ _ =>
  (θ_run Cert.Reference7Ideal.defs _ _).mono (fun r h => ⟨fun c => (h c).2, sem_eq_zero_of_no_sems rfl r.2⟩) (Cert.Reference7Ideal.Value.run m ρ)

end Cert.Kernel7Ideal.Val
-- ==== Proof.Prod8.lean ====
/- The gradient that the value half of the widened array hands back to the block's input, added to the gate half's: a grid of tiles, each summed over 2 blocks of the inner axis, is the whole product. -/
module

public import proofs.«01_k».proof.Defs
public import proofs.«01_k».proof.Proof.Sums
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel8Ideal.Val

open Idealize.ShloMosaic Idealize.ShloMosaic.TcCoe Idealize.SL.Sem Cert.Kernel8Ideal Cert.Kernel8Ideal.Gen

section
variable (m : (ℓ : Loc nD τ sig) → Buf (Elt Ideal) ℓ) (c : Dev nD)

/-- The left factor. -/
abbrev A : S8192x2816.Idx → EReal := m ((c : Thread nD τ).loc main_arg1)
/-- The right factor. -/
abbrev B : S1024x5632.Idx → EReal := m ((c : Thread nD τ).loc main_arg0)
/-- What the product is added to. -/
abbrev D : S8192x1024.Idx → EReal := m ((c : Thread nD τ).loc main_arg2)

/-- Term `k` of the sum that is entry `(i, j)` of the product. -/
def term (i j k : ℕ) : EReal :=
  if h : i < 8192 ∧ j < 1024 ∧ k < 2816 then A m c (ix2 ⟨i, h.1⟩ ⟨k, h.2.2⟩) * B m c (ix2 ⟨j, h.2.1⟩ ⟨2816 + k, by omega⟩) else 0

theorem readA (y : S8192x2816.Idx) : (V m c main_v0 : S8192x2816.Idx → EReal) y = A m c y := by
  unfold V
  after_reads_at

theorem readB (y : S1024x5632.Idx) : (V m c main_v1 : S1024x5632.Idx → EReal) y = B m c y := by
  unfold V
  after_reads_at

theorem readD (y : S8192x1024.Idx) : (V m c main_arg2 : S8192x1024.Idx → EReal) y = D m c y := by
  rw [V_main_arg2]

theorem idx : ∀ t : Fin cfg0.N, win0_0.index t = ![t.val / 2, t.val % 2]
    ∧ win0_1.index t = ![0, t.val % 2 + 2]
    ∧ win0_2.index t = ![t.val / 2, 0]
    ∧ win0_3.index t = ![t.val / 2, 0] := by decide +kernel

/-- The blocks of the two factors and of the summand at a grid point. -/
abbrev L (t : Fin cfg0.N) : S1024x1408.Idx → EReal := iblk m c 0 t
abbrev R (t : Fin cfg0.N) : S1024x1408.Idx → EReal := iblk m c 1 t
abbrev E (t : Fin cfg0.N) : S1024x1024.Idx → EReal := iblk m c 2 t

theorem blkA (t : Fin cfg0.N) (p : Fin 1024) (q : Fin 1408) (a b : ℕ) (ha : a < 8192) (hb : b < 2816)
    (ea : a = 1024 * (t.val / 2) + p.val) (eb : b = 1408 * (t.val % 2) + q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1408) (a b : ℕ) (ha : a < 1024) (hb : b < 5632)
    (ea : a = p.val) (eb : b = 2816 + (1408 * (t.val % 2) + q.val)) :
    R m c t (ix2 p q) = B m c (ix2 ⟨a, ha⟩ ⟨b, hb⟩) := by
  have hx := (idx t).2.1
  subst ea eb
  refine Eq.trans ?_ (readB m c _)
  blk_ext [R, iblk, hx]

theorem blkD (t : Fin cfg0.N) (p : Fin 1024) (q : Fin 1024) (a b : ℕ) (ha : a < 8192) (hb : b < 1024)
    (ea : a = 1024 * (t.val / 2) + p.val) (eb : b = q.val) :
    E m c t (ix2 p q) = D m c (ix2 ⟨a, ha⟩ ⟨b, hb⟩) := by
  have hx := (idx t).2.2.1
  subst ea eb
  refine Eq.trans ?_ (readD m c _)
  blk_ext [E, iblk, hx]

theorem pay1_at (p : Fin 1024) (q : Fin 1024) : k0_pay1 (F := Ideal) (ix2 p q) = 0 := by
  rw [← Sums.zero_word]
  pointwise [k0_pay1]

theorem pay2_at (x : Vec Ideal S1024x1408 .bf16) (y : Vec Ideal S1024x1408 .bf16) (z : Vec Ideal S1024x1024 .f32) (p : Fin 1024) (q : Fin 1024) :
    k0_pay2 (F := Ideal) x y z (ix2 p q) = z (ix2 p q) + ∑ k : Fin 1408, x (ix2 p k) * y (ix2 q k) := by
  pointwise [k0_pay2]

theorem pay3_at (x y : Vec Ideal S1024x1024 .f32) (p : Fin 1024) (q : Fin 1024) :
    k0_pay3 (F := Ideal) x y (ix2 p q) = x (ix2 p q) + y (ix2 p q) := by
  pointwise [k0_pay3]

theorem sumBlk (t : Fin cfg0.N) (p : Fin 1024) (q : Fin 1024) :
    ∑ k : Fin 1408, L m c t (ix2 p k) * R m c t (ix2 q k) = ∑ k : Fin 1408, term m c (1024 * (t.val / 2) + p.val) (q.val) (1408 * (t.val % 2) + k.val) := by
  have ht : t.val < 16 := lt_of_lt_of_eq t.isLt N_0
  refine Finset.sum_congr rfl fun k _ => ?_
  unfold term
  rw [dif_pos ⟨by omega, by omega, by omega⟩, blkA m c t p k _ _ _ _ rfl rfl, blkB m c t q k _ _ _ _ rfl rfl]

theorem first (t : Fin cfg0.N) (h : t.val % 2 = 0) :
    (outsAt0 m c t.val t.isLt).2 = k0_pay2 (F := Ideal) (L m c t) (R m c t) (k0_pay1 (F := Ideal)) := by
  rw [outsAt0_A m c t h (by omega)]
  dsimp only
  unfold sout0_A_0 kernelRun0_A
  dsimp only
  rw [View.read_writes_full, View.readAt_full, View.readAt_full, (hs0_0 t).read_unread, (hs0_1 t).read_unread]
  unfold kernelRun0_A.sl.v7 kernelRun0_A.sl.HS0_1 View.readCov
  rw [View.readAt_writes_full]

theorem next (t : Fin cfg0.N) (h : ¬t.val % 2 = 0) :
    (outsAt0 m c t.val t.isLt).2 = k0_pay2 (F := Ideal) (L m c t) (R m c t) (outsAt0 m c (t.val - 1) (Nat.lt_of_le_of_lt (Nat.sub_le _ _) t.isLt)).2 := by
  have h1 : t.val % 2 = 1 := by omega
  · rw [outsAt0_B m c t h h1]
    dsimp only
    unfold sout0_B_0 kernelRun0_B
    dsimp only
    unfold kernelRun0_B.sl.HS0_1
    rw [View.read_writes_full, View.readAt_full, View.readAt_full, View.readAt_full, (hs0_0 t).read_unread, (hs0_1 t).read_unread, (Memref.isWhole_whole _).read_unread]

/-- What the accumulator holds after a grid point. -/
theorem acc : ∀ (n : ℕ) (hn : n < cfg0.N) (p : Fin 1024) (q : Fin 1024),
    (outsAt0 m c n hn).2 (ix2 p q) = ∑ k ∈ Finset.range (1408 * (n % 2) + 1408), term m c (1024 * (n / 2) + p.val) (q.val) k := by
  intro n
  induction n using Nat.strong_induction_on with
  | _ n ih =>
    intro hn p q
    rw [Sums.grow, ← sumBlk m c ⟨n, hn⟩]
    by_cases h : n % 2 = 0
    · refine (congrFun (first m c ⟨n, hn⟩ h) (ix2 p q)).trans ?_
      rw [pay2_at, pay1_at, h, Finset.range_zero, Finset.sum_empty]
    · refine (congrFun (next m c ⟨n, hn⟩ h) (ix2 p q)).trans ?_
      rw [pay2_at, ih (n - 1) (by omega)]
      have e0 : 1408 * ((n - 1) % 2) + 1408 = 1408 * (n % 2) := by omega
      have e1 : (n - 1) / 2 = n / 2 := by omega
      rw [e0, e1]

/-- What the output's block holds at the last point of a run. -/
theorem last (t : Fin cfg0.N) (h : t.val % 2 = 1) (p : Fin 1024) (q : Fin 1024) :
    (outsAt0 m c t.val t.isLt).1 (ix2 p q) = E m c t (ix2 p q) + ∑ k ∈ Finset.range 2816, term m c (1024 * (t.val / 2) + p.val) (q.val) k := by
  have e : (outsAt0 m c t.val t.isLt).1 = k0_pay3 (F := Ideal) (outsAt0 m c t.val t.isLt).2 (E m c t) := by
    rw [outsAt0_B m c t (by omega) h]
    dsimp only
    unfold out0_B_3 sout0_B_0 kernelRun0_B
    dsimp only
    unfold kernelRun0_B.sl.v16 kernelRun0_B.sl.HS0_1 View.readCov
    rw [View.read_writes_full, View.read_writes_full, View.readAt_writes_full, View.readAt_full _ ((hs0_2 t).unread _), (hs0_2 t).read_unread]
  rw [e, pay3_at, acc, h, add_comm]

/-- The product added to its summand. -/
def prod : S8192x1024.Idx → EReal := fun j => D m c j + ∑ k ∈ Finset.range 2816, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 3 cfg0.N = prod m c := by
  refine (dats m 0 c).arrAt_eq_of_covers 3 _ (by decide +kernel) fun t hf y => ?_
  have ht : t.val < 16 := lt_of_lt_of_eq t.isLt N_0
  have hi := (idx t).2.2.2
  have h := last m c t ((flush0_3 t).mp hf) (y 0) (y 1)
  have e0 : ((win0_3.blk t).view.emb y 0).val = 1024 * (t.val / 2) + (y 0).val := by blk_simp [hi] <;> omega
  have e1 : ((win0_3.blk t).view.emb y 1).val = (y 1).val := by blk_simp [hi]
  rw [after0_3]
  rw [blkD m c t (y 0) (y 1) _ _ ((win0_3.blk t).view.emb y 0).isLt ((win0_3.blk t).view.emb y 1).isLt e0 e1] at h
  generalize (outsAt0 m c t.val t.isLt).1 = W at h ⊢
  refine (congrArg (fun z : S1024x1024.Idx => W z) (eta y)).trans (h.trans ?_)
  show _ = prod m c ((win0_3.blk t).view.emb y)
  unfold prod
  refine congrArg₂ (· + ·) (congrArg (D m c) (funext fun a => ?_)) ?_
  · match a with
    | ⟨0, _⟩ => rfl
    | ⟨1, _⟩ => rfl
  · rw [e0, e1]

/-- The reference's product. -/
theorem ref (j : S8192x1024.Idx) : Cert.Reference8Ideal.Read.val_main_v4 (F := Ideal) (B m c) (A m c) (D m c) j = prod m c j := by
  rw [Cert.Reference8Ideal.Read.val_main_v4_apply, Cert.Reference8Ideal.Read.val_main_v3_apply]
  unfold prod
  rw [Sums.start]
  refine congrArg (D m c j + ·) ?_
  refine Finset.sum_congr rfl fun k _ => ?_
  have h0 : (j 0).val < 8192 := (j 0).isLt
  have h1 : (j 1).val < 1024 := (j 1).isLt
  unfold term
  rw [dif_pos ⟨h0, h1, k.isLt⟩]
  refine congrArg₂ (· * ·) (congrArg (A m c) ?_) ((Cert.Reference8Ideal.Read.val_main_v1_apply _ _).trans (congrArg (B m c) ?_))
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel8Ideal_Reference8Ideal (hKernel8Ideal := Cert.Kernel8Ideal.Gen.facts) (hReference8Ideal := Cert.Reference8Ideal.Gen.facts) := by
  intro m g m' g' _ ha
  refine ⟨_, Cert.Kernel8Ideal.Value.run_blocks m g, (θ_run Cert.Reference8Ideal.defs _ _).mono (fun r h c => ?_) (Cert.Reference8Ideal.Value.run m' g')⟩
  refine ⟨((h c).1.trans (Cert.Reference8Ideal.Read.val_main_v4_eq _ _ _)).trans ?_, (h c).2⟩
  obtain ⟨a0, a1, a2⟩ := ha c
  rw [a0, a1, a2]
  exact (funext fun j => ref m c j).trans (arr m c).symm

/-- The three frames. -/
theorem frame_kernel : Cert.quiescent_Kernel8 (hKernel8 := Cert.Kernel8.Gen.facts) := fun m ρ _ => Cert.Kernel8.Gen.frame m ρ

theorem frame_kernelIdeal : Cert.quiescent_Kernel8Ideal (hKernel8Ideal := Cert.Kernel8Ideal.Gen.facts) := fun m ρ _ => Cert.Kernel8Ideal.Gen.frame m ρ

theorem frame_referenceIdeal : Cert.quiescent_Reference8Ideal (hReference8Ideal := Cert.Reference8Ideal.Gen.facts) := fun m ρ _ =>
  (θ_run Cert.Reference8Ideal.defs _ _).mono (fun r h => ⟨fun c => (h c).2, sem_eq_zero_of_no_sems rfl r.2⟩) (Cert.Reference8Ideal.Value.run m ρ)

end Cert.Kernel8Ideal.Val
-- ==== Proof.Prod9.lean ====
/- The input projections other than those of the sliding heads: a grid of tiles, each summed over 1 block of the inner axis, is the whole product. -/
module

public import proofs.«01_k».proof.Defs
public import proofs.«01_k».proof.Proof.Sums
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel9Ideal.Val

open Idealize.ShloMosaic Idealize.ShloMosaic.TcCoe Idealize.SL.Sem Cert.Kernel9Ideal Cert.Kernel9Ideal.Gen

section
variable (m : (ℓ : Loc nD τ sig) → Buf (Elt Ideal) ℓ) (c : Dev nD)

/-- The left factor. -/
abbrev A : S8192x1024.Idx → EReal := m ((c : Thread nD τ).loc main_arg0)
/-- The right factor. -/
abbrev B : S1024x2048.Idx → EReal := m ((c : Thread nD τ).loc main_arg1)

/-- Term `k` of the sum that is entry `(i, j)` of the product. -/
def term (i j k : ℕ) : EReal :=
  if h : i < 8192 ∧ j < 2048 ∧ k < 1024 then A m c (ix2 ⟨i, h.1⟩ ⟨k, h.2.2⟩) * B m c (ix2 ⟨k, h.2.2⟩ ⟨j, h.2.1⟩) else 0

theorem readA (y : S8192x1024.Idx) : (V m c main_v0 : S8192x1024.Idx → EReal) y = A m c y := by
  unfold V
  after_reads_at

theorem readB (y : S1024x2048.Idx) : (V m c main_v1 : S1024x2048.Idx → EReal) y = B m c y := by
  unfold V
  after_reads_at

theorem idx : ∀ t : Fin cfg0.N, win0_0.index t = ![t.val / 2, 0]
    ∧ win0_1.index t = ![0, t.val % 2]
    ∧ win0_2.index t = ![t.val / 2, t.val % 2] := by decide +kernel

/-- The blocks of the two factors at a grid point. -/
abbrev L (t : Fin cfg0.N) : S1024x1024.Idx → EReal := iblk m c 0 t
abbrev R (t : Fin cfg0.N) : S1024x1024.Idx → EReal := iblk m c 1 t

theorem blkA (t : Fin cfg0.N) (p : Fin 1024) (q : Fin 1024) (a b : ℕ) (ha : a < 8192) (hb : b < 1024)
    (ea : a = 1024 * (t.val / 2) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1024) (a b : ℕ) (ha : a < 1024) (hb : b < 2048)
    (ea : a = p.val) (eb : b = 1024 * (t.val % 2) + q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 1024) : k0_pay1 (F := Ideal) (ix2 p q) = 0 := by
  rw [← Sums.zero_word]
  pointwise [k0_pay1]

theorem pay2_at (x : Vec Ideal S1024x1024 .bf16) (y : Vec Ideal S1024x1024 .bf16) (z : Vec Ideal S1024x1024 .f32) (p : Fin 1024) (q : Fin 1024) :
    k0_pay2 (F := Ideal) x y z (ix2 p q) = z (ix2 p q) + ∑ k : Fin 1024, x (ix2 p k) * y (ix2 k q) := by
  pointwise [k0_pay2]

theorem sumBlk (t : Fin cfg0.N) (p : Fin 1024) (q : Fin 1024) :
    ∑ k : Fin 1024, L m c t (ix2 p k) * R m c t (ix2 k q) = ∑ k : Fin 1024, term m c (1024 * (t.val / 2) + p.val) (1024 * (t.val % 2) + q.val) (k.val) := by
  have ht : t.val < 16 := lt_of_lt_of_eq t.isLt N_0
  refine Finset.sum_congr rfl fun k _ => ?_
  unfold term
  rw [dif_pos ⟨by omega, by omega, by omega⟩, blkA m c t p k _ _ _ _ rfl rfl, blkB m c t k q _ _ _ _ rfl rfl]

/-- What the output's block holds after a grid point. -/
theorem last (t : Fin cfg0.N) (p : Fin 1024) (q : Fin 1024) :
    outsAt0 m c t (ix2 p q) = ∑ k ∈ Finset.range 1024, term m c (1024 * (t.val / 2) + p.val) (1024 * (t.val % 2) + q.val) k := by
  have e : outsAt0 m c t = (k0_pay2 (F := Ideal) (L m c t) (R m c t) (k0_pay1 (F := Ideal))) := by
    dsimp only [outsAt0]
    unfold out0_A_2 kernelRun0_A
    dsimp only
    unfold kernelRun0_A.sl.v16 kernelRun0_A.sl.HS0_2 View.readCov
    rw [View.read_writes_full, View.readAt_writes_full, View.readAt_full, View.readAt_full, (hs0_0 t).read_unread, (hs0_1 t).read_unread]
    unfold kernelRun0_A.sl.v7 kernelRun0_A.sl.HS0_1 View.readCov
    rw [View.readAt_writes_full]
  rw [e, pay2_at, pay1_at, sumBlk, zero_add, Sums.start]

/-- The product. -/
def prod : S8192x2048.Idx → EReal := fun j => ∑ k ∈ Finset.range 1024, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 16 := lt_of_lt_of_eq t.isLt N_0
  have hi := (idx t).2.2
  have h := last m c t (y 0) (y 1)
  have e0 : ((win0_2.blk t).view.emb y 0).val = 1024 * (t.val / 2) + (y 0).val := by blk_simp [hi] <;> omega
  have e1 : ((win0_2.blk t).view.emb y 1).val = 1024 * (t.val % 2) + (y 1).val := by blk_simp [hi] <;> omega
  rw [after0_2]
  generalize outsAt0 m c t = W at h ⊢
  refine (congrArg (fun z : S1024x1024.Idx => W z) (eta y)).trans (h.trans ?_)
  show _ = prod m c ((win0_2.blk t).view.emb y)
  unfold prod
  rw [e0, e1]

/-- The reference's product. -/
theorem ref (j : S8192x2048.Idx) : Cert.Reference9Ideal.Read.val_main_v0 (F := Ideal) (A m c) (B m c) j = prod m c j := by
  rw [Cert.Reference9Ideal.Read.val_main_v0_apply]
  unfold prod
  rw [Sums.start]
  refine Finset.sum_congr rfl fun k _ => ?_
  have h0 : (j 0).val < 8192 := (j 0).isLt
  have h1 : (j 1).val < 2048 := (j 1).isLt
  unfold term
  rw [dif_pos ⟨h0, h1, k.isLt⟩]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel9Ideal_Reference9Ideal (hKernel9Ideal := Cert.Kernel9Ideal.Gen.facts) (hReference9Ideal := Cert.Reference9Ideal.Gen.facts) := by
  intro m g m' g' _ ha
  refine ⟨_, Cert.Kernel9Ideal.Value.run_blocks m g, (θ_run Cert.Reference9Ideal.defs _ _).mono (fun r h c => ?_) (Cert.Reference9Ideal.Value.run m' g')⟩
  refine ⟨((h c).1.trans (Cert.Reference9Ideal.Read.val_main_v0_eq _ _)).trans ?_, (h c).2⟩
  obtain ⟨a0, a1⟩ := ha c
  rw [a0, a1]
  exact (funext fun j => ref m c j).trans (arr m c).symm

/-- The three frames. -/
theorem frame_kernel : Cert.quiescent_Kernel9 (hKernel9 := Cert.Kernel9.Gen.facts) := fun m ρ _ => Cert.Kernel9.Gen.frame m ρ

theorem frame_kernelIdeal : Cert.quiescent_Kernel9Ideal (hKernel9Ideal := Cert.Kernel9Ideal.Gen.facts) := fun m ρ _ => Cert.Kernel9Ideal.Gen.frame m ρ

theorem frame_referenceIdeal : Cert.quiescent_Reference9Ideal (hReference9Ideal := Cert.Reference9Ideal.Gen.facts) := fun m ρ _ =>
  (θ_run Cert.Reference9Ideal.defs _ _).mono (fun r h => ⟨fun c => (h c).2, sem_eq_zero_of_no_sems rfl r.2⟩) (Cert.Reference9Ideal.Value.run m ρ)

end Cert.Kernel9Ideal.Val
-- ==== Proof.Prod10.lean ====
/- The input projections of the sliding heads: a grid of tiles, each summed over 1 block of the inner axis, is the whole product. -/
module

public import proofs.«01_k».proof.Defs
public import proofs.«01_k».proof.Proof.Sums
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel10Ideal.Val

open Idealize.ShloMosaic Idealize.ShloMosaic.TcCoe Idealize.SL.Sem Cert.Kernel10Ideal Cert.Kernel10Ideal.Gen

section
variable (m : (ℓ : Loc nD τ sig) → Buf (Elt Ideal) ℓ) (c : Dev nD)

/-- The left factor. -/
abbrev A : S8192x1024.Idx → EReal := m ((c : Thread nD τ).loc main_arg0)
/-- The right factor. -/
abbrev B : S1024x768.Idx → EReal := m ((c : Thread nD τ).loc main_arg1)

/-- Term `k` of the sum that is entry `(i, j)` of the product. -/
def term (i j k : ℕ) : EReal :=
  if h : i < 8192 ∧ j < 768 ∧ k < 1024 then A m c (ix2 ⟨i, h.1⟩ ⟨k, h.2.2⟩) * B m c (ix2 ⟨k, h.2.2⟩ ⟨j, h.2.1⟩) else 0

theorem readA (y : S8192x1024.Idx) : (V m c main_v0 : S8192x1024.Idx → EReal) y = A m c y := by
  unfold V
  after_reads_at

theorem readB (y : S1024x768.Idx) : (V m c main_v1 : S1024x768.Idx → EReal) y = B m c y := by
  unfold V
  after_reads_at

theorem idx : ∀ t : Fin cfg0.N, win0_0.index t = ![t.val, 0]
    ∧ win0_1.index t = ![0, 0]
    ∧ win0_2.index t = ![t.val, 0] := by decide +kernel

/-- The blocks of the two factors at a grid point. -/
abbrev L (t : Fin cfg0.N) : S1024x1024.Idx → EReal := iblk m c 0 t
abbrev R (t : Fin cfg0.N) : S1024x768.Idx → EReal := iblk m c 1 t

theorem blkA (t : Fin cfg0.N) (p : Fin 1024) (q : Fin 1024) (a b : ℕ) (ha : a < 8192) (hb : b < 1024)
    (ea : a = 1024 * (t.val) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 768) (a b : ℕ) (ha : a < 1024) (hb : b < 768)
    (ea : a = p.val) (eb : b = q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 768) : k0_pay1 (F := Ideal) (ix2 p q) = 0 := by
  rw [← Sums.zero_word]
  pointwise [k0_pay1]

theorem pay2_at (x : Vec Ideal S1024x1024 .bf16) (y : Vec Ideal S1024x768 .bf16) (z : Vec Ideal S1024x768 .f32) (p : Fin 1024) (q : Fin 768) :
    k0_pay2 (F := Ideal) x y z (ix2 p q) = z (ix2 p q) + ∑ k : Fin 1024, x (ix2 p k) * y (ix2 k q) := by
  pointwise [k0_pay2]

theorem pay3_at (x : Vec Ideal S1024x768 .f32) (p : Fin 1024) (q : Fin 768) : k0_pay3 (F := Ideal) x (ix2 p q) = x (ix2 p q) := by
  pointwise [k0_pay3]

theorem sumBlk (t : Fin cfg0.N) (p : Fin 1024) (q : Fin 768) :
    ∑ k : Fin 1024, L m c t (ix2 p k) * R m c t (ix2 k q) = ∑ k : Fin 1024, term m c (1024 * (t.val) + p.val) (q.val) (k.val) := by
  have ht : t.val < 8 := lt_of_lt_of_eq t.isLt N_0
  refine Finset.sum_congr rfl fun k _ => ?_
  unfold term
  rw [dif_pos ⟨by omega, by omega, by omega⟩, blkA m c t p k _ _ _ _ rfl rfl, blkB m c t k q _ _ _ _ rfl rfl]

/-- What the output's block holds after a grid point. -/
theorem last (t : Fin cfg0.N) (p : Fin 1024) (q : Fin 768) :
    outsAt0 m c t (ix2 p q) = ∑ k ∈ Finset.range 1024, term m c (1024 * (t.val) + p.val) (q.val) k := by
  have e : outsAt0 m c t = k0_pay3 (F := Ideal) (k0_pay2 (F := Ideal) (L m c t) (R m c t) (k0_pay1 (F := Ideal))) := by
    dsimp only [outsAt0]
    unfold out0_A_2 kernelRun0_A
    dsimp only
    unfold kernelRun0_A.sl.v16 kernelRun0_A.sl.HS0_2 View.readCov
    rw [View.read_writes_full, View.readAt_writes_full, View.readAt_full, View.readAt_full, (hs0_0 t).read_unread, (hs0_1 t).read_unread]
    unfold kernelRun0_A.sl.v7 kernelRun0_A.sl.HS0_1 View.readCov
    rw [View.readAt_writes_full]
  rw [e, pay3_at, pay2_at, pay1_at, sumBlk, zero_add, Sums.start]

/-- The product. -/
def prod : S8192x768.Idx → EReal := fun j => ∑ k ∈ Finset.range 1024, term m c (j 0).val (j 1).val k

theorem eta (y : S1024x768.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 8 := lt_of_lt_of_eq t.isLt N_0
  have hi := (idx t).2.2
  have h := last m c t (y 0) (y 1)
  have e0 : ((win0_2.blk t).view.emb y 0).val = 1024 * (t.val) + (y 0).val := by blk_simp [hi] <;> omega
  have e1 : ((win0_2.blk t).view.emb y 1).val = (y 1).val := by blk_simp [hi]
  rw [after0_2]
  generalize outsAt0 m c t = W at h ⊢
  refine (congrArg (fun z : S1024x768.Idx => W z) (eta y)).trans (h.trans ?_)
  show _ = prod m c ((win0_2.blk t).view.emb y)
  unfold prod
  rw [e0, e1]

/-- The reference's product. -/
theorem ref (j : S8192x768.Idx) : Cert.Reference10Ideal.Read.val_main_v1 (F := Ideal) (A m c) (B m c) j = prod m c j := by
  rw [Cert.Reference10Ideal.Read.val_main_v1_apply, Cert.Reference10Ideal.Read.val_main_v0_apply]
  unfold prod
  rw [Sums.start]
  refine Finset.sum_congr rfl fun k _ => ?_
  have h0 : (j 0).val < 8192 := (j 0).isLt
  have h1 : (j 1).val < 768 := (j 1).isLt
  unfold term
  rw [dif_pos ⟨h0, h1, k.isLt⟩]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel10Ideal_Reference10Ideal (hKernel10Ideal := Cert.Kernel10Ideal.Gen.facts) (hReference10Ideal := Cert.Reference10Ideal.Gen.facts) := by
  intro m g m' g' _ ha
  refine ⟨_, Cert.Kernel10Ideal.Value.run_blocks m g, (θ_run Cert.Reference10Ideal.defs _ _).mono (fun r h c => ?_) (Cert.Reference10Ideal.Value.run m' g')⟩
  refine ⟨((h c).1.trans (Cert.Reference10Ideal.Read.val_main_v1_eq _ _)).trans ?_, (h c).2⟩
  obtain ⟨a0, a1⟩ := ha c
  rw [a0, a1]
  exact (funext fun j => ref m c j).trans (arr m c).symm

/-- The three frames. -/
theorem frame_kernel : Cert.quiescent_Kernel10 (hKernel10 := Cert.Kernel10.Gen.facts) := fun m ρ _ => Cert.Kernel10.Gen.frame m ρ

theorem frame_kernelIdeal : Cert.quiescent_Kernel10Ideal (hKernel10Ideal := Cert.Kernel10Ideal.Gen.facts) := fun m ρ _ => Cert.Kernel10Ideal.Gen.frame m ρ

theorem frame_referenceIdeal : Cert.quiescent_Reference10Ideal (hReference10Ideal := Cert.Reference10Ideal.Gen.facts) := fun m ρ _ =>
  (θ_run Cert.Reference10Ideal.defs _ _).mono (fun r h => ⟨fun c => (h c).2, sem_eq_zero_of_no_sems rfl r.2⟩) (Cert.Reference10Ideal.Value.run m ρ)

end Cert.Kernel10Ideal.Val
-- ==== Proof.Prod11.lean ====
/- The output projection, added to the residual stream: a grid of tiles, each summed over 1 block of the inner axis, is the whole product. -/
module

public import proofs.«01_k».proof.Defs
public import proofs.«01_k».proof.Proof.Sums
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel11Ideal.Val

open Idealize.ShloMosaic Idealize.ShloMosaic.TcCoe Idealize.SL.Sem Cert.Kernel11Ideal Cert.Kernel11Ideal.Gen

section
variable (m : (ℓ : Loc nD τ sig) → Buf (Elt Ideal) ℓ) (c : Dev nD)

/-- The left factor. -/
abbrev A : S8192x1024.Idx → EReal := m ((c : Thread nD τ).loc main_arg0)
/-- The right factor. -/
abbrev B : S1024x1024.Idx → EReal := m ((c : Thread nD τ).loc main_arg1)
/-- What the product is added to. -/
abbrev D : S8192x1024.Idx → EReal := m ((c : Thread nD τ).loc main_arg2)

/-- Term `k` of the sum that is entry `(i, j)` of the product. -/
def term (i j k : ℕ) : EReal :=
  if h : i < 8192 ∧ j < 1024 ∧ k < 1024 then A m c (ix2 ⟨i, h.1⟩ ⟨k, h.2.2⟩) * B m c (ix2 ⟨k, h.2.2⟩ ⟨j, h.2.1⟩) else 0

theorem readA (y : S8192x1024.Idx) : (V m c main_v0 : S8192x1024.Idx → EReal) y = A m c y := by
  unfold V
  after_reads_at

theorem readB (y : S1024x1024.Idx) : (V m c main_v1 : S1024x1024.Idx → EReal) y = B m c y := by
  unfold V
  after_reads_at

theorem readD (y : S8192x1024.Idx) : (V m c main_arg2 : S8192x1024.Idx → EReal) y = D m c y := by
  rw [V_main_arg2]

theorem idx : ∀ t : Fin cfg0.N, win0_0.index t = ![t.val, 0]
    ∧ win0_1.index t = ![0, 0]
    ∧ win0_2.index t = ![t.val, 0]
    ∧ win0_3.index t = ![t.val, 0] := by decide +kernel

/-- The blocks of the two factors and of the summand at a grid point. -/
abbrev L (t : Fin cfg0.N) : S1024x1024.Idx → EReal := iblk m c 0 t
abbrev R (t : Fin cfg0.N) : S1024x1024.Idx → EReal := iblk m c 1 t
abbrev E (t : Fin cfg0.N) : S1024x1024.Idx → EReal := iblk m c 2 t

theorem blkA (t : Fin cfg0.N) (p : Fin 1024) (q : Fin 1024) (a b : ℕ) (ha : a < 8192) (hb : b < 1024)
    (ea : a = 1024 * (t.val) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1024) (a b : ℕ) (ha : a < 1024) (hb : b < 1024)
    (ea : a = p.val) (eb : b = q.val) :
    R m c t (ix2 p q) = B m c (ix2 ⟨a, ha⟩ ⟨b, hb⟩) := by
  have hx := (idx t).2.1
  subst ea eb
  refine Eq.trans ?_ (readB m c _)
  blk_ext [R, iblk, hx]

theorem blkD (t : Fin cfg0.N) (p : Fin 1024) (q : Fin 1024) (a b : ℕ) (ha : a < 8192) (hb : b < 1024)
    (ea : a = 1024 * (t.val) + p.val) (eb : b = q.val) :
    E m c t (ix2 p q) = D m c (ix2 ⟨a, ha⟩ ⟨b, hb⟩) := by
  have hx := (idx t).2.2.1
  subst ea eb
  refine Eq.trans ?_ (readD m c _)
  blk_ext [E, iblk, hx]

theorem pay1_at (p : Fin 1024) (q : Fin 1024) : k0_pay1 (F := Ideal) (ix2 p q) = 0 := by
  rw [← Sums.zero_word]
  pointwise [k0_pay1]

theorem pay2_at (x : Vec Ideal S1024x1024 .bf16) (y : Vec Ideal S1024x1024 .bf16) (z : Vec Ideal S1024x1024 .f32) (p : Fin 1024) (q : Fin 1024) :
    k0_pay2 (F := Ideal) x y z (ix2 p q) = z (ix2 p q) + ∑ k : Fin 1024, x (ix2 p k) * y (ix2 k q) := by
  pointwise [k0_pay2]

theorem pay3_at (x y : Vec Ideal S1024x1024 .f32) (p : Fin 1024) (q : Fin 1024) :
    k0_pay3 (F := Ideal) x y (ix2 p q) = x (ix2 p q) + y (ix2 p q) := by
  pointwise [k0_pay3]

theorem sumBlk (t : Fin cfg0.N) (p : Fin 1024) (q : Fin 1024) :
    ∑ k : Fin 1024, L m c t (ix2 p k) * R m c t (ix2 k q) = ∑ k : Fin 1024, term m c (1024 * (t.val) + p.val) (q.val) (k.val) := by
  have ht : t.val < 8 := lt_of_lt_of_eq t.isLt N_0
  refine Finset.sum_congr rfl fun k _ => ?_
  unfold term
  rw [dif_pos ⟨by omega, by omega, by omega⟩, blkA m c t p k _ _ _ _ rfl rfl, blkB m c t k q _ _ _ _ rfl rfl]

/-- What the output's block holds after a grid point. -/
theorem last (t : Fin cfg0.N) (p : Fin 1024) (q : Fin 1024) :
    outsAt0 m c t (ix2 p q) = E m c t (ix2 p q) + ∑ k ∈ Finset.range 1024, term m c (1024 * (t.val) + p.val) (q.val) k := by
  have e : outsAt0 m c t = k0_pay3 (F := Ideal) (k0_pay2 (F := Ideal) (L m c t) (R m c t) (k0_pay1 (F := Ideal))) (E m c t) := by
    dsimp only [outsAt0]
    unfold out0_A_3 kernelRun0_A
    dsimp only
    unfold kernelRun0_A.sl.v16 kernelRun0_A.sl.HS0_2 View.readCov
    rw [View.read_writes_full, View.readAt_writes_full, View.readAt_full, View.readAt_full, (hs0_0 t).read_unread, (hs0_1 t).read_unread, View.readAt_full, (hs0_2 t).read_unread]
    unfold kernelRun0_A.sl.v7 kernelRun0_A.sl.HS0_1 View.readCov
    rw [View.readAt_writes_full]
  rw [e, pay3_at, pay2_at, pay1_at, sumBlk, zero_add, Sums.start, add_comm]

/-- The product added to its summand. -/
def prod : S8192x1024.Idx → EReal := fun j => D m c j + ∑ k ∈ Finset.range 1024, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 3 cfg0.N = prod m c := by
  refine (dats m 0 c).arrAt_eq_of_covers 3 _ (by decide +kernel) fun t hf y => ?_
  have ht : t.val < 8 := lt_of_lt_of_eq t.isLt N_0
  have hi := (idx t).2.2.2
  have h := last m c t (y 0) (y 1)
  have e0 : ((win0_3.blk t).view.emb y 0).val = 1024 * (t.val) + (y 0).val := by blk_simp [hi] <;> omega
  have e1 : ((win0_3.blk t).view.emb y 1).val = (y 1).val := by blk_simp [hi]
  rw [after0_3]
  rw [blkD m c t (y 0) (y 1) _ _ ((win0_3.blk t).view.emb y 0).isLt ((win0_3.blk t).view.emb y 1).isLt e0 e1] at h
  generalize outsAt0 m c t = W at h ⊢
  refine (congrArg (fun z : S1024x1024.Idx => W z) (eta y)).trans (h.trans ?_)
  show _ = prod m c ((win0_3.blk t).view.emb y)
  unfold prod
  refine congrArg₂ (· + ·) (congrArg (D m c) (funext fun a => ?_)) ?_
  · match a with
    | ⟨0, _⟩ => rfl
    | ⟨1, _⟩ => rfl
  · rw [e0, e1]

/-- The reference's product. -/
theorem ref (j : S8192x1024.Idx) : Cert.Reference11Ideal.Read.val_main_v1 (F := Ideal) (A m c) (B m c) (D m c) j = prod m c j := by
  rw [Cert.Reference11Ideal.Read.val_main_v1_apply, Cert.Reference11Ideal.Read.val_main_v0_apply]
  unfold prod
  rw [Sums.start]
  refine congrArg (D m c j + ·) ?_
  refine Finset.sum_congr rfl fun k _ => ?_
  have h0 : (j 0).val < 8192 := (j 0).isLt
  have h1 : (j 1).val < 1024 := (j 1).isLt
  unfold term
  rw [dif_pos ⟨h0, h1, k.isLt⟩]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel11Ideal_Reference11Ideal (hKernel11Ideal := Cert.Kernel11Ideal.Gen.facts) (hReference11Ideal := Cert.Reference11Ideal.Gen.facts) := by
  intro m g m' g' _ ha
  refine ⟨_, Cert.Kernel11Ideal.Value.run_blocks m g, (θ_run Cert.Reference11Ideal.defs _ _).mono (fun r h c => ?_) (Cert.Reference11Ideal.Value.run m' g')⟩
  refine ⟨((h c).1.trans (Cert.Reference11Ideal.Read.val_main_v1_eq _ _ _)).trans ?_, (h c).2⟩
  obtain ⟨a0, a1, a2⟩ := ha c
  rw [a0, a1, a2]
  exact (funext fun j => ref m c j).trans (arr m c).symm

/-- The three frames. -/
theorem frame_kernel : Cert.quiescent_Kernel11 (hKernel11 := Cert.Kernel11.Gen.facts) := fun m ρ _ => Cert.Kernel11.Gen.frame m ρ

theorem frame_kernelIdeal : Cert.quiescent_Kernel11Ideal (hKernel11Ideal := Cert.Kernel11Ideal.Gen.facts) := fun m ρ _ => Cert.Kernel11Ideal.Gen.frame m ρ

theorem frame_referenceIdeal : Cert.quiescent_Reference11Ideal (hReference11Ideal := Cert.Reference11Ideal.Gen.facts) := fun m ρ _ =>
  (θ_run Cert.Reference11Ideal.defs _ _).mono (fun r h => ⟨fun c => (h c).2, sem_eq_zero_of_no_sems rfl r.2⟩) (Cert.Reference11Ideal.Value.run m ρ)

end Cert.Kernel11Ideal.Val
-- ==== Proof.Prod12.lean ====
/- The gradient of the output projection's matrix: a grid of tiles, each summed over 8 blocks of the inner axis, is the whole product. -/
module

public import proofs.«01_k».proof.Defs
public import proofs.«01_k».proof.Proof.Sums
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel12Ideal.Val

open Idealize.ShloMosaic Idealize.ShloMosaic.TcCoe Idealize.SL.Sem Cert.Kernel12Ideal Cert.Kernel12Ideal.Gen

section
variable (m : (ℓ : Loc nD τ sig) → Buf (Elt Ideal) ℓ) (c : Dev nD)

/-- The left factor. -/
abbrev A : S8192x1024.Idx → EReal := m ((c : Thread nD τ).loc main_arg0)
/-- The right factor. -/
abbrev B : S8192x1024.Idx → EReal := m ((c : Thread nD τ).loc main_arg1)

/-- Term `k` of the sum that is entry `(i, j)` of the product. -/
def term (i j k : ℕ) : EReal :=
  if h : i < 1024 ∧ j < 1024 ∧ k < 8192 then A m c (ix2 ⟨k, h.2.2⟩ ⟨i, h.1⟩) * B m c (ix2 ⟨k, h.2.2⟩ ⟨j, h.2.1⟩) else 0

theorem readA (y : S8192x1024.Idx) : (V m c main_v0 : S8192x1024.Idx → EReal) y = A m c y := by
  unfold V
  after_reads_at

theorem readB (y : S8192x1024.Idx) : (V m c main_arg1 : S8192x1024.Idx → EReal) y = B m c y := by
  rw [V_main_arg1]

theorem idx : ∀ t : Fin cfg0.N, win0_0.index t = ![t.val % 8, 0]
    ∧ win0_1.index t = ![t.val % 8, 0]
    ∧ win0_2.index t = ![0, 0] := by decide +kernel

/-- The blocks of the two factors at a grid point. -/
abbrev L (t : Fin cfg0.N) : S1024x1024.Idx → EReal := iblk m c 0 t
abbrev R (t : Fin cfg0.N) : S1024x1024.Idx → EReal := iblk m c 1 t

theorem blkA (t : Fin cfg0.N) (p : Fin 1024) (q : Fin 1024) (a b : ℕ) (ha : a < 8192) (hb : b < 1024)
    (ea : a = 1024 * (t.val % 8) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1024) (a b : ℕ) (ha : a < 8192) (hb : b < 1024)
    (ea : a = 1024 * (t.val % 8) + p.val) (eb : b = q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 1024) : k0_pay1 (F := Ideal) (ix2 p q) = 0 := by
  rw [← Sums.zero_word]
  pointwise [k0_pay1]

theorem pay2_at (x : Vec Ideal S1024x1024 .bf16) (y : Vec Ideal S1024x1024 .f32) (z : Vec Ideal S1024x1024 .f32) (p : Fin 1024) (q : Fin 1024) :
    k0_pay2 (F := Ideal) x y z (ix2 p q) = z (ix2 p q) + ∑ k : Fin 1024, x (ix2 k p) * y (ix2 k q) := by
  pointwise [k0_pay2]

theorem sumBlk (t : Fin cfg0.N) (p : Fin 1024) (q : Fin 1024) :
    ∑ k : Fin 1024, L m c t (ix2 k p) * R m c t (ix2 k q) = ∑ k : Fin 1024, term m c (p.val) (q.val) (1024 * (t.val % 8) + k.val) := by
  have ht : t.val < 8 := lt_of_lt_of_eq t.isLt N_0
  refine Finset.sum_congr rfl fun k _ => ?_
  unfold term
  rw [dif_pos ⟨by omega, by omega, by omega⟩, blkA m c t k p _ _ _ _ rfl rfl, blkB m c t k q _ _ _ _ rfl rfl]

theorem first (t : Fin cfg0.N) (h : t.val % 8 = 0) :
    (outsAt0 m c t.val t.isLt).2 = k0_pay2 (F := Ideal) (L m c t) (R m c t) (k0_pay1 (F := Ideal)) := by
  rw [outsAt0_A m c t h (by omega)]
  dsimp only
  unfold sout0_A_0 kernelRun0_A
  dsimp only
  rw [View.read_writes_full, View.readAt_full, View.readAt_full, (hs0_0 t).read_unread, (hs0_1 t).read_unread]
  unfold kernelRun0_A.sl.v7 kernelRun0_A.sl.HS0_1 View.readCov
  rw [View.readAt_writes_full]

theorem next (t : Fin cfg0.N) (h : ¬t.val % 8 = 0) :
    (outsAt0 m c t.val t.isLt).2 = k0_pay2 (F := Ideal) (L m c t) (R m c t) (outsAt0 m c (t.val - 1) (Nat.lt_of_le_of_lt (Nat.sub_le _ _) t.isLt)).2 := by
  by_cases h1 : t.val % 8 = 7
  · rw [outsAt0_C m c t h h1]
    dsimp only
    unfold sout0_C_0 kernelRun0_C
    dsimp only
    unfold kernelRun0_C.sl.HS0_1
    rw [View.read_writes_full, View.readAt_full, View.readAt_full, View.readAt_full, (hs0_0 t).read_unread, (hs0_1 t).read_unread, (Memref.isWhole_whole _).read_unread]
  · rw [outsAt0_B m c t h h1]
    dsimp only
    unfold sout0_B_0 kernelRun0_B
    dsimp only
    rw [View.read_writes_full, View.readAt_full, View.readAt_full, View.readAt_full, (hs0_0 t).read_unread, (hs0_1 t).read_unread, (Memref.isWhole_whole _).read_unread]

/-- What the accumulator holds after a grid point. -/
theorem acc : ∀ (n : ℕ) (hn : n < cfg0.N) (p : Fin 1024) (q : Fin 1024),
    (outsAt0 m c n hn).2 (ix2 p q) = ∑ k ∈ Finset.range (1024 * (n % 8) + 1024), term m c (p.val) (q.val) k := by
  intro n
  induction n using Nat.strong_induction_on with
  | _ n ih =>
    intro hn p q
    rw [Sums.grow, ← sumBlk m c ⟨n, hn⟩]
    by_cases h : n % 8 = 0
    · refine (congrFun (first m c ⟨n, hn⟩ h) (ix2 p q)).trans ?_
      rw [pay2_at, pay1_at, h, Finset.range_zero, Finset.sum_empty]
    · refine (congrFun (next m c ⟨n, hn⟩ h) (ix2 p q)).trans ?_
      rw [pay2_at, ih (n - 1) (by omega)]
      have e0 : 1024 * ((n - 1) % 8) + 1024 = 1024 * (n % 8) := by omega
      rw [e0]

/-- What the output's block holds at the last point of a run. -/
theorem last (t : Fin cfg0.N) (h : t.val % 8 = 7) (p : Fin 1024) (q : Fin 1024) :
    (outsAt0 m c t.val t.isLt).1 (ix2 p q) = ∑ k ∈ Finset.range 8192, term m c (p.val) (q.val) k := by
  have e : (outsAt0 m c t.val t.isLt).1 = (outsAt0 m c t.val t.isLt).2 := by
    rw [outsAt0_C m c t (by omega) h]
    dsimp only
    unfold out0_C_2 sout0_C_0 kernelRun0_C
    dsimp only
    unfold kernelRun0_C.sl.v16 kernelRun0_C.sl.HS0_1 View.readCov
    rw [View.read_writes_full, View.read_writes_full, View.readAt_writes_full]
  rw [e, acc, h]

/-- The product. -/
def prod : S1024x1024.Idx → EReal := fun j => ∑ k ∈ Finset.range 8192, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 8 := lt_of_lt_of_eq t.isLt N_0
  have hi := (idx t).2.2
  have h := last m c t ((flush0_2 t).mp hf) (y 0) (y 1)
  have e0 : ((win0_2.blk t).view.emb y 0).val = (y 0).val := by blk_simp [hi]
  have e1 : ((win0_2.blk t).view.emb y 1).val = (y 1).val := by blk_simp [hi]
  rw [after0_2]
  generalize (outsAt0 m c t.val t.isLt).1 = W at h ⊢
  refine (congrArg (fun z : S1024x1024.Idx => W z) (eta y)).trans (h.trans ?_)
  show _ = prod m c ((win0_2.blk t).view.emb y)
  unfold prod
  rw [e0, e1]

/-- The reference's product. -/
theorem ref (j : S1024x1024.Idx) : Cert.Reference12Ideal.Read.val_main_v3 (F := Ideal) (A m c) (B m c) j = prod m c j := by
  rw [Cert.Reference12Ideal.Read.val_main_v3_apply, Cert.Reference12Ideal.Read.val_main_v2_apply]
  unfold prod
  rw [Sums.start]
  refine Finset.sum_congr rfl fun k _ => ?_
  have h0 : (j 0).val < 1024 := (j 0).isLt
  have h1 : (j 1).val < 1024 := (j 1).isLt
  unfold term
  rw [dif_pos ⟨h0, h1, k.isLt⟩, mul_comm]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel12Ideal_Reference12Ideal (hKernel12Ideal := Cert.Kernel12Ideal.Gen.facts) (hReference12Ideal := Cert.Reference12Ideal.Gen.facts) := by
  intro m g m' g' _ ha
  refine ⟨_, Cert.Kernel12Ideal.Value.run_blocks m g, (θ_run Cert.Reference12Ideal.defs _ _).mono (fun r h c => ?_) (Cert.Reference12Ideal.Value.run m' g')⟩
  refine ⟨((h c).1.trans (Cert.Reference12Ideal.Read.val_main_v3_eq _ _)).trans ?_, (h c).2⟩
  obtain ⟨a0, a1⟩ := ha c
  rw [a0, a1]
  exact (funext fun j => ref m c j).trans (arr m c).symm

/-- The three frames. -/
theorem frame_kernel : Cert.quiescent_Kernel12 (hKernel12 := Cert.Kernel12.Gen.facts) := fun m ρ _ => Cert.Kernel12.Gen.frame m ρ

theorem frame_kernelIdeal : Cert.quiescent_Kernel12Ideal (hKernel12Ideal := Cert.Kernel12Ideal.Gen.facts) := fun m ρ _ => Cert.Kernel12Ideal.Gen.frame m ρ

theorem frame_referenceIdeal : Cert.quiescent_Reference12Ideal (hReference12Ideal := Cert.Reference12Ideal.Gen.facts) := fun m ρ _ =>
  (θ_run Cert.Reference12Ideal.defs _ _).mono (fun r h => ⟨fun c => (h c).2, sem_eq_zero_of_no_sems rfl r.2⟩) (Cert.Reference12Ideal.Value.run m ρ)

end Cert.Kernel12Ideal.Val
-- ==== Proof.Prod13.lean ====
/- The gradient of what the output projection multiplies: a grid of tiles, each summed over 1 block of the inner axis, is the whole product. -/
module

public import proofs.«01_k».proof.Defs
public import proofs.«01_k».proof.Proof.Sums
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel13Ideal.Val

open Idealize.ShloMosaic Idealize.ShloMosaic.TcCoe Idealize.SL.Sem Cert.Kernel13Ideal Cert.Kernel13Ideal.Gen

section
variable (m : (ℓ : Loc nD τ sig) → Buf (Elt Ideal) ℓ) (c : Dev nD)

/-- The left factor. -/
abbrev A : S8192x1024.Idx → EReal := m ((c : Thread nD τ).loc main_arg1)
/-- The right factor. -/
abbrev B : S1024x1024.Idx → EReal := m ((c : Thread nD τ).loc main_arg0)

/-- Term `k` of the sum that is entry `(i, j)` of the product. -/
def term (i j k : ℕ) : EReal :=
  if h : i < 8192 ∧ j < 1024 ∧ k < 1024 then A m c (ix2 ⟨i, h.1⟩ ⟨k, h.2.2⟩) * B m c (ix2 ⟨j, h.2.1⟩ ⟨k, h.2.2⟩) else 0

theorem readA (y : S8192x1024.Idx) : (V m c main_arg1 : S8192x1024.Idx → EReal) y = A m c y := by
  rw [V_main_arg1]

theorem readB (y : S1024x1024.Idx) : (V m c main_v0 : S1024x1024.Idx → EReal) y = B m c y := by
  unfold V
  after_reads_at

theorem idx : ∀ t : Fin cfg0.N, win0_0.index t = ![t.val, 0]
    ∧ win0_1.index t = ![0, 0]
    ∧ win0_2.index t = ![t.val, 0] := by decide +kernel

/-- The blocks of the two factors at a grid point. -/
abbrev L (t : Fin cfg0.N) : S1024x1024.Idx → EReal := iblk m c 0 t
abbrev R (t : Fin cfg0.N) : S1024x1024.Idx → EReal := iblk m c 1 t

theorem blkA (t : Fin cfg0.N) (p : Fin 1024) (q : Fin 1024) (a b : ℕ) (ha : a < 8192) (hb : b < 1024)
    (ea : a = 1024 * (t.val) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1024) (a b : ℕ) (ha : a < 1024) (hb : b < 1024)
    (ea : a = p.val) (eb : b = q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 1024) : k0_pay1 (F := Ideal) (ix2 p q) = 0 := by
  rw [← Sums.zero_word]
  pointwise [k0_pay1]

theorem pay2_at (x : Vec Ideal S1024x1024 .f32) (y : Vec Ideal S1024x1024 .bf16) (z : Vec Ideal S1024x1024 .f32) (p : Fin 1024) (q : Fin 1024) :
    k0_pay2 (F := Ideal) x y z (ix2 p q) = z (ix2 p q) + ∑ k : Fin 1024, x (ix2 p k) * y (ix2 q k) := by
  pointwise [k0_pay2]

theorem sumBlk (t : Fin cfg0.N) (p : Fin 1024) (q : Fin 1024) :
    ∑ k : Fin 1024, L m c t (ix2 p k) * R m c t (ix2 q k) = ∑ k : Fin 1024, term m c (1024 * (t.val) + p.val) (q.val) (k.val) := by
  have ht : t.val < 8 := lt_of_lt_of_eq t.isLt N_0
  refine Finset.sum_congr rfl fun k _ => ?_
  unfold term
  rw [dif_pos ⟨by omega, by omega, by omega⟩, blkA m c t p k _ _ _ _ rfl rfl, blkB m c t q k _ _ _ _ rfl rfl]

/-- What the output's block holds after a grid point. -/
theorem last (t : Fin cfg0.N) (p : Fin 1024) (q : Fin 1024) :
    outsAt0 m c t (ix2 p q) = ∑ k ∈ Finset.range 1024, term m c (1024 * (t.val) + p.val) (q.val) k := by
  have e : outsAt0 m c t = (k0_pay2 (F := Ideal) (L m c t) (R m c t) (k0_pay1 (F := Ideal))) := by
    dsimp only [outsAt0]
    unfold out0_A_2 kernelRun0_A
    dsimp only
    unfold kernelRun0_A.sl.v16 kernelRun0_A.sl.HS0_2 View.readCov
    rw [View.read_writes_full, View.readAt_writes_full, View.readAt_full, View.readAt_full, (hs0_0 t).read_unread, (hs0_1 t).read_unread]
    unfold kernelRun0_A.sl.v7 kernelRun0_A.sl.HS0_1 View.readCov
    rw [View.readAt_writes_full]
  rw [e, pay2_at, pay1_at, sumBlk, zero_add, Sums.start]

/-- The product. -/
def prod : S8192x1024.Idx → EReal := fun j => ∑ k ∈ Finset.range 1024, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 8 := lt_of_lt_of_eq t.isLt N_0
  have hi := (idx t).2.2
  have h := last m c t (y 0) (y 1)
  have e0 : ((win0_2.blk t).view.emb y 0).val = 1024 * (t.val) + (y 0).val := by blk_simp [hi] <;> omega
  have e1 : ((win0_2.blk t).view.emb y 1).val = (y 1).val := by blk_simp [hi]
  rw [after0_2]
  generalize outsAt0 m c t = W at h ⊢
  refine (congrArg (fun z : S1024x1024.Idx => W z) (eta y)).trans (h.trans ?_)
  show _ = prod m c ((win0_2.blk t).view.emb y)
  unfold prod
  rw [e0, e1]

/-- The reference's product. -/
theorem ref (j : S8192x1024.Idx) : Cert.Reference13Ideal.Read.val_main_v2 (F := Ideal) (B m c) (A m c) j = prod m c j := by
  rw [Cert.Reference13Ideal.Read.val_main_v2_apply]
  unfold prod
  rw [Sums.start]
  refine Finset.sum_congr rfl fun k _ => ?_
  have h0 : (j 0).val < 8192 := (j 0).isLt
  have h1 : (j 1).val < 1024 := (j 1).isLt
  unfold term
  rw [dif_pos ⟨h0, h1, k.isLt⟩]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel13Ideal_Reference13Ideal (hKernel13Ideal := Cert.Kernel13Ideal.Gen.facts) (hReference13Ideal := Cert.Reference13Ideal.Gen.facts) := by
  intro m g m' g' _ ha
  refine ⟨_, Cert.Kernel13Ideal.Value.run_blocks m g, (θ_run Cert.Reference13Ideal.defs _ _).mono (fun r h c => ?_) (Cert.Reference13Ideal.Value.run m' g')⟩
  refine ⟨((h c).1.trans (Cert.Reference13Ideal.Read.val_main_v2_eq _ _)).trans ?_, (h c).2⟩
  obtain ⟨a0, a1⟩ := ha c
  rw [a0, a1]
  exact (funext fun j => ref m c j).trans (arr m c).symm

/-- The three frames. -/
theorem frame_kernel : Cert.quiescent_Kernel13 (hKernel13 := Cert.Kernel13.Gen.facts) := fun m ρ _ => Cert.Kernel13.Gen.frame m ρ

theorem frame_kernelIdeal : Cert.quiescent_Kernel13Ideal (hKernel13Ideal := Cert.Kernel13Ideal.Gen.facts) := fun m ρ _ => Cert.Kernel13Ideal.Gen.frame m ρ

theorem frame_referenceIdeal : Cert.quiescent_Reference13Ideal (hReference13Ideal := Cert.Reference13Ideal.Gen.facts) := fun m ρ _ =>
  (θ_run Cert.Reference13Ideal.defs _ _).mono (fun r h => ⟨fun c => (h c).2, sem_eq_zero_of_no_sems rfl r.2⟩) (Cert.Reference13Ideal.Value.run m ρ)

end Cert.Kernel13Ideal.Val
-- ==== Proof.Prod14.lean ====
/- The gradient of the matrix of the sliding heads' input projections: a grid of tiles, each summed over 8 blocks of the inner axis, is the whole product. -/
module

public import proofs.«01_k».proof.Defs
public import proofs.«01_k».proof.Proof.Sums
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel14Ideal.Val

open Idealize.ShloMosaic Idealize.ShloMosaic.TcCoe Idealize.SL.Sem Cert.Kernel14Ideal Cert.Kernel14Ideal.Gen

section
variable (m : (ℓ : Loc nD τ sig) → Buf (Elt Ideal) ℓ) (c : Dev nD)

/-- The left factor. -/
abbrev A : S8192x1024.Idx → EReal := m ((c : Thread nD τ).loc main_arg0)
/-- The right factor. -/
abbrev B : S8192x768.Idx → EReal := m ((c : Thread nD τ).loc main_arg1)

/-- Term `k` of the sum that is entry `(i, j)` of the product. -/
def term (i j k : ℕ) : EReal :=
  if h : i < 1024 ∧ j < 768 ∧ k < 8192 then A m c (ix2 ⟨k, h.2.2⟩ ⟨i, h.1⟩) * B m c (ix2 ⟨k, h.2.2⟩ ⟨j, h.2.1⟩) else 0

theorem readA (y : S8192x1024.Idx) : (V m c main_v0 : S8192x1024.Idx → EReal) y = A m c y := by
  unfold V
  after_reads_at

theorem readB (y : S8192x768.Idx) : (V m c main_v1 : S8192x768.Idx → EReal) y = B m c y := by
  unfold V
  after_reads_at

theorem idx : ∀ t : Fin cfg0.N, win0_0.index t = ![t.val % 8, 0]
    ∧ win0_1.index t = ![t.val % 8, 0]
    ∧ win0_2.index t = ![0, 0] := by decide +kernel

/-- The blocks of the two factors at a grid point. -/
abbrev L (t : Fin cfg0.N) : S1024x1024.Idx → EReal := iblk m c 0 t
abbrev R (t : Fin cfg0.N) : S1024x768.Idx → EReal := iblk m c 1 t

theorem blkA (t : Fin cfg0.N) (p : Fin 1024) (q : Fin 1024) (a b : ℕ) (ha : a < 8192) (hb : b < 1024)
    (ea : a = 1024 * (t.val % 8) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 768) (a b : ℕ) (ha : a < 8192) (hb : b < 768)
    (ea : a = 1024 * (t.val % 8) + p.val) (eb : b = q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 768) : k0_pay1 (F := Ideal) (ix2 p q) = 0 := by
  rw [← Sums.zero_word]
  pointwise [k0_pay1]

theorem pay2_at (x : Vec Ideal S1024x1024 .bf16) (y : Vec Ideal S1024x768 .bf16) (z : Vec Ideal S1024x768 .f32) (p : Fin 1024) (q : Fin 768) :
    k0_pay2 (F := Ideal) x y z (ix2 p q) = z (ix2 p q) + ∑ k : Fin 1024, x (ix2 k p) * y (ix2 k q) := by
  pointwise [k0_pay2]

theorem sumBlk (t : Fin cfg0.N) (p : Fin 1024) (q : Fin 768) :
    ∑ k : Fin 1024, L m c t (ix2 k p) * R m c t (ix2 k q) = ∑ k : Fin 1024, term m c (p.val) (q.val) (1024 * (t.val % 8) + k.val) := by
  have ht : t.val < 8 := lt_of_lt_of_eq t.isLt N_0
  refine Finset.sum_congr rfl fun k _ => ?_
  unfold term
  rw [dif_pos ⟨by omega, by omega, by omega⟩, blkA m c t k p _ _ _ _ rfl rfl, blkB m c t k q _ _ _ _ rfl rfl]

theorem first (t : Fin cfg0.N) (h : t.val % 8 = 0) :
    (outsAt0 m c t.val t.isLt).2 = k0_pay2 (F := Ideal) (L m c t) (R m c t) (k0_pay1 (F := Ideal)) := by
  rw [outsAt0_A m c t h (by omega)]
  dsimp only
  unfold sout0_A_0 kernelRun0_A
  dsimp only
  rw [View.read_writes_full, View.readAt_full, View.readAt_full, (hs0_0 t).read_unread, (hs0_1 t).read_unread]
  unfold kernelRun0_A.sl.v7 kernelRun0_A.sl.HS0_1 View.readCov
  rw [View.readAt_writes_full]

theorem next (t : Fin cfg0.N) (h : ¬t.val % 8 = 0) :
    (outsAt0 m c t.val t.isLt).2 = k0_pay2 (F := Ideal) (L m c t) (R m c t) (outsAt0 m c (t.val - 1) (Nat.lt_of_le_of_lt (Nat.sub_le _ _) t.isLt)).2 := by
  by_cases h1 : t.val % 8 = 7
  · rw [outsAt0_C m c t h h1]
    dsimp only
    unfold sout0_C_0 kernelRun0_C
    dsimp only
    unfold kernelRun0_C.sl.HS0_1
    rw [View.read_writes_full, View.readAt_full, View.readAt_full, View.readAt_full, (hs0_0 t).read_unread, (hs0_1 t).read_unread, (Memref.isWhole_whole _).read_unread]
  · rw [outsAt0_B m c t h h1]
    dsimp only
    unfold sout0_B_0 kernelRun0_B
    dsimp only
    rw [View.read_writes_full, View.readAt_full, View.readAt_full, View.readAt_full, (hs0_0 t).read_unread, (hs0_1 t).read_unread, (Memref.isWhole_whole _).read_unread]

/-- What the accumulator holds after a grid point. -/
theorem acc : ∀ (n : ℕ) (hn : n < cfg0.N) (p : Fin 1024) (q : Fin 768),
    (outsAt0 m c n hn).2 (ix2 p q) = ∑ k ∈ Finset.range (1024 * (n % 8) + 1024), term m c (p.val) (q.val) k := by
  intro n
  induction n using Nat.strong_induction_on with
  | _ n ih =>
    intro hn p q
    rw [Sums.grow, ← sumBlk m c ⟨n, hn⟩]
    by_cases h : n % 8 = 0
    · refine (congrFun (first m c ⟨n, hn⟩ h) (ix2 p q)).trans ?_
      rw [pay2_at, pay1_at, h, Finset.range_zero, Finset.sum_empty]
    · refine (congrFun (next m c ⟨n, hn⟩ h) (ix2 p q)).trans ?_
      rw [pay2_at, ih (n - 1) (by omega)]
      have e0 : 1024 * ((n - 1) % 8) + 1024 = 1024 * (n % 8) := by omega
      rw [e0]

/-- What the output's block holds at the last point of a run. -/
theorem last (t : Fin cfg0.N) (h : t.val % 8 = 7) (p : Fin 1024) (q : Fin 768) :
    (outsAt0 m c t.val t.isLt).1 (ix2 p q) = ∑ k ∈ Finset.range 8192, term m c (p.val) (q.val) k := by
  have e : (outsAt0 m c t.val t.isLt).1 = (outsAt0 m c t.val t.isLt).2 := by
    rw [outsAt0_C m c t (by omega) h]
    dsimp only
    unfold out0_C_2 sout0_C_0 kernelRun0_C
    dsimp only
    unfold kernelRun0_C.sl.v16 kernelRun0_C.sl.HS0_1 View.readCov
    rw [View.read_writes_full, View.read_writes_full, View.readAt_writes_full]
  rw [e, acc, h]

/-- The product. -/
def prod : S1024x768.Idx → EReal := fun j => ∑ k ∈ Finset.range 8192, term m c (j 0).val (j 1).val k

theorem eta (y : S1024x768.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 8 := lt_of_lt_of_eq t.isLt N_0
  have hi := (idx t).2.2
  have h := last m c t ((flush0_2 t).mp hf) (y 0) (y 1)
  have e0 : ((win0_2.blk t).view.emb y 0).val = (y 0).val := by blk_simp [hi]
  have e1 : ((win0_2.blk t).view.emb y 1).val = (y 1).val := by blk_simp [hi]
  rw [after0_2]
  generalize (outsAt0 m c t.val t.isLt).1 = W at h ⊢
  refine (congrArg (fun z : S1024x768.Idx => W z) (eta y)).trans (h.trans ?_)
  show _ = prod m c ((win0_2.blk t).view.emb y)
  unfold prod
  rw [e0, e1]

/-- The reference's product. -/
theorem ref (j : S1024x768.Idx) : Cert.Reference14Ideal.Read.val_main_v3 (F := Ideal) (A m c) (B m c) j = prod m c j := by
  rw [Cert.Reference14Ideal.Read.val_main_v3_apply, Cert.Reference14Ideal.Read.val_main_v2_apply]
  unfold prod
  rw [Sums.start]
  refine Finset.sum_congr rfl fun k _ => ?_
  have h0 : (j 0).val < 1024 := (j 0).isLt
  have h1 : (j 1).val < 768 := (j 1).isLt
  unfold term
  rw [dif_pos ⟨h0, h1, k.isLt⟩, mul_comm]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel14Ideal_Reference14Ideal (hKernel14Ideal := Cert.Kernel14Ideal.Gen.facts) (hReference14Ideal := Cert.Reference14Ideal.Gen.facts) := by
  intro m g m' g' _ ha
  refine ⟨_, Cert.Kernel14Ideal.Value.run_blocks m g, (θ_run Cert.Reference14Ideal.defs _ _).mono (fun r h c => ?_) (Cert.Reference14Ideal.Value.run m' g')⟩
  refine ⟨((h c).1.trans (Cert.Reference14Ideal.Read.val_main_v3_eq _ _)).trans ?_, (h c).2⟩
  obtain ⟨a0, a1⟩ := ha c
  rw [a0, a1]
  exact (funext fun j => ref m c j).trans (arr m c).symm

/-- The three frames. -/
theorem frame_kernel : Cert.quiescent_Kernel14 (hKernel14 := Cert.Kernel14.Gen.facts) := fun m ρ _ => Cert.Kernel14.Gen.frame m ρ

theorem frame_kernelIdeal : Cert.quiescent_Kernel14Ideal (hKernel14Ideal := Cert.Kernel14Ideal.Gen.facts) := fun m ρ _ => Cert.Kernel14Ideal.Gen.frame m ρ

theorem frame_referenceIdeal : Cert.quiescent_Reference14Ideal (hReference14Ideal := Cert.Reference14Ideal.Gen.facts) := fun m ρ _ =>
  (θ_run Cert.Reference14Ideal.defs _ _).mono (fun r h => ⟨fun c => (h c).2, sem_eq_zero_of_no_sems rfl r.2⟩) (Cert.Reference14Ideal.Value.run m ρ)

end Cert.Kernel14Ideal.Val
-- ==== Proof.Prod15.lean ====
/- The gradient of the matrix of the other input projections: a grid of tiles, each summed over 8 blocks of the inner axis, is the whole product. -/
module

public import proofs.«01_k».proof.Defs
public import proofs.«01_k».proof.Proof.Sums
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel15Ideal.Val

open Idealize.ShloMosaic Idealize.ShloMosaic.TcCoe Idealize.SL.Sem Cert.Kernel15Ideal Cert.Kernel15Ideal.Gen

section
variable (m : (ℓ : Loc nD τ sig) → Buf (Elt Ideal) ℓ) (c : Dev nD)

/-- The left factor. -/
abbrev A : S8192x1024.Idx → EReal := m ((c : Thread nD τ).loc main_arg0)
/-- The right factor. -/
abbrev B : S8192x2048.Idx → EReal := m ((c : Thread nD τ).loc main_arg1)

/-- Term `k` of the sum that is entry `(i, j)` of the product. -/
def term (i j k : ℕ) : EReal :=
  if h : i < 1024 ∧ j < 2048 ∧ k < 8192 then A m c (ix2 ⟨k, h.2.2⟩ ⟨i, h.1⟩) * B m c (ix2 ⟨k, h.2.2⟩ ⟨j, h.2.1⟩) else 0

theorem readA (y : S8192x1024.Idx) : (V m c main_v0 : S8192x1024.Idx → EReal) y = A m c y := by
  unfold V
  after_reads_at

theorem readB (y : S8192x2048.Idx) : (V m c main_v1 : S8192x2048.Idx → EReal) y = B m c y := by
  unfold V
  after_reads_at

theorem idx : ∀ t : Fin cfg0.N, win0_0.index t = ![t.val % 8, 0]
    ∧ win0_1.index t = ![t.val % 8, t.val / 8]
    ∧ win0_2.index t = ![0, t.val / 8] := by decide +kernel

/-- The blocks of the two factors at a grid point. -/
abbrev L (t : Fin cfg0.N) : S1024x1024.Idx → EReal := iblk m c 0 t
abbrev R (t : Fin cfg0.N) : S1024x1024.Idx → EReal := iblk m c 1 t

theorem blkA (t : Fin cfg0.N) (p : Fin 1024) (q : Fin 1024) (a b : ℕ) (ha : a < 8192) (hb : b < 1024)
    (ea : a = 1024 * (t.val % 8) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1024) (a b : ℕ) (ha : a < 8192) (hb : b < 2048)
    (ea : a = 1024 * (t.val % 8) + p.val) (eb : b = 1024 * (t.val / 8) + q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 1024) : k0_pay1 (F := Ideal) (ix2 p q) = 0 := by
  rw [← Sums.zero_word]
  pointwise [k0_pay1]

theorem pay2_at (x : Vec Ideal S1024x1024 .bf16) (y : Vec Ideal S1024x1024 .bf16) (z : Vec Ideal S1024x1024 .f32) (p : Fin 1024) (q : Fin 1024) :
    k0_pay2 (F := Ideal) x y z (ix2 p q) = z (ix2 p q) + ∑ k : Fin 1024, x (ix2 k p) * y (ix2 k q) := by
  pointwise [k0_pay2]

theorem sumBlk (t : Fin cfg0.N) (p : Fin 1024) (q : Fin 1024) :
    ∑ k : Fin 1024, L m c t (ix2 k p) * R m c t (ix2 k q) = ∑ k : Fin 1024, term m c (p.val) (1024 * (t.val / 8) + q.val) (1024 * (t.val % 8) + k.val) := by
  have ht : t.val < 16 := lt_of_lt_of_eq t.isLt N_0
  refine Finset.sum_congr rfl fun k _ => ?_
  unfold term
  rw [dif_pos ⟨by omega, by omega, by omega⟩, blkA m c t k p _ _ _ _ rfl rfl, blkB m c t k q _ _ _ _ rfl rfl]

theorem first (t : Fin cfg0.N) (h : t.val % 8 = 0) :
    (outsAt0 m c t.val t.isLt).2 = k0_pay2 (F := Ideal) (L m c t) (R m c t) (k0_pay1 (F := Ideal)) := by
  rw [outsAt0_A m c t h (by omega)]
  dsimp only
  unfold sout0_A_0 kernelRun0_A
  dsimp only
  rw [View.read_writes_full, View.readAt_full, View.readAt_full, (hs0_0 t).read_unread, (hs0_1 t).read_unread]
  unfold kernelRun0_A.sl.v7 kernelRun0_A.sl.HS0_1 View.readCov
  rw [View.readAt_writes_full]

theorem next (t : Fin cfg0.N) (h : ¬t.val % 8 = 0) :
    (outsAt0 m c t.val t.isLt).2 = k0_pay2 (F := Ideal) (L m c t) (R m c t) (outsAt0 m c (t.val - 1) (Nat.lt_of_le_of_lt (Nat.sub_le _ _) t.isLt)).2 := by
  by_cases h1 : t.val % 8 = 7
  · rw [outsAt0_C m c t h h1]
    dsimp only
    unfold sout0_C_0 kernelRun0_C
    dsimp only
    unfold kernelRun0_C.sl.HS0_1
    rw [View.read_writes_full, View.readAt_full, View.readAt_full, View.readAt_full, (hs0_0 t).read_unread, (hs0_1 t).read_unread, (Memref.isWhole_whole _).read_unread]
  · rw [outsAt0_B m c t h h1]
    dsimp only
    unfold sout0_B_0 kernelRun0_B
    dsimp only
    rw [View.read_writes_full, View.readAt_full, View.readAt_full, View.readAt_full, (hs0_0 t).read_unread, (hs0_1 t).read_unread, (Memref.isWhole_whole _).read_unread]

/-- What the accumulator holds after a grid point. -/
theorem acc : ∀ (n : ℕ) (hn : n < cfg0.N) (p : Fin 1024) (q : Fin 1024),
    (outsAt0 m c n hn).2 (ix2 p q) = ∑ k ∈ Finset.range (1024 * (n % 8) + 1024), term m c (p.val) (1024 * (n / 8) + q.val) k := by
  intro n
  induction n using Nat.strong_induction_on with
  | _ n ih =>
    intro hn p q
    rw [Sums.grow, ← sumBlk m c ⟨n, hn⟩]
    by_cases h : n % 8 = 0
    · refine (congrFun (first m c ⟨n, hn⟩ h) (ix2 p q)).trans ?_
      rw [pay2_at, pay1_at, h, Finset.range_zero, Finset.sum_empty]
    · refine (congrFun (next m c ⟨n, hn⟩ h) (ix2 p q)).trans ?_
      rw [pay2_at, ih (n - 1) (by omega)]
      have e0 : 1024 * ((n - 1) % 8) + 1024 = 1024 * (n % 8) := by omega
      have e1 : (n - 1) / 8 = n / 8 := by omega
      rw [e0, e1]

/-- What the output's block holds at the last point of a run. -/
theorem last (t : Fin cfg0.N) (h : t.val % 8 = 7) (p : Fin 1024) (q : Fin 1024) :
    (outsAt0 m c t.val t.isLt).1 (ix2 p q) = ∑ k ∈ Finset.range 8192, term m c (p.val) (1024 * (t.val / 8) + q.val) k := by
  have e : (outsAt0 m c t.val t.isLt).1 = (outsAt0 m c t.val t.isLt).2 := by
    rw [outsAt0_C m c t (by omega) h]
    dsimp only
    unfold out0_C_2 sout0_C_0 kernelRun0_C
    dsimp only
    unfold kernelRun0_C.sl.v16 kernelRun0_C.sl.HS0_1 View.readCov
    rw [View.read_writes_full, View.read_writes_full, View.readAt_writes_full]
  rw [e, acc, h]

/-- The product. -/
def prod : S1024x2048.Idx → EReal := fun j => ∑ k ∈ Finset.range 8192, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 16 := lt_of_lt_of_eq t.isLt N_0
  have hi := (idx t).2.2
  have h := last m c t ((flush0_2 t).mp hf) (y 0) (y 1)
  have e0 : ((win0_2.blk t).view.emb y 0).val = (y 0).val := by blk_simp [hi]
  have e1 : ((win0_2.blk t).view.emb y 1).val = 1024 * (t.val / 8) + (y 1).val := by blk_simp [hi] <;> omega
  rw [after0_2]
  generalize (outsAt0 m c t.val t.isLt).1 = W at h ⊢
  refine (congrArg (fun z : S1024x1024.Idx => W z) (eta y)).trans (h.trans ?_)
  show _ = prod m c ((win0_2.blk t).view.emb y)
  unfold prod
  rw [e0, e1]

/-- The reference's product. -/
theorem ref (j : S1024x2048.Idx) : Cert.Reference15Ideal.Read.val_main_v3 (F := Ideal) (A m c) (B m c) j = prod m c j := by
  rw [Cert.Reference15Ideal.Read.val_main_v3_apply, Cert.Reference15Ideal.Read.val_main_v2_apply]
  unfold prod
  rw [Sums.start]
  refine Finset.sum_congr rfl fun k _ => ?_
  have h0 : (j 0).val < 1024 := (j 0).isLt
  have h1 : (j 1).val < 2048 := (j 1).isLt
  unfold term
  rw [dif_pos ⟨h0, h1, k.isLt⟩, mul_comm]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel15Ideal_Reference15Ideal (hKernel15Ideal := Cert.Kernel15Ideal.Gen.facts) (hReference15Ideal := Cert.Reference15Ideal.Gen.facts) := by
  intro m g m' g' _ ha
  refine ⟨_, Cert.Kernel15Ideal.Value.run_blocks m g, (θ_run Cert.Reference15Ideal.defs _ _).mono (fun r h c => ?_) (Cert.Reference15Ideal.Value.run m' g')⟩
  refine ⟨((h c).1.trans (Cert.Reference15Ideal.Read.val_main_v3_eq _ _)).trans ?_, (h c).2⟩
  obtain ⟨a0, a1⟩ := ha c
  rw [a0, a1]
  exact (funext fun j => ref m c j).trans (arr m c).symm

/-- The three frames. -/
theorem frame_kernel : Cert.quiescent_Kernel15 (hKernel15 := Cert.Kernel15.Gen.facts) := fun m ρ _ => Cert.Kernel15.Gen.frame m ρ

theorem frame_kernelIdeal : Cert.quiescent_Kernel15Ideal (hKernel15Ideal := Cert.Kernel15Ideal.Gen.facts) := fun m ρ _ => Cert.Kernel15Ideal.Gen.frame m ρ

theorem frame_referenceIdeal : Cert.quiescent_Reference15Ideal (hReference15Ideal := Cert.Reference15Ideal.Gen.facts) := fun m ρ _ =>
  (θ_run Cert.Reference15Ideal.defs _ _).mono (fun r h => ⟨fun c => (h c).2, sem_eq_zero_of_no_sems rfl r.2⟩) (Cert.Reference15Ideal.Value.run m ρ)

end Cert.Kernel15Ideal.Val
-- ==== Proof.Prod16.lean ====
/- The gradient that the sliding heads' input projections hand back: a grid of tiles, each summed over 1 block of the inner axis, is the whole product. -/
module

public import proofs.«01_k».proof.Defs
public import proofs.«01_k».proof.Proof.Sums
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel16Ideal.Val

open Idealize.ShloMosaic Idealize.ShloMosaic.TcCoe Idealize.SL.Sem Cert.Kernel16Ideal Cert.Kernel16Ideal.Gen

section
variable (m : (ℓ : Loc nD τ sig) → Buf (Elt Ideal) ℓ) (c : Dev nD)

/-- The left factor. -/
abbrev A : S8192x768.Idx → EReal := m ((c : Thread nD τ).loc main_arg1)
/-- The right factor. -/
abbrev B : S1024x768.Idx → EReal := m ((c : Thread nD τ).loc main_arg0)

/-- Term `k` of the sum that is entry `(i, j)` of the product. -/
def term (i j k : ℕ) : EReal :=
  if h : i < 8192 ∧ j < 1024 ∧ k < 768 then A m c (ix2 ⟨i, h.1⟩ ⟨k, h.2.2⟩) * B m c (ix2 ⟨j, h.2.1⟩ ⟨k, h.2.2⟩) else 0

theorem readA (y : S8192x768.Idx) : (V m c main_v0 : S8192x768.Idx → EReal) y = A m c y := by
  unfold V
  after_reads_at

theorem readB (y : S1024x768.Idx) : (V m c main_v1 : S1024x768.Idx → EReal) y = B m c y := by
  unfold V
  after_reads_at

theorem idx : ∀ t : Fin cfg0.N, win0_0.index t = ![t.val, 0]
    ∧ win0_1.index t = ![0, 0]
    ∧ win0_2.index t = ![t.val, 0] := by decide +kernel

/-- The blocks of the two factors at a grid point. -/
abbrev L (t : Fin cfg0.N) : S1024x768.Idx → EReal := iblk m c 0 t
abbrev R (t : Fin cfg0.N) : S1024x768.Idx → EReal := iblk m c 1 t

theorem blkA (t : Fin cfg0.N) (p : Fin 1024) (q : Fin 768) (a b : ℕ) (ha : a < 8192) (hb : b < 768)
    (ea : a = 1024 * (t.val) + p.val) (eb : b = q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 768) (a b : ℕ) (ha : a < 1024) (hb : b < 768)
    (ea : a = p.val) (eb : b = q.val) :
    R m c t (ix2 p q) = B m c (ix2 ⟨a, ha⟩ ⟨b, hb⟩) := by
  have hx := (idx t).2.1
  subst ea eb
  refine Eq.trans ?_ (readB m c _)
  blk_ext [R, iblk, hx]

theorem pay1_at (p : Fin 1024) (q : Fin 1024) : k0_pay1 (F := Ideal) (ix2 p q) = 0 := by
  rw [← Sums.zero_word]
  pointwise [k0_pay1]

theorem pay2_at (x : Vec Ideal S1024x768 .bf16) (y : Vec Ideal S1024x768 .bf16) (z : Vec Ideal S1024x1024 .f32) (p : Fin 1024) (q : Fin 1024) :
    k0_pay2 (F := Ideal) x y z (ix2 p q) = z (ix2 p q) + ∑ k : Fin 768, x (ix2 p k) * y (ix2 q k) := by
  pointwise [k0_pay2]

theorem sumBlk (t : Fin cfg0.N) (p : Fin 1024) (q : Fin 1024) :
    ∑ k : Fin 768, L m c t (ix2 p k) * R m c t (ix2 q k) = ∑ k : Fin 768, term m c (1024 * (t.val) + p.val) (q.val) (k.val) := by
  have ht : t.val < 8 := lt_of_lt_of_eq t.isLt N_0
  refine Finset.sum_congr rfl fun k _ => ?_
  unfold term
  rw [dif_pos ⟨by omega, by omega, by omega⟩, blkA m c t p k _ _ _ _ rfl rfl, blkB m c t q k _ _ _ _ rfl rfl]

/-- What the output's block holds after a grid point. -/
theorem last (t : Fin cfg0.N) (p : Fin 1024) (q : Fin 1024) :
    outsAt0 m c t (ix2 p q) = ∑ k ∈ Finset.range 768, term m c (1024 * (t.val) + p.val) (q.val) k := by
  have e : outsAt0 m c t = (k0_pay2 (F := Ideal) (L m c t) (R m c t) (k0_pay1 (F := Ideal))) := by
    dsimp only [outsAt0]
    unfold out0_A_2 kernelRun0_A
    dsimp only
    unfold kernelRun0_A.sl.v16 kernelRun0_A.sl.HS0_2 View.readCov
    rw [View.read_writes_full, View.readAt_writes_full, View.readAt_full, View.readAt_full, (hs0_0 t).read_unread, (hs0_1 t).read_unread]
    unfold kernelRun0_A.sl.v7 kernelRun0_A.sl.HS0_1 View.readCov
    rw [View.readAt_writes_full]
  rw [e, pay2_at, pay1_at, sumBlk, zero_add, Sums.start]

/-- The product. -/
def prod : S8192x1024.Idx → EReal := fun j => ∑ k ∈ Finset.range 768, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 2 cfg0.N = prod m c := by
  refine (dats m 0 c).arrAt_eq_of_covers 2 _ (by decide +kernel) fun t hf y => ?_
  have ht : t.val < 8 := lt_of_lt_of_eq t.isLt N_0
  have hi := (idx t).2.2
  have h := last m c t (y 0) (y 1)
  have e0 : ((win0_2.blk t).view.emb y 0).val = 1024 * (t.val) + (y 0).val := by blk_simp [hi] <;> omega
  have e1 : ((win0_2.blk t).view.emb y 1).val = (y 1).val := by blk_simp [hi]
  rw [after0_2]
  generalize outsAt0 m c t = W at h ⊢
  refine (congrArg (fun z : S1024x1024.Idx => W z) (eta y)).trans (h.trans ?_)
  show _ = prod m c ((win0_2.blk t).view.emb y)
  unfold prod
  rw [e0, e1]

/-- The reference's product. -/
theorem ref (j : S8192x1024.Idx) : Cert.Reference16Ideal.Read.val_main_v2 (F := Ideal) (B m c) (A m c) j = prod m c j := by
  rw [Cert.Reference16Ideal.Read.val_main_v2_apply]
  unfold prod
  rw [Sums.start]
  refine Finset.sum_congr rfl fun k _ => ?_
  have h0 : (j 0).val < 8192 := (j 0).isLt
  have h1 : (j 1).val < 1024 := (j 1).isLt
  unfold term
  rw [dif_pos ⟨h0, h1, k.isLt⟩]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel16Ideal_Reference16Ideal (hKernel16Ideal := Cert.Kernel16Ideal.Gen.facts) (hReference16Ideal := Cert.Reference16Ideal.Gen.facts) := by
  intro m g m' g' _ ha
  refine ⟨_, Cert.Kernel16Ideal.Value.run_blocks m g, (θ_run Cert.Reference16Ideal.defs _ _).mono (fun r h c => ?_) (Cert.Reference16Ideal.Value.run m' g')⟩
  refine ⟨((h c).1.trans (Cert.Reference16Ideal.Read.val_main_v2_eq _ _)).trans ?_, (h c).2⟩
  obtain ⟨a0, a1⟩ := ha c
  rw [a0, a1]
  exact (funext fun j => ref m c j).trans (arr m c).symm

/-- The three frames. -/
theorem frame_kernel : Cert.quiescent_Kernel16 (hKernel16 := Cert.Kernel16.Gen.facts) := fun m ρ _ => Cert.Kernel16.Gen.frame m ρ

theorem frame_kernelIdeal : Cert.quiescent_Kernel16Ideal (hKernel16Ideal := Cert.Kernel16Ideal.Gen.facts) := fun m ρ _ => Cert.Kernel16Ideal.Gen.frame m ρ

theorem frame_referenceIdeal : Cert.quiescent_Reference16Ideal (hReference16Ideal := Cert.Reference16Ideal.Gen.facts) := fun m ρ _ =>
  (θ_run Cert.Reference16Ideal.defs _ _).mono (fun r h => ⟨fun c => (h c).2, sem_eq_zero_of_no_sems rfl r.2⟩) (Cert.Reference16Ideal.Value.run m ρ)

end Cert.Kernel16Ideal.Val
-- ==== Proof.Prod17.lean ====
/- The gradient that the other input projections hand back, added to the sliding heads': a grid of tiles, each summed over 2 blocks of the inner axis, is the whole product. -/
module

public import proofs.«01_k».proof.Defs
public import proofs.«01_k».proof.Proof.Sums
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel17Ideal.Val

open Idealize.ShloMosaic Idealize.ShloMosaic.TcCoe Idealize.SL.Sem Cert.Kernel17Ideal Cert.Kernel17Ideal.Gen

section
variable (m : (ℓ : Loc nD τ sig) → Buf (Elt Ideal) ℓ) (c : Dev nD)

/-- The left factor. -/
abbrev A : S8192x2048.Idx → EReal := m ((c : Thread nD τ).loc main_arg1)
/-- The right factor. -/
abbrev B : S1024x2048.Idx → EReal := m ((c : Thread nD τ).loc main_arg0)
/-- What the product is added to. -/
abbrev D : S8192x1024.Idx → EReal := m ((c : Thread nD τ).loc main_arg2)

/-- Term `k` of the sum that is entry `(i, j)` of the product. -/
def term (i j k : ℕ) : EReal :=
  if h : i < 8192 ∧ j < 1024 ∧ k < 2048 then A m c (ix2 ⟨i, h.1⟩ ⟨k, h.2.2⟩) * B m c (ix2 ⟨j, h.2.1⟩ ⟨k, h.2.2⟩) else 0

theorem readA (y : S8192x2048.Idx) : (V m c main_v0 : S8192x2048.Idx → EReal) y = A m c y := by
  unfold V
  after_reads_at

theorem readB (y : S1024x2048.Idx) : (V m c main_v1 : S1024x2048.Idx → EReal) y = B m c y := by
  unfold V
  after_reads_at

theorem readD (y : S8192x1024.Idx) : (V m c main_arg2 : S8192x1024.Idx → EReal) y = D m c y := by
  rw [V_main_arg2]

theorem idx : ∀ t : Fin cfg0.N, win0_0.index t = ![t.val / 2, t.val % 2]
    ∧ win0_1.index t = ![0, t.val % 2]
    ∧ win0_2.index t = ![t.val / 2, 0]
    ∧ win0_3.index t = ![t.val / 2, 0] := by decide +kernel

/-- The blocks of the two factors and of the summand at a grid point. -/
abbrev L (t : Fin cfg0.N) : S1024x1024.Idx → EReal := iblk m c 0 t
abbrev R (t : Fin cfg0.N) : S1024x1024.Idx → EReal := iblk m c 1 t
abbrev E (t : Fin cfg0.N) : S1024x1024.Idx → EReal := iblk m c 2 t

theorem blkA (t : Fin cfg0.N) (p : Fin 1024) (q : Fin 1024) (a b : ℕ) (ha : a < 8192) (hb : b < 2048)
    (ea : a = 1024 * (t.val / 2) + p.val) (eb : b = 1024 * (t.val % 2) + q.val) :
    L m c t (ix2 p q) = A m c (ix2 ⟨a, ha⟩ ⟨b, hb⟩) := by
  have hx := (idx t).1
  subst ea eb
  refine Eq.trans ?_ (readA m c _)
  blk_ext [L, iblk, hx]

theorem blkB (t : Fin cfg0.N) (p : Fin 1024) (q : Fin 1024) (a b : ℕ) (ha : a < 1024) (hb : b < 2048)
    (ea : a = p.val) (eb : b = 1024 * (t.val % 2) + q.val) :
    R m c t (ix2 p q) = B m c (ix2 ⟨a, ha⟩ ⟨b, hb⟩) := by
  have hx := (idx t).2.1
  subst ea eb
  refine Eq.trans ?_ (readB m c _)
  blk_ext [R, iblk, hx]

theorem blkD (t : Fin cfg0.N) (p : Fin 1024) (q : Fin 1024) (a b : ℕ) (ha : a < 8192) (hb : b < 1024)
    (ea : a = 1024 * (t.val / 2) + p.val) (eb : b = q.val) :
    E m c t (ix2 p q) = D m c (ix2 ⟨a, ha⟩ ⟨b, hb⟩) := by
  have hx := (idx t).2.2.1
  subst ea eb
  refine Eq.trans ?_ (readD m c _)
  blk_ext [E, iblk, hx]

theorem pay1_at (p : Fin 1024) (q : Fin 1024) : k0_pay1 (F := Ideal) (ix2 p q) = 0 := by
  rw [← Sums.zero_word]
  pointwise [k0_pay1]

theorem pay2_at (x : Vec Ideal S1024x1024 .bf16) (y : Vec Ideal S1024x1024 .bf16) (z : Vec Ideal S1024x1024 .f32) (p : Fin 1024) (q : Fin 1024) :
    k0_pay2 (F := Ideal) x y z (ix2 p q) = z (ix2 p q) + ∑ k : Fin 1024, x (ix2 p k) * y (ix2 q k) := by
  pointwise [k0_pay2]

theorem pay3_at (x y : Vec Ideal S1024x1024 .f32) (p : Fin 1024) (q : Fin 1024) :
    k0_pay3 (F := Ideal) x y (ix2 p q) = x (ix2 p q) + y (ix2 p q) := by
  pointwise [k0_pay3]

theorem sumBlk (t : Fin cfg0.N) (p : Fin 1024) (q : Fin 1024) :
    ∑ k : Fin 1024, L m c t (ix2 p k) * R m c t (ix2 q k) = ∑ k : Fin 1024, term m c (1024 * (t.val / 2) + p.val) (q.val) (1024 * (t.val % 2) + k.val) := by
  have ht : t.val < 16 := lt_of_lt_of_eq t.isLt N_0
  refine Finset.sum_congr rfl fun k _ => ?_
  unfold term
  rw [dif_pos ⟨by omega, by omega, by omega⟩, blkA m c t p k _ _ _ _ rfl rfl, blkB m c t q k _ _ _ _ rfl rfl]

theorem first (t : Fin cfg0.N) (h : t.val % 2 = 0) :
    (outsAt0 m c t.val t.isLt).2 = k0_pay2 (F := Ideal) (L m c t) (R m c t) (k0_pay1 (F := Ideal)) := by
  rw [outsAt0_A m c t h (by omega)]
  dsimp only
  unfold sout0_A_0 kernelRun0_A
  dsimp only
  rw [View.read_writes_full, View.readAt_full, View.readAt_full, (hs0_0 t).read_unread, (hs0_1 t).read_unread]
  unfold kernelRun0_A.sl.v7 kernelRun0_A.sl.HS0_1 View.readCov
  rw [View.readAt_writes_full]

theorem next (t : Fin cfg0.N) (h : ¬t.val % 2 = 0) :
    (outsAt0 m c t.val t.isLt).2 = k0_pay2 (F := Ideal) (L m c t) (R m c t) (outsAt0 m c (t.val - 1) (Nat.lt_of_le_of_lt (Nat.sub_le _ _) t.isLt)).2 := by
  have h1 : t.val % 2 = 1 := by omega
  · rw [outsAt0_B m c t h h1]
    dsimp only
    unfold sout0_B_0 kernelRun0_B
    dsimp only
    unfold kernelRun0_B.sl.HS0_1
    rw [View.read_writes_full, View.readAt_full, View.readAt_full, View.readAt_full, (hs0_0 t).read_unread, (hs0_1 t).read_unread, (Memref.isWhole_whole _).read_unread]

/-- What the accumulator holds after a grid point. -/
theorem acc : ∀ (n : ℕ) (hn : n < cfg0.N) (p : Fin 1024) (q : Fin 1024),
    (outsAt0 m c n hn).2 (ix2 p q) = ∑ k ∈ Finset.range (1024 * (n % 2) + 1024), term m c (1024 * (n / 2) + p.val) (q.val) k := by
  intro n
  induction n using Nat.strong_induction_on with
  | _ n ih =>
    intro hn p q
    rw [Sums.grow, ← sumBlk m c ⟨n, hn⟩]
    by_cases h : n % 2 = 0
    · refine (congrFun (first m c ⟨n, hn⟩ h) (ix2 p q)).trans ?_
      rw [pay2_at, pay1_at, h, Finset.range_zero, Finset.sum_empty]
    · refine (congrFun (next m c ⟨n, hn⟩ h) (ix2 p q)).trans ?_
      rw [pay2_at, ih (n - 1) (by omega)]
      have e0 : 1024 * ((n - 1) % 2) + 1024 = 1024 * (n % 2) := by omega
      have e1 : (n - 1) / 2 = n / 2 := by omega
      rw [e0, e1]

/-- What the output's block holds at the last point of a run. -/
theorem last (t : Fin cfg0.N) (h : t.val % 2 = 1) (p : Fin 1024) (q : Fin 1024) :
    (outsAt0 m c t.val t.isLt).1 (ix2 p q) = E m c t (ix2 p q) + ∑ k ∈ Finset.range 2048, term m c (1024 * (t.val / 2) + p.val) (q.val) k := by
  have e : (outsAt0 m c t.val t.isLt).1 = k0_pay3 (F := Ideal) (outsAt0 m c t.val t.isLt).2 (E m c t) := by
    rw [outsAt0_B m c t (by omega) h]
    dsimp only
    unfold out0_B_3 sout0_B_0 kernelRun0_B
    dsimp only
    unfold kernelRun0_B.sl.v16 kernelRun0_B.sl.HS0_1 View.readCov
    rw [View.read_writes_full, View.read_writes_full, View.readAt_writes_full, View.readAt_full _ ((hs0_2 t).unread _), (hs0_2 t).read_unread]
  rw [e, pay3_at, acc, h, add_comm]

/-- The product added to its summand. -/
def prod : S8192x1024.Idx → EReal := fun j => D m c j + ∑ k ∈ Finset.range 2048, term m c (j 0).val (j 1).val k

theorem eta (y : S1024x1024.Idx) : y = ix2 (y 0) (y 1) := by
  funext a
  match a with
  | ⟨0, _⟩ => rfl
  | ⟨1, _⟩ => rfl

/-- The output's array. -/
theorem arr : (dats m 0 c).arrAt 3 cfg0.N = prod m c := by
  refine (dats m 0 c).arrAt_eq_of_covers 3 _ (by decide +kernel) fun t hf y => ?_
  have ht : t.val < 16 := lt_of_lt_of_eq t.isLt N_0
  have hi := (idx t).2.2.2
  have h := last m c t ((flush0_3 t).mp hf) (y 0) (y 1)
  have e0 : ((win0_3.blk t).view.emb y 0).val = 1024 * (t.val / 2) + (y 0).val := by blk_simp [hi] <;> omega
  have e1 : ((win0_3.blk t).view.emb y 1).val = (y 1).val := by blk_simp [hi]
  rw [after0_3]
  rw [blkD m c t (y 0) (y 1) _ _ ((win0_3.blk t).view.emb y 0).isLt ((win0_3.blk t).view.emb y 1).isLt e0 e1] at h
  generalize (outsAt0 m c t.val t.isLt).1 = W at h ⊢
  refine (congrArg (fun z : S1024x1024.Idx => W z) (eta y)).trans (h.trans ?_)
  show _ = prod m c ((win0_3.blk t).view.emb y)
  unfold prod
  refine congrArg₂ (· + ·) (congrArg (D m c) (funext fun a => ?_)) ?_
  · match a with
    | ⟨0, _⟩ => rfl
    | ⟨1, _⟩ => rfl
  · rw [e0, e1]

/-- The reference's product. -/
theorem ref (j : S8192x1024.Idx) : Cert.Reference17Ideal.Read.val_main_v3 (F := Ideal) (B m c) (A m c) (D m c) j = prod m c j := by
  rw [Cert.Reference17Ideal.Read.val_main_v3_apply, Cert.Reference17Ideal.Read.val_main_v2_apply]
  unfold prod
  rw [Sums.start]
  refine congrArg (D m c j + ·) ?_
  refine Finset.sum_congr rfl fun k _ => ?_
  have h0 : (j 0).val < 8192 := (j 0).isLt
  have h1 : (j 1).val < 1024 := (j 1).isLt
  unfold term
  rw [dif_pos ⟨h0, h1, k.isLt⟩]
  refine congrArg₂ (· * ·) (congrArg (A m c) ?_) (congrArg (B m c) ?_)
  · funext a
    match a with
    | ⟨0, _⟩ => rfl
    | ⟨1, _⟩ => rfl
  · funext a
    match a with
    | ⟨0, _⟩ => rfl
    | ⟨1, _⟩ => rfl
end

/-- The results are equal. -/
theorem algebraic : Cert.algebraic_Kernel17Ideal_Reference17Ideal (hKernel17Ideal := Cert.Kernel17Ideal.Gen.facts) (hReference17Ideal := Cert.Reference17Ideal.Gen.facts) := by
  intro m g m' g' _ ha
  refine ⟨_, Cert.Kernel17Ideal.Value.run_blocks m g, (θ_run Cert.Reference17Ideal.defs _ _).mono (fun r h c => ?_) (Cert.Reference17Ideal.Value.run m' g')⟩
  refine ⟨((h c).1.trans (Cert.Reference17Ideal.Read.val_main_v3_eq _ _ _)).trans ?_, (h c).2⟩
  obtain ⟨a0, a1, a2⟩ := ha c
  rw [a0, a1, a2]
  exact (funext fun j => ref m c j).trans (arr m c).symm

/-- The three frames. -/
theorem frame_kernel : Cert.quiescent_Kernel17 (hKernel17 := Cert.Kernel17.Gen.facts) := fun m ρ _ => Cert.Kernel17.Gen.frame m ρ

theorem frame_kernelIdeal : Cert.quiescent_Kernel17Ideal (hKernel17Ideal := Cert.Kernel17Ideal.Gen.facts) := fun m ρ _ => Cert.Kernel17Ideal.Gen.frame m ρ

theorem frame_referenceIdeal : Cert.quiescent_Reference17Ideal (hReference17Ideal := Cert.Reference17Ideal.Gen.facts) := fun m ρ _ =>
  (θ_run Cert.Reference17Ideal.defs _ _).mono (fun r h => ⟨fun c => (h c).2, sem_eq_zero_of_no_sems rfl r.2⟩) (Cert.Reference17Ideal.Value.run m ρ)

end Cert.Kernel17Ideal.Val
-- ==== Proof.Conv.lean ====
/- A convolution along the rows, read from a buffer that holds the rows before a tile and then the tile; the logistic gate and its gradient. -/
module

public import Idealize.ShloMosaic.Lib.Pointwise
public import Idealize.ShloMosaic.Lib.VecWindow
public import Idealize.ShloMosaic.Lib.Pipeline.ValueKit
public import Idealize.ShloMosaic.Lib.KernelVsHost

@[expose] public section

noncomputable section

namespace Cert.Conv

open Idealize.ShloMosaic

section
variable {sig : RefSig} {κ : Kind} {sp : Space} {s : Shape} {e : EltTy} {Val : EltTy → Type} [∀ e, Nonempty (Val e)]

/-- A load inside a buffer whose stores all agree with one function reads that function. -/
theorem load (v : View sig κ sp s e) (L : List (View.Piece Val s e)) (G : s.Idx → Val e)
    (hG : ∀ p ∈ L, ∀ x : p.1.shape.Idx, p.2 x = G (p.1.emb x)) (hc : ∀ y : s.Idx, ∃ p ∈ L, y ∈ p.1.set) (B : Rect s) :
    v.readCov L B.toLoadRect = fun x => G (B.emb x) := by
  funext x
  exact View.read_writes_apply_of_pieces v v.junk G L hG _ (hc _)
end

section
variable {sig : RefSig} {κ : Kind} {sp : Space} {e : EltTy} {Val : EltTy → Type} [∀ e, Nonempty (Val e)]

/-- Two runs of rows, `a` of them and then `b`, cover a buffer of `a + b` rows; a load of rows inside reads what the two agree with. -/
theorem load_rows {N a b R C o : ℕ} (v : View sig κ sp ⟨2, ![N, C]⟩ e) (hN : N = a + b)
    (i1 : ∀ k, (![a, 0] : Fin 2 → ℕ) k + (![b, C] : Fin 2 → ℕ) k ≤ (⟨2, ![N, C]⟩ : Shape).size k)
    (i2 : ∀ k, (![0, 0] : Fin 2 → ℕ) k + (![a, C] : Fin 2 → ℕ) k ≤ (⟨2, ![N, C]⟩ : Shape).size k)
    (i3 : ∀ k, (![o, 0] : Fin 2 → ℕ) k + (![R, C] : Fin 2 → ℕ) k ≤ (⟨2, ![N, C]⟩ : Shape).size k)
    (X : (⟨2, ![b, C]⟩ : Shape).Idx → Val e) (H : (⟨2, ![a, C]⟩ : Shape).Idx → Val e) (G : ℕ → ℕ → Val e)
    (hX : ∀ (p : Fin b) (q : Fin C), X (ix2 p q) = G (a + p.val) q.val) (hH : ∀ (p : Fin a) (q : Fin C), H (ix2 p q) = G p.val q.val)
    (p : Fin R) (q : Fin C) :
    (v.readCov [⟨Rect.unit ![a, 0] ![b, C] i1, X⟩, ⟨Rect.unit ![0, 0] ![a, C] i2, H⟩] (Rect.unit (s := ⟨2, ![N, C]⟩) ![o, 0] ![R, C] i3).toLoadRect : (⟨2, ![R, C]⟩ : Shape).Idx → Val e) (ix2 p q)
      = G (o + p.val) q.val := by
  refine (congrFun (load v _ (fun y => G (y 0).val (y 1).val) ?_ ?_ (Rect.unit (s := ⟨2, ![N, C]⟩) ![o, 0] ![R, C] i3)) (ix2 (n0 := R) (n1 := C) p q)).trans ?_
  · intro w hw
    simp only [List.mem_cons, List.not_mem_nil, or_false] at hw
    rcases hw with rfl | rfl
    · intro x
      have ex : x = ix2 (n0 := b) (n1 := C) (x 0) (x 1) := by
        funext k
        match k with
        | ⟨0, _⟩ => rfl
        | ⟨1, _⟩ => rfl
      refine (congrArg X ex).trans ((hX (x 0) (x 1)).trans (congrArg₂ G ?_ ?_))
      · show a + (x 0).val = a + 1 * (x 0).val
        omega
      · show (x 1).val = 0 + 1 * (x 1).val
        omega
    · intro x
      have ex : x = ix2 (n0 := a) (n1 := C) (x 0) (x 1) := by
        funext k
        match k with
        | ⟨0, _⟩ => rfl
        | ⟨1, _⟩ => rfl
      refine (congrArg H ex).trans ((hH (x 0) (x 1)).trans (congrArg₂ G ?_ ?_))
      · show (x 0).val = 0 + 1 * (x 0).val
        omega
      · show (x 1).val = 0 + 1 * (x 1).val
        omega
  · intro y
    have h0 : (y 0).val < N := (y 0).isLt
    have h1 : (y 1).val < C := (y 1).isLt
    by_cases h : (y 0).val < a
    · refine ⟨_, List.mem_cons_of_mem _ (List.mem_cons_self ..), (Rect.mem_set_unit (inb := i2)).mpr fun k => ?_⟩
      match k with
      | ⟨0, _⟩ => exact ⟨Nat.zero_le _, by show (y 0).val < 0 + a; omega⟩
      | ⟨1, _⟩ => exact ⟨Nat.zero_le _, by show (y 1).val < 0 + C; omega⟩
    · refine ⟨_, List.mem_cons_self .., (Rect.mem_set_unit (inb := i1)).mpr fun k => ?_⟩
      match k with
      | ⟨0, _⟩ => exact ⟨by show a ≤ (y 0).val; omega, by show (y 0).val < a + b; omega⟩
      | ⟨1, _⟩ => exact ⟨Nat.zero_le _, by show (y 1).val < 0 + C; omega⟩
  · refine congrArg₂ G ?_ ?_
    · show o + 1 * p.val = o + p.val
      omega
    · show 0 + 1 * q.val = q.val
      omega
end

/-- A load of one row and of some of its columns. -/
theorem row {A D C o b : ℕ} {α : Type} (x : (⟨2, ![A, D]⟩ : Shape).Idx → α) (ho : o < A) (hb : b + C ≤ D)
    (i : ∀ k, (![o, b] : Fin 2 → ℕ) k + (![1, C] : Fin 2 → ℕ) k ≤ (⟨2, ![A, D]⟩ : Shape).size k) (q : Fin C) :
    x ((Rect.unit (s := ⟨2, ![A, D]⟩) ![o, b] ![1, C] i).emb (ix2 (n0 := 1) (n1 := C) 0 q)) = x (ix2 ⟨o, ho⟩ ⟨b + q.val, by omega⟩) := by
  refine congrArg x (funext fun k => Fin.ext ?_)
  match k with
  | ⟨0, _⟩ =>
    show o + 1 * 0 = o
    omega
  | ⟨1, _⟩ =>
    show b + 1 * q.val = b + q.val
    omega

/-- The logistic function. -/
abbrev sg (u : EReal) : EReal := Ideal.logistic u

theorem sg_top : sg ⊤ = 1 := by
  have e : Ideal.exp (-⊤) = 0 := by rw [EReal.neg_top]; rfl
  show Ideal.div 1 (1 + Ideal.exp (-⊤)) = _
  rw [e, add_zero, Ideal.div, if_neg one_ne_zero, one_mul, inv_one]

theorem sg_bot : sg ⊥ = 0 := by
  have e : Ideal.exp (-⊥) = ⊤ := by rw [EReal.neg_bot]; rfl
  have e' : (1 : EReal) + ⊤ = ⊤ := EReal.add_top_of_ne_bot (by decide)
  show Ideal.div 1 (1 + Ideal.exp (-⊥)) = _
  rw [e, e', Ideal.div, if_neg EReal.top_ne_zero, one_mul, EReal.inv_top]

theorem sg_real (u : ℝ) : sg (u : EReal) = ((1 + Real.exp (-u))⁻¹ : ℝ) := by
  have h : (1 + Real.exp (-u)) ≠ 0 := by positivity
  have e : (1 : EReal) + Ideal.exp (-(u : EReal)) = ((1 + Real.exp (-u) : ℝ) : EReal) := by
    rw [← EReal.coe_neg, EReal.coe_add]
    rfl
  show Ideal.div 1 (1 + Ideal.exp (-(u : EReal))) = _
  rw [e, Ideal.div, if_neg (by exact_mod_cast h), one_mul, EReal.coe_inv]

/-- The gradient of the gate, as one factor and as the two terms of the product's rule. -/
theorem silu_grad (u d : EReal) (h : d ≠ ⊤ ∧ d ≠ ⊥) :
    d * (sg u * (1 + u * (1 - sg u))) = d * sg u + (u * d) * (sg u * (1 - sg u)) := by
  lift d to ℝ using h
  induction u using EReal.rec with
  | bot => rw [sg_bot]; simp
  | top =>
    rw [sg_top]
    have : (1 : EReal) - 1 = 0 := by
      rw [← EReal.coe_one, ← EReal.coe_sub]; simp
    rw [this]; simp
  | coe u =>
    rw [sg_real]
    norm_cast
    ring

/-- The word of one. -/
theorem one_word : Ideal.ofBits FTy.f32 0x3F800000#32 = 1 := by
  simp [Ideal.ofBits, Ideal.ieee]
  norm_cast
  norm_num

/-! Rows of a small buffer, stored one at a time; rows put into a longer array; a sum shifted. -/

section
variable {A C : ℕ} {e : EltTy} {Val : EltTy → Type} [∀ e, Nonempty (Val e)]

theorem canon_other {o : ℕ} (r : Fin A) (q : Fin C) (h : o ≠ r.val)
    (i : ∀ k, (![o, 0] : Fin 2 → ℕ) k + (![1, C] : Fin 2 → ℕ) k ≤ (⟨2, ![A, C]⟩ : Shape).size k)
    (w : (⟨2, ![1, C]⟩ : Shape).Idx → Val e) (L : List (View.Piece Val ⟨2, ![A, C]⟩ e)) :
    View.canon (⟨Rect.unit (s := ⟨2, ![A, C]⟩) ![o, 0] ![1, C] i, w⟩ :: L) (ix2 r q) = View.canon L (ix2 r q) := by
  refine View.canon_cons_of_not_mem _ _ fun hm => h ?_
  have h0 := (Rect.mem_set_unit (inb := i)).mp hm 0
  have a : o ≤ r.val := h0.1
  have b : r.val < o + 1 := h0.2
  omega

theorem canon_own (r : Fin A) (q : Fin C)
    (i : ∀ k, (![r.val, 0] : Fin 2 → ℕ) k + (![1, C] : Fin 2 → ℕ) k ≤ (⟨2, ![A, C]⟩ : Shape).size k)
    (w : (⟨2, ![1, C]⟩ : Shape).Idx → Val e) (L : List (View.Piece Val ⟨2, ![A, C]⟩ e)) :
    View.canon (⟨Rect.unit (s := ⟨2, ![A, C]⟩) ![r.val, 0] ![1, C] i, w⟩ :: L) (ix2 r q) = w (ix2 0 q) := by
  refine Eq.trans (congrArg _ (funext fun k => Fin.ext ?_)) (View.canon_cons_emb (Rect.unit (s := ⟨2, ![A, C]⟩) ![r.val, 0] ![1, C] i) w L (ix2 (n0 := 1) (n1 := C) 0 q))
  match k with
  | ⟨0, _⟩ =>
    show r.val = r.val + 1 * 0
    omega
  | ⟨1, _⟩ =>
    show q.val = 0 + 1 * q.val
    omega

theorem canon_fill (r : Fin A) (q : Fin C)
    (i : ∀ k, (![0, 0] : Fin 2 → ℕ) k + (![A, C] : Fin 2 → ℕ) k ≤ (⟨2, ![A, C]⟩ : Shape).size k)
    (w : (⟨2, ![A, C]⟩ : Shape).Idx → Val e) (L : List (View.Piece Val ⟨2, ![A, C]⟩ e)) :
    View.canon (⟨Rect.unit (s := ⟨2, ![A, C]⟩) ![0, 0] ![A, C] i, w⟩ :: L) (ix2 r q) = w (ix2 r q) := by
  refine Eq.trans (congrArg _ (funext fun k => Fin.ext ?_)) (View.canon_cons_emb (Rect.unit (s := ⟨2, ![A, C]⟩) ![0, 0] ![A, C] i) w L (ix2 (n0 := A) (n1 := C) r q))
  match k with
  | ⟨0, _⟩ =>
    show r.val = 0 + 1 * r.val
    omega
  | ⟨1, _⟩ =>
    show q.val = 0 + 1 * q.val
    omega

theorem load_row {sg' : RefSig} {κ : Kind} {sp : Space} (v : View sg' κ sp ⟨2, ![A, C]⟩ e) (L : List (View.Piece Val ⟨2, ![A, C]⟩ e)) (r : Fin A) (q : Fin C)
    (i : ∀ k, (![r.val, 0] : Fin 2 → ℕ) k + (![1, C] : Fin 2 → ℕ) k ≤ (⟨2, ![A, C]⟩ : Shape).size k) :
    (v.readCov L (Rect.unit (s := ⟨2, ![A, C]⟩) ![r.val, 0] ![1, C] i).toLoadRect : (⟨2, ![1, C]⟩ : Shape).Idx → Val e) (ix2 0 q) = View.canon L (ix2 r q) := by
  rw [View.readCov_eq_canon']
  refine congrArg (View.canon L) (funext fun k => Fin.ext ?_)
  match k with
  | ⟨0, _⟩ =>
    show r.val + 1 * 0 = r.val
    omega
  | ⟨1, _⟩ =>
    show 0 + 1 * q.val = q.val
    omega
end

theorem pad_row {N R C a b : ℕ} (x : (⟨2, ![R, C]⟩ : Shape).Idx → EReal) {u : Shape} (v : u.Idx → EReal) (h : (⟨2, ![R, C]⟩ : Shape).Pads ![a, 0] ![b, 0] ![0, 0] ⟨2, ![N, C]⟩)
    (hu : 0 < u.numel) (hv : v (Shape.Idx.first hu) = 0) (n : Fin N) (k : Fin C) :
    pad ⟨2, ![N, C]⟩ ![a, 0] ![b, 0] ![0, 0] x v h hu (ix2 n k) = if hh : a ≤ n.val ∧ n.val - a < R then x (ix2 ⟨n.val - a, hh.2⟩ k) else 0 := by
  by_cases hh : a ≤ n.val ∧ n.val - a < R
  · rw [dif_pos hh]
    refine pad_apply_of_inside _ _ _ x v h hu _ _ fun d => ?_
    match d with
    | ⟨0, _⟩ =>
      show n.val = a + (n.val - a) * (0 + 1)
      omega
    | ⟨1, _⟩ =>
      show k.val = 0 + k.val * (0 + 1)
      omega
  · rw [dif_neg hh]
    refine (pad_apply_of_not_inside _ _ _ x v h hu _ ⟨0, Nat.zero_lt_two⟩ fun hc => hh ?_).trans hv
    have c1 : a ≤ n.val := hc.1
    have c2 : (n.val - a) / (0 + 1) < R := hc.2.2
    rw [Nat.zero_add, Nat.div_one] at c2
    exact ⟨c1, c2⟩

section
variable {sig : RefSig} {κ : Kind} {sp : Space} {el : EltTy} {Val : EltTy → Type} [∀ e, Nonempty (Val e)]

/-- Where a row of a box of rows lies, and that its entries are read by two coordinates. -/
theorem box_at {N R C o : ℕ} {α : Type} (i : ∀ k, (![o, 0] : Fin 2 → ℕ) k + (![R, C] : Fin 2 → ℕ) k ≤ (⟨2, ![N, C]⟩ : Shape).size k)
    (X : (⟨2, ![R, C]⟩ : Shape).Idx → α) (G : ℕ → ℕ → α) (hX : ∀ (p : Fin R) (q : Fin C), X (ix2 p q) = G (o + p.val) q.val) (x : (⟨2, ![R, C]⟩ : Shape).Idx) :
    X x = G ((Rect.unit (s := ⟨2, ![N, C]⟩) ![o, 0] ![R, C] i).emb x 0).val ((Rect.unit (s := ⟨2, ![N, C]⟩) ![o, 0] ![R, C] i).emb x 1).val := by
  have ex : x = ix2 (n0 := R) (n1 := C) (x 0) (x 1) := by
    funext k
    match k with
    | ⟨0, _⟩ => rfl
    | ⟨1, _⟩ => rfl
  refine (congrArg X ex).trans ((hX (x 0) (x 1)).trans (congrArg₂ G ?_ ?_))
  · show o + (x 0).val = o + 1 * (x 0).val
    omega
  · show (x 1).val = 0 + 1 * (x 1).val
    omega

theorem mem_box {N R C o : ℕ} (i : ∀ k, (![o, 0] : Fin 2 → ℕ) k + (![R, C] : Fin 2 → ℕ) k ≤ (⟨2, ![N, C]⟩ : Shape).size k) (y : (⟨2, ![N, C]⟩ : Shape).Idx)
    (h : o ≤ (y 0).val ∧ (y 0).val < o + R) : y ∈ (Rect.unit (s := ⟨2, ![N, C]⟩) ![o, 0] ![R, C] i).set := by
  have h1 : (y 1).val < C := (y 1).isLt
  refine (Rect.mem_set_unit (inb := i)).mpr fun k => ?_
  match k with
  | ⟨0, _⟩ => exact h
  | ⟨1, _⟩ => exact ⟨Nat.zero_le _, by show (y 1).val < 0 + C; omega⟩

/-- Three runs of rows. -/
theorem load_rows3 {N a b d e R C o : ℕ} (v : View sig κ sp ⟨2, ![N, C]⟩ el) (he : e = a + b) (hN : N = e + d)
    (i1 : ∀ k, (![e, 0] : Fin 2 → ℕ) k + (![d, C] : Fin 2 → ℕ) k ≤ (⟨2, ![N, C]⟩ : Shape).size k)
    (i2 : ∀ k, (![a, 0] : Fin 2 → ℕ) k + (![b, C] : Fin 2 → ℕ) k ≤ (⟨2, ![N, C]⟩ : Shape).size k)
    (i3 : ∀ k, (![0, 0] : Fin 2 → ℕ) k + (![a, C] : Fin 2 → ℕ) k ≤ (⟨2, ![N, C]⟩ : Shape).size k)
    (i : ∀ k, (![o, 0] : Fin 2 → ℕ) k + (![R, C] : Fin 2 → ℕ) k ≤ (⟨2, ![N, C]⟩ : Shape).size k)
    (Y : (⟨2, ![d, C]⟩ : Shape).Idx → Val el) (X : (⟨2, ![b, C]⟩ : Shape).Idx → Val el) (H : (⟨2, ![a, C]⟩ : Shape).Idx → Val el) (G : ℕ → ℕ → Val el)
    (hY : ∀ (p : Fin d) (q : Fin C), Y (ix2 p q) = G (e + p.val) q.val) (hX : ∀ (p : Fin b) (q : Fin C), X (ix2 p q) = G (a + p.val) q.val)
    (hH : ∀ (p : Fin a) (q : Fin C), H (ix2 p q) = G (0 + p.val) q.val) (p : Fin R) (q : Fin C) :
    (v.readCov [⟨Rect.unit ![e, 0] ![d, C] i1, Y⟩, ⟨Rect.unit ![a, 0] ![b, C] i2, X⟩, ⟨Rect.unit ![0, 0] ![a, C] i3, H⟩]
      (Rect.unit (s := ⟨2, ![N, C]⟩) ![o, 0] ![R, C] i).toLoadRect : (⟨2, ![R, C]⟩ : Shape).Idx → Val el) (ix2 p q) = G (o + p.val) q.val := by
  refine (congrFun (load v _ (fun y => G (y 0).val (y 1).val) ?_ ?_ (Rect.unit (s := ⟨2, ![N, C]⟩) ![o, 0] ![R, C] i)) (ix2 (n0 := R) (n1 := C) p q)).trans ?_
  · intro w hw
    simp only [List.mem_cons, List.not_mem_nil, or_false] at hw
    rcases hw with rfl | rfl | rfl
    · exact box_at i1 Y G hY
    · exact box_at i2 X G hX
    · exact box_at i3 H G hH
  · intro y
    have h0 : (y 0).val < N := (y 0).isLt
    by_cases h : (y 0).val < a
    · exact ⟨_, List.mem_cons_of_mem _ (List.mem_cons_of_mem _ (List.mem_cons_self ..)), mem_box i3 y ⟨Nat.zero_le _, by omega⟩⟩
    · by_cases h' : (y 0).val < e
      · exact ⟨_, List.mem_cons_of_mem _ (List.mem_cons_self ..), mem_box i2 y (by omega)⟩
      · exact ⟨_, List.mem_cons_self .., mem_box i1 y (by omega)⟩
  · exact (box_at i (fun x => G (o + (x 0).val) (x 1).val) G (fun _ _ => rfl) (ix2 (n0 := R) (n1 := C) p q)).symm

/-- A buffer stored whole. -/
theorem load_rows1 {N R C o : ℕ} (v : View sig κ sp ⟨2, ![N, C]⟩ el)
    (i1 : ∀ k, (![0, 0] : Fin 2 → ℕ) k + (![N, C] : Fin 2 → ℕ) k ≤ (⟨2, ![N, C]⟩ : Shape).size k)
    (i : ∀ k, (![o, 0] : Fin 2 → ℕ) k + (![R, C] : Fin 2 → ℕ) k ≤ (⟨2, ![N, C]⟩ : Shape).size k)
    (Y : (⟨2, ![N, C]⟩ : Shape).Idx → Val el) (G : ℕ → ℕ → Val el)
    (hY : ∀ (p : Fin N) (q : Fin C), Y (ix2 p q) = G (0 + p.val) q.val) (p : Fin R) (q : Fin C) :
    (v.readCov [⟨Rect.unit ![0, 0] ![N, C] i1, Y⟩] (Rect.unit (s := ⟨2, ![N, C]⟩) ![o, 0] ![R, C] i).toLoadRect : (⟨2, ![R, C]⟩ : Shape).Idx → Val el) (ix2 p q) = G (o + p.val) q.val := by
  refine (congrFun (load v _ (fun y => G (y 0).val (y 1).val) ?_ ?_ (Rect.unit (s := ⟨2, ![N, C]⟩) ![o, 0] ![R, C] i)) (ix2 (n0 := R) (n1 := C) p q)).trans ?_
  · intro w hw
    simp only [List.mem_cons, List.not_mem_nil, or_false] at hw
    rcases hw with rfl
    exact box_at i1 Y G hY
  · intro y
    have h0 : (y 0).val < N := (y 0).isLt
    exact ⟨_, List.mem_cons_self .., mem_box i1 y ⟨Nat.zero_le _, by omega⟩⟩
  · exact (box_at i (fun x => G (o + (x 0).val) (x 1).val) G (fun _ _ => rfl) (ix2 (n0 := R) (n1 := C) p q)).symm
end

end Cert.Conv
-- ==== Proof.Def18.lean ====
/- The gradient of the feed-forward's convolution and gate: what its results are. -/
module

public import proofs.«01_k».proof.Defs
public import proofs.«01_k».proof.Proof.Conv
public import proofs.«01_k».proof.Proof.Sums
public import proofs.«01_k».proof.Proof.Gen.Kernel18.Frame
public import proofs.«01_k».proof.Proof.Gen.Kernel18Ideal.Frame
public import proofs.«01_k».proof.Proof.Gen.Kernel18Ideal.Value
public import Idealize.ShloMosaic.Lib.VecWindow
public import Idealize.ShloMosaic.Lib.Pipeline.ValueKit
public import Idealize.ShloMosaic.Lib.StableHlo.ReadAt

@[expose] public section

noncomputable section

namespace Cert.Kernel18Ideal.Val

open Idealize.ShloMosaic Idealize.ShloMosaic.TcCoe Idealize.SL.Sem Cert.Kernel18Ideal Cert.Kernel18Ideal.Gen Cert.Conv

section
variable (m : (ℓ : Loc nD τ sig) → Buf (Elt Ideal) ℓ) (c : Dev nD)

/-- The rows that were convolved, gate and value side by side. -/
abbrev X : S8192x5632.Idx → EReal := m ((c : Thread nD τ).loc main_arg0)
/-- The taps. -/
abbrev W : S3x5632.Idx → EReal := m ((c : Thread nD τ).loc main_arg1)
/-- The bias. -/
abbrev B : S5632.Idx → EReal := m ((c : Thread nD τ).loc main_arg2)
/-- The gradient of the gated rows. -/
abbrev D : S8192x2816.Idx → EReal := m ((c : Thread nD τ).loc main_arg3)

/-- Row `n` of the convolved rows behind eight rows of zeros and before more of them. -/
def past (n K : ℕ) : EReal := if h : 8 ≤ n ∧ n < 8200 ∧ K < 5632 then X m c (ix2 ⟨n - 8, by omega⟩ ⟨K, h.2.2⟩) else 0
/-- A tap. -/
def wt (r : Fin 3) (K : ℕ) : EReal := if h : K < 5632 then W m c (ix2 r ⟨K, h⟩) else 0
/-- The bias of a column. -/
def bs (K : ℕ) : EReal := if h : K < 5632 then B m c (ix1 ⟨K, h⟩) else 0
/-- Row `n` of the given gradient, before rows of zeros. -/
def dd (n k : ℕ) : EReal := if h : n < 8192 ∧ k < 2816 then D m c (ix2 ⟨n, h.1⟩ ⟨k, h.2⟩) else 0
/-- Row `n` of the convolution. -/
def conv (n K : ℕ) : EReal :=
  bs m c K + 0 + past m c (6 + n) K * wt m c 0 K + past m c (7 + n) K * wt m c 1 K + past m c (8 + n) K * wt m c 2 K
/-- The gradient of the convolution's gate half. -/
def dg (n k : ℕ) : EReal := dd m c n k * conv m c n (2816 + k) * (sg (conv m c n k) * (1 + conv m c n k * (1 - sg (conv m c n k))))
/-- The gradient of the convolution's value half. -/
def dv (n k : ℕ) : EReal := dd m c n k * (conv m c n k * sg (conv m c n k))
/-- Both halves. -/
def du (n K : ℕ) : EReal := if K < 2816 then dg m c n K else dv m c n (K - 2816)
/-- Row `n` of the gradient of the convolved rows. -/
def dx (n K : ℕ) : EReal := 0 + du m c (n + 2) K * wt m c 0 K + du m c (n + 1) K * wt m c 1 K + du m c n K * wt m c 2 K
/-- What row `n` adds to the gradient of tap `r`. -/
abbrev T (r K n : ℕ) : EReal := du m c n K * past m c (6 + r + n) K

theorem past_zero (n K : ℕ) (h : n < 8 ∨ 8200 ≤ n) : past m c n K = 0 := dif_neg (by omega)

theorem dd_zero (n k : ℕ) (h : 8192 ≤ n) : dd m c n k = 0 := dif_neg (by omega)

theorem du_zero (n K : ℕ) (h : 8192 ≤ n) : du m c n K = 0 := by
  unfold du dg dv
  rw [dd_zero m c _ _ h, dd_zero m c _ _ h, zero_mul, zero_mul, zero_mul, ite_self]

theorem eta {A B : ℕ} (y : (⟨2, ![A, B]⟩ : Shape).Idx) : y = ix2 (n0 := A) (n1 := B) (y 0) (y 1) := by
  funext a
  match a with
  | ⟨0, _⟩ => rfl
  | ⟨1, _⟩ => rfl

end

end Cert.Kernel18Ideal.Val
-- ==== Proof.Conv18.lean ====
/- The gradient of the feed-forward's convolution and gate: the blocks and what every tile computes. -/
module

public import proofs.«01_k».proof.Proof.Def18

@[expose] public section

noncomputable section

namespace Cert.Kernel18Ideal.Val

open Idealize.ShloMosaic Idealize.ShloMosaic.TcCoe Idealize.SL.Sem Cert.Kernel18Ideal Cert.Kernel18Ideal.Gen Cert.Conv

section
variable (m : (ℓ : Loc nD τ sig) → Buf (Elt Ideal) ℓ) (c : Dev nD)

theorem readB (y : S1x5632.Idx) : (V m c main_v0 : S1x5632.Idx → EReal) y = B m c (ix1 (y 1)) := by
  unfold V
  after_reads_at

theorem readD (y : S8192x2816.Idx) : (V m c main_v1 : S8192x2816.Idx → EReal) y = D m c y := by
  unfold V
  after_reads_at

theorem idx : ∀ t : Fin cfg0.N, win0_0.index t = ![t.val % 8, t.val / 8]
    ∧ win0_1.index t = ![128 * (t.val % 8) - 1, t.val / 8]
    ∧ win0_2.index t = ![min (128 * (t.val % 8 + 1)) 1023, t.val / 8]
    ∧ win0_3.index t = ![t.val % 8, 11 + t.val / 8]
    ∧ win0_4.index t = ![128 * (t.val % 8) - 1, 11 + t.val / 8]
    ∧ win0_5.index t = ![min (128 * (t.val % 8 + 1)) 1023, 11 + t.val / 8]
    ∧ win0_6.index t = ![0, t.val / 8]
    ∧ win0_7.index t = ![0, 11 + t.val / 8]
    ∧ win0_8.index t = ![0, t.val / 8]
    ∧ win0_9.index t = ![0, 11 + t.val / 8]
    ∧ win0_10.index t = ![t.val % 8, t.val / 8]
    ∧ win0_11.index t = ![min (64 * (t.val % 8 + 1)) 511, t.val / 8] := by decide +kernel

theorem idxo : ∀ t : Fin cfg0.N, win0_12.index t = ![t.val % 8, t.val / 8]
    ∧ win0_13.index t = ![t.val % 8, t.val / 8]
    ∧ win0_14.index t = ![0, t.val / 8]
    ∧ win0_15.index t = ![0, t.val / 8]
    ∧ win0_16.index t = ![0, t.val / 8]
    ∧ win0_17.index t = ![0, t.val / 8] := by decide +kernel

theorem last_rows (n : ℕ) (hl : n < 8) (x y : EReal) : Scalar.select (Scalar.cmpi CmpIPredicate.slt (BitVec.ofNat 32 n) 7#32) x y = if n = 7 then y else x := by
  have hw : ∀ n : Fin 8, Scalar.cmpi CmpIPredicate.slt (BitVec.ofNat 32 n.val) 7#32 = if n.val = 7 then 0#1 else 1#1 := by decide
  rw [hw ⟨n, hl⟩]
  dsimp only
  by_cases h0 : n = 7
  · rw [if_pos h0, if_pos h0]
    rfl
  · rw [if_neg h0, if_neg h0]
    rfl

theorem first_rows (n : ℕ) (hl : n < 8) (x y : EReal) : Scalar.select (Scalar.cmpi CmpIPredicate.sgt (BitVec.ofNat 32 n) 0#32) x y = if n = 0 then y else x := by
  have hw : ∀ n : Fin 8, Scalar.cmpi CmpIPredicate.sgt (BitVec.ofNat 32 n.val) 0#32 = if n.val = 0 then 0#1 else 1#1 := by decide
  rw [hw ⟨n, hl⟩]
  dsimp only
  by_cases h0 : n = 0
  · rw [if_pos h0, if_pos h0]
    rfl
  · rw [if_neg h0, if_neg h0]
    rfl

theorem pay4_at (i : grid0.Coords) (h : Vec Ideal S8x256 .f32) (p : Fin 8) (q : Fin 256) :
    k0_pay4 (F := Ideal) i h (ix2 p q) = if (i 1).val = 0 then 0 else h (ix2 p q) := by
  refine Eq.trans ?_ (first_rows (i 1).val (i 1).isLt (h (ix2 p q)) 0)
  rw [← Sums.zero_word]
  pointwise [k0_pay4]

theorem pay7_at (i : grid0.Coords) (h : Vec Ideal S8x256 .f32) (p : Fin 8) (q : Fin 256) :
    k0_pay7 (F := Ideal) i h (ix2 p q) = if (i 1).val = 0 then 0 else h (ix2 p q) := by
  refine Eq.trans ?_ (first_rows (i 1).val (i 1).isLt (h (ix2 p q)) 0)
  rw [← Sums.zero_word]
  pointwise [k0_pay7]

theorem pay6_at (i : grid0.Coords) (h : Vec Ideal S8x256 .f32) (p : Fin 8) (q : Fin 256) :
    k0_pay6 (F := Ideal) i h (ix2 p q) = if (i 1).val = 7 then 0 else h (ix2 p q) := by
  refine Eq.trans ?_ (last_rows (i 1).val (i 1).isLt (h (ix2 p q)) 0)
  rw [← Sums.zero_word]
  pointwise [k0_pay6]

theorem pay9_at (i : grid0.Coords) (h : Vec Ideal S8x256 .f32) (p : Fin 8) (q : Fin 256) :
    k0_pay9 (F := Ideal) (BitVec.ofNat 32 (i 1).val) h (ix2 p q) = if (i 1).val = 7 then 0 else h (ix2 p q) := by
  refine Eq.trans ?_ (last_rows (i 1).val (i 1).isLt (h (ix2 p q)) 0)
  rw [← Sums.zero_word]
  pointwise [k0_pay9]

theorem pay5_at (x : Vec Ideal S1024x256 .f32) (p : Fin 1024) (q : Fin 256) : k0_pay5 (F := Ideal) x (ix2 p q) = x (ix2 p q) := by
  pointwise [k0_pay5]

theorem pay8_at (x : Vec Ideal S1024x256 .f32) (p : Fin 1024) (q : Fin 256) : k0_pay8 (F := Ideal) x (ix2 p q) = x (ix2 p q) := by
  pointwise [k0_pay8]

theorem pay19_at (p : Fin 3) (q : Fin 256) : k0_pay19 (F := Ideal) (ix2 p q) = 0 := by
  rw [← Sums.zero_word]
  pointwise [k0_pay19]

theorem pay20_at (p : Fin 3) (q : Fin 256) : k0_pay20 (F := Ideal) (ix2 p q) = 0 := by
  rw [← Sums.zero_word]
  pointwise [k0_pay20]

theorem pay21_at (p : Fin 1) (q : Fin 256) : k0_pay21 (F := Ideal) (ix2 p q) = 0 := by
  rw [← Sums.zero_word]
  pointwise [k0_pay21]

theorem pay22_at (p : Fin 1) (q : Fin 256) : k0_pay22 (F := Ideal) (ix2 p q) = 0 := by
  rw [← Sums.zero_word]
  pointwise [k0_pay22]

theorem pay24_at (d : Vec Ideal S1024x256 .f32) (w : Vec Ideal S1x256 .f32) (x : Vec Ideal S1024x256 .f32) (q : Fin 256) :
    k0_pay24 (F := Ideal) d w x (ix2 0 q) = w (ix2 0 q) + ∑ p : Fin 1024, d (ix2 p q) * x (ix2 p q) := by
  pointwise [k0_pay24]

theorem pay26_at (d : Vec Ideal S1024x256 .f32) (w : Vec Ideal S1x256 .f32) (x : Vec Ideal S1024x256 .f32) (q : Fin 256) :
    k0_pay26 (F := Ideal) d w x (ix2 0 q) = w (ix2 0 q) + ∑ p : Fin 1024, d (ix2 p q) * x (ix2 p q) := by
  pointwise [k0_pay26]

theorem pay27_at (d : Vec Ideal S1024x256 .f32) (w : Vec Ideal S1x256 .f32) (x : Vec Ideal S1024x256 .f32) (q : Fin 256) :
    k0_pay27 (F := Ideal) d w x (ix2 0 q) = w (ix2 0 q) + ∑ p : Fin 1024, d (ix2 p q) * x (ix2 p q) := by
  pointwise [k0_pay27]

theorem pay30_at (d : Vec Ideal S1024x256 .f32) (w : Vec Ideal S1x256 .f32) (x : Vec Ideal S1024x256 .f32) (q : Fin 256) :
    k0_pay30 (F := Ideal) d w x (ix2 0 q) = w (ix2 0 q) + ∑ p : Fin 1024, d (ix2 p q) * x (ix2 p q) := by
  pointwise [k0_pay30]

theorem pay32_at (d : Vec Ideal S1024x256 .f32) (w : Vec Ideal S1x256 .f32) (x : Vec Ideal S1024x256 .f32) (q : Fin 256) :
    k0_pay32 (F := Ideal) d w x (ix2 0 q) = w (ix2 0 q) + ∑ p : Fin 1024, d (ix2 p q) * x (ix2 p q) := by
  pointwise [k0_pay32]

theorem pay1_at (d : Vec Ideal S1024x256 .f32) (w : Vec Ideal S1x256 .f32) (x : Vec Ideal S1024x256 .f32) (q : Fin 256) :
    k0_pay1 (F := Ideal) d w x (ix2 0 q) = w (ix2 0 q) + ∑ p : Fin 1024, d (ix2 p q) * x (ix2 p q) := by
  pointwise [k0_pay1]

theorem pay28_at (d : Vec Ideal S1024x256 .f32) (w : Vec Ideal S1x256 .f32) (q : Fin 256) :
    k0_pay28 (F := Ideal) d w (ix2 0 q) = w (ix2 0 q) + ∑ p : Fin 1024, d (ix2 p q) := by
  pointwise [k0_pay28]

theorem pay2_at (d : Vec Ideal S1024x256 .f32) (w : Vec Ideal S1x256 .f32) (q : Fin 256) :
    k0_pay2 (F := Ideal) d w (ix2 0 q) = w (ix2 0 q) + ∑ p : Fin 1024, d (ix2 p q) := by
  pointwise [k0_pay2]

theorem pay29_at (x0 x1 x2 : Vec Ideal S1024x256 .f32) (w0 w1 w2 : Vec Ideal S1x256 .f32) (p : Fin 1024) (q : Fin 256) :
    k0_pay29 (F := Ideal) (k0_pay23 (F := Ideal) x0 w0) x1 (k0_pay25 (F := Ideal) w1) x2 w2 (ix2 p q)
      = 0 + x0 (ix2 p q) * w0 (ix2 0 q) + x1 (ix2 p q) * w1 (ix2 0 q) + x2 (ix2 p q) * w2 (ix2 0 q) := by
  rw [← Sums.zero_word]
  pointwise [k0_pay29, k0_pay23, k0_pay25]

theorem pay3_at (x0 x1 x2 : Vec Ideal S1024x256 .f32) (w0 w1 w2 : Vec Ideal S1x256 .f32) (p : Fin 1024) (q : Fin 256) :
    k0_pay3 (F := Ideal) (k0_pay31 (F := Ideal) x0 w0 x1 w1) x2 w2 (ix2 p q)
      = 0 + x0 (ix2 p q) * w0 (ix2 0 q) + x1 (ix2 p q) * w1 (ix2 0 q) + x2 (ix2 p q) * w2 (ix2 0 q) := by
  rw [← Sums.zero_word]
  pointwise [k0_pay3, k0_pay31]

theorem pay10_at (b : Vec Ideal S1x256 .f32) (x0 x1 x2 : Vec Ideal S1032x256 .f32) (w0 w1 w2 : Vec Ideal S1x256 .f32) (p : Fin 1032) (q : Fin 256) :
    k0_pay10 (F := Ideal) b x0 w0 x1 w1 x2 w2 (ix2 p q)
      = b (ix2 0 q) + 0 + x0 (ix2 p q) * w0 (ix2 0 q) + x1 (ix2 p q) * w1 (ix2 0 q) + x2 (ix2 p q) * w2 (ix2 0 q) := by
  rw [← Sums.zero_word]
  pointwise [k0_pay10]

theorem pay12_at (i : grid0.Coords) (d : Vec Ideal S1024x256 .bf16) (e : Vec Ideal S16x256 .bf16) (p : Fin 1032) (q : Fin 256) :
    k0_pay12 (F := Ideal) (BitVec.ofNat 32 (i 1).val) d e (ix2 p q)
      = if h : p.val < 1024 then (d (ix2 ⟨p.val, h⟩ q) : EReal) else if (i 1).val = 7 then 0 else e (ix2 ⟨p.val - 1024, by omega⟩ q) := by
  unfold k0_pay12
  by_cases h : p.val < 1024
  · rw [dif_pos h]
    refine (concatenate_pair_apply_left (t := S1032x256) (s₁ := S1024x256) (s₂ := S8x256) 0 _ _ _ _ rfl (ix2 ⟨p.val, h⟩ q) (fun b => ?_)).trans ?_
    · match b with
      | ⟨0, _⟩ => rfl
      | ⟨1, _⟩ => rfl
    · pointwise [k0_pay12]
  · rw [dif_neg h]
    refine (concatenate_pair_apply_right (t := S1032x256) (s₁ := S1024x256) (s₂ := S8x256) 0 _ _ _ _ rfl rfl (ix2 ⟨p.val - 1024, by omega⟩ q) (fun b hb => ?_) ?_).trans ?_
    · match b with
      | ⟨0, _⟩ => exact absurd rfl hb
      | ⟨1, _⟩ => rfl
    · show p.val - 1024 + 1024 = p.val
      omega
    · refine Eq.trans ?_ (last_rows (i 1).val (i 1).isLt (e (ix2 ⟨p.val - 1024, by omega⟩ q)) 0)
      rw [← Sums.zero_word]
      pointwise [k0_pay12]

theorem pay14_at (a : BitVec 32) (b : Vec Ideal S1x256 .f32) (x0 x1 x2 : Vec Ideal S1032x256 .f32) (w0 w1 w2 : Vec Ideal S1x256 .f32)
    (d : Vec Ideal S1024x256 .bf16) (e : Vec Ideal S16x256 .bf16) (p : Fin 1032) (q : Fin 256) :
    k0_pay14 (F := Ideal) a (k0_pay11 (F := Ideal) b) x0 w0 x1 w1 x2 w2 d e (ix2 p q)
      = k0_pay12 (F := Ideal) a d e (ix2 p q) * (b (ix2 0 q) + 0 + x0 (ix2 p q) * w0 (ix2 0 q) + x1 (ix2 p q) * w1 (ix2 0 q) + x2 (ix2 p q) * w2 (ix2 0 q)) := by
  rw [← Sums.zero_word]
  pointwise [k0_pay14, k0_pay11]

theorem pay17_at (u d : Vec Ideal S1032x256 .f32) (p : Fin 1032) (q : Fin 256) (z : EReal) (hz : u (ix2 p q) = z) :
    k0_pay17 (F := Ideal) (k0_pay13 (F := Ideal) u) d (k0_pay15 (F := Ideal) u) (k0_pay16 (F := Ideal)) (ix2 p q) = d (ix2 p q) * (sg z * (1 + z * (1 - sg z))) := by
  subst hz
  show _ = d (ix2 p q) * (Ideal.div 1 (1 + Ideal.exp (-_)) * (1 + _ * (1 - Ideal.div 1 (1 + Ideal.exp (-_)))))
  rw [← zero_sub, ← Sums.zero_word, ← one_word]
  pointwise [k0_pay17, k0_pay13, k0_pay15, k0_pay16]

theorem pay18_at (u d : Vec Ideal S1032x256 .f32) (p : Fin 1032) (q : Fin 256) (z : EReal) (hz : u (ix2 p q) = z) :
    k0_pay18 (F := Ideal) u d (k0_pay13 (F := Ideal) u) (ix2 p q) = d (ix2 p q) * (z * sg z) := by
  subst hz
  show _ = d (ix2 p q) * (_ * Ideal.div 1 (1 + Ideal.exp (-_)))
  rw [← zero_sub, ← Sums.zero_word, ← one_word]
  pointwise [k0_pay18, k0_pay13]

theorem coord : ∀ t : Fin cfg0.N, (grid0.coords t 1).val = t.val % 8 := by decide +kernel

theorem blkXg (t : Fin cfg0.N) (p : Fin 1024) (q : Fin 256) : (iblk m c 0 t : S1024x256.Idx → EReal) (ix2 p q) = past m c (1024 * (t.val % 8) + (8 + p.val)) (256 * (t.val / 8) + q.val) := by
  have ht : t.val < 88 := lt_of_lt_of_eq t.isLt N_0
  have hx := (idx t).1
  unfold past
  rw [dif_pos (by omega)]
  refine Eq.trans ?_ (congrFun (V_main_arg0 m c) _)
  blk_ext [iblk, hx] <;> omega

theorem blkPg (t : Fin cfg0.N) (h : ¬t.val % 8 = 0) (p : Fin 8) (q : Fin 256) : (iblk m c 1 t : S8x256.Idx → EReal) (ix2 p q) = past m c (1024 * (t.val % 8) + (0 + p.val)) (256 * (t.val / 8) + q.val) := by
  have ht : t.val < 88 := lt_of_lt_of_eq t.isLt N_0
  have hx := (idx t).2.1
  unfold past
  rw [dif_pos (by omega)]
  refine Eq.trans ?_ (congrFun (V_main_arg0 m c) _)
  blk_ext [iblk, hx] <;> omega

theorem blkNg (t : Fin cfg0.N) (h : ¬t.val % 8 = 7) (p : Fin 8) (q : Fin 256) : (iblk m c 2 t : S8x256.Idx → EReal) (ix2 p q) = past m c (1024 * (t.val % 8) + (1032 + p.val)) (256 * (t.val / 8) + q.val) := by
  have ht : t.val < 88 := lt_of_lt_of_eq t.isLt N_0
  have hx := (idx t).2.2.1
  unfold past
  rw [dif_pos (by omega)]
  refine Eq.trans ?_ (congrFun (V_main_arg0 m c) _)
  blk_ext [iblk, hx] <;> omega

abbrev bWg (t : Fin cfg0.N) : S3x256.Idx → EReal := iblk m c 6 t

theorem blkWg (t : Fin cfg0.N) (r : Fin 3) (q : Fin 256) : bWg m c t (ix2 r q) = wt m c r (256 * (t.val / 8) + q.val) := by
  have ht : t.val < 88 := lt_of_lt_of_eq t.isLt N_0
  have hx := (idx t).2.2.2.2.2.2.1
  unfold wt
  rw [dif_pos (by omega)]
  refine Eq.trans ?_ (congrFun (V_main_arg1 m c) _)
  blk_ext [bWg, iblk, hx] <;> omega

theorem blkBg (t : Fin cfg0.N) (q : Fin 256) : (iblk m c 8 t : S1x256.Idx → EReal) (ix2 0 q) = bs m c (256 * (t.val / 8) + q.val) := by
  have ht : t.val < 88 := lt_of_lt_of_eq t.isLt N_0
  have hx := (idx t).2.2.2.2.2.2.2.2.1
  unfold bs
  rw [dif_pos (by omega)]
  refine Eq.trans ?_ (readB m c (ix2 0 ⟨256 * (t.val / 8) + q.val, by omega⟩))
  blk_ext [iblk, hx] <;> omega

/-- One row of the taps. -/
theorem tapWg (t : Fin cfg0.N) (r : Fin 3) (i : ∀ k, (![r.val, 0] : Fin 2 → ℕ) k + (![1, 256] : Fin 2 → ℕ) k ≤ (⟨2, ![3, 256]⟩ : Shape).size k) (q : Fin 256) :
    bWg m c t ((Rect.unit (s := ⟨2, ![3, 256]⟩) ![r.val, 0] ![1, 256] i).emb (ix2 (n0 := 1) (n1 := 256) 0 q)) = wt m c r (256 * (t.val / 8) + q.val) := by
  refine (row (A := 3) (D := 256) (C := 256) (bWg m c t) r.isLt (by decide) i q).trans (Eq.trans ?_ (blkWg m c t r q))
  exact congrArg (fun z => bWg m c t (ix2 r z)) (Fin.ext (Nat.zero_add _))

/-- Rows of the buffer of convolved rows. -/
theorem tapXg (t : Fin cfg0.N) {o R : ℕ} (i : ∀ k, (![o, 0] : Fin 2 → ℕ) k + (![R, 256] : Fin 2 → ℕ) k ≤ S1040x256.size k) (p : Fin R) (q : Fin 256) :
    ((View.whole cc0_scratch0).readCov (Val := Elt Ideal)
      [⟨Rect.unit ![1032, 0] ![8, 256] inb_S1040x256_S8x256_1032_0, k0_pay6 (F := Ideal) (grid0.coords t) (iblk m c 2 t)⟩,
        ⟨Rect.unit ![8, 0] ![1024, 256] inb_S1040x256_S1024x256_8_0, k0_pay5 (F := Ideal) (iblk m c 0 t)⟩,
        ⟨Rect.unit ![0, 0] ![8, 256] inb_S1040x256_S8x256_0_0, k0_pay4 (F := Ideal) (grid0.coords t) (iblk m c 1 t)⟩]
      (Rect.unit (s := S1040x256) ![o, 0] ![R, 256] i).toLoadRect : (⟨2, ![R, 256]⟩ : Shape).Idx → EReal) (ix2 p q) = past m c (1024 * (t.val % 8) + (o + p.val)) (256 * (t.val / 8) + q.val) :=
  load_rows3 (N := 1040) (a := 8) (b := 1024) (d := 8) (e := 1032) (R := R) (C := 256) (o := o) (Val := Elt Ideal) (el := .f32) (View.whole cc0_scratch0) rfl rfl
    inb_S1040x256_S8x256_1032_0 inb_S1040x256_S1024x256_8_0 inb_S1040x256_S8x256_0_0 i
    (k0_pay6 (F := Ideal) (grid0.coords t) (iblk m c 2 t)) (k0_pay5 (F := Ideal) (iblk m c 0 t)) (k0_pay4 (F := Ideal) (grid0.coords t) (iblk m c 1 t))
    (fun p q => past m c (1024 * (t.val % 8) + p) (256 * (t.val / 8) + q))
    (fun p q => by
      refine (pay6_at (grid0.coords t) _ p q).trans ?_
      rw [coord]
      by_cases h : t.val % 8 = 7
      · rw [if_pos h]
        exact (past_zero m c _ _ (by omega)).symm
      · rw [if_neg h]
        exact blkNg m c t h p q)
    (fun p q => (pay5_at _ p q).trans (blkXg m c t p q))
    (fun p q => by
      refine (pay4_at (grid0.coords t) _ p q).trans ?_
      rw [coord]
      by_cases h : t.val % 8 = 0
      · rw [if_pos h]
        exact (past_zero m c _ _ (by omega)).symm
      · rw [if_neg h]
        exact blkPg m c t h p q) p q

theorem blkXv (t : Fin cfg0.N) (p : Fin 1024) (q : Fin 256) : (iblk m c 3 t : S1024x256.Idx → EReal) (ix2 p q) = past m c (1024 * (t.val % 8) + (8 + p.val)) (2816 + (256 * (t.val / 8) + q.val)) := by
  have ht : t.val < 88 := lt_of_lt_of_eq t.isLt N_0
  have hx := (idx t).2.2.2.1
  unfold past
  rw [dif_pos (by omega)]
  refine Eq.trans ?_ (congrFun (V_main_arg0 m c) _)
  blk_ext [iblk, hx] <;> omega

theorem blkPv (t : Fin cfg0.N) (h : ¬t.val % 8 = 0) (p : Fin 8) (q : Fin 256) : (iblk m c 4 t : S8x256.Idx → EReal) (ix2 p q) = past m c (1024 * (t.val % 8) + (0 + p.val)) (2816 + (256 * (t.val / 8) + q.val)) := by
  have ht : t.val < 88 := lt_of_lt_of_eq t.isLt N_0
  have hx := (idx t).2.2.2.2.1
  unfold past
  rw [dif_pos (by omega)]
  refine Eq.trans ?_ (congrFun (V_main_arg0 m c) _)
  blk_ext [iblk, hx] <;> omega

theorem blkNv (t : Fin cfg0.N) (h : ¬t.val % 8 = 7) (p : Fin 8) (q : Fin 256) : (iblk m c 5 t : S8x256.Idx → EReal) (ix2 p q) = past m c (1024 * (t.val % 8) + (1032 + p.val)) (2816 + (256 * (t.val / 8) + q.val)) := by
  have ht : t.val < 88 := lt_of_lt_of_eq t.isLt N_0
  have hx := (idx t).2.2.2.2.2.1
  unfold past
  rw [dif_pos (by omega)]
  refine Eq.trans ?_ (congrFun (V_main_arg0 m c) _)
  blk_ext [iblk, hx] <;> omega

abbrev bWv (t : Fin cfg0.N) : S3x256.Idx → EReal := iblk m c 7 t

theorem blkWv (t : Fin cfg0.N) (r : Fin 3) (q : Fin 256) : bWv m c t (ix2 r q) = wt m c r (2816 + (256 * (t.val / 8) + q.val)) := by
  have ht : t.val < 88 := lt_of_lt_of_eq t.isLt N_0
  have hx := (idx t).2.2.2.2.2.2.2.1
  unfold wt
  rw [dif_pos (by omega)]
  refine Eq.trans ?_ (congrFun (V_main_arg1 m c) _)
  blk_ext [bWv, iblk, hx] <;> omega

theorem blkBv (t : Fin cfg0.N) (q : Fin 256) : (iblk m c 9 t : S1x256.Idx → EReal) (ix2 0 q) = bs m c (2816 + (256 * (t.val / 8) + q.val)) := by
  have ht : t.val < 88 := lt_of_lt_of_eq t.isLt N_0
  have hx := (idx t).2.2.2.2.2.2.2.2.2.1
  unfold bs
  rw [dif_pos (by omega)]
  refine Eq.trans ?_ (readB m c (ix2 0 ⟨2816 + (256 * (t.val / 8) + q.val), by omega⟩))
  blk_ext [iblk, hx] <;> omega

/-- One row of the taps. -/
theorem tapWv (t : Fin cfg0.N) (r : Fin 3) (i : ∀ k, (![r.val, 0] : Fin 2 → ℕ) k + (![1, 256] : Fin 2 → ℕ) k ≤ (⟨2, ![3, 256]⟩ : Shape).size k) (q : Fin 256) :
    bWv m c t ((Rect.unit (s := ⟨2, ![3, 256]⟩) ![r.val, 0] ![1, 256] i).emb (ix2 (n0 := 1) (n1 := 256) 0 q)) = wt m c r (2816 + (256 * (t.val / 8) + q.val)) := by
  refine (row (A := 3) (D := 256) (C := 256) (bWv m c t) r.isLt (by decide) i q).trans (Eq.trans ?_ (blkWv m c t r q))
  exact congrArg (fun z => bWv m c t (ix2 r z)) (Fin.ext (Nat.zero_add _))

/-- Rows of the buffer of convolved rows. -/
theorem tapXv (t : Fin cfg0.N) {o R : ℕ} (i : ∀ k, (![o, 0] : Fin 2 → ℕ) k + (![R, 256] : Fin 2 → ℕ) k ≤ S1040x256.size k) (p : Fin R) (q : Fin 256) :
    ((View.whole cc0_scratch1).readCov (Val := Elt Ideal)
      [⟨Rect.unit ![1032, 0] ![8, 256] inb_S1040x256_S8x256_1032_0, k0_pay9 (F := Ideal) (BitVec.ofNat 32 (grid0.coords t 1).val) (iblk m c 5 t)⟩,
        ⟨Rect.unit ![8, 0] ![1024, 256] inb_S1040x256_S1024x256_8_0, k0_pay8 (F := Ideal) (iblk m c 3 t)⟩,
        ⟨Rect.unit ![0, 0] ![8, 256] inb_S1040x256_S8x256_0_0, k0_pay7 (F := Ideal) (grid0.coords t) (iblk m c 4 t)⟩]
      (Rect.unit (s := S1040x256) ![o, 0] ![R, 256] i).toLoadRect : (⟨2, ![R, 256]⟩ : Shape).Idx → EReal) (ix2 p q) = past m c (1024 * (t.val % 8) + (o + p.val)) (2816 + (256 * (t.val / 8) + q.val)) :=
  load_rows3 (N := 1040) (a := 8) (b := 1024) (d := 8) (e := 1032) (R := R) (C := 256) (o := o) (Val := Elt Ideal) (el := .f32) (View.whole cc0_scratch1) rfl rfl
    inb_S1040x256_S8x256_1032_0 inb_S1040x256_S1024x256_8_0 inb_S1040x256_S8x256_0_0 i
    (k0_pay9 (F := Ideal) (BitVec.ofNat 32 (grid0.coords t 1).val) (iblk m c 5 t)) (k0_pay8 (F := Ideal) (iblk m c 3 t)) (k0_pay7 (F := Ideal) (grid0.coords t) (iblk m c 4 t))
    (fun p q => past m c (1024 * (t.val % 8) + p) (2816 + (256 * (t.val / 8) + q)))
    (fun p q => by
      refine (pay9_at (grid0.coords t) _ p q).trans ?_
      rw [coord]
      by_cases h : t.val % 8 = 7
      · rw [if_pos h]
        exact (past_zero m c _ _ (by omega)).symm
      · rw [if_neg h]
        exact blkNv m c t h p q)
    (fun p q => (pay8_at _ p q).trans (blkXv m c t p q))
    (fun p q => by
      refine (pay7_at (grid0.coords t) _ p q).trans ?_
      rw [coord]
      by_cases h : t.val % 8 = 0
      · rw [if_pos h]
        exact (past_zero m c _ _ (by omega)).symm
      · rw [if_neg h]
        exact blkPv m c t h p q) p q

/-- The gate's convolution over a tile and eight rows more. -/
theorem gat_of (t : Fin cfg0.N) (b : Vec Ideal S1x256 .f32) (x0 x1 x2 : Vec Ideal S1032x256 .f32) (w0 w1 w2 : Vec Ideal S1x256 .f32)
    (hb : ∀ q : Fin 256, b (ix2 0 q) = bs m c (256 * (t.val / 8) + q.val))
    (h0 : ∀ (p : Fin 1032) (q : Fin 256), x0 (ix2 p q) = past m c (1024 * (t.val % 8) + (6 + p.val)) (256 * (t.val / 8) + q.val))
    (h1 : ∀ (p : Fin 1032) (q : Fin 256), x1 (ix2 p q) = past m c (1024 * (t.val % 8) + (7 + p.val)) (256 * (t.val / 8) + q.val))
    (h2 : ∀ (p : Fin 1032) (q : Fin 256), x2 (ix2 p q) = past m c (1024 * (t.val % 8) + (8 + p.val)) (256 * (t.val / 8) + q.val))
    (g0 : ∀ q : Fin 256, w0 (ix2 0 q) = wt m c 0 (256 * (t.val / 8) + q.val)) (g1 : ∀ q : Fin 256, w1 (ix2 0 q) = wt m c 1 (256 * (t.val / 8) + q.val))
    (g2 : ∀ q : Fin 256, w2 (ix2 0 q) = wt m c 2 (256 * (t.val / 8) + q.val)) (p : Fin 1032) (q : Fin 256) :
    k0_pay10 (F := Ideal) b x0 w0 x1 w1 x2 w2 (ix2 p q) = conv m c (1024 * (t.val % 8) + p.val) (256 * (t.val / 8) + q.val) := by
  refine (pay10_at _ _ _ _ _ _ _ p q).trans ?_
  unfold conv
  refine congrArg₂ (· + ·) (congrArg₂ (· + ·) (congrArg₂ (· + ·) (congrArg (· + 0) (hb q)) ?_) ?_) ?_
  · exact congrArg₂ (· * ·) ((h0 p q).trans (congrArg (past m c · _) (by omega))) (g0 q)
  · exact congrArg₂ (· * ·) ((h1 p q).trans (congrArg (past m c · _) (by omega))) (g1 q)
  · exact congrArg₂ (· * ·) ((h2 p q).trans (congrArg (past m c · _) (by omega))) (g2 q)

/-- The given gradient times the value's convolution over the same rows. -/
theorem pre_of (t : Fin cfg0.N) (a : BitVec 32) (b : Vec Ideal S1x256 .f32) (x0 x1 x2 : Vec Ideal S1032x256 .f32) (w0 w1 w2 : Vec Ideal S1x256 .f32)
    (d : Vec Ideal S1024x256 .bf16) (e : Vec Ideal S16x256 .bf16)
    (hd : ∀ (p : Fin 1032) (q : Fin 256), k0_pay12 (F := Ideal) a d e (ix2 p q) = dd m c (1024 * (t.val % 8) + p.val) (256 * (t.val / 8) + q.val))
    (hb : ∀ q : Fin 256, b (ix2 0 q) = bs m c (2816 + (256 * (t.val / 8) + q.val)))
    (h0 : ∀ (p : Fin 1032) (q : Fin 256), x0 (ix2 p q) = past m c (1024 * (t.val % 8) + (6 + p.val)) (2816 + (256 * (t.val / 8) + q.val)))
    (h1 : ∀ (p : Fin 1032) (q : Fin 256), x1 (ix2 p q) = past m c (1024 * (t.val % 8) + (7 + p.val)) (2816 + (256 * (t.val / 8) + q.val)))
    (h2 : ∀ (p : Fin 1032) (q : Fin 256), x2 (ix2 p q) = past m c (1024 * (t.val % 8) + (8 + p.val)) (2816 + (256 * (t.val / 8) + q.val)))
    (g0 : ∀ q : Fin 256, w0 (ix2 0 q) = wt m c 0 (2816 + (256 * (t.val / 8) + q.val))) (g1 : ∀ q : Fin 256, w1 (ix2 0 q) = wt m c 1 (2816 + (256 * (t.val / 8) + q.val)))
    (g2 : ∀ q : Fin 256, w2 (ix2 0 q) = wt m c 2 (2816 + (256 * (t.val / 8) + q.val))) (p : Fin 1032) (q : Fin 256) :
    k0_pay14 (F := Ideal) a (k0_pay11 (F := Ideal) b) x0 w0 x1 w1 x2 w2 d e (ix2 p q) = dd m c (1024 * (t.val % 8) + p.val) (256 * (t.val / 8) + q.val) * conv m c (1024 * (t.val % 8) + p.val) (2816 + (256 * (t.val / 8) + q.val)) := by
  refine (pay14_at _ _ _ _ _ _ _ _ _ _ p q).trans (congrArg₂ (· * ·) (hd p q) ?_)
  unfold conv
  refine congrArg₂ (· + ·) (congrArg₂ (· + ·) (congrArg₂ (· + ·) (congrArg (· + 0) (hb q)) ?_) ?_) ?_
  · exact congrArg₂ (· * ·) ((h0 p q).trans (congrArg (past m c · _) (by omega))) (g0 q)
  · exact congrArg₂ (· * ·) ((h1 p q).trans (congrArg (past m c · _) (by omega))) (g1 q)
  · exact congrArg₂ (· * ·) ((h2 p q).trans (congrArg (past m c · _) (by omega))) (g2 q)

/-- What the two buffers of gradients hold. -/
theorem bufg_of (t : Fin cfg0.N) (u d : Vec Ideal S1032x256 .f32) (hu : ∀ (p : Fin 1032) (q : Fin 256), u (ix2 p q) = conv m c (1024 * (t.val % 8) + p.val) (256 * (t.val / 8) + q.val))
    (hd : ∀ (p : Fin 1032) (q : Fin 256), d (ix2 p q) = dd m c (1024 * (t.val % 8) + p.val) (256 * (t.val / 8) + q.val) * conv m c (1024 * (t.val % 8) + p.val) (2816 + (256 * (t.val / 8) + q.val)))
    (p : Fin 1032) (q : Fin 256) :
    k0_pay17 (F := Ideal) (k0_pay13 (F := Ideal) u) d (k0_pay15 (F := Ideal) u) (k0_pay16 (F := Ideal)) (ix2 p q) = du m c (1024 * (t.val % 8) + (0 + p.val)) (256 * (t.val / 8) + q.val) := by
  have ht : t.val < 88 := lt_of_lt_of_eq t.isLt N_0
  refine (pay17_at _ _ p q _ (hu p q)).trans ?_
  rw [Nat.zero_add]
  unfold du dg
  rw [if_pos (by omega)]
  exact congrArg (· * _) (hd p q)

theorem bufv_of (t : Fin cfg0.N) (u d : Vec Ideal S1032x256 .f32) (hu : ∀ (p : Fin 1032) (q : Fin 256), u (ix2 p q) = conv m c (1024 * (t.val % 8) + p.val) (256 * (t.val / 8) + q.val))
    (hd : ∀ (p : Fin 1032) (q : Fin 256), d (ix2 p q) = dd m c (1024 * (t.val % 8) + p.val) (256 * (t.val / 8) + q.val)) (p : Fin 1032) (q : Fin 256) :
    k0_pay18 (F := Ideal) u d (k0_pay13 (F := Ideal) u) (ix2 p q) = du m c (1024 * (t.val % 8) + (0 + p.val)) (2816 + (256 * (t.val / 8) + q.val)) := by
  refine (pay18_at _ _ p q _ (hu p q)).trans ?_
  rw [Nat.zero_add]
  unfold du dv
  rw [if_neg (by omega), Nat.add_sub_cancel_left]
  exact congrArg (· * _) (hd p q)

theorem ct_at (t : Fin cfg0.N) (p : Fin 1032) (q : Fin 256) :
    k0_pay12 (F := Ideal) (BitVec.ofNat 32 (grid0.coords t 1).val) (iblk m c 10 t) (iblk m c 11 t) (ix2 p q) = dd m c (1024 * (t.val % 8) + p.val) (256 * (t.val / 8) + q.val) := by
  have ht : t.val < 88 := lt_of_lt_of_eq t.isLt N_0
  refine (pay12_at (grid0.coords t) _ _ p q).trans ?_
  rw [coord]
  by_cases h : p.val < 1024
  · rw [dif_pos h]
    have hx := (idx t).2.2.2.2.2.2.2.2.2.2.1
    unfold dd
    rw [dif_pos (by omega)]
    refine Eq.trans ?_ (readD m c _)
    blk_ext [iblk, hx] <;> omega
  · rw [dif_neg h]
    by_cases h7 : t.val % 8 = 7
    · rw [if_pos h7]
      exact (dd_zero m c _ _ (by omega)).symm
    · rw [if_neg h7]
      have hx := (idx t).2.2.2.2.2.2.2.2.2.2.2
      unfold dd
      rw [dif_pos (by omega)]
      refine Eq.trans ?_ (readD m c _)
      blk_ext [iblk, hx] <;> omega

/-- Rows of the buffer of gradients. -/
theorem tapDg (t : Fin cfg0.N) {o : ℕ} (G : Vec Ideal S1032x256 .f32) (hG : ∀ (p : Fin 1032) (q : Fin 256), G (ix2 p q) = du m c (1024 * (t.val % 8) + (0 + p.val)) (256 * (t.val / 8) + q.val))
    (i : ∀ k, (![o, 0] : Fin 2 → ℕ) k + (![1024, 256] : Fin 2 → ℕ) k ≤ S1032x256.size k) (p : Fin 1024) (q : Fin 256) :
    ((View.whole cc0_scratch2).readCov (Val := Elt Ideal) [⟨Rect.unit ![0, 0] ![1032, 256] inb_S1032x256_S1032x256_0_0, G⟩]
      (Rect.unit (s := S1032x256) ![o, 0] ![1024, 256] i).toLoadRect : S1024x256.Idx → EReal) (ix2 p q) = du m c (1024 * (t.val % 8) + (o + p.val)) (256 * (t.val / 8) + q.val) :=
  load_rows1 (N := 1032) (R := 1024) (C := 256) (o := o) (Val := Elt Ideal) (el := .f32) (View.whole cc0_scratch2) inb_S1032x256_S1032x256_0_0 i G
    (fun p q => du m c (1024 * (t.val % 8) + p) (256 * (t.val / 8) + q)) hG p q

/-- What one tile adds to the gradient of a tap. -/
theorem partg (t : Fin cfg0.N) (r : ℕ) (e f : S1024x256.Idx → EReal) (he : ∀ (p : Fin 1024) (q : Fin 256), e (ix2 p q) = du m c (1024 * (t.val % 8) + (0 + p.val)) (256 * (t.val / 8) + q.val))
    (hf : ∀ (p : Fin 1024) (q : Fin 256), f (ix2 p q) = past m c (1024 * (t.val % 8) + (6 + r + p.val)) (256 * (t.val / 8) + q.val)) (q : Fin 256) :
    ∑ p : Fin 1024, e (ix2 p q) * f (ix2 p q) = ∑ p : Fin 1024, T m c r (256 * (t.val / 8) + q.val) (1024 * (t.val % 8) + p.val) := by
  refine Finset.sum_congr rfl fun p _ => ?_
  refine congrArg₂ (· * ·) ((he p q).trans (congrArg (du m c · _) ?_)) ((hf p q).trans (congrArg (past m c · _) ?_))
  · omega
  · omega

theorem add24 (t : Fin cfg0.N) (e : Vec Ideal S1024x256 .f32) (w : Vec Ideal S1x256 .f32) (f : Vec Ideal S1024x256 .f32) (q : Fin 256) (z : EReal)
    (he : ∀ (p : Fin 1024) (q : Fin 256), e (ix2 p q) = du m c (1024 * (t.val % 8) + (0 + p.val)) (256 * (t.val / 8) + q.val))
    (hf : ∀ (p : Fin 1024) (q : Fin 256), f (ix2 p q) = past m c (1024 * (t.val % 8) + (6 + p.val)) (256 * (t.val / 8) + q.val)) (hw : w (ix2 0 q) = z) :
    k0_pay24 (F := Ideal) e w f (ix2 0 q) = z + ∑ p : Fin 1024, T m c 0 (256 * (t.val / 8) + q.val) (1024 * (t.val % 8) + p.val) :=
  (pay24_at e w f q).trans (congrArg₂ (· + ·) hw (partg m c t 0 e f he hf q))

theorem add26 (t : Fin cfg0.N) (e : Vec Ideal S1024x256 .f32) (w : Vec Ideal S1x256 .f32) (f : Vec Ideal S1024x256 .f32) (q : Fin 256) (z : EReal)
    (he : ∀ (p : Fin 1024) (q : Fin 256), e (ix2 p q) = du m c (1024 * (t.val % 8) + (0 + p.val)) (256 * (t.val / 8) + q.val))
    (hf : ∀ (p : Fin 1024) (q : Fin 256), f (ix2 p q) = past m c (1024 * (t.val % 8) + (7 + p.val)) (256 * (t.val / 8) + q.val)) (hw : w (ix2 0 q) = z) :
    k0_pay26 (F := Ideal) e w f (ix2 0 q) = z + ∑ p : Fin 1024, T m c 1 (256 * (t.val / 8) + q.val) (1024 * (t.val % 8) + p.val) :=
  (pay26_at e w f q).trans (congrArg₂ (· + ·) hw (partg m c t 1 e f he hf q))

theorem add27 (t : Fin cfg0.N) (e : Vec Ideal S1024x256 .f32) (w : Vec Ideal S1x256 .f32) (f : Vec Ideal S1024x256 .f32) (q : Fin 256) (z : EReal)
    (he : ∀ (p : Fin 1024) (q : Fin 256), e (ix2 p q) = du m c (1024 * (t.val % 8) + (0 + p.val)) (256 * (t.val / 8) + q.val))
    (hf : ∀ (p : Fin 1024) (q : Fin 256), f (ix2 p q) = past m c (1024 * (t.val % 8) + (8 + p.val)) (256 * (t.val / 8) + q.val)) (hw : w (ix2 0 q) = z) :
    k0_pay27 (F := Ideal) e w f (ix2 0 q) = z + ∑ p : Fin 1024, T m c 2 (256 * (t.val / 8) + q.val) (1024 * (t.val % 8) + p.val) :=
  (pay27_at e w f q).trans (congrArg₂ (· + ·) hw (partg m c t 2 e f he hf q))

theorem add28 (t : Fin cfg0.N) (e : Vec Ideal S1024x256 .f32) (w : Vec Ideal S1x256 .f32) (q : Fin 256) (z : EReal)
    (he : ∀ (p : Fin 1024) (q : Fin 256), e (ix2 p q) = du m c (1024 * (t.val % 8) + (0 + p.val)) (256 * (t.val / 8) + q.val)) (hw : w (ix2 0 q) = z) :
    k0_pay28 (F := Ideal) e w (ix2 0 q) = z + ∑ p : Fin 1024, du m c (1024 * (t.val % 8) + p.val) (256 * (t.val / 8) + q.val) :=
  (pay28_at e w q).trans (congrArg₂ (· + ·) hw (Finset.sum_congr rfl fun p _ => (he p q).trans (congrArg (du m c · _) (by omega))))

theorem dxg_of (t : Fin cfg0.N) (x0 x1 x2 : Vec Ideal S1024x256 .f32) (w0 w1 w2 : Vec Ideal S1x256 .f32)
    (h0 : ∀ (p : Fin 1024) (q : Fin 256), x0 (ix2 p q) = du m c (1024 * (t.val % 8) + (2 + p.val)) (256 * (t.val / 8) + q.val))
    (h1 : ∀ (p : Fin 1024) (q : Fin 256), x1 (ix2 p q) = du m c (1024 * (t.val % 8) + (1 + p.val)) (256 * (t.val / 8) + q.val))
    (h2 : ∀ (p : Fin 1024) (q : Fin 256), x2 (ix2 p q) = du m c (1024 * (t.val % 8) + (0 + p.val)) (256 * (t.val / 8) + q.val))
    (g0 : ∀ q : Fin 256, w0 (ix2 0 q) = wt m c 0 (256 * (t.val / 8) + q.val)) (g1 : ∀ q : Fin 256, w1 (ix2 0 q) = wt m c 1 (256 * (t.val / 8) + q.val))
    (g2 : ∀ q : Fin 256, w2 (ix2 0 q) = wt m c 2 (256 * (t.val / 8) + q.val)) (p : Fin 1024) (q : Fin 256) :
    k0_pay29 (F := Ideal) (k0_pay23 (F := Ideal) x0 w0) x1 (k0_pay25 (F := Ideal) w1) x2 w2 (ix2 p q) = dx m c (1024 * (t.val % 8) + p.val) (256 * (t.val / 8) + q.val) := by
  refine (pay29_at _ _ _ _ _ _ p q).trans ?_
  unfold dx
  refine congrArg₂ (· + ·) (congrArg₂ (· + ·) (congrArg (0 + ·) ?_) ?_) ?_
  · exact congrArg₂ (· * ·) ((h0 p q).trans (congrArg (du m c · _) (by omega))) (g0 q)
  · exact congrArg₂ (· * ·) ((h1 p q).trans (congrArg (du m c · _) (by omega))) (g1 q)
  · exact congrArg₂ (· * ·) ((h2 p q).trans (congrArg (du m c · _) (by omega))) (g2 q)

theorem outg (t : Fin cfg0.N) (p : Fin 1024) (q : Fin 256) : (outsAt0 m c t.val t.isLt).1 (ix2 p q) = dx m c (1024 * (t.val % 8) + p.val) (256 * (t.val / 8) + q.val) := by
  by_cases h : t.val % 8 = 0
  · rw [outsAt0_A m c t h]
    frame_open
    simp (disch := decide) only [View.read_writes_junk_eq_canon, View.canon_cons_unit_lit', View.readAt_eq_ld, Memref.IsWhole.read_unread, View.ld_unit_lit']
    refine dxg_of m c t _ _ _ _ _ _ (fun p q => ?_) (fun p q => ?_) (fun p q => ?_) (tapWg m c t 0 _) (tapWg m c t 1 _) (tapWg m c t 2 _) p q
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
  · rw [outsAt0_B m c t h]
    frame_open
    simp (disch := decide) only [View.read_writes_junk_eq_canon, View.canon_cons_unit_lit', View.readAt_eq_ld, Memref.IsWhole.read_unread, View.ld_unit_lit']
    refine dxg_of m c t _ _ _ _ _ _ (fun p q => ?_) (fun p q => ?_) (fun p q => ?_) (tapWg m c t 0 _) (tapWg m c t 1 _) (tapWg m c t 2 _) p q
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q

theorem firstg (t : Fin cfg0.N) (h : t.val % 8 = 0) (r : Fin 3) (q : Fin 256) :
    (outsAt0 m c t.val t.isLt).2.2.1 (ix2 r q) = 0 + ∑ p : Fin 1024, T m c r.val (256 * (t.val / 8) + q.val) (1024 * (t.val % 8) + p.val) := by
  rw [outsAt0_A m c t h]
  frame_open
  simp (disch := decide) only [View.read_writes_junk_eq_canon, View.canon_cons_unit_lit', View.readAt_eq_ld, Memref.IsWhole.read_unread, View.ld_unit_lit']
  match r with
  | ⟨0, _⟩ =>
    refine (canon_other (A := 3) (C := 256) (o := 2) 0 q (by decide) _ _ _).trans ?_
    refine (canon_other (A := 3) (C := 256) (o := 1) 0 q (by decide) _ _ _).trans ?_
    refine (canon_own (A := 3) (C := 256) 0 q _ _ _).trans ?_
    refine add24 m c t _ _ _ q _ (fun p q => ?_) (fun p q => ?_) ?_
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · exact tapXg m c t _ p q
    refine (load_row (A := 3) (C := 256) _ _ 0 q _).trans ?_
    exact (canon_fill (A := 3) (C := 256) 0 q _ _ _).trans (pay19_at 0 q)
  | ⟨1, _⟩ =>
    refine (canon_other (A := 3) (C := 256) (o := 2) 1 q (by decide) _ _ _).trans ?_
    refine (canon_own (A := 3) (C := 256) 1 q _ _ _).trans ?_
    refine add26 m c t _ _ _ q _ (fun p q => ?_) (fun p q => ?_) ?_
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · exact tapXg m c t _ p q
    refine (load_row (A := 3) (C := 256) _ _ 1 q _).trans ?_
    refine (canon_other (A := 3) (C := 256) (o := 0) 1 q (by decide) _ _ _).trans ?_
    exact (canon_fill (A := 3) (C := 256) 1 q _ _ _).trans (pay19_at 1 q)
  | ⟨2, _⟩ =>
    refine (canon_own (A := 3) (C := 256) 2 q _ _ _).trans ?_
    refine add27 m c t _ _ _ q _ (fun p q => ?_) (fun p q => ?_) ?_
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · exact tapXg m c t _ p q
    refine (load_row (A := 3) (C := 256) _ _ 2 q _).trans ?_
    refine (canon_other (A := 3) (C := 256) (o := 1) 2 q (by decide) _ _ _).trans ?_
    refine (canon_other (A := 3) (C := 256) (o := 0) 2 q (by decide) _ _ _).trans ?_
    exact (canon_fill (A := 3) (C := 256) 2 q _ _ _).trans (pay19_at 2 q)

theorem nextg (t : Fin cfg0.N) (h : ¬t.val % 8 = 0) (r : Fin 3) (q : Fin 256) :
    (outsAt0 m c t.val t.isLt).2.2.1 (ix2 r q) = (outsAt0 m c (t.val - 1) (by omega)).2.2.1 (ix2 r q)
      + ∑ p : Fin 1024, T m c r.val (256 * (t.val / 8) + q.val) (1024 * (t.val % 8) + p.val) := by
  rw [outsAt0_B m c t h]
  frame_open
  simp (disch := decide) only [View.read_writes_junk_eq_canon, View.canon_cons_unit_lit', View.readAt_eq_ld, Memref.IsWhole.read_unread, View.ld_unit_lit']
  generalize (outsAt0 m c (t.val - 1) _).2.2.1 = Z
  match r with
  | ⟨0, _⟩ =>
    refine (canon_other (A := 3) (C := 256) (o := 2) 0 q (by decide) _ _ _).trans ?_
    refine (canon_other (A := 3) (C := 256) (o := 1) 0 q (by decide) _ _ _).trans ?_
    refine (canon_own (A := 3) (C := 256) 0 q _ _ _).trans ?_
    refine add24 m c t _ _ _ q _ (fun p q => ?_) (fun p q => ?_) ?_
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · exact tapXg m c t _ p q
    refine (row (A := 3) (D := 256) (C := 256) Z (by decide) (by decide) _ q).trans (congrArg (fun i => Z (ix2 _ i)) (Fin.ext ?_))
    exact Nat.zero_add _
  | ⟨1, _⟩ =>
    refine (canon_other (A := 3) (C := 256) (o := 2) 1 q (by decide) _ _ _).trans ?_
    refine (canon_own (A := 3) (C := 256) 1 q _ _ _).trans ?_
    refine add26 m c t _ _ _ q _ (fun p q => ?_) (fun p q => ?_) ?_
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · exact tapXg m c t _ p q
    refine (row (A := 3) (D := 256) (C := 256) Z (by decide) (by decide) _ q).trans (congrArg (fun i => Z (ix2 _ i)) (Fin.ext ?_))
    exact Nat.zero_add _
  | ⟨2, _⟩ =>
    refine (canon_own (A := 3) (C := 256) 2 q _ _ _).trans ?_
    refine add27 m c t _ _ _ q _ (fun p q => ?_) (fun p q => ?_) ?_
    · refine tapDg m c t _ (fun p q => ?_) _ p q
      refine bufg_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · refine pre_of m c t _ _ _ _ _ _ _ _ _ _ (fun p q => ?_) (blkBv m c t) (fun p q => ?_) (fun p q => ?_) (fun p q => ?_) (tapWv m c t 0 _) (tapWv m c t 1 _) (tapWv m c t 2 _) p q
        · exact ct_at m c t p q
        · exact tapXv m c t _ p q
        · exact tapXv m c t _ p q
        · exact tapXv m c t _ p q
    · exact tapXg m c t _ p q
    refine (row (A := 3) (D := 256) (C := 256) Z (by decide) (by decide) _ q).trans (congrArg (fun i => Z (ix2 _ i)) (Fin.ext ?_))
    exact Nat.zero_add _

theorem accWg : ∀ (n : ℕ) (hn : n < cfg0.N) (r : Fin 3) (q : Fin 256),
    (outsAt0 m c n hn).2.2.1 (ix2 r q) = ∑ k ∈ Finset.range (1024 * (n % 8) + 1024), T m c r.val (256 * (n / 8) + q.val) k := by
  intro n
  induction n using Nat.strong_induction_on with
  | _ n ih =>
    intro hn r q
    rw [Sums.grow]
    by_cases h : n % 8 = 0
    · refine (firstg m c ⟨n, hn⟩ h r q).trans ?_
      dsimp only
      rw [h, Nat.mul_zero, Finset.range_zero, Finset.sum_empty]
    · refine (nextg m c ⟨n, hn⟩ h r q).trans ?_
      dsimp only
      rw [ih (n - 1) (by omega)]
      have e0 : 1024 * ((n - 1) % 8) + 1024 = 1024 * (n % 8) := by omega
      have e1 : (n - 1) / 8 = n / 8 := by omega
      rw [e0, e1]

theorem firstBg (t : Fin cfg0.N) (h : t.val % 8 = 0) (q : Fin 256) :
    (outsAt0 m c t.val t.isLt).2.2.2.2.1 (ix2 0 q) = 0 + ∑ p : Fin 1024, du m c (1024 * (t.val % 8) + p.val) (256 * (t.val / 8) + q.val) := by
  rw [outsAt0_A m c t h]
  frame_open
  simp (disch := decide) only [View.read_writes_junk_eq_canon, View.canon_cons_unit_lit', View.readAt_eq_ld, Memref.IsWhole.read_unread, View.ld_unit_lit']
  refine add28 m c t _ _ q _ (fun p q => ?_) ?_
  · refine tapDg m c t _ (fun p q => ?_) _ p q
    refine bufg_of m c t _ _ (fun p q => ?_) (fun p q => ?_) p q
    · refine gat_of m c t _ _ _ _ _ _ _ (blkBg m c t) (fun p q => ?_) (fun p q => ?_) (fun p q => ?_) (tapWg m c t 0 _) (tapWg m c t 1 _) (tapWg m c t 2 _) p q
      · exact tapXg m c t _ p q
      · exact tapXg m c t _ p q
      · exact tapXg m c t _ p q
    · refine pre_of m c t _ _ _ _ _ _ _ _ _ _ (fun p q => ?_) (blkBv m c t) (fun p q => ?_) (fun p q => ?_) (fun p q => ?_) (tapWv m c t 0 _) (tapWv m c t 1 _) (tapWv m c t 2 _) p q
      · exact ct_at m c t p q
      · exact tapXv m c t _ p q
      · exact tapXv m c t _ p q
      · exact tapXv m c t _ p q
  · exact (congrFun (View.readCov_unit_lit' (S := S1x256) (Val := Elt Ideal) _ _ _ (by decide)) _).trans (pay21_at 0 q)

theorem nextBg (t : Fin cfg0.N) (h : ¬t.val % 8 = 0) (q : Fin 256) :
    (outsAt0 m c t.val t.isLt).2.2.2.2.1 (ix2 0 q) = (outsAt0 m c (t.val - 1) (by omega)).2.2.2.2.1 (ix2 0 q) + ∑ p : Fin 1024, du m c (1024 * (t.val % 8) + p.val) (256 * (t.val / 8) + q.val) := by
  rw [outsAt0_B m c t h]
  frame_open
  simp (disch := decide) only [View.read_writes_junk_eq_canon, View.canon_cons_unit_lit', View.readAt_eq_ld, Memref.IsWhole.read_unread, View.ld_unit_lit']
  refine add28 m c t _ _ q _ (fun p q => ?_) rfl
  refine tapDg m c t _ (fun p q => ?_) _ p q
  refine bufg_of m c t _ _ (fun p q => ?_) (fun p q => ?_) p q
  · refine gat_of m c t _ _ _ _ _ _ _ (blkBg m c t) (fun p q => ?_) (fun p q => ?_) (fun p q => ?_) (tapWg m c t 0 _) (tapWg m c t 1 _) (tapWg m c t 2 _) p q
    · exact tapXg m c t _ p q
    · exact tapXg m c t _ p q
    · exact tapXg m c t _ p q
  · refine pre_of m c t _ _ _ _ _ _ _ _ _ _ (fun p q => ?_) (blkBv m c t) (fun p q => ?_) (fun p q => ?_) (fun p q => ?_) (tapWv m c t 0 _) (tapWv m c t 1 _) (tapWv m c t 2 _) p q
    · exact ct_at m c t p q
    · exact tapXv m c t _ p q
    · exact tapXv m c t _ p q
    · exact tapXv m c t _ p q

theorem accBg : ∀ (n : ℕ) (hn : n < cfg0.N) (q : Fin 256),
    (outsAt0 m c n hn).2.2.2.2.1 (ix2 0 q) = ∑ k ∈ Finset.range (1024 * (n % 8) + 1024), du m c k (256 * (n / 8) + q.val) := by
  intro n
  induction n using Nat.strong_induction_on with
  | _ n ih =>
    intro hn q
    rw [Sums.grow]
    by_cases h : n % 8 = 0
    · refine (firstBg m c ⟨n, hn⟩ h q).trans ?_
      dsimp only
      rw [h, Nat.mul_zero, Finset.range_zero, Finset.sum_empty]
    · refine (nextBg m c ⟨n, hn⟩ h q).trans ?_
      dsimp only
      rw [ih (n - 1) (by omega)]
      have e0 : 1024 * ((n - 1) % 8) + 1024 = 1024 * (n % 8) := by omega
      have e1 : (n - 1) / 8 = n / 8 := by omega
      rw [e0, e1]

/-- Rows of the buffer of gradients. -/
theorem tapDv (t : Fin cfg0.N) {o : ℕ} (G : Vec Ideal S1032x256 .f32) (hG : ∀ (p : Fin 1032) (q : Fin 256), G (ix2 p q) = du m c (1024 * (t.val % 8) + (0 + p.val)) (2816 + (256 * (t.val / 8) + q.val)))
    (i : ∀ k, (![o, 0] : Fin 2 → ℕ) k + (![1024, 256] : Fin 2 → ℕ) k ≤ S1032x256.size k) (p : Fin 1024) (q : Fin 256) :
    ((View.whole cc0_scratch3).readCov (Val := Elt Ideal) [⟨Rect.unit ![0, 0] ![1032, 256] inb_S1032x256_S1032x256_0_0, G⟩]
      (Rect.unit (s := S1032x256) ![o, 0] ![1024, 256] i).toLoadRect : S1024x256.Idx → EReal) (ix2 p q) = du m c (1024 * (t.val % 8) + (o + p.val)) (2816 + (256 * (t.val / 8) + q.val)) :=
  load_rows1 (N := 1032) (R := 1024) (C := 256) (o := o) (Val := Elt Ideal) (el := .f32) (View.whole cc0_scratch3) inb_S1032x256_S1032x256_0_0 i G
    (fun p q => du m c (1024 * (t.val % 8) + p) (2816 + (256 * (t.val / 8) + q))) hG p q

/-- What one tile adds to the gradient of a tap. -/
theorem partv (t : Fin cfg0.N) (r : ℕ) (e f : S1024x256.Idx → EReal) (he : ∀ (p : Fin 1024) (q : Fin 256), e (ix2 p q) = du m c (1024 * (t.val % 8) + (0 + p.val)) (2816 + (256 * (t.val / 8) + q.val)))
    (hf : ∀ (p : Fin 1024) (q : Fin 256), f (ix2 p q) = past m c (1024 * (t.val % 8) + (6 + r + p.val)) (2816 + (256 * (t.val / 8) + q.val))) (q : Fin 256) :
    ∑ p : Fin 1024, e (ix2 p q) * f (ix2 p q) = ∑ p : Fin 1024, T m c r (2816 + (256 * (t.val / 8) + q.val)) (1024 * (t.val % 8) + p.val) := by
  refine Finset.sum_congr rfl fun p _ => ?_
  refine congrArg₂ (· * ·) ((he p q).trans (congrArg (du m c · _) ?_)) ((hf p q).trans (congrArg (past m c · _) ?_))
  · omega
  · omega

theorem add30 (t : Fin cfg0.N) (e : Vec Ideal S1024x256 .f32) (w : Vec Ideal S1x256 .f32) (f : Vec Ideal S1024x256 .f32) (q : Fin 256) (z : EReal)
    (he : ∀ (p : Fin 1024) (q : Fin 256), e (ix2 p q) = du m c (1024 * (t.val % 8) + (0 + p.val)) (2816 + (256 * (t.val / 8) + q.val)))
    (hf : ∀ (p : Fin 1024) (q : Fin 256), f (ix2 p q) = past m c (1024 * (t.val % 8) + (6 + p.val)) (2816 + (256 * (t.val / 8) + q.val))) (hw : w (ix2 0 q) = z) :
    k0_pay30 (F := Ideal) e w f (ix2 0 q) = z + ∑ p : Fin 1024, T m c 0 (2816 + (256 * (t.val / 8) + q.val)) (1024 * (t.val % 8) + p.val) :=
  (pay30_at e w f q).trans (congrArg₂ (· + ·) hw (partv m c t 0 e f he hf q))

theorem add32 (t : Fin cfg0.N) (e : Vec Ideal S1024x256 .f32) (w : Vec Ideal S1x256 .f32) (f : Vec Ideal S1024x256 .f32) (q : Fin 256) (z : EReal)
    (he : ∀ (p : Fin 1024) (q : Fin 256), e (ix2 p q) = du m c (1024 * (t.val % 8) + (0 + p.val)) (2816 + (256 * (t.val / 8) + q.val)))
    (hf : ∀ (p : Fin 1024) (q : Fin 256), f (ix2 p q) = past m c (1024 * (t.val % 8) + (7 + p.val)) (2816 + (256 * (t.val / 8) + q.val))) (hw : w (ix2 0 q) = z) :
    k0_pay32 (F := Ideal) e w f (ix2 0 q) = z + ∑ p : Fin 1024, T m c 1 (2816 + (256 * (t.val / 8) + q.val)) (1024 * (t.val % 8) + p.val) :=
  (pay32_at e w f q).trans (congrArg₂ (· + ·) hw (partv m c t 1 e f he hf q))

theorem add1 (t : Fin cfg0.N) (e : Vec Ideal S1024x256 .f32) (w : Vec Ideal S1x256 .f32) (f : Vec Ideal S1024x256 .f32) (q : Fin 256) (z : EReal)
    (he : ∀ (p : Fin 1024) (q : Fin 256), e (ix2 p q) = du m c (1024 * (t.val % 8) + (0 + p.val)) (2816 + (256 * (t.val / 8) + q.val)))
    (hf : ∀ (p : Fin 1024) (q : Fin 256), f (ix2 p q) = past m c (1024 * (t.val % 8) + (8 + p.val)) (2816 + (256 * (t.val / 8) + q.val))) (hw : w (ix2 0 q) = z) :
    k0_pay1 (F := Ideal) e w f (ix2 0 q) = z + ∑ p : Fin 1024, T m c 2 (2816 + (256 * (t.val / 8) + q.val)) (1024 * (t.val % 8) + p.val) :=
  (pay1_at e w f q).trans (congrArg₂ (· + ·) hw (partv m c t 2 e f he hf q))

theorem add2 (t : Fin cfg0.N) (e : Vec Ideal S1024x256 .f32) (w : Vec Ideal S1x256 .f32) (q : Fin 256) (z : EReal)
    (he : ∀ (p : Fin 1024) (q : Fin 256), e (ix2 p q) = du m c (1024 * (t.val % 8) + (0 + p.val)) (2816 + (256 * (t.val / 8) + q.val))) (hw : w (ix2 0 q) = z) :
    k0_pay2 (F := Ideal) e w (ix2 0 q) = z + ∑ p : Fin 1024, du m c (1024 * (t.val % 8) + p.val) (2816 + (256 * (t.val / 8) + q.val)) :=
  (pay2_at e w q).trans (congrArg₂ (· + ·) hw (Finset.sum_congr rfl fun p _ => (he p q).trans (congrArg (du m c · _) (by omega))))

theorem dxv_of (t : Fin cfg0.N) (x0 x1 x2 : Vec Ideal S1024x256 .f32) (w0 w1 w2 : Vec Ideal S1x256 .f32)
    (h0 : ∀ (p : Fin 1024) (q : Fin 256), x0 (ix2 p q) = du m c (1024 * (t.val % 8) + (2 + p.val)) (2816 + (256 * (t.val / 8) + q.val)))
    (h1 : ∀ (p : Fin 1024) (q : Fin 256), x1 (ix2 p q) = du m c (1024 * (t.val % 8) + (1 + p.val)) (2816 + (256 * (t.val / 8) + q.val)))
    (h2 : ∀ (p : Fin 1024) (q : Fin 256), x2 (ix2 p q) = du m c (1024 * (t.val % 8) + (0 + p.val)) (2816 + (256 * (t.val / 8) + q.val)))
    (g0 : ∀ q : Fin 256, w0 (ix2 0 q) = wt m c 0 (2816 + (256 * (t.val / 8) + q.val))) (g1 : ∀ q : Fin 256, w1 (ix2 0 q) = wt m c 1 (2816 + (256 * (t.val / 8) + q.val)))
    (g2 : ∀ q : Fin 256, w2 (ix2 0 q) = wt m c 2 (2816 + (256 * (t.val / 8) + q.val))) (p : Fin 1024) (q : Fin 256) :
    k0_pay3 (F := Ideal) (k0_pay31 (F := Ideal) x0 w0 x1 w1) x2 w2 (ix2 p q) = dx m c (1024 * (t.val % 8) + p.val) (2816 + (256 * (t.val / 8) + q.val)) := by
  refine (pay3_at _ _ _ _ _ _ p q).trans ?_
  unfold dx
  refine congrArg₂ (· + ·) (congrArg₂ (· + ·) (congrArg (0 + ·) ?_) ?_) ?_
  · exact congrArg₂ (· * ·) ((h0 p q).trans (congrArg (du m c · _) (by omega))) (g0 q)
  · exact congrArg₂ (· * ·) ((h1 p q).trans (congrArg (du m c · _) (by omega))) (g1 q)
  · exact congrArg₂ (· * ·) ((h2 p q).trans (congrArg (du m c · _) (by omega))) (g2 q)

theorem outv (t : Fin cfg0.N) (p : Fin 1024) (q : Fin 256) : (outsAt0 m c t.val t.isLt).2.1 (ix2 p q) = dx m c (1024 * (t.val % 8) + p.val) (2816 + (256 * (t.val / 8) + q.val)) := by
  by_cases h : t.val % 8 = 0
  · rw [outsAt0_A m c t h]
    frame_open
    simp (disch := decide) only [View.read_writes_junk_eq_canon, View.canon_cons_unit_lit', View.readAt_eq_ld, Memref.IsWhole.read_unread, View.ld_unit_lit']
    refine dxv_of m c t _ _ _ _ _ _ (fun p q => ?_) (fun p q => ?_) (fun p q => ?_) (tapWv m c t 0 _) (tapWv m c t 1 _) (tapWv m c t 2 _) p q
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
  · rw [outsAt0_B m c t h]
    frame_open
    simp (disch := decide) only [View.read_writes_junk_eq_canon, View.canon_cons_unit_lit', View.readAt_eq_ld, Memref.IsWhole.read_unread, View.ld_unit_lit']
    refine dxv_of m c t _ _ _ _ _ _ (fun p q => ?_) (fun p q => ?_) (fun p q => ?_) (tapWv m c t 0 _) (tapWv m c t 1 _) (tapWv m c t 2 _) p q
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q

theorem firstv (t : Fin cfg0.N) (h : t.val % 8 = 0) (r : Fin 3) (q : Fin 256) :
    (outsAt0 m c t.val t.isLt).2.2.2.1 (ix2 r q) = 0 + ∑ p : Fin 1024, T m c r.val (2816 + (256 * (t.val / 8) + q.val)) (1024 * (t.val % 8) + p.val) := by
  rw [outsAt0_A m c t h]
  frame_open
  simp (disch := decide) only [View.read_writes_junk_eq_canon, View.canon_cons_unit_lit', View.readAt_eq_ld, Memref.IsWhole.read_unread, View.ld_unit_lit']
  match r with
  | ⟨0, _⟩ =>
    refine (canon_other (A := 3) (C := 256) (o := 2) 0 q (by decide) _ _ _).trans ?_
    refine (canon_other (A := 3) (C := 256) (o := 1) 0 q (by decide) _ _ _).trans ?_
    refine (canon_own (A := 3) (C := 256) 0 q _ _ _).trans ?_
    refine add30 m c t _ _ _ q _ (fun p q => ?_) (fun p q => ?_) ?_
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · exact tapXv m c t _ p q
    refine (load_row (A := 3) (C := 256) _ _ 0 q _).trans ?_
    exact (canon_fill (A := 3) (C := 256) 0 q _ _ _).trans (pay20_at 0 q)
  | ⟨1, _⟩ =>
    refine (canon_other (A := 3) (C := 256) (o := 2) 1 q (by decide) _ _ _).trans ?_
    refine (canon_own (A := 3) (C := 256) 1 q _ _ _).trans ?_
    refine add32 m c t _ _ _ q _ (fun p q => ?_) (fun p q => ?_) ?_
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · exact tapXv m c t _ p q
    refine (load_row (A := 3) (C := 256) _ _ 1 q _).trans ?_
    refine (canon_other (A := 3) (C := 256) (o := 0) 1 q (by decide) _ _ _).trans ?_
    exact (canon_fill (A := 3) (C := 256) 1 q _ _ _).trans (pay20_at 1 q)
  | ⟨2, _⟩ =>
    refine (canon_own (A := 3) (C := 256) 2 q _ _ _).trans ?_
    refine add1 m c t _ _ _ q _ (fun p q => ?_) (fun p q => ?_) ?_
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · exact tapXv m c t _ p q
    refine (load_row (A := 3) (C := 256) _ _ 2 q _).trans ?_
    refine (canon_other (A := 3) (C := 256) (o := 1) 2 q (by decide) _ _ _).trans ?_
    refine (canon_other (A := 3) (C := 256) (o := 0) 2 q (by decide) _ _ _).trans ?_
    exact (canon_fill (A := 3) (C := 256) 2 q _ _ _).trans (pay20_at 2 q)

theorem nextv (t : Fin cfg0.N) (h : ¬t.val % 8 = 0) (r : Fin 3) (q : Fin 256) :
    (outsAt0 m c t.val t.isLt).2.2.2.1 (ix2 r q) = (outsAt0 m c (t.val - 1) (by omega)).2.2.2.1 (ix2 r q)
      + ∑ p : Fin 1024, T m c r.val (2816 + (256 * (t.val / 8) + q.val)) (1024 * (t.val % 8) + p.val) := by
  rw [outsAt0_B m c t h]
  frame_open
  simp (disch := decide) only [View.read_writes_junk_eq_canon, View.canon_cons_unit_lit', View.readAt_eq_ld, Memref.IsWhole.read_unread, View.ld_unit_lit']
  generalize (outsAt0 m c (t.val - 1) _).2.2.2.1 = Z
  match r with
  | ⟨0, _⟩ =>
    refine (canon_other (A := 3) (C := 256) (o := 2) 0 q (by decide) _ _ _).trans ?_
    refine (canon_other (A := 3) (C := 256) (o := 1) 0 q (by decide) _ _ _).trans ?_
    refine (canon_own (A := 3) (C := 256) 0 q _ _ _).trans ?_
    refine add30 m c t _ _ _ q _ (fun p q => ?_) (fun p q => ?_) ?_
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · exact tapXv m c t _ p q
    refine (row (A := 3) (D := 256) (C := 256) Z (by decide) (by decide) _ q).trans (congrArg (fun i => Z (ix2 _ i)) (Fin.ext ?_))
    exact Nat.zero_add _
  | ⟨1, _⟩ =>
    refine (canon_other (A := 3) (C := 256) (o := 2) 1 q (by decide) _ _ _).trans ?_
    refine (canon_own (A := 3) (C := 256) 1 q _ _ _).trans ?_
    refine add32 m c t _ _ _ q _ (fun p q => ?_) (fun p q => ?_) ?_
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · exact tapXv m c t _ p q
    refine (row (A := 3) (D := 256) (C := 256) Z (by decide) (by decide) _ q).trans (congrArg (fun i => Z (ix2 _ i)) (Fin.ext ?_))
    exact Nat.zero_add _
  | ⟨2, _⟩ =>
    refine (canon_own (A := 3) (C := 256) 2 q _ _ _).trans ?_
    refine add1 m c t _ _ _ q _ (fun p q => ?_) (fun p q => ?_) ?_
    · refine tapDv m c t _ (fun p q => ?_) _ p q
      refine bufv_of m c t _ _ (fun p q => ?_) (fun p q => ?_) p q
      · refine gat_of m c t _ _ _ _ _ _ _ (blkBg m c t) (fun p q => ?_) (fun p q => ?_) (fun p q => ?_) (tapWg m c t 0 _) (tapWg m c t 1 _) (tapWg m c t 2 _) p q
        · exact tapXg m c t _ p q
        · exact tapXg m c t _ p q
        · exact tapXg m c t _ p q
      · exact ct_at m c t p q
    · exact tapXv m c t _ p q
    refine (row (A := 3) (D := 256) (C := 256) Z (by decide) (by decide) _ q).trans (congrArg (fun i => Z (ix2 _ i)) (Fin.ext ?_))
    exact Nat.zero_add _

theorem accWv : ∀ (n : ℕ) (hn : n < cfg0.N) (r : Fin 3) (q : Fin 256),
    (outsAt0 m c n hn).2.2.2.1 (ix2 r q) = ∑ k ∈ Finset.range (1024 * (n % 8) + 1024), T m c r.val (2816 + (256 * (n / 8) + q.val)) k := by
  intro n
  induction n using Nat.strong_induction_on with
  | _ n ih =>
    intro hn r q
    rw [Sums.grow]
    by_cases h : n % 8 = 0
    · refine (firstv m c ⟨n, hn⟩ h r q).trans ?_
      dsimp only
      rw [h, Nat.mul_zero, Finset.range_zero, Finset.sum_empty]
    · refine (nextv m c ⟨n, hn⟩ h r q).trans ?_
      dsimp only
      rw [ih (n - 1) (by omega)]
      have e0 : 1024 * ((n - 1) % 8) + 1024 = 1024 * (n % 8) := by omega
      have e1 : (n - 1) / 8 = n / 8 := by omega
      rw [e0, e1]

theorem firstBv (t : Fin cfg0.N) (h : t.val % 8 = 0) (q : Fin 256) :
    (outsAt0 m c t.val t.isLt).2.2.2.2.2 (ix2 0 q) = 0 + ∑ p : Fin 1024, du m c (1024 * (t.val % 8) + p.val) (2816 + (256 * (t.val / 8) + q.val)) := by
  rw [outsAt0_A m c t h]
  frame_open
  simp (disch := decide) only [View.read_writes_junk_eq_canon, View.canon_cons_unit_lit', View.readAt_eq_ld, Memref.IsWhole.read_unread, View.ld_unit_lit']
  refine add2 m c t _ _ q _ (fun p q => ?_) ?_
  · refine tapDv m c t _ (fun p q => ?_) _ p q
    refine bufv_of m c t _ _ (fun p q => ?_) (fun p q => ?_) p q
    · refine gat_of m c t _ _ _ _ _ _ _ (blkBg m c t) (fun p q => ?_) (fun p q => ?_) (fun p q => ?_) (tapWg m c t 0 _) (tapWg m c t 1 _) (tapWg m c t 2 _) p q
      · exact tapXg m c t _ p q
      · exact tapXg m c t _ p q
      · exact tapXg m c t _ p q
    · exact ct_at m c t p q
  · exact (congrFun (View.readCov_unit_lit' (S := S1x256) (Val := Elt Ideal) _ _ _ (by decide)) _).trans (pay22_at 0 q)

theorem nextBv (t : Fin cfg0.N) (h : ¬t.val % 8 = 0) (q : Fin 256) :
    (outsAt0 m c t.val t.isLt).2.2.2.2.2 (ix2 0 q) = (outsAt0 m c (t.val - 1) (by omega)).2.2.2.2.2 (ix2 0 q) + ∑ p : Fin 1024, du m c (1024 * (t.val % 8) + p.val) (2816 + (256 * (t.val / 8) + q.val)) := by
  rw [outsAt0_B m c t h]
  frame_open
  simp (disch := decide) only [View.read_writes_junk_eq_canon, View.canon_cons_unit_lit', View.readAt_eq_ld, Memref.IsWhole.read_unread, View.ld_unit_lit']
  refine add2 m c t _ _ q _ (fun p q => ?_) rfl
  refine tapDv m c t _ (fun p q => ?_) _ p q
  refine bufv_of m c t _ _ (fun p q => ?_) (fun p q => ?_) p q
  · refine gat_of m c t _ _ _ _ _ _ _ (blkBg m c t) (fun p q => ?_) (fun p q => ?_) (fun p q => ?_) (tapWg m c t 0 _) (tapWg m c t 1 _) (tapWg m c t 2 _) p q
    · exact tapXg m c t _ p q
    · exact tapXg m c t _ p q
    · exact tapXg m c t _ p q
  · exact ct_at m c t p q

theorem accBv : ∀ (n : ℕ) (hn : n < cfg0.N) (q : Fin 256),
    (outsAt0 m c n hn).2.2.2.2.2 (ix2 0 q) = ∑ k ∈ Finset.range (1024 * (n % 8) + 1024), du m c k (2816 + (256 * (n / 8) + q.val)) := by
  intro n
  induction n using Nat.strong_induction_on with
  | _ n ih =>
    intro hn q
    rw [Sums.grow]
    by_cases h : n % 8 = 0
    · refine (firstBv m c ⟨n, hn⟩ h q).trans ?_
      dsimp only
      rw [h, Nat.mul_zero, Finset.range_zero, Finset.sum_empty]
    · refine (nextBv m c ⟨n, hn⟩ h q).trans ?_
      dsimp only
      rw [ih (n - 1) (by omega)]
      have e0 : 1024 * ((n - 1) % 8) + 1024 = 1024 * (n % 8) := by omega
      have e1 : (n - 1) / 8 = n / 8 := by omega
      rw [e0, e1]

theorem arr12 : (dats m 0 c).arrAt 12 cfg0.N = (fun y : S8192x2816.Idx => dx m c (y 0).val (y 1).val) := by
  refine (dats m 0 c).arrAt_eq_of_covers 12 _ (by decide +kernel) fun t hf y => ?_
  have ht : t.val < 88 := lt_of_lt_of_eq t.isLt N_0
  have hi := (idxo t).1
  have e0 : ((win0_12.blk t).view.emb y 0).val = 1024 * (t.val % 8) + (y 0).val := by blk_simp [hi] <;> omega
  have e1 : ((win0_12.blk t).view.emb y 1).val = 256 * (t.val / 8) + (y 1).val := by blk_simp [hi] <;> omega
  have h := outg m c t (y 0) (y 1)
  rw [after0_12]
  generalize (outsAt0 m c t.val t.isLt).1 = Z at h ⊢
  refine ((congrArg (fun z : S1024x256.Idx => Z z) (eta y)).trans h).trans ?_
  dsimp only
  rw [e0, e1]

theorem arr14 : (dats m 0 c).arrAt 14 cfg0.N = (fun y : S3x2816.Idx => ∑ k ∈ Finset.range 8192, T m c (y 0).val (y 1).val k) := by
  refine (dats m 0 c).arrAt_eq_of_covers 14 _ (by decide +kernel) fun t hf y => ?_
  have ht : t.val < 88 := lt_of_lt_of_eq t.isLt N_0
  have h7 : t.val % 8 = 7 := (flush0_14 t).mp hf
  have hi := (idxo t).2.2.1
  have e0 : ((win0_14.blk t).view.emb y 0).val = (y 0).val := by blk_simp [hi] <;> omega
  have e1 : ((win0_14.blk t).view.emb y 1).val = 256 * (t.val / 8) + (y 1).val := by blk_simp [hi] <;> omega
  have h := accWg m c t.val t.isLt (y 0) (y 1)
  rw [h7] at h
  rw [after0_14]
  generalize (outsAt0 m c t.val t.isLt).2.2.1 = Z at h ⊢
  refine ((congrArg (fun z : S3x256.Idx => Z z) (eta y)).trans h).trans ?_
  dsimp only
  rw [e0, e1]

theorem arr16 : (dats m 0 c).arrAt 16 cfg0.N = (fun y : S1x2816.Idx => ∑ k ∈ Finset.range 8192, du m c k (y 1).val) := by
  refine (dats m 0 c).arrAt_eq_of_covers 16 _ (by decide +kernel) fun t hf y => ?_
  have ht : t.val < 88 := lt_of_lt_of_eq t.isLt N_0
  have h7 : t.val % 8 = 7 := (flush0_16 t).mp hf
  have hi := (idxo t).2.2.2.2.1
  have e1 : ((win0_16.blk t).view.emb y 1).val = 256 * (t.val / 8) + (y 1).val := by blk_simp [hi] <;> omega
  have h := accBg m c t.val t.isLt (y 1)
  rw [h7] at h
  rw [after0_16]
  generalize (outsAt0 m c t.val t.isLt).2.2.2.2.1 = Z at h ⊢
  have hy : y = ix2 (n0 := 1) (n1 := 256) 0 (y 1) := by
    funext a
    match a with
    | ⟨0, _⟩ => exact Fin.ext (Nat.lt_one_iff.mp (y 0).isLt)
    | ⟨1, _⟩ => rfl
  refine ((congrArg (fun z : S1x256.Idx => Z z) hy).trans h).trans ?_
  dsimp only
  rw [e1]

theorem arr13 : (dats m 0 c).arrAt 13 cfg0.N = (fun y : S8192x2816.Idx => dx m c (y 0).val (2816 + (y 1).val)) := by
  refine (dats m 0 c).arrAt_eq_of_covers 13 _ (by decide +kernel) fun t hf y => ?_
  have ht : t.val < 88 := lt_of_lt_of_eq t.isLt N_0
  have hi := (idxo t).2.1
  have e0 : ((win0_13.blk t).view.emb y 0).val = 1024 * (t.val % 8) + (y 0).val := by blk_simp [hi] <;> omega
  have e1 : ((win0_13.blk t).view.emb y 1).val = 256 * (t.val / 8) + (y 1).val := by blk_simp [hi] <;> omega
  have h := outv m c t (y 0) (y 1)
  rw [after0_13]
  generalize (outsAt0 m c t.val t.isLt).2.1 = Z at h ⊢
  refine ((congrArg (fun z : S1024x256.Idx => Z z) (eta y)).trans h).trans ?_
  dsimp only
  rw [e0, e1]

theorem arr15 : (dats m 0 c).arrAt 15 cfg0.N = (fun y : S3x2816.Idx => ∑ k ∈ Finset.range 8192, T m c (y 0).val (2816 + (y 1).val) k) := by
  refine (dats m 0 c).arrAt_eq_of_covers 15 _ (by decide +kernel) fun t hf y => ?_
  have ht : t.val < 88 := lt_of_lt_of_eq t.isLt N_0
  have h7 : t.val % 8 = 7 := (flush0_15 t).mp hf
  have hi := (idxo t).2.2.2.1
  have e0 : ((win0_15.blk t).view.emb y 0).val = (y 0).val := by blk_simp [hi] <;> omega
  have e1 : ((win0_15.blk t).view.emb y 1).val = 256 * (t.val / 8) + (y 1).val := by blk_simp [hi] <;> omega
  have h := accWv m c t.val t.isLt (y 0) (y 1)
  rw [h7] at h
  rw [after0_15]
  generalize (outsAt0 m c t.val t.isLt).2.2.2.1 = Z at h ⊢
  refine ((congrArg (fun z : S3x256.Idx => Z z) (eta y)).trans h).trans ?_
  dsimp only
  rw [e0, e1]

theorem arr17 : (dats m 0 c).arrAt 17 cfg0.N = (fun y : S1x2816.Idx => ∑ k ∈ Finset.range 8192, du m c k (2816 + (y 1).val)) := by
  refine (dats m 0 c).arrAt_eq_of_covers 17 _ (by decide +kernel) fun t hf y => ?_
  have ht : t.val < 88 := lt_of_lt_of_eq t.isLt N_0
  have h7 : t.val % 8 = 7 := (flush0_17 t).mp hf
  have hi := (idxo t).2.2.2.2.2
  have e1 : ((win0_17.blk t).view.emb y 1).val = 256 * (t.val / 8) + (y 1).val := by blk_simp [hi] <;> omega
  have h := accBv m c t.val t.isLt (y 1)
  rw [h7] at h
  rw [after0_17]
  generalize (outsAt0 m c t.val t.isLt).2.2.2.2.2 = Z at h ⊢
  have hy : y = ix2 (n0 := 1) (n1 := 256) 0 (y 1) := by
    funext a
    match a with
    | ⟨0, _⟩ => exact Fin.ext (Nat.lt_one_iff.mp (y 0).isLt)
    | ⟨1, _⟩ => rfl
  refine ((congrArg (fun z : S1x256.Idx => Z z) hy).trans h).trans ?_
  dsimp only
  rw [e1]

end

end Cert.Kernel18Ideal.Val
-- ==== Proof.Ref18.lean ====
/- The gradient of the feed-forward's convolution and gate: the reference computes the same. -/
module

public import proofs.«01_k».proof.Proof.Def18
public import proofs.«01_k».proof.Proof.Finite
public import proofs.«01_k».proof.Pre_finite18
public import proofs.«01_k».proof.Proof.Gen.Reference18Ideal.Run
public import proofs.«01_k».proof.Proof.Gen.Reference18Ideal.Read
public import Idealize.ShloMosaic.Lib.KernelVsHost

@[expose] public section

noncomputable section

namespace Cert.Pre_finite18

open Idealize.ShloMosaic

/-- The shape relations the precondition's operations state. -/
theorem facts : Facts where
  bcast_S_S8192x5632 := by decide
  reducesTo_S8192x5632_S_d0_1 := by decide
  h_S_ := by decide
  bcast_S_S3x5632 := by decide
  reducesTo_S3x5632_S_d0_1 := by decide
  bcast_S_S5632 := by decide
  reducesTo_S5632_S_d0 := by decide
  bcast_S_S8192x2816 := by decide
  reducesTo_S8192x2816_S_d0_1 := by decide

variable [Facts]

theorem all_real {x0 : S8192x5632.Idx → EReal} {x1 : S3x5632.Idx → EReal} {x2 : S5632.Idx → EReal} {x3 : S8192x2816.Idx → EReal}
    (h : fn (F := Ideal) x0 x1 x2 x3 = fun _ => 1#1) : (∀ j, x0 j ≠ ⊤ ∧ x0 j ≠ ⊥) ∧ (∀ j, x1 j ≠ ⊤ ∧ x1 j ≠ ⊥) ∧ (∀ j, x2 j ≠ ⊤ ∧ x2 j ≠ ⊥) ∧ (∀ j, x3 j ≠ ⊤ ∧ x3 j ≠ ⊥) := by
  haveI : Subsingleton S_.Idx := ⟨fun a b => funext fun i => i.elim0⟩
  have h0 := congrFun h ValueIdx.ix0
  dsimp only [fn, fn_part1] at h0
  obtain ⟨ha, hb⟩ := IntOp.andi_eq_one.1 h0
  obtain ⟨h1, h2⟩ := IntOp.andi_eq_one.1 ha
  obtain ⟨h3, h4⟩ := IntOp.andi_eq_one.1 hb
  exact ⟨fun j => Cert.Pre_finite.real_of_lt _ (Host.reduce_andi_all _ _ _ _ _ h1 j), fun j => Cert.Pre_finite.real_of_lt _ (Host.reduce_andi_all _ _ _ _ _ h2 j),
    fun j => Cert.Pre_finite.real_of_lt _ (Host.reduce_andi_all _ _ _ _ _ h3 j), fun j => Cert.Pre_finite.real_of_lt _ (Host.reduce_andi_all _ _ _ _ _ h4 j)⟩

end Cert.Pre_finite18

namespace Cert.Kernel18Ideal.Val

open Idealize.ShloMosaic Idealize.ShloMosaic.TcCoe Idealize.SL.Sem Cert.Kernel18Ideal Cert.Kernel18Ideal.Gen Cert.Conv

/-- Neither infinity. -/
abbrev Real (x : EReal) : Prop := x ≠ ⊤ ∧ x ≠ ⊥

theorem real_zero : Real 0 := ⟨EReal.zero_ne_top, EReal.zero_ne_bot⟩

theorem real_add {x y : EReal} (hx : Real x) (hy : Real y) : Real (x + y) := by
  lift x to ℝ using hx
  lift y to ℝ using hy
  rw [← EReal.coe_add]
  exact ⟨EReal.coe_ne_top _, EReal.coe_ne_bot _⟩

theorem real_mul {x y : EReal} (hx : Real x) (hy : Real y) : Real (x * y) := by
  lift x to ℝ using hx
  lift y to ℝ using hy
  rw [← EReal.coe_mul]
  exact ⟨EReal.coe_ne_top _, EReal.coe_ne_bot _⟩

section
variable (m : (ℓ : Loc nD τ sig) → Buf (Elt Ideal) ℓ) (c : Dev nD)

/-- Every entry of the four arrays is a real number. -/
structure AllReal : Prop where
  x : ∀ j, Real (X m c j)
  w : ∀ j, Real (W m c j)
  b : ∀ j, Real (B m c j)
  d : ∀ j, Real (D m c j)

variable {m c} in
theorem AllReal.past (h : AllReal m c) (n K : ℕ) : Real (past m c n K) := by
  unfold Val.past
  split
  · exact h.x _
  · exact real_zero

variable {m c} in
theorem AllReal.wt (h : AllReal m c) (r : Fin 3) (K : ℕ) : Real (wt m c r K) := by
  unfold Val.wt
  split
  · exact h.w _
  · exact real_zero

variable {m c} in
theorem AllReal.bs (h : AllReal m c) (K : ℕ) : Real (bs m c K) := by
  unfold Val.bs
  split
  · exact h.b _
  · exact real_zero

variable {m c} in
theorem AllReal.dd (h : AllReal m c) (n K : ℕ) : Real (dd m c n K) := by
  unfold Val.dd
  split
  · exact h.d _
  · exact real_zero

variable {m c} in
theorem AllReal.conv (h : AllReal m c) (n K : ℕ) : Real (conv m c n K) :=
  real_add (real_add (real_add (real_add (h.bs K) real_zero) (real_mul (h.past _ K) (h.wt 0 K))) (real_mul (h.past _ K) (h.wt 1 K))) (real_mul (h.past _ K) (h.wt 2 K))

open Cert.Reference18Ideal.Read in
theorem refPast (r : Fin 8194) (k : Fin 5632) : val_main_v1 (F := Ideal) (X m c) (ix2 r k) = past m c (6 + r.val) k.val := by
  unfold val_main_v1
  by_cases h : r.val < 2
  · rw [past_zero m c _ _ (by omega)]
    refine (concatenate_pair_apply_left (t := Reference18Ideal.S8194x5632) (s₁ := Reference18Ideal.S2x5632) (s₂ := Reference18Ideal.S8192x5632) 0 _ _ _ _ rfl (ix2 ⟨r.val, h⟩ k) (fun b => ?_)).trans ?_
    · match b with
      | ⟨0, _⟩ => rfl
      | ⟨1, _⟩ => rfl
    · rw [val_main_v0_apply, val_main_cst_apply]
      exact Sums.zero_word
  · unfold past
    rw [dif_pos (by omega)]
    refine (concatenate_pair_apply_right (t := Reference18Ideal.S8194x5632) (s₁ := Reference18Ideal.S2x5632) (s₂ := Reference18Ideal.S8192x5632) 0 _ _ _ _ rfl rfl (ix2 ⟨r.val - 2, by omega⟩ k) (fun b hb => ?_) ?_).trans ?_
    · match b with
      | ⟨0, _⟩ => exact absurd rfl hb
      | ⟨1, _⟩ => rfl
    · show r.val - 2 + 2 = r.val
      omega
    · refine congrArg (X m c) (funext fun a => ?_)
      match a with
      | ⟨0, _⟩ => exact Fin.ext (by show r.val - 2 = 6 + r.val - 8; omega)
      | ⟨1, _⟩ => rfl

open Cert.Reference18Ideal.Read in
theorem refTap0 (j : S8192x5632.Idx) : val_main_v3 (F := Ideal) (X m c) j = past m c (6 + (j 0).val) (j 1).val := by
  have h0 : (j 0).val < 8192 := (j 0).isLt
  rw [val_main_v3_apply]
  refine (congrArg _ ?_).trans ((refPast m c ⟨(j 0).val, by omega⟩ (j 1)).trans (congrArg (past m c · _) (by show 6 + (j 0).val = _; omega)))
  funext a
  match a with
  | ⟨0, _⟩ => rfl
  | ⟨1, _⟩ => rfl

open Cert.Reference18Ideal.Read in
theorem refW0 (j : Reference18Ideal.S1x5632.Idx) : val_main_v6 (F := Ideal) (W m c) j = wt m c 0 (j 1).val := by
  have h1 : (j 1).val < 5632 := (j 1).isLt
  unfold wt
  rw [dif_pos h1, val_main_v6_apply, val_main_v5_apply, val_main_v4_apply]
  refine congrArg (W m c) (funext fun a => ?_)
  match a with
  | ⟨0, _⟩ => rfl
  | ⟨1, _⟩ => exact Fin.ext (Nat.mod_eq_of_lt h1)

open Cert.Reference18Ideal.Read in
theorem refTap1 (j : S8192x5632.Idx) : val_main_v9 (F := Ideal) (X m c) j = past m c (7 + (j 0).val) (j 1).val := by
  have h0 : (j 0).val < 8192 := (j 0).isLt
  rw [val_main_v9_apply]
  refine (congrArg _ ?_).trans ((refPast m c ⟨1 + (j 0).val, by omega⟩ (j 1)).trans (congrArg (past m c · _) (by show 6 + (1 + (j 0).val) = _; omega)))
  funext a
  match a with
  | ⟨0, _⟩ => rfl
  | ⟨1, _⟩ => rfl

open Cert.Reference18Ideal.Read in
theorem refW1 (j : Reference18Ideal.S1x5632.Idx) : val_main_v12 (F := Ideal) (W m c) j = wt m c 1 (j 1).val := by
  have h1 : (j 1).val < 5632 := (j 1).isLt
  unfold wt
  rw [dif_pos h1, val_main_v12_apply, val_main_v11_apply, val_main_v10_apply]
  refine congrArg (W m c) (funext fun a => ?_)
  match a with
  | ⟨0, _⟩ => rfl
  | ⟨1, _⟩ => exact Fin.ext (Nat.mod_eq_of_lt h1)

open Cert.Reference18Ideal.Read in
theorem refTap2 (j : S8192x5632.Idx) : val_main_v16 (F := Ideal) (X m c) j = past m c (8 + (j 0).val) (j 1).val := by
  have h0 : (j 0).val < 8192 := (j 0).isLt
  rw [val_main_v16_apply]
  refine (congrArg _ ?_).trans ((refPast m c ⟨2 + (j 0).val, by omega⟩ (j 1)).trans (congrArg (past m c · _) (by show 6 + (2 + (j 0).val) = _; omega)))
  funext a
  match a with
  | ⟨0, _⟩ => rfl
  | ⟨1, _⟩ => rfl

open Cert.Reference18Ideal.Read in
theorem refW2 (j : Reference18Ideal.S1x5632.Idx) : val_main_v19 (F := Ideal) (W m c) j = wt m c 2 (j 1).val := by
  have h1 : (j 1).val < 5632 := (j 1).isLt
  unfold wt
  rw [dif_pos h1, val_main_v19_apply, val_main_v18_apply, val_main_v17_apply]
  refine congrArg (W m c) (funext fun a => ?_)
  match a with
  | ⟨0, _⟩ => rfl
  | ⟨1, _⟩ => exact Fin.ext (Nat.mod_eq_of_lt h1)

open Cert.Reference18Ideal.Read in
theorem refConv (j : S8192x5632.Idx) : val_main_v25 (F := Ideal) (X m c) (W m c) (B m c) j = conv m c (j 0).val (j 1).val := by
  have h1 : (j 1).val < 5632 := (j 1).isLt
  have b0 : val_main_v24 (F := Ideal) (B m c) j = bs m c (j 1).val := by
    unfold bs
    rw [dif_pos h1, val_main_v24_apply, val_main_v23_apply]
    refine congrArg (B m c) (funext fun a => ?_)
    match a with
    | ⟨0, _⟩ => rfl
  rw [val_main_v25_apply, val_main_v22_apply, val_main_v15_apply, val_main_v8_apply, val_main_v14_apply, val_main_v21_apply,
    refTap0, refTap1, refTap2, val_main_v7_apply, val_main_v13_apply, val_main_v20_apply, refW0, refW1, refW2, b0]
  unfold conv
  have key : ∀ b x0 x1 x2 : EReal, x0 + x1 + x2 + b = b + 0 + x0 + x1 + x2 := by
    intro b x0 x1 x2
    rw [add_zero]
    ac_rfl
  exact key _ _ _ _

open Cert.Reference18Ideal.Read in
theorem refU (j : S8192x2816.Idx) : val_main_v26 (F := Ideal) (X m c) (W m c) (B m c) j = conv m c (j 0).val (j 1).val := by
  rw [val_main_v26_apply]
  exact refConv m c _

open Cert.Reference18Ideal.Read in
theorem refV (j : S8192x2816.Idx) : val_main_v27 (F := Ideal) (X m c) (W m c) (B m c) j = conv m c (j 0).val (2816 + (j 1).val) := by
  rw [val_main_v27_apply]
  exact refConv m c _

theorem refD (j : S8192x2816.Idx) : D m c j = dd m c (j 0).val (j 1).val := by
  unfold dd
  rw [dif_pos ⟨(j 0).isLt, (j 1).isLt⟩]
  exact congrArg (D m c) (eta (A := 8192) (B := 2816) j)

open Cert.Reference18Ideal.Read in
theorem refS (j : S8192x2816.Idx) : val_main_v28_2 (F := Ideal) (X m c) (W m c) (B m c) j = sg (conv m c (j 0).val (j 1).val) := by
  have o1 : (FloatOps.ofBits (F := Ideal) FTy.f32 0x3F800000#32 : EReal) = 1 := one_word
  rw [val_main_v28_2_apply, val_main_call0_v4_apply, val_main_call0_cst_0_apply, val_main_call0_v3_apply, val_main_call0_v2_apply,
    val_main_call0_cst_apply, val_main_call0_v1_apply, val_main_call0_v0_apply, refU, o1]
  rfl

open Cert.Reference18Ideal.Read in
theorem refG (ha : AllReal m c) (j : S8192x2816.Idx) : val_main_v32 (F := Ideal) (X m c) (W m c) (B m c) (D m c) j = dg m c (j 0).val (j 1).val := by
  have o1 : (FloatOps.ofBits (F := Ideal) FTy.f32 0x3F800000#32 : EReal) = 1 := one_word
  rw [val_main_v32_apply, val_main_call1_v1_apply, val_main_call1_v2_apply, val_main_call1_v0_apply, val_main_v31_apply, val_main_v28_1_apply, val_main_call0_v7_apply, val_main_call0_v6_apply,
    val_main_call0_cst_1_apply, refS, refU, refV, refD, o1]
  exact (silu_grad (conv m c (j 0).val (j 1).val) _ (real_mul (ha.dd _ _) (ha.conv _ _))).symm

open Cert.Reference18Ideal.Read in
theorem refH (j : S8192x2816.Idx) : val_main_v30 (F := Ideal) (X m c) (W m c) (B m c) (D m c) j = dv m c (j 0).val (j 1).val := by
  rw [val_main_v30_apply, val_main_v28_0_apply, refS, refU, refD]
  exact mul_comm _ _

open Cert.Reference18Ideal.Read in
theorem refDu (ha : AllReal m c) (n : Fin 8192) (K : Fin 5632) : val_main_v33 (F := Ideal) (X m c) (W m c) (B m c) (D m c) (ix2 n K) = du m c n.val K.val := by
  unfold val_main_v33 du
  by_cases h : K.val < 2816
  · rw [if_pos h]
    refine (concatenate_pair_apply_left (t := Reference18Ideal.S8192x5632) (s₁ := Reference18Ideal.S8192x2816) (s₂ := Reference18Ideal.S8192x2816) 1 _ _ _ _ rfl (ix2 n ⟨K.val, h⟩) (fun b => ?_)).trans (refG m c ha _)
    match b with
    | ⟨0, _⟩ => rfl
    | ⟨1, _⟩ => rfl
  · rw [if_neg h]
    refine (concatenate_pair_apply_right (t := Reference18Ideal.S8192x5632) (s₁ := Reference18Ideal.S8192x2816) (s₂ := Reference18Ideal.S8192x2816) 1 _ _ _ _ rfl rfl (ix2 n ⟨K.val - 2816, by omega⟩) (fun b hb => ?_) ?_).trans (refH m c _)
    · match b with
      | ⟨0, _⟩ => rfl
      | ⟨1, _⟩ => exact absurd rfl hb
    · show K.val - 2816 + 2816 = K.val
      omega

open Cert.Reference18Ideal.Read in
theorem refX2 (ha : AllReal m c) (n : Fin 8192) (k : Fin 5632) : val_main_v45 (F := Ideal) (X m c) (W m c) (B m c) (D m c) (ix2 (n0 := 8194) (n1 := 5632) ⟨2 + n.val, by omega⟩ k) = du m c (n.val + 0) k.val * wt m c 2 k.val := by
  unfold val_main_v45
  refine (pad_row (N := 8194) (R := 8192) (C := 5632) (a := 2) (b := 0) _ _ _ _ ((val_main_cst_6_apply _).trans Sums.zero_word) _ k).trans ?_
  by_cases hh : 2 ≤ 2 + n.val ∧ 2 + n.val - 2 < 8192
  · rw [dif_pos hh, val_main_v41_apply]
    refine congrArg₂ (· * ·) ((refDu m c ha ⟨2 + n.val - 2, hh.2⟩ k).trans (congrArg (du m c · _) ?_)) ?_
    · show 2 + n.val - 2 = n.val + 0
      omega
    · rw [val_main_v40_apply]
      exact refW2 m c _
  · rw [dif_neg hh, du_zero m c _ _ (by omega), zero_mul]

open Cert.Reference18Ideal.Read in
theorem refS2 (ha : AllReal m c) (k : Fin 5632) : val_main_v43 (F := Ideal) (X m c) (W m c) (B m c) (D m c) (ix2 0 k) = ∑ n ∈ Finset.range 8192, T m c 2 k.val n := by
  rw [val_main_v43_apply, val_main_v42_apply, Fin.sum_univ_one, val_main_v39_apply, val_main_v38_apply, val_main_cst_4_apply, val_main_cst_3_apply,
    show (FloatOps.ofBits (F := Ideal) FTy.f32 0x00000000#32 : EReal) = 0 from Sums.zero_word, zero_add, zero_add, Finset.sum_range]
  refine Finset.sum_congr rfl fun n _ => ?_
  have e : idx_main_v38 (idx_main_v39 (idx_main_v42 (idx_main_v43 (ix2 0 k)) 0)) n = ix2 n k := by
    funext a
    match a with
    | ⟨0, _⟩ => rfl
    | ⟨1, _⟩ =>
      refine Fin.ext ?_
      show 0 * 5632 + k.val = k.val
      omega
  rw [e, val_main_v37_apply, refTap2, refDu m c ha]
  exact mul_comm _ _

open Cert.Reference18Ideal.Read in
theorem refP2 (ha : AllReal m c) (r : Fin 3) (k : Fin 5632) : val_main_v44 (F := Ideal) (X m c) (W m c) (B m c) (D m c) (ix2 r k) = if r.val = 2 then ∑ n ∈ Finset.range 8192, T m c 2 k.val n else 0 := by
  unfold val_main_v44
  refine (pad_row (N := 3) (R := 1) (C := 5632) (a := 2) (b := 0) _ _ _ _ ((val_main_cst_5_apply _).trans Sums.zero_word) r k).trans ?_
  by_cases h : r.val = 2
  · rw [if_pos h, dif_pos (by omega), ← refS2 m c ha k]
    refine congrArg (val_main_v43 (F := Ideal) (X m c) (W m c) (B m c) (D m c)) (funext fun i => ?_)
    match i with
    | ⟨0, _⟩ =>
      refine Fin.ext ?_
      show r.val - 2 = 0
      omega
    | ⟨1, _⟩ => rfl
  · rw [if_neg h, dif_neg (by omega)]

open Cert.Reference18Ideal.Read in
theorem refX1 (ha : AllReal m c) (n : Fin 8192) (k : Fin 5632) : val_main_v55 (F := Ideal) (X m c) (W m c) (B m c) (D m c) (ix2 (n0 := 8194) (n1 := 5632) ⟨2 + n.val, by omega⟩ k) = du m c (n.val + 1) k.val * wt m c 1 k.val := by
  unfold val_main_v55
  refine (pad_row (N := 8194) (R := 8192) (C := 5632) (a := 1) (b := 1) _ _ _ _ ((val_main_cst_10_apply _).trans Sums.zero_word) _ k).trans ?_
  by_cases hh : 1 ≤ 2 + n.val ∧ 2 + n.val - 1 < 8192
  · rw [dif_pos hh, val_main_v50_apply]
    refine congrArg₂ (· * ·) ((refDu m c ha ⟨2 + n.val - 1, hh.2⟩ k).trans (congrArg (du m c · _) ?_)) ?_
    · show 2 + n.val - 1 = n.val + 1
      omega
    · rw [val_main_v49_apply]
      exact refW1 m c _
  · rw [dif_neg hh, du_zero m c _ _ (by omega), zero_mul]

open Cert.Reference18Ideal.Read in
theorem refS1 (ha : AllReal m c) (k : Fin 5632) : val_main_v52 (F := Ideal) (X m c) (W m c) (B m c) (D m c) (ix2 0 k) = ∑ n ∈ Finset.range 8192, T m c 1 k.val n := by
  rw [val_main_v52_apply, val_main_v51_apply, Fin.sum_univ_one, val_main_v48_apply, val_main_v47_apply, val_main_cst_8_apply, val_main_cst_7_apply,
    show (FloatOps.ofBits (F := Ideal) FTy.f32 0x00000000#32 : EReal) = 0 from Sums.zero_word, zero_add, zero_add, Finset.sum_range]
  refine Finset.sum_congr rfl fun n _ => ?_
  have e : idx_main_v47 (idx_main_v48 (idx_main_v51 (idx_main_v52 (ix2 0 k)) 0)) n = ix2 n k := by
    funext a
    match a with
    | ⟨0, _⟩ => rfl
    | ⟨1, _⟩ =>
      refine Fin.ext ?_
      show 0 * 5632 + k.val = k.val
      omega
  rw [e, val_main_v46_apply, refTap1, refDu m c ha]
  exact mul_comm _ _

open Cert.Reference18Ideal.Read in
theorem refP1 (ha : AllReal m c) (r : Fin 3) (k : Fin 5632) : val_main_v53 (F := Ideal) (X m c) (W m c) (B m c) (D m c) (ix2 r k) = if r.val = 1 then ∑ n ∈ Finset.range 8192, T m c 1 k.val n else 0 := by
  unfold val_main_v53
  refine (pad_row (N := 3) (R := 1) (C := 5632) (a := 1) (b := 1) _ _ _ _ ((val_main_cst_9_apply _).trans Sums.zero_word) r k).trans ?_
  by_cases h : r.val = 1
  · rw [if_pos h, dif_pos (by omega), ← refS1 m c ha k]
    refine congrArg (val_main_v52 (F := Ideal) (X m c) (W m c) (B m c) (D m c)) (funext fun i => ?_)
    match i with
    | ⟨0, _⟩ =>
      refine Fin.ext ?_
      show r.val - 1 = 0
      omega
    | ⟨1, _⟩ => rfl
  · rw [if_neg h, dif_neg (by omega)]

open Cert.Reference18Ideal.Read in
theorem refX0 (ha : AllReal m c) (n : Fin 8192) (k : Fin 5632) : val_main_v66 (F := Ideal) (X m c) (W m c) (B m c) (D m c) (ix2 (n0 := 8194) (n1 := 5632) ⟨2 + n.val, by omega⟩ k) = du m c (n.val + 2) k.val * wt m c 0 k.val := by
  unfold val_main_v66
  refine (pad_row (N := 8194) (R := 8192) (C := 5632) (a := 0) (b := 2) _ _ _ _ ((val_main_cst_14_apply _).trans Sums.zero_word) _ k).trans ?_
  by_cases hh : 0 ≤ 2 + n.val ∧ 2 + n.val - 0 < 8192
  · rw [dif_pos hh, val_main_v61_apply]
    refine congrArg₂ (· * ·) ((refDu m c ha ⟨2 + n.val - 0, hh.2⟩ k).trans (congrArg (du m c · _) ?_)) ?_
    · show 2 + n.val - 0 = n.val + 2
      omega
    · rw [val_main_v60_apply]
      exact refW0 m c _
  · rw [dif_neg hh, du_zero m c _ _ (by omega), zero_mul]

open Cert.Reference18Ideal.Read in
theorem refS0 (ha : AllReal m c) (k : Fin 5632) : val_main_v63 (F := Ideal) (X m c) (W m c) (B m c) (D m c) (ix2 0 k) = ∑ n ∈ Finset.range 8192, T m c 0 k.val n := by
  rw [val_main_v63_apply, val_main_v62_apply, Fin.sum_univ_one, val_main_v59_apply, val_main_v58_apply, val_main_cst_12_apply, val_main_cst_11_apply,
    show (FloatOps.ofBits (F := Ideal) FTy.f32 0x00000000#32 : EReal) = 0 from Sums.zero_word, zero_add, zero_add, Finset.sum_range]
  refine Finset.sum_congr rfl fun n _ => ?_
  have e : idx_main_v58 (idx_main_v59 (idx_main_v62 (idx_main_v63 (ix2 0 k)) 0)) n = ix2 n k := by
    funext a
    match a with
    | ⟨0, _⟩ => rfl
    | ⟨1, _⟩ =>
      refine Fin.ext ?_
      show 0 * 5632 + k.val = k.val
      omega
  rw [e, val_main_v57_apply, refTap0, refDu m c ha]
  exact mul_comm _ _

open Cert.Reference18Ideal.Read in
theorem refP0 (ha : AllReal m c) (r : Fin 3) (k : Fin 5632) : val_main_v64 (F := Ideal) (X m c) (W m c) (B m c) (D m c) (ix2 r k) = if r.val = 0 then ∑ n ∈ Finset.range 8192, T m c 0 k.val n else 0 := by
  unfold val_main_v64
  refine (pad_row (N := 3) (R := 1) (C := 5632) (a := 0) (b := 2) _ _ _ _ ((val_main_cst_13_apply _).trans Sums.zero_word) r k).trans ?_
  by_cases h : r.val = 0
  · rw [if_pos h, dif_pos (by omega), ← refS0 m c ha k]
    refine congrArg (val_main_v63 (F := Ideal) (X m c) (W m c) (B m c) (D m c)) (funext fun i => ?_)
    match i with
    | ⟨0, _⟩ =>
      refine Fin.ext ?_
      show r.val - 0 = 0
      omega
    | ⟨1, _⟩ => rfl
  · rw [if_neg h, dif_neg (by omega)]

open Cert.Reference18Ideal.Read in
theorem refX (ha : AllReal m c) (n : Fin 8192) (k : Fin 5632) : val_main_v67 (F := Ideal) (X m c) (W m c) (B m c) (D m c) (ix2 (n0 := 8194) (n1 := 5632) ⟨2 + n.val, by omega⟩ k) = dx m c n.val k.val := by
  rw [val_main_v67_apply, val_main_v56_apply, refX2 m c ha, refX1 m c ha, refX0 m c ha]
  unfold dx
  have key : ∀ x0 x1 x2 : EReal, x2 + x1 + x0 = 0 + x0 + x1 + x2 := by
    intro x0 x1 x2
    rw [zero_add]
    ac_rfl
  exact key _ _ _

open Cert.Reference18Ideal.Read in
theorem refT (ha : AllReal m c) (r : Fin 3) (k : Fin 5632) : val_main_v65 (F := Ideal) (X m c) (W m c) (B m c) (D m c) (ix2 r k) = ∑ n ∈ Finset.range 8192, T m c r.val k.val n := by
  rw [val_main_v65_apply, val_main_v54_apply, refP2 m c ha r k, refP1 m c ha r k, refP0 m c ha r k]
  match r with
  | ⟨0, _⟩ => exact (congrArg (· + _) (show (0 : EReal) + 0 = 0 from add_zero _)).trans (zero_add _)
  | ⟨1, _⟩ => exact (add_zero _).trans (zero_add _)
  | ⟨2, _⟩ => exact (add_zero _).trans (add_zero _)

open Cert.Reference18Ideal.Read in
theorem refB (ha : AllReal m c) (k : Fin 5632) : val_main_v71 (F := Ideal) (X m c) (W m c) (B m c) (D m c) (ix2 0 k) = ∑ n ∈ Finset.range 8192, du m c n k.val := by
  rw [val_main_v71_apply, val_main_v36_apply, Fin.sum_univ_one, val_main_v35_apply, val_main_v34_apply, val_main_cst_1_apply, val_main_cst_2_apply,
    show (FloatOps.ofBits (F := Ideal) FTy.f32 0x00000000#32 : EReal) = 0 from Sums.zero_word, zero_add, zero_add, Finset.sum_range]
  refine Finset.sum_congr rfl fun n _ => ?_
  refine (congrArg (val_main_v33 (F := Ideal) (X m c) (W m c) (B m c) (D m c)) (funext fun i => ?_)).trans (refDu m c ha n k)
  match i with
  | ⟨0, _⟩ => rfl
  | ⟨1, _⟩ =>
    refine Fin.ext ?_
    show 0 * 5632 + (0 * 5632 + k.val) = k.val
    omega

open Cert.Reference18Ideal.Read in
theorem ref72 (ha : AllReal m c) (j : S8192x2816.Idx) : val_main_v72 (F := Ideal) (X m c) (W m c) (B m c) (D m c) j = dx m c (j 0).val (j 1).val := by
  have h0 : (j 0).val < 8192 := (j 0).isLt
  have h1 : (j 1).val < 2816 := (j 1).isLt
  rw [val_main_v72_apply, val_main_v70_apply]
  show val_main_v69 (F := Ideal) (X m c) (W m c) (B m c) (D m c) _ = _
  rw [val_main_v69_apply]
  refine (congrArg _ ?_).trans (refX m c ha (j 0) ⟨(j 1).val, by omega⟩)
  funext a
  match a with
  | ⟨0, _⟩ => rfl
  | ⟨1, _⟩ => rfl

open Cert.Reference18Ideal.Read in
theorem ref74 (ha : AllReal m c) (j : S3x2816.Idx) : val_main_v74 (F := Ideal) (X m c) (W m c) (B m c) (D m c) j = ∑ k ∈ Finset.range 8192, T m c (j 0).val (j 1).val k := by
  have h1 : (j 1).val < 2816 := (j 1).isLt
  rw [val_main_v74_apply]
  refine (congrArg _ ?_).trans (refT m c ha (j 0) ⟨(j 1).val, by omega⟩)
  funext a
  match a with
  | ⟨0, _⟩ => rfl
  | ⟨1, _⟩ => rfl

open Cert.Reference18Ideal.Read in
theorem ref76 (ha : AllReal m c) (j : S1x2816.Idx) : val_main_v76 (F := Ideal) (X m c) (W m c) (B m c) (D m c) j = ∑ k ∈ Finset.range 8192, du m c k (j 1).val := by
  have h0 : (j 0).val < 1 := (j 0).isLt
  have h1 : (j 1).val < 2816 := (j 1).isLt
  rw [val_main_v76_apply]
  refine (congrArg _ ?_).trans (refB m c ha ⟨(j 1).val, by omega⟩)
  funext a
  match a with
  | ⟨0, _⟩ => exact Fin.ext (Nat.lt_one_iff.mp h0)
  | ⟨1, _⟩ => rfl

open Cert.Reference18Ideal.Read in
theorem ref73 (ha : AllReal m c) (j : S8192x2816.Idx) : val_main_v73 (F := Ideal) (X m c) (W m c) (B m c) (D m c) j = dx m c (j 0).val (2816 + (j 1).val) := by
  have h0 : (j 0).val < 8192 := (j 0).isLt
  have h1 : (j 1).val < 2816 := (j 1).isLt
  rw [val_main_v73_apply, val_main_v70_apply]
  show val_main_v69 (F := Ideal) (X m c) (W m c) (B m c) (D m c) _ = _
  rw [val_main_v69_apply]
  refine (congrArg _ ?_).trans (refX m c ha (j 0) ⟨2816 + (j 1).val, by omega⟩)
  funext a
  match a with
  | ⟨0, _⟩ => rfl
  | ⟨1, _⟩ => rfl

open Cert.Reference18Ideal.Read in
theorem ref75 (ha : AllReal m c) (j : S3x2816.Idx) : val_main_v75 (F := Ideal) (X m c) (W m c) (B m c) (D m c) j = ∑ k ∈ Finset.range 8192, T m c (j 0).val (2816 + (j 1).val) k := by
  have h1 : (j 1).val < 2816 := (j 1).isLt
  rw [val_main_v75_apply]
  refine (congrArg _ ?_).trans (refT m c ha (j 0) ⟨2816 + (j 1).val, by omega⟩)
  funext a
  match a with
  | ⟨0, _⟩ => rfl
  | ⟨1, _⟩ => rfl

open Cert.Reference18Ideal.Read in
theorem ref77 (ha : AllReal m c) (j : S1x2816.Idx) : val_main_v77 (F := Ideal) (X m c) (W m c) (B m c) (D m c) j = ∑ k ∈ Finset.range 8192, du m c k (2816 + (j 1).val) := by
  have h0 : (j 0).val < 1 := (j 0).isLt
  have h1 : (j 1).val < 2816 := (j 1).isLt
  rw [val_main_v77_apply]
  refine (congrArg _ ?_).trans (refB m c ha ⟨2816 + (j 1).val, by omega⟩)
  funext a
  match a with
  | ⟨0, _⟩ => exact Fin.ext (Nat.lt_one_iff.mp h0)
  | ⟨1, _⟩ => rfl

end

end Cert.Kernel18Ideal.Val
-- ==== Proof.End18.lean ====
/- The gradient of the feed-forward's convolution and gate: the claims. -/
module

public import proofs.«01_k».proof.Proof.Conv18
public import proofs.«01_k».proof.Proof.Ref18

@[expose] public section

noncomputable section

namespace Cert.Kernel18Ideal.Val

open Idealize.ShloMosaic Idealize.ShloMosaic.TcCoe Idealize.SL.Sem Cert.Kernel18Ideal Cert.Kernel18Ideal.Gen

/-- The results are equal. -/
theorem algebraic : Cert.algebraic_Kernel18Ideal_Reference18Ideal_pre_finite18 (hKernel18Ideal := Cert.Kernel18Ideal.Gen.facts)
    (hReference18Ideal := Cert.Reference18Ideal.Gen.facts) (hPre_finite18 := Cert.Pre_finite18.facts) := by
  intro m g m' g' hp ha
  have hr : ∀ c, AllReal m c := fun c => by
    letI := Cert.Pre_finite18.facts
    obtain ⟨h0, h1, h2, h3⟩ := Cert.Pre_finite18.all_real (hp c)
    exact ⟨h0, h1, h2, h3⟩
  refine ⟨_, _, _, _, _, _, Cert.Kernel18Ideal.Value.run_blocks m g, (θ_run Cert.Reference18Ideal.defs _ _).mono (fun r h c => ?_) (Cert.Reference18Ideal.Value.run m' g')⟩
  obtain ⟨a0, a1, a2, a3⟩ := ha c
  obtain ⟨r0, r1, r2, r3, r4, r5, rest⟩ := h c
  refine ⟨(r0.trans (Cert.Reference18Ideal.Read.val_main_v72_eq _ _)).trans ?_, (r1.trans (Cert.Reference18Ideal.Read.val_main_v73_eq _ _)).trans ?_,
    (r2.trans (Cert.Reference18Ideal.Read.val_main_v74_eq _ _)).trans ?_, (r3.trans (Cert.Reference18Ideal.Read.val_main_v75_eq _ _)).trans ?_,
    (r4.trans (Cert.Reference18Ideal.Read.val_main_v76_eq _ _)).trans ?_, (r5.trans (Cert.Reference18Ideal.Read.val_main_v77_eq _ _)).trans ?_, rest⟩ <;> rw [a0, a1, a2, a3]
  · exact (funext fun j => ref72 m c (hr c) j).trans (arr12 m c).symm
  · exact (funext fun j => ref73 m c (hr c) j).trans (arr13 m c).symm
  · exact (funext fun j => ref74 m c (hr c) j).trans (arr14 m c).symm
  · exact (funext fun j => ref75 m c (hr c) j).trans (arr15 m c).symm
  · exact (funext fun j => ref76 m c (hr c) j).trans (arr16 m c).symm
  · exact (funext fun j => ref77 m c (hr c) j).trans (arr17 m c).symm

/-- The frames. -/
theorem frame_kernel : Cert.quiescent_Kernel18 (hKernel18 := Cert.Kernel18.Gen.facts) := fun m ρ _ => Cert.Kernel18.Gen.frame m ρ

theorem frame_kernelIdeal : Cert.quiescent_Kernel18Ideal (hKernel18Ideal := Cert.Kernel18Ideal.Gen.facts) := fun m ρ _ => Cert.Kernel18Ideal.Gen.frame m ρ

theorem frame_referenceIdeal : Cert.quiescent_Reference18Ideal (hReference18Ideal := Cert.Reference18Ideal.Gen.facts) := fun m ρ _ =>
  (θ_run Cert.Reference18Ideal.defs _ _).mono (fun r h => ⟨fun c => (h c).2.2.2.2.2.2, sem_eq_zero_of_no_sems rfl r.2⟩) (Cert.Reference18Ideal.Value.run m ρ)

end Cert.Kernel18Ideal.Val
-- ==== Proof.Conv19.lean ====
/- The gate of the feed-forward layer: both halves of its convolution in one tile, one the gate of the other. -/
module

public import proofs.«01_k».proof.Defs
public import proofs.«01_k».proof.Proof.Conv
public import proofs.«01_k».proof.Proof.Sums
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel19Ideal.Val

open Idealize.ShloMosaic Idealize.ShloMosaic.TcCoe Idealize.SL.Sem Cert.Kernel19Ideal Cert.Kernel19Ideal.Gen Cert.Conv

section
variable (m : (ℓ : Loc nD τ sig) → Buf (Elt Ideal) ℓ) (c : Dev nD)

/-- The up projections, the gate's half and then the other. -/
abbrev X : S8192x5632.Idx → EReal := m ((c : Thread nD τ).loc main_arg0)
/-- The taps. -/
abbrev W : S3x5632.Idx → EReal := m ((c : Thread nD τ).loc main_arg1)
/-- The bias. -/
abbrev B : S5632.Idx → EReal := m ((c : Thread nD τ).loc main_arg2)

theorem readX (y : S8192x5632.Idx) : (V m c main_arg0 : S8192x5632.Idx → EReal) y = X m c y := by
  rw [V_main_arg0]

theorem readB (y : S1x5632.Idx) : (V m c main_v0 : S1x5632.Idx → EReal) y = B m c (ix1 (y 1)) := by
  unfold V
  after_reads_at

theorem idx : ∀ t : Fin cfg0.N, win0_0.index t = ![t.val / 2, t.val % 2]
    ∧ win0_1.index t = ![64 * (t.val / 2) - 1, t.val % 2]
    ∧ win0_2.index t = ![t.val / 2, 2 + t.val % 2]
    ∧ win0_3.index t = ![64 * (t.val / 2) - 1, 2 + t.val % 2]
    ∧ win0_4.index t = ![0, t.val % 2]
    ∧ win0_5.index t = ![0, 2 + t.val % 2]
    ∧ win0_6.index t = ![0, t.val % 2]
    ∧ win0_7.index t = ![0, 2 + t.val % 2]
    ∧ win0_8.index t = ![t.val / 2, t.val % 2] := by decide +kernel

/-- Row `n` of the up projections behind eight rows of zeros. -/
def past (n k : ℕ) : EReal := if h : 8 ≤ n ∧ n < 8200 ∧ k < 5632 then X m c (ix2 ⟨n - 8, by omega⟩ ⟨k, by omega⟩) else 0

theorem past_zero (n k : ℕ) (h : n < 8) : past m c n k = 0 := dif_neg (by omega)

theorem first_rows (n : ℕ) (hl : n < 16) (x y : EReal) : Scalar.select (Scalar.cmpi CmpIPredicate.sgt (BitVec.ofNat 32 n) 0#32) x y = if n = 0 then y else x := by
  have hw : ∀ n : Fin 16, Scalar.cmpi CmpIPredicate.sgt (BitVec.ofNat 32 n.val) 0#32 = if n.val = 0 then 0#1 else 1#1 := by decide
  rw [hw ⟨n, hl⟩]
  dsimp only
  by_cases h0 : n = 0
  · rw [if_pos h0, if_pos h0]
    rfl
  · rw [if_neg h0, if_neg h0]
    rfl

theorem pay2_at (i : grid0.Coords) (h : Vec Ideal S8x1408 .f32) (p : Fin 8) (q : Fin 1408) :
    k0_pay2 (F := Ideal) i h (ix2 p q) = if (i 0).val = 0 then 0 else h (ix2 p q) := by
  refine Eq.trans ?_ (first_rows (i 0).val (i 0).isLt (h (ix2 p q)) 0)
  rw [← Sums.zero_word]
  pointwise [k0_pay2]

theorem pay4_at (i : grid0.Coords) (h : Vec Ideal S8x1408 .f32) (p : Fin 8) (q : Fin 1408) :
    k0_pay4 (F := Ideal) i h (ix2 p q) = if (i 0).val = 0 then 0 else h (ix2 p q) := by
  refine Eq.trans ?_ (first_rows (i 0).val (i 0).isLt (h (ix2 p q)) 0)
  rw [← Sums.zero_word]
  pointwise [k0_pay4]

theorem pay3_at (x : Vec Ideal S512x1408 .f32) (p : Fin 512) (q : Fin 1408) : k0_pay3 (F := Ideal) x (ix2 p q) = x (ix2 p q) := by
  pointwise [k0_pay3]

theorem pay5_at (x : Vec Ideal S512x1408 .f32) (p : Fin 512) (q : Fin 1408) : k0_pay5 (F := Ideal) x (ix2 p q) = x (ix2 p q) := by
  pointwise [k0_pay5]

theorem pay7_at (b : Vec Ideal S1x1408 .f32) (x0 x1 x2 : Vec Ideal S512x1408 .f32) (w0 w1 w2 : Vec Ideal S1x1408 .f32) (p : Fin 512) (q : Fin 1408) :
    k0_pay7 (F := Ideal) (k0_pay6 (F := Ideal) b) x0 w0 x1 w1 x2 w2 (ix2 p q)
      = b (ix2 0 q) + 0 + x0 (ix2 p q) * w0 (ix2 0 q) + x1 (ix2 p q) * w1 (ix2 0 q) + x2 (ix2 p q) * w2 (ix2 0 q) := by
  rw [← Sums.zero_word]
  pointwise [k0_pay7, k0_pay6]

theorem pay8_at (b : Vec Ideal S1x1408 .f32) (x0 x1 x2 : Vec Ideal S512x1408 .f32) (w0 w1 w2 : Vec Ideal S1x1408 .f32) (p : Fin 512) (q : Fin 1408) :
    k0_pay8 (F := Ideal) b x0 w0 x1 w1 x2 w2 (ix2 p q)
      = b (ix2 0 q) + 0 + x0 (ix2 p q) * w0 (ix2 0 q) + x1 (ix2 p q) * w1 (ix2 0 q) + x2 (ix2 p q) * w2 (ix2 0 q) := by
  rw [← Sums.zero_word]
  pointwise [k0_pay8]

theorem pay1_at (u v : Vec Ideal S512x1408 .f32) (p : Fin 512) (q : Fin 1408) :
    k0_pay1 (F := Ideal) u v (k0_pay9 (F := Ideal)) (ix2 p q) = u (ix2 p q) * sg (u (ix2 p q)) * v (ix2 p q) := by
  show _ = _ * Ideal.div 1 (1 + Ideal.exp (-_)) * _
  rw [← zero_sub, ← Sums.zero_word, ← one_word]
  pointwise [k0_pay1, k0_pay9]

/-- Row `n` of the convolution. -/
def conv (n : Fin 8192) (k : Fin 5632) : EReal :=
  B m c (ix1 k) + 0 + past m c (6 + n.val) k.val * W m c (ix2 0 k) + past m c (7 + n.val) k.val * W m c (ix2 1 k)
    + past m c (8 + n.val) k.val * W m c (ix2 2 k)

/-- The columns of the two halves. -/
abbrev cg (k : Fin 2816) : Fin 5632 := ⟨k.val, by omega⟩
abbrev cv (k : Fin 2816) : Fin 5632 := ⟨2816 + k.val, by omega⟩

/-- The result: the second half under its gate. -/
def res : S8192x2816.Idx → EReal := fun j =>
  conv m c (j 0) (cg (j 1)) * sg (conv m c (j 0) (cg (j 1))) * conv m c (j 0) (cv (j 1))

abbrev bX (t : Fin cfg0.N) : S512x1408.Idx → EReal := iblk m c 0 t
abbrev bH (t : Fin cfg0.N) : S8x1408.Idx → EReal := iblk m c 1 t
abbrev bY (t : Fin cfg0.N) : S512x1408.Idx → EReal := iblk m c 2 t
abbrev bK (t : Fin cfg0.N) : S8x1408.Idx → EReal := iblk m c 3 t
abbrev bW (t : Fin cfg0.N) : S3x1408.Idx → EReal := iblk m c 4 t
abbrev bU (t : Fin cfg0.N) : S3x1408.Idx → EReal := iblk m c 5 t
abbrev bB (t : Fin cfg0.N) : S1x1408.Idx → EReal := iblk m c 6 t
abbrev bC (t : Fin cfg0.N) : S1x1408.Idx → EReal := iblk m c 7 t

theorem coord : ∀ t : Fin cfg0.N, (grid0.coords t 0).val = t.val / 2 := by decide +kernel

theorem blkX (t : Fin cfg0.N) (p : Fin 512) (q : Fin 1408) :
    bX m c t (ix2 p q) = past m c (512 * (t.val / 2) + (8 + p.val)) (0 + (1408 * (t.val % 2) + q.val)) := by
  have ht : t.val < 32 := lt_of_lt_of_eq t.isLt N_0
  have hx := (idx t).1
  unfold past
  rw [dif_pos (by omega)]
  refine Eq.trans ?_ (readX m c _)
  blk_ext [bX, iblk, hx] <;> omega

theorem blkH (t : Fin cfg0.N) (h : ¬t.val / 2 = 0) (p : Fin 8) (q : Fin 1408) :
    bH m c t (ix2 p q) = past m c (512 * (t.val / 2) + p.val) (0 + (1408 * (t.val % 2) + q.val)) := by
  have ht : t.val < 32 := lt_of_lt_of_eq t.isLt N_0
  have hx := (idx t).2.1
  unfold past
  rw [dif_pos (by omega)]
  refine Eq.trans ?_ (readX m c _)
  blk_ext [bH, iblk, hx] <;> omega

theorem blkW (t : Fin cfg0.N) (p : Fin 3) (q : Fin 1408) (k : Fin 5632) (hk : k.val = 0 + (1408 * (t.val % 2) + q.val)) :
    bW m c t (ix2 p q) = W m c (ix2 p k) := by
  have hx := (idx t).2.2.2.2.1
  refine Eq.trans ?_ (congrFun (V_main_arg1 m c) _)
  blk_ext [bW, iblk, hx] <;> omega

theorem blkB (t : Fin cfg0.N) (q : Fin 1408) (k : Fin 5632) (hk : k.val = 0 + (1408 * (t.val % 2) + q.val)) :
    bB m c t (ix2 0 q) = B m c (ix1 k) := by
  have hx := (idx t).2.2.2.2.2.2.1
  refine Eq.trans ?_ (readB m c (ix2 0 k))
  blk_ext [bB, iblk, hx] <;> omega

/-- What the buffer holds, row by row. -/
abbrev G (t : Fin cfg0.N) (p q : ℕ) : EReal := past m c (512 * (t.val / 2) + p) (0 + (1408 * (t.val % 2) + q))

theorem hX (t : Fin cfg0.N) (p : Fin 512) (q : Fin 1408) : k0_pay3 (F := Ideal) (iblk m c 0 t) (ix2 p q) = G m c t (8 + p.val) q.val := by
  rw [pay3_at]
  exact blkX m c t p q

theorem hH (t : Fin cfg0.N) (p : Fin 8) (q : Fin 1408) : k0_pay2 (F := Ideal) (grid0.coords t) (iblk m c 1 t) (ix2 p q) = G m c t p.val q.val := by
  rw [pay2_at, coord]
  by_cases h : t.val / 2 = 0
  · rw [if_pos h]
    exact (past_zero m c _ _ (by omega)).symm
  · rw [if_neg h]
    exact blkH m c t h p q

/-- A load of 512 of the buffer's rows. -/
theorem tap (t : Fin cfg0.N) {o : ℕ} (i3 : ∀ k, (![o, 0] : Fin 2 → ℕ) k + (![512, 1408] : Fin 2 → ℕ) k ≤ S520x1408.size k) (p : Fin 512) (q : Fin 1408) :
    ((View.whole cc0_scratch0).readCov (Val := Elt Ideal)
      [⟨Rect.unit ![8, 0] ![512, 1408] inb_S520x1408_S512x1408_8_0, k0_pay3 (F := Ideal) (iblk m c 0 t)⟩,
        ⟨Rect.unit ![0, 0] ![8, 1408] inb_S520x1408_S8x1408_0_0, k0_pay2 (F := Ideal) (grid0.coords t) (iblk m c 1 t)⟩]
      (Rect.unit (s := S520x1408) ![o, 0] ![512, 1408] i3).toLoadRect : S512x1408.Idx → EReal) (ix2 p q) = G m c t (o + p.val) q.val :=
  load_rows (N := 520) (a := 8) (b := 512) (R := 512) (C := 1408) (o := o) (Val := Elt Ideal) (e := .f32) (View.whole cc0_scratch0) rfl inb_S520x1408_S512x1408_8_0 inb_S520x1408_S8x1408_0_0 i3
    (k0_pay3 (F := Ideal) (iblk m c 0 t)) (k0_pay2 (F := Ideal) (grid0.coords t) (iblk m c 1 t)) (G m c t) (hX m c t) (hH m c t) p q

theorem blkY (t : Fin cfg0.N) (p : Fin 512) (q : Fin 1408) :
    bY m c t (ix2 p q) = past m c (512 * (t.val / 2) + (8 + p.val)) (2816 + (1408 * (t.val % 2) + q.val)) := by
  have ht : t.val < 32 := lt_of_lt_of_eq t.isLt N_0
  have hx := (idx t).2.2.1
  unfold past
  rw [dif_pos (by omega)]
  refine Eq.trans ?_ (readX m c _)
  blk_ext [bY, iblk, hx] <;> omega

theorem blkK (t : Fin cfg0.N) (h : ¬t.val / 2 = 0) (p : Fin 8) (q : Fin 1408) :
    bK m c t (ix2 p q) = past m c (512 * (t.val / 2) + p.val) (2816 + (1408 * (t.val % 2) + q.val)) := by
  have ht : t.val < 32 := lt_of_lt_of_eq t.isLt N_0
  have hx := (idx t).2.2.2.1
  unfold past
  rw [dif_pos (by omega)]
  refine Eq.trans ?_ (readX m c _)
  blk_ext [bK, iblk, hx] <;> omega

theorem blkU (t : Fin cfg0.N) (p : Fin 3) (q : Fin 1408) (k : Fin 5632) (hk : k.val = 2816 + (1408 * (t.val % 2) + q.val)) :
    bU m c t (ix2 p q) = W m c (ix2 p k) := by
  have hx := (idx t).2.2.2.2.2.1
  refine Eq.trans ?_ (congrFun (V_main_arg1 m c) _)
  blk_ext [bU, iblk, hx] <;> omega

theorem blkC (t : Fin cfg0.N) (q : Fin 1408) (k : Fin 5632) (hk : k.val = 2816 + (1408 * (t.val % 2) + q.val)) :
    bC m c t (ix2 0 q) = B m c (ix1 k) := by
  have hx := (idx t).2.2.2.2.2.2.2.1
  refine Eq.trans ?_ (readB m c (ix2 0 k))
  blk_ext [bC, iblk, hx] <;> omega

/-- What the buffer holds, row by row. -/
abbrev G' (t : Fin cfg0.N) (p q : ℕ) : EReal := past m c (512 * (t.val / 2) + p) (2816 + (1408 * (t.val % 2) + q))

theorem hY (t : Fin cfg0.N) (p : Fin 512) (q : Fin 1408) : k0_pay5 (F := Ideal) (iblk m c 2 t) (ix2 p q) = G' m c t (8 + p.val) q.val := by
  rw [pay5_at]
  exact blkY m c t p q

theorem hK (t : Fin cfg0.N) (p : Fin 8) (q : Fin 1408) : k0_pay4 (F := Ideal) (grid0.coords t) (iblk m c 3 t) (ix2 p q) = G' m c t p.val q.val := by
  rw [pay4_at, coord]
  by_cases h : t.val / 2 = 0
  · rw [if_pos h]
    exact (past_zero m c _ _ (by omega)).symm
  · rw [if_neg h]
    exact blkK m c t h p q

/-- A load of 512 of the buffer's rows. -/
theorem tap' (t : Fin cfg0.N) {o : ℕ} (i3 : ∀ k, (![o, 0] : Fin 2 → ℕ) k + (![512, 1408] : Fin 2 → ℕ) k ≤ S520x1408.size k) (p : Fin 512) (q : Fin 1408) :
    ((View.whole cc0_scratch1).readCov (Val := Elt Ideal)
      [⟨Rect.unit ![8, 0] ![512, 1408] inb_S520x1408_S512x1408_8_0, k0_pay5 (F := Ideal) (iblk m c 2 t)⟩,
        ⟨Rect.unit ![0, 0] ![8, 1408] inb_S520x1408_S8x1408_0_0, k0_pay4 (F := Ideal) (grid0.coords t) (iblk m c 3 t)⟩]
      (Rect.unit (s := S520x1408) ![o, 0] ![512, 1408] i3).toLoadRect : S512x1408.Idx → EReal) (ix2 p q) = G' m c t (o + p.val) q.val :=
  load_rows (N := 520) (a := 8) (b := 512) (R := 512) (C := 1408) (o := o) (Val := Elt Ideal) (e := .f32) (View.whole cc0_scratch1) rfl inb_S520x1408_S512x1408_8_0 inb_S520x1408_S8x1408_0_0 i3
    (k0_pay5 (F := Ideal) (iblk m c 2 t)) (k0_pay4 (F := Ideal) (grid0.coords t) (iblk m c 3 t)) (G' m c t) (hY m c t) (hK m c t) p q

theorem out (t : Fin cfg0.N) (p : Fin 512) (q : Fin 1408) (n : Fin 8192) (k : Fin 2816) (hn : n.val = 512 * (t.val / 2) + p.val) (hk : k.val = 1408 * (t.val % 2) + q.val) :
    outsAt0 m c t (ix2 p q) = res m c (ix2 n k) := by
  have hg : (cg k).val = 0 + (1408 * (t.val % 2) + q.val) := by
    show k.val = _
    omega
  have hv : (cv k).val = 2816 + (1408 * (t.val % 2) + q.val) := by
    show 2816 + k.val = _
    omega
  unfold outsAt0
  frame_out
  refine (pay1_at _ _ p q).trans ?_
  have e : ∀ a b a' b' : EReal, a' = a → b' = b → a * sg a * b = a' * sg a' * b' := by
    rintro a b _ _ rfl rfl
    rfl
  refine e _ _ (conv m c n (cg k)) (conv m c n (cv k)) ?_ ?_
  ·
    rw [pay7_at]
    unfold conv
    refine congrArg₂ (· + ·) (congrArg₂ (· + ·) (congrArg₂ (· + ·) (congrArg (· + 0) ?_) ?_) ?_) ?_
    · exact (blkB m c t q _ hg).symm
    all_goals refine congrArg₂ (· * ·) (Eq.trans ?_ (tap m c t _ p q).symm) ?_
    all_goals first
      | refine congrArg₂ (past m c) ?_ hg
        omega
      | exact ((row (A := 3) (D := 1408) (C := 1408) (bW m c t) (by decide) (by decide) _ q).trans (blkW m c t _ _ _ (by show _ = _ + (_ + (0 + q.val)); omega))).symm
  ·
    rw [pay8_at]
    unfold conv
    refine congrArg₂ (· + ·) (congrArg₂ (· + ·) (congrArg₂ (· + ·) (congrArg (· + 0) ?_) ?_) ?_) ?_
    · exact (blkC m c t q _ hv).symm
    all_goals refine congrArg₂ (· * ·) (Eq.trans ?_ (tap' m c t _ p q).symm) ?_
    all_goals first
      | refine congrArg₂ (past m c) ?_ hv
        omega
      | exact ((row (A := 3) (D := 1408) (C := 1408) (bU m c t) (by decide) (by decide) _ q).trans (blkU m c t _ _ _ (by show _ = _ + (_ + (0 + q.val)); omega))).symm

theorem eta (y : S512x1408.Idx) : y = ix2 (y 0) (y 1) := by
  funext a
  match a with
  | ⟨0, _⟩ => rfl
  | ⟨1, _⟩ => rfl

/-- The output's array. -/
theorem arr : (dats m 0 c).arrAt 8 cfg0.N = res m c := by
  refine (dats m 0 c).arrAt_eq_of_covers 8 _ (by decide +kernel) fun t hf y => ?_
  have ht : t.val < 32 := lt_of_lt_of_eq t.isLt N_0
  have hi := (idx t).2.2.2.2.2.2.2.2
  have e0 : ((win0_8.blk t).view.emb y 0).val = 512 * (t.val / 2) + (y 0).val := by blk_simp [hi] <;> omega
  have e1 : ((win0_8.blk t).view.emb y 1).val = 1408 * (t.val % 2) + (y 1).val := by blk_simp [hi] <;> omega
  have h := out m c t (y 0) (y 1) ((win0_8.blk t).view.emb y 0) ((win0_8.blk t).view.emb y 1) e0 e1
  rw [after0_8]
  generalize outsAt0 m c t = Z at h ⊢
  refine (congrArg (fun z : S512x1408.Idx => Z z) (eta y)).trans (h.trans (congrArg (res m c) (funext fun a => ?_)))
  match a with
  | ⟨0, _⟩ => rfl
  | ⟨1, _⟩ => rfl

/-! The reference. -/

open Cert.Reference19Ideal.Read in
theorem refPast (r : Fin 8194) (k : Fin 5632) : val_main_v1 (F := Ideal) (X m c) (ix2 r k) = past m c (6 + r.val) k.val := by
  unfold val_main_v1
  by_cases h : r.val < 2
  · rw [past_zero m c _ _ (by omega)]
    refine (concatenate_pair_apply_left (t := Reference19Ideal.S8194x5632) (s₁ := Reference19Ideal.S2x5632) (s₂ := Reference19Ideal.S8192x5632) 0 _ _ _ _ rfl (ix2 ⟨r.val, h⟩ k) (fun b => ?_)).trans ?_
    · match b with
      | ⟨0, _⟩ => rfl
      | ⟨1, _⟩ => rfl
    · rw [val_main_v0_apply, val_main_cst_apply]
      exact Sums.zero_word
  · unfold past
    rw [dif_pos (by omega)]
    refine (concatenate_pair_apply_right (t := Reference19Ideal.S8194x5632) (s₁ := Reference19Ideal.S2x5632) (s₂ := Reference19Ideal.S8192x5632) 0 _ _ _ _ rfl rfl (ix2 ⟨r.val - 2, by omega⟩ k) (fun b hb => ?_) ?_).trans ?_
    · match b with
      | ⟨0, _⟩ => exact absurd rfl hb
      | ⟨1, _⟩ => rfl
    · show r.val - 2 + 2 = r.val
      omega
    · refine congrArg (X m c) (funext fun a => ?_)
      match a with
      | ⟨0, _⟩ => exact Fin.ext (by show r.val - 2 = 6 + r.val - 8; omega)
      | ⟨1, _⟩ => rfl

open Cert.Reference19Ideal.Read in
theorem refConv (j : S8192x5632.Idx) : val_main_v24 (F := Ideal) (X m c) (W m c) (B m c) j = conv m c (j 0) (j 1) := by
  have h0 : (j 0).val < 8192 := (j 0).isLt
  have h1 : (j 1).val < 5632 := (j 1).isLt
  have p0 : val_main_v2 (F := Ideal) (X m c) j = past m c (6 + (j 0).val) (j 1).val := by
    rw [val_main_v2_apply]
    refine (congrArg _ ?_).trans ((refPast m c ⟨(j 0).val, by omega⟩ (j 1)).trans (congrArg (past m c · _) (by show 6 + ((j 0).val) = _; omega)))
    funext a
    match a with
    | ⟨0, _⟩ => rfl
    | ⟨1, _⟩ => rfl
  have w0 : val_main_v6 (F := Ideal) (W m c) j = W m c (ix2 0 (j 1)) := by
    rw [val_main_v6_apply, val_main_v5_apply, val_main_v4_apply, val_main_v3_apply]
    refine congrArg (W m c) (funext fun a => ?_)
    match a with
    | ⟨0, _⟩ => rfl
    | ⟨1, _⟩ => exact Fin.ext (Nat.mod_eq_of_lt h1)
  have p1 : val_main_v8 (F := Ideal) (X m c) j = past m c (7 + (j 0).val) (j 1).val := by
    rw [val_main_v8_apply]
    refine (congrArg _ ?_).trans ((refPast m c ⟨1 + (j 0).val, by omega⟩ (j 1)).trans (congrArg (past m c · _) (by show 6 + (1 + (j 0).val) = _; omega)))
    funext a
    match a with
    | ⟨0, _⟩ => rfl
    | ⟨1, _⟩ => rfl
  have w1 : val_main_v12 (F := Ideal) (W m c) j = W m c (ix2 1 (j 1)) := by
    rw [val_main_v12_apply, val_main_v11_apply, val_main_v10_apply, val_main_v9_apply]
    refine congrArg (W m c) (funext fun a => ?_)
    match a with
    | ⟨0, _⟩ => rfl
    | ⟨1, _⟩ => exact Fin.ext (Nat.mod_eq_of_lt h1)
  have p2 : val_main_v15 (F := Ideal) (X m c) j = past m c (8 + (j 0).val) (j 1).val := by
    rw [val_main_v15_apply]
    refine (congrArg _ ?_).trans ((refPast m c ⟨2 + (j 0).val, by omega⟩ (j 1)).trans (congrArg (past m c · _) (by show 6 + (2 + (j 0).val) = _; omega)))
    funext a
    match a with
    | ⟨0, _⟩ => rfl
    | ⟨1, _⟩ => rfl
  have w2 : val_main_v19 (F := Ideal) (W m c) j = W m c (ix2 2 (j 1)) := by
    rw [val_main_v19_apply, val_main_v18_apply, val_main_v17_apply, val_main_v16_apply]
    refine congrArg (W m c) (funext fun a => ?_)
    match a with
    | ⟨0, _⟩ => rfl
    | ⟨1, _⟩ => exact Fin.ext (Nat.mod_eq_of_lt h1)
  have b0 : val_main_v23 (F := Ideal) (B m c) j = B m c (ix1 (j 1)) := by
    rw [val_main_v23_apply, val_main_v22_apply]
    refine congrArg (B m c) (funext fun a => ?_)
    match a with
    | ⟨0, _⟩ => rfl
  rw [val_main_v24_apply, val_main_v21_apply, val_main_v14_apply, val_main_v7_apply, val_main_v13_apply, val_main_v20_apply, p0, p1, p2, w0, w1, w2, b0]
  unfold conv
  have key : ∀ b x0 x1 x2 : EReal, x0 + x1 + x2 + b = b + 0 + x0 + x1 + x2 := by
    intro b x0 x1 x2
    rw [add_zero]
    ac_rfl
  exact key _ _ _ _

open Cert.Reference19Ideal.Read in
theorem ref (j : S8192x2816.Idx) : val_main_v29 (F := Ideal) (X m c) (W m c) (B m c) j = res m c j := by
  have o1 : (FloatOps.ofBits (F := Ideal) FTy.f32 0x3F800000#32 : EReal) = 1 := one_word
  have hg : val_main_v25 (F := Ideal) (X m c) (W m c) (B m c) j = conv m c (j 0) (cg (j 1)) := by
    rw [val_main_v25_apply, refConv]
    rfl
  have hv : val_main_v26 (F := Ideal) (X m c) (W m c) (B m c) j = conv m c (j 0) (cv (j 1)) := by
    rw [val_main_v26_apply, refConv]
    rfl
  rw [val_main_v29_apply, val_main_v28_apply, val_main_v27_apply, val_main_call0_v5_apply, val_main_call0_v4_apply, val_main_call0_cst_0_apply, val_main_call0_v3_apply, val_main_call0_v2_apply,
    val_main_call0_cst_apply, val_main_call0_v1_apply, val_main_call0_v0_apply, hg, hv, o1]
  rfl

end

/-- The results are equal. -/
theorem algebraic : Cert.algebraic_Kernel19Ideal_Reference19Ideal (hKernel19Ideal := Cert.Kernel19Ideal.Gen.facts) (hReference19Ideal := Cert.Reference19Ideal.Gen.facts) := by
  intro m g m' g' _ ha
  refine ⟨_, Cert.Kernel19Ideal.Value.run_blocks m g, (θ_run Cert.Reference19Ideal.defs _ _).mono (fun r h c => ?_) (Cert.Reference19Ideal.Value.run m' g')⟩
  refine ⟨((h c).1.trans (Cert.Reference19Ideal.Read.val_main_v29_eq _ _)).trans ?_, (h c).2⟩
  obtain ⟨a0, a1, a2⟩ := ha c
  rw [a0, a1, a2]
  exact (funext fun j => ref m c j).trans (arr m c).symm

/-- The three frames. -/
theorem frame_kernel : Cert.quiescent_Kernel19 (hKernel19 := Cert.Kernel19.Gen.facts) := fun m ρ _ => Cert.Kernel19.Gen.frame m ρ

theorem frame_kernelIdeal : Cert.quiescent_Kernel19Ideal (hKernel19Ideal := Cert.Kernel19Ideal.Gen.facts) := fun m ρ _ => Cert.Kernel19Ideal.Gen.frame m ρ

theorem frame_referenceIdeal : Cert.quiescent_Reference19Ideal (hReference19Ideal := Cert.Reference19Ideal.Gen.facts) := fun m ρ _ =>
  (θ_run Cert.Reference19Ideal.defs _ _).mono (fun r h => ⟨fun c => (h c).2, sem_eq_zero_of_no_sems rfl r.2⟩) (Cert.Reference19Ideal.Value.run m ρ)

end Cert.Kernel19Ideal.Val
-- ==== Proof.Conv20.lean ====
/- The gradient through the gate of the state-space heads' convolution: every tile reads its rows and the rows before them. -/
module

public import proofs.«01_k».proof.Defs
public import proofs.«01_k».proof.Proof.Conv
public import proofs.«01_k».proof.Proof.Sums
public import proofs.«01_k».proof.Proof.Finite
public import proofs.«01_k».proof.Pre_finite20
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Pre_finite20

open Idealize.ShloMosaic

/-- The shape relations the precondition's operations state. -/
theorem facts : Facts where
  bcast_S_S8192x768 := by decide
  reducesTo_S8192x768_S_d0_1 := by decide
  h_S_ := by decide

variable [Facts]

theorem all_real {x0 : S8192x2048.Idx → EReal} {x1 : S4x768.Idx → EReal} {x2 : S768.Idx → EReal} {x3 : S8192x768.Idx → EReal}
    (h : fn (F := Ideal) x0 x1 x2 x3 = fun _ => 1#1) (j : S8192x768.Idx) : x3 j ≠ ⊤ ∧ x3 j ≠ ⊥ := by
  haveI : Subsingleton S_.Idx := ⟨fun a b => funext fun i => i.elim0⟩
  have h0 := congrFun h ValueIdx.ix0
  dsimp only [fn] at h0
  exact Cert.Pre_finite.real_of_lt _ (Host.reduce_andi_all _ _ _ _ _ h0 j)

end Cert.Pre_finite20

namespace Cert.Kernel20Ideal.Val

open Idealize.ShloMosaic Idealize.ShloMosaic.TcCoe Idealize.SL.Sem Cert.Kernel20Ideal Cert.Kernel20Ideal.Gen Cert.Conv

section
variable (m : (ℓ : Loc nD τ sig) → Buf (Elt Ideal) ℓ) (c : Dev nD)

/-- The projections. -/
abbrev X : S8192x2048.Idx → EReal := m ((c : Thread nD τ).loc main_arg0)
/-- The taps. -/
abbrev W : S4x768.Idx → EReal := m ((c : Thread nD τ).loc main_arg1)
/-- The bias. -/
abbrev B : S768.Idx → EReal := m ((c : Thread nD τ).loc main_arg2)
/-- The gradient of the gate's result. -/
abbrev D : S8192x768.Idx → EReal := m ((c : Thread nD τ).loc main_arg3)

theorem readX (y : S8192x2048.Idx) : (V m c main_arg0 : S8192x2048.Idx → EReal) y = X m c y := by
  rw [V_main_arg0]

theorem readB (y : S1x768.Idx) : (V m c main_v0 : S1x768.Idx → EReal) y = B m c (ix1 (y 1)) := by
  unfold V
  after_reads_at

theorem idx : ∀ t : Fin cfg0.N, win0_0.index t = ![t.val / 3, 2 + t.val % 3]
    ∧ win0_1.index t = ![64 * (t.val / 3) - 1, 2 + t.val % 3]
    ∧ win0_2.index t = ![0, t.val % 3]
    ∧ win0_3.index t = ![0, t.val % 3]
    ∧ win0_4.index t = ![t.val / 3, t.val % 3]
    ∧ win0_5.index t = ![t.val / 3, t.val % 3] := by decide +kernel

/-- Row `n` of the projections' block behind eight rows of zeros. -/
def past (n k : ℕ) : EReal := if h : 8 ≤ n ∧ n < 8200 ∧ k < 768 then X m c (ix2 ⟨n - 8, by omega⟩ ⟨512 + k, by omega⟩) else 0

theorem past_zero (n k : ℕ) (h : n < 8) : past m c n k = 0 := dif_neg (by omega)

theorem pay2_at (i : grid0.Coords) (h : Vec Ideal S8x256 .f32) (p : Fin 8) (q : Fin 256) :
    k0_pay2 (F := Ideal) i h (ix2 p q) = if (i 0).val = 0 then 0 else h (ix2 p q) := by
  have e : k0_pay2 (F := Ideal) i h (ix2 p q) = Scalar.select (Scalar.cmpi CmpIPredicate.sgt (BitVec.ofNat 32 (i 0).val) 0#32) (h (ix2 p q)) 0 := by
    rw [← Sums.zero_word]
    pointwise [k0_pay2]
  rw [e]
  have hl : (i 0).val < 16 := (i 0).isLt
  generalize (i 0).val = n at hl ⊢
  have hw : ∀ n : Fin 16, Scalar.cmpi CmpIPredicate.sgt (BitVec.ofNat 32 n.val) 0#32 = if n.val = 0 then 0#1 else 1#1 := by decide
  rw [hw ⟨n, hl⟩]
  dsimp only
  by_cases h0 : n = 0
  · rw [if_pos h0, if_pos h0]
    rfl
  · rw [if_neg h0, if_neg h0]
    rfl

theorem pay3_at (x : Vec Ideal S512x256 .f32) (p : Fin 512) (q : Fin 256) :
    k0_pay3 (F := Ideal) x (ix2 p q) = x (ix2 p q) := by
  pointwise [k0_pay3]

theorem pay4_at (b : Vec Ideal S1x256 .f32) (x0 x1 x2 : Vec Ideal S512x256 .f32) (w0 w1 w2 : Vec Ideal S1x256 .f32) (p : Fin 512) (q : Fin 256) :
    k0_pay4 (F := Ideal) b x0 w0 x1 w1 x2 w2 (ix2 p q)
      = b (ix2 0 q) + 0 + x0 (ix2 p q) * w0 (ix2 0 q) + x1 (ix2 p q) * w1 (ix2 0 q) + x2 (ix2 p q) * w2 (ix2 0 q) := by
  rw [← Sums.zero_word]
  pointwise [k0_pay4]

theorem pay1_at (u x : Vec Ideal S512x256 .f32) (w : Vec Ideal S1x256 .f32) (d : Vec Ideal S512x256 .f32) (p : Fin 512) (q : Fin 256) (z : EReal)
    (hz : z = u (ix2 p q) + x (ix2 p q) * w (ix2 0 q)) :
    k0_pay1 (F := Ideal) u x w d (ix2 p q) = d (ix2 p q) * (sg z * (1 + z * (1 - sg z))) := by
  subst hz
  show _ = d (ix2 p q) * (Ideal.div 1 (1 + Ideal.exp (-_)) * (1 + _ * (1 - Ideal.div 1 (1 + Ideal.exp (-_)))))
  rw [← zero_sub, ← Sums.zero_word, ← one_word]
  pointwise [k0_pay1]

/-- Row `n` of the convolution before its gate. -/
def conv (n : Fin 8192) (k : Fin 768) : EReal :=
  B m c (ix1 k) + 0 + past m c (5 + n.val) k.val * W m c (ix2 0 k) + past m c (6 + n.val) k.val * W m c (ix2 1 k)
    + past m c (7 + n.val) k.val * W m c (ix2 2 k) + past m c (8 + n.val) k.val * W m c (ix2 3 k)

/-- The result: the gradient through the gate. -/
def res : S8192x768.Idx → EReal := fun j =>
  D m c j * (sg (conv m c (j 0) (j 1)) * (1 + conv m c (j 0) (j 1) * (1 - sg (conv m c (j 0) (j 1)))))

abbrev bX (t : Fin cfg0.N) : S512x256.Idx → EReal := iblk m c 0 t
abbrev bH (t : Fin cfg0.N) : S8x256.Idx → EReal := iblk m c 1 t
abbrev bW (t : Fin cfg0.N) : S4x256.Idx → EReal := iblk m c 2 t
abbrev bB (t : Fin cfg0.N) : S1x256.Idx → EReal := iblk m c 3 t
abbrev bD (t : Fin cfg0.N) : S512x256.Idx → EReal := iblk m c 4 t

theorem blkX (t : Fin cfg0.N) (p : Fin 512) (q : Fin 256) :
    bX m c t (ix2 p q) = past m c (512 * (t.val / 3) + (8 + p.val)) (256 * (t.val % 3) + q.val) := by
  have ht : t.val < 48 := lt_of_lt_of_eq t.isLt N_0
  have hx := (idx t).1
  unfold past
  rw [dif_pos (by omega)]
  refine Eq.trans ?_ (readX m c _)
  blk_ext [bX, iblk, hx] <;> omega

theorem blkH (t : Fin cfg0.N) (h : ¬t.val / 3 = 0) (p : Fin 8) (q : Fin 256) :
    bH m c t (ix2 p q) = past m c (512 * (t.val / 3) + p.val) (256 * (t.val % 3) + q.val) := by
  have ht : t.val < 48 := lt_of_lt_of_eq t.isLt N_0
  have hx := (idx t).2.1
  unfold past
  rw [dif_pos (by omega)]
  refine Eq.trans ?_ (readX m c _)
  blk_ext [bH, iblk, hx] <;> omega

theorem blkW (t : Fin cfg0.N) (p : Fin 4) (q : Fin 256) (k : Fin 768) (hk : k.val = 256 * (t.val % 3) + q.val) :
    bW m c t (ix2 p q) = W m c (ix2 p k) := by
  have hx := (idx t).2.2.1
  refine Eq.trans ?_ (congrFun (V_main_arg1 m c) _)
  blk_ext [bW, iblk, hx] <;> omega

theorem blkB (t : Fin cfg0.N) (q : Fin 256) (k : Fin 768) (hk : k.val = 256 * (t.val % 3) + q.val) :
    bB m c t (ix2 0 q) = B m c (ix1 k) := by
  have hx := (idx t).2.2.2.1
  refine Eq.trans ?_ (readB m c (ix2 0 k))
  blk_ext [bB, iblk, hx] <;> omega

theorem blkD (t : Fin cfg0.N) (p : Fin 512) (q : Fin 256) (n : Fin 8192) (k : Fin 768) (hn : n.val = 512 * (t.val / 3) + p.val) (hk : k.val = 256 * (t.val % 3) + q.val) :
    bD m c t (ix2 p q) = D m c (ix2 n k) := by
  have hx := (idx t).2.2.2.2.1
  refine Eq.trans ?_ (congrFun (V_main_arg3 m c) _)
  blk_ext [bD, iblk, hx] <;> omega

theorem coord : ∀ t : Fin cfg0.N, (grid0.coords t 0).val = t.val / 3 := by decide +kernel

/-- What the buffer holds, row by row. -/
abbrev G (t : Fin cfg0.N) (p q : ℕ) : EReal := past m c (512 * (t.val / 3) + p) (256 * (t.val % 3) + q)

theorem hX (t : Fin cfg0.N) (p : Fin 512) (q : Fin 256) : k0_pay3 (F := Ideal) (iblk m c 0 t) (ix2 p q) = G m c t (8 + p.val) q.val := by
  rw [pay3_at]
  exact blkX m c t p q

theorem hH (t : Fin cfg0.N) (p : Fin 8) (q : Fin 256) : k0_pay2 (F := Ideal) (grid0.coords t) (iblk m c 1 t) (ix2 p q) = G m c t p.val q.val := by
  rw [pay2_at, coord]
  by_cases h : t.val / 3 = 0
  · rw [if_pos h]
    exact (past_zero m c _ _ (by omega)).symm
  · rw [if_neg h]
    exact blkH m c t h p q

/-- A load of 512 of the buffer's rows. -/
theorem tap (t : Fin cfg0.N) {o : ℕ} (i3 : ∀ k, (![o, 0] : Fin 2 → ℕ) k + (![512, 256] : Fin 2 → ℕ) k ≤ S520x256.size k) (p : Fin 512) (q : Fin 256) :
    ((View.whole cc0_scratch0).readCov (Val := Elt Ideal)
      [⟨Rect.unit ![8, 0] ![512, 256] inb_S520x256_S512x256_8_0, k0_pay3 (F := Ideal) (iblk m c 0 t)⟩,
        ⟨Rect.unit ![0, 0] ![8, 256] inb_S520x256_S8x256_0_0, k0_pay2 (F := Ideal) (grid0.coords t) (iblk m c 1 t)⟩]
      (Rect.unit (s := S520x256) ![o, 0] ![512, 256] i3).toLoadRect : S512x256.Idx → EReal) (ix2 p q) = G m c t (o + p.val) q.val :=
  load_rows (N := 520) (a := 8) (b := 512) (R := 512) (C := 256) (o := o) (Val := Elt Ideal) (e := .f32) (View.whole cc0_scratch0) rfl inb_S520x256_S512x256_8_0 inb_S520x256_S8x256_0_0 i3
    (k0_pay3 (F := Ideal) (iblk m c 0 t)) (k0_pay2 (F := Ideal) (grid0.coords t) (iblk m c 1 t)) (G m c t) (hX m c t) (hH m c t) p q

theorem out (t : Fin cfg0.N) (p : Fin 512) (q : Fin 256) (n : Fin 8192) (k : Fin 768) (hn : n.val = 512 * (t.val / 3) + p.val) (hk : k.val = 256 * (t.val % 3) + q.val) :
    outsAt0 m c t (ix2 p q) = res m c (ix2 n k) := by
  unfold outsAt0
  frame_out
  refine (pay1_at _ _ _ _ p q (conv m c n k) ?_).trans ?_
  · rw [pay4_at]
    unfold conv
    refine congrArg₂ (· + ·) (congrArg₂ (· + ·) (congrArg₂ (· + ·) (congrArg₂ (· + ·) (congrArg (· + 0) ?_) ?_) ?_) ?_) ?_
    · exact (blkB m c t q k hk).symm
    all_goals refine congrArg₂ (· * ·) (Eq.trans ?_ (tap m c t _ p q).symm) ?_
    all_goals first
      | refine congrArg₂ (past m c) ?_ hk
        omega
      | exact ((row (A := 4) (D := 256) (C := 256) (bW m c t) (by decide) (by decide) _ q).trans (blkW m c t _ _ k (by show _ = _ + (0 + q.val); omega))).symm
  · unfold res
    rw [ix2_0, ix2_1]
    exact congrArg (· * _) (blkD m c t p q n k hn hk)

theorem eta (y : S512x256.Idx) : y = ix2 (y 0) (y 1) := by
  funext a
  match a with
  | ⟨0, _⟩ => rfl
  | ⟨1, _⟩ => rfl

/-- The output's array. -/
theorem arr : (dats m 0 c).arrAt 5 cfg0.N = res m c := by
  refine (dats m 0 c).arrAt_eq_of_covers 5 _ (by decide +kernel) fun t hf y => ?_
  have ht : t.val < 48 := lt_of_lt_of_eq t.isLt N_0
  have hi := (idx t).2.2.2.2.2
  have e0 : ((win0_5.blk t).view.emb y 0).val = 512 * (t.val / 3) + (y 0).val := by blk_simp [hi] <;> omega
  have e1 : ((win0_5.blk t).view.emb y 1).val = 256 * (t.val % 3) + (y 1).val := by blk_simp [hi] <;> omega
  have h := out m c t (y 0) (y 1) ((win0_5.blk t).view.emb y 0) ((win0_5.blk t).view.emb y 1) e0 e1
  rw [after0_5]
  generalize outsAt0 m c t = Z at h ⊢
  refine (congrArg (fun z : S512x256.Idx => Z z) (eta y)).trans (h.trans (congrArg (res m c) (funext fun a => ?_)))
  match a with
  | ⟨0, _⟩ => rfl
  | ⟨1, _⟩ => rfl

/-! The reference. -/

open Cert.Reference20Ideal.Read in
theorem refPast (r : Fin 8195) (k : Fin 768) : val_main_v2 (F := Ideal) (X m c) (ix2 r k) = past m c (5 + r.val) k.val := by
  unfold val_main_v2
  by_cases h : r.val < 3
  · rw [past_zero m c _ _ (by omega)]
    refine (concatenate_pair_apply_left (t := Reference20Ideal.S8195x768) (s₁ := Reference20Ideal.S3x768) (s₂ := Reference20Ideal.S8192x768) 0 _ _ _ _ rfl (ix2 ⟨r.val, h⟩ k) (fun b => ?_)).trans ?_
    · match b with
      | ⟨0, _⟩ => rfl
      | ⟨1, _⟩ => rfl
    · rw [val_main_v1_apply, val_main_cst_apply]
      exact Sums.zero_word
  · unfold past
    rw [dif_pos (by omega)]
    refine (concatenate_pair_apply_right (t := Reference20Ideal.S8195x768) (s₁ := Reference20Ideal.S3x768) (s₂ := Reference20Ideal.S8192x768) 0 _ _ _ _ rfl rfl (ix2 ⟨r.val - 3, by omega⟩ k) (fun b hb => ?_) ?_).trans ?_
    · match b with
      | ⟨0, _⟩ => exact absurd rfl hb
      | ⟨1, _⟩ => rfl
    · show r.val - 3 + 3 = r.val
      omega
    · rw [val_main_v0_apply]
      refine congrArg (X m c) (funext fun a => ?_)
      match a with
      | ⟨0, _⟩ => exact Fin.ext (by show r.val - 3 = 5 + r.val - 8; omega)
      | ⟨1, _⟩ => rfl

open Cert.Reference20Ideal.Read in
theorem refConv (j : S8192x768.Idx) : val_main_v32 (F := Ideal) (X m c) (W m c) (B m c) j = conv m c (j 0) (j 1) := by
  have h0 : (j 0).val < 8192 := (j 0).isLt
  have h1 : (j 1).val < 768 := (j 1).isLt
  have p0 : val_main_v3 (F := Ideal) (X m c) j = past m c (5 + (j 0).val) (j 1).val := by
    rw [val_main_v3_apply]
    refine (congrArg _ ?_).trans (refPast m c ⟨(j 0).val, by omega⟩ (j 1))
    funext a
    match a with
    | ⟨0, _⟩ => rfl
    | ⟨1, _⟩ => rfl
  have p1 : val_main_v9 (F := Ideal) (X m c) j = past m c (6 + (j 0).val) (j 1).val := by
    rw [val_main_v9_apply]
    refine (congrArg _ ?_).trans ((refPast m c ⟨1 + (j 0).val, by omega⟩ (j 1)).trans (congrArg (past m c · _) (by show 5 + (1 + (j 0).val) = _; omega)))
    funext a
    match a with
    | ⟨0, _⟩ => rfl
    | ⟨1, _⟩ => rfl
  have p2 : val_main_v16 (F := Ideal) (X m c) j = past m c (7 + (j 0).val) (j 1).val := by
    rw [val_main_v16_apply]
    refine (congrArg _ ?_).trans ((refPast m c ⟨2 + (j 0).val, by omega⟩ (j 1)).trans (congrArg (past m c · _) (by show 5 + (2 + (j 0).val) = _; omega)))
    funext a
    match a with
    | ⟨0, _⟩ => rfl
    | ⟨1, _⟩ => rfl
  have p3 : val_main_v23 (F := Ideal) (X m c) j = past m c (8 + (j 0).val) (j 1).val := by
    rw [val_main_v23_apply]
    refine (congrArg _ ?_).trans ((refPast m c ⟨3 + (j 0).val, by omega⟩ (j 1)).trans (congrArg (past m c · _) (by show 5 + (3 + (j 0).val) = _; omega)))
    funext a
    match a with
    | ⟨0, _⟩ => rfl
    | ⟨1, _⟩ => rfl
  have w0 : val_main_v7 (F := Ideal) (W m c) j = W m c (ix2 0 (j 1)) := by
    rw [val_main_v7_apply, val_main_v6_apply, val_main_v5_apply, val_main_v4_apply]
    refine congrArg (W m c) (funext fun a => ?_)
    match a with
    | ⟨0, _⟩ => rfl
    | ⟨1, _⟩ => exact Fin.ext (Nat.mod_eq_of_lt h1)
  have w1 : val_main_v13 (F := Ideal) (W m c) j = W m c (ix2 1 (j 1)) := by
    rw [val_main_v13_apply, val_main_v12_apply, val_main_v11_apply, val_main_v10_apply]
    refine congrArg (W m c) (funext fun a => ?_)
    match a with
    | ⟨0, _⟩ => rfl
    | ⟨1, _⟩ => exact Fin.ext (Nat.mod_eq_of_lt h1)
  have w2 : val_main_v20 (F := Ideal) (W m c) j = W m c (ix2 2 (j 1)) := by
    rw [val_main_v20_apply, val_main_v19_apply, val_main_v18_apply, val_main_v17_apply]
    refine congrArg (W m c) (funext fun a => ?_)
    match a with
    | ⟨0, _⟩ => rfl
    | ⟨1, _⟩ => exact Fin.ext (Nat.mod_eq_of_lt h1)
  have w3 : val_main_v27 (F := Ideal) (W m c) j = W m c (ix2 3 (j 1)) := by
    rw [val_main_v27_apply, val_main_v26_apply, val_main_v25_apply, val_main_v24_apply]
    refine congrArg (W m c) (funext fun a => ?_)
    match a with
    | ⟨0, _⟩ => rfl
    | ⟨1, _⟩ => exact Fin.ext (Nat.mod_eq_of_lt h1)
  have b0 : val_main_v31 (F := Ideal) (B m c) j = B m c (ix1 (j 1)) := by
    rw [val_main_v31_apply, val_main_v30_apply]
    refine congrArg (B m c) (funext fun a => ?_)
    match a with
    | ⟨0, _⟩ => rfl
  rw [val_main_v32_apply, val_main_v29_apply, val_main_v22_apply, val_main_v15_apply, val_main_v8_apply, val_main_v14_apply, val_main_v21_apply, val_main_v28_apply,
    p0, p1, p2, p3, w0, w1, w2, w3, b0]
  unfold conv
  have key : ∀ b x0 x1 x2 x3 : EReal, x0 + x1 + x2 + x3 + b = b + 0 + x0 + x1 + x2 + x3 := by
    intro b x0 x1 x2 x3
    rw [add_zero]
    ac_rfl
  exact key _ _ _ _ _

open Cert.Reference20Ideal.Read in
theorem ref (hd : ∀ j, D m c j ≠ ⊤ ∧ D m c j ≠ ⊥) (j : S8192x768.Idx) :
    val_main_v34 (F := Ideal) (X m c) (W m c) (B m c) (D m c) j = res m c j := by
  have o1 : (FloatOps.ofBits (F := Ideal) FTy.f32 0x3F800000#32 : EReal) = 1 := one_word
  rw [val_main_v34_apply, val_main_call1_v1_apply, val_main_call1_v2_apply, val_main_call1_v0_apply, val_main_v33_1_apply, val_main_call0_v7_apply, val_main_call0_v6_apply,
    val_main_call0_cst_1_apply, val_main_v33_2_apply, val_main_call0_v4_apply, val_main_call0_cst_0_apply, val_main_call0_v3_apply, val_main_call0_v2_apply,
    val_main_call0_cst_apply, val_main_call0_v1_apply, val_main_call0_v0_apply, refConv, o1]
  exact (silu_grad (conv m c (j 0) (j 1)) (D m c j) (hd j)).symm

end

/-- The results are equal. -/
theorem algebraic : Cert.algebraic_Kernel20Ideal_Reference20Ideal_pre_finite20 (hKernel20Ideal := Cert.Kernel20Ideal.Gen.facts)
    (hReference20Ideal := Cert.Reference20Ideal.Gen.facts) (hPre_finite20 := Cert.Pre_finite20.facts) := by
  intro m g m' g' hp ha
  have hd : ∀ c j, D m c j ≠ ⊤ ∧ D m c j ≠ ⊥ := fun c => by
    letI := Cert.Pre_finite20.facts
    exact Cert.Pre_finite20.all_real (hp c)
  refine ⟨_, Cert.Kernel20Ideal.Value.run_blocks m g, (θ_run Cert.Reference20Ideal.defs _ _).mono (fun r h c => ?_) (Cert.Reference20Ideal.Value.run m' g')⟩
  refine ⟨((h c).1.trans (Cert.Reference20Ideal.Read.val_main_v34_eq _ _)).trans ?_, (h c).2⟩
  obtain ⟨a0, a1, a2, a3⟩ := ha c
  rw [a0, a1, a2, a3]
  exact (funext fun j => ref m c (hd c) j).trans (arr m c).symm

/-- The three frames. -/
theorem frame_kernel : Cert.quiescent_Kernel20 (hKernel20 := Cert.Kernel20.Gen.facts) := fun m ρ _ => Cert.Kernel20.Gen.frame m ρ

theorem frame_kernelIdeal : Cert.quiescent_Kernel20Ideal (hKernel20Ideal := Cert.Kernel20Ideal.Gen.facts) := fun m ρ _ => Cert.Kernel20Ideal.Gen.frame m ρ

theorem frame_referenceIdeal : Cert.quiescent_Reference20Ideal (hReference20Ideal := Cert.Reference20Ideal.Gen.facts) := fun m ρ _ =>
  (θ_run Cert.Reference20Ideal.defs _ _).mono (fun r h => ⟨fun c => (h c).2, sem_eq_zero_of_no_sems rfl r.2⟩) (Cert.Reference20Ideal.Value.run m ρ)

end Cert.Kernel20Ideal.Val
-- ==== Proof.Conv21.lean ====
/- The gradient of the state space layer's convolution: of its rows, of its taps and of its bias. -/
module

public import proofs.«01_k».proof.Defs
public import proofs.«01_k».proof.Proof.Conv
public import proofs.«01_k».proof.Proof.Sums
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.VecWindow
public import Idealize.ShloMosaic.Lib.Pipeline.ValueKit
public import Idealize.ShloMosaic.Lib.StableHlo.ReadAt
public import Idealize.ShloMosaic.Lib.Quiescent
public import Idealize.ShloMosaic.Lib.KernelVsHost

@[expose] public section

noncomputable section

namespace Cert.Kernel21Ideal.Val

open Idealize.ShloMosaic Idealize.ShloMosaic.TcCoe Idealize.SL.Sem Cert.Kernel21Ideal Cert.Kernel21Ideal.Gen Cert.Conv

/-! A sum shifted. -/

theorem shift (M s : ℕ) (f g x : ℕ → EReal) (hf : ∀ n, M + s ≤ n → f n = 0) (h0 : ∀ n, n < s → g n = 0) (h1 : ∀ n, n < M → g (s + n) = x n) :
    ∑ n ∈ Finset.range (M + s), g n * f n = ∑ r ∈ Finset.range (M + s), f (r + s) * x r := by
  rw [Finset.sum_range_add (fun r => f (r + s) * x r), Nat.add_comm M s, Finset.sum_range_add (fun n => g n * f n)]
  rw [Finset.sum_eq_zero (s := Finset.range s) (f := fun n => g n * f n) fun n hn => by rw [h0 n (Finset.mem_range.mp hn), zero_mul],
    Finset.sum_eq_zero (s := Finset.range s) (f := fun n => f (M + n + s) * x (M + n)) fun n hn => by rw [hf _ (by omega), zero_mul], zero_add, add_zero]
  refine Finset.sum_congr rfl fun n hn => ?_
  rw [h1 n (Finset.mem_range.mp hn), mul_comm, Nat.add_comm s n]

section
variable (m : (ℓ : Loc nD τ sig) → Buf (Elt Ideal) ℓ) (c : Dev nD)

/-- The projections, of which columns 512 to 1280 were convolved. -/
abbrev X : S8192x2048.Idx → EReal := m ((c : Thread nD τ).loc main_arg0)
/-- The taps. -/
abbrev W : S4x768.Idx → EReal := m ((c : Thread nD τ).loc main_arg1)
/-- The gradient of the convolution's result. -/
abbrev D : S8192x768.Idx → EReal := m ((c : Thread nD τ).loc main_arg2)

theorem idx : ∀ t : Fin cfg0.N, win0_0.index t = ![t.val % 16, t.val / 16]
    ∧ win0_1.index t = ![min (64 * (t.val % 16 + 1)) 1023, t.val / 16]
    ∧ win0_2.index t = ![t.val % 16, 2 + t.val / 16]
    ∧ win0_3.index t = ![0, t.val / 16]
    ∧ win0_4.index t = ![t.val % 16, t.val / 16]
    ∧ win0_5.index t = ![0, t.val / 16]
    ∧ win0_6.index t = ![0, t.val / 16] := by decide +kernel

/-- Row `n` of the gradient, before rows of zeros. -/
def fut (n k : ℕ) : EReal := if h : n < 8192 ∧ k < 768 then D m c (ix2 ⟨n, h.1⟩ ⟨k, h.2⟩) else 0
/-- Row `n` of the convolved columns. -/
def inp (n k : ℕ) : EReal := if h : n < 8192 ∧ k < 768 then X m c (ix2 ⟨n, h.1⟩ ⟨512 + k, by omega⟩) else 0
/-- What row `r` adds to the gradient of the tap `s` rows back. -/
abbrev T (s k r : ℕ) : EReal := fut m c (r + s) k * inp m c r k

theorem fut_zero (n k : ℕ) (h : 8192 ≤ n) : fut m c n k = 0 := dif_neg (by omega)

theorem last_rows (n : ℕ) (hl : n < 16) (x y : EReal) : Scalar.select (Scalar.cmpi CmpIPredicate.slt (BitVec.ofNat 32 n) 15#32) x y = if n = 15 then y else x := by
  have hw : ∀ n : Fin 16, Scalar.cmpi CmpIPredicate.slt (BitVec.ofNat 32 n.val) 15#32 = if n.val = 15 then 0#1 else 1#1 := by decide
  rw [hw ⟨n, hl⟩]
  dsimp only
  by_cases h0 : n = 15
  · rw [if_pos h0, if_pos h0]
    rfl
  · rw [if_neg h0, if_neg h0]
    rfl

theorem pay4_at (i : grid0.Coords) (h : Vec Ideal S8x256 .f32) (p : Fin 8) (q : Fin 256) :
    k0_pay4 (F := Ideal) i h (ix2 p q) = if (i 1).val = 15 then 0 else h (ix2 p q) := by
  refine Eq.trans ?_ (last_rows (i 1).val (i 1).isLt (h (ix2 p q)) 0)
  rw [← Sums.zero_word]
  pointwise [k0_pay4]

theorem pay3_at (x : Vec Ideal S512x256 .f32) (p : Fin 512) (q : Fin 256) : k0_pay3 (F := Ideal) x (ix2 p q) = x (ix2 p q) := by
  pointwise [k0_pay3]

theorem pay5_at (p : Fin 4) (q : Fin 256) : k0_pay5 (F := Ideal) (ix2 p q) = 0 := by
  rw [← Sums.zero_word]
  pointwise [k0_pay5]

theorem pay6_at (p : Fin 1) (q : Fin 256) : k0_pay6 (F := Ideal) (ix2 p q) = 0 := by
  rw [← Sums.zero_word]
  pointwise [k0_pay6]

theorem pay1_at (d : Vec Ideal S512x256 .f32) (b : Vec Ideal S1x256 .f32) (q : Fin 256) :
    k0_pay1 (F := Ideal) d b (ix2 0 q) = b (ix2 0 q) + ∑ p : Fin 512, d (ix2 p q) := by
  pointwise [k0_pay1]

theorem pay8_at (x h : Vec Ideal S512x256 .f32) (w : Vec Ideal S1x256 .f32) (q : Fin 256) :
    k0_pay8 (F := Ideal) x h w (ix2 0 q) = w (ix2 0 q) + ∑ p : Fin 512, h (ix2 p q) * x (ix2 p q) := by
  pointwise [k0_pay8]

theorem pay9_at (x h : Vec Ideal S512x256 .f32) (w : Vec Ideal S1x256 .f32) (q : Fin 256) :
    k0_pay9 (F := Ideal) x h w (ix2 0 q) = w (ix2 0 q) + ∑ p : Fin 512, h (ix2 p q) * x (ix2 p q) := by
  pointwise [k0_pay9]

theorem pay10_at (x h : Vec Ideal S512x256 .f32) (w : Vec Ideal S1x256 .f32) (q : Fin 256) :
    k0_pay10 (F := Ideal) x h w (ix2 0 q) = w (ix2 0 q) + ∑ p : Fin 512, h (ix2 p q) * x (ix2 p q) := by
  pointwise [k0_pay10]

theorem pay12_at (x h : Vec Ideal S512x256 .f32) (w : Vec Ideal S1x256 .f32) (q : Fin 256) :
    k0_pay12 (F := Ideal) x h w (ix2 0 q) = w (ix2 0 q) + ∑ p : Fin 512, h (ix2 p q) * x (ix2 p q) := by
  pointwise [k0_pay12]

theorem pay2_at (x0 x1 x2 x3 : Vec Ideal S512x256 .f32) (w0 w1 w2 w3 : Vec Ideal S1x256 .f32) (p : Fin 512) (q : Fin 256) :
    k0_pay2 (F := Ideal) (k0_pay11 (F := Ideal) (k0_pay7 (F := Ideal) x0 w0) x1 w1 x2 w2 x3 w3) (ix2 p q)
      = 0 + x0 (ix2 p q) * w0 (ix2 0 q) + x1 (ix2 p q) * w1 (ix2 0 q) + x2 (ix2 p q) * w2 (ix2 0 q) + x3 (ix2 p q) * w3 (ix2 0 q) := by
  rw [← Sums.zero_word]
  pointwise [k0_pay2, k0_pay11, k0_pay7]

abbrev bD (t : Fin cfg0.N) : S512x256.Idx → EReal := iblk m c 0 t
abbrev bH (t : Fin cfg0.N) : S8x256.Idx → EReal := iblk m c 1 t
abbrev bX (t : Fin cfg0.N) : S512x256.Idx → EReal := iblk m c 2 t
abbrev bW (t : Fin cfg0.N) : S4x256.Idx → EReal := iblk m c 3 t

theorem blkD (t : Fin cfg0.N) (p : Fin 512) (q : Fin 256) : bD m c t (ix2 p q) = fut m c (512 * (t.val % 16) + p.val) (256 * (t.val / 16) + q.val) := by
  have ht : t.val < 48 := lt_of_lt_of_eq t.isLt N_0
  have hx := (idx t).1
  unfold fut
  rw [dif_pos (by omega)]
  refine Eq.trans ?_ (congrFun (V_main_arg2 m c) _)
  blk_ext [bD, iblk, hx] <;> omega

theorem blkH (t : Fin cfg0.N) (h : ¬t.val % 16 = 15) (p : Fin 8) (q : Fin 256) :
    bH m c t (ix2 p q) = fut m c (512 * (t.val % 16) + (512 + p.val)) (256 * (t.val / 16) + q.val) := by
  have ht : t.val < 48 := lt_of_lt_of_eq t.isLt N_0
  have hx := (idx t).2.1
  unfold fut
  rw [dif_pos (by omega)]
  refine Eq.trans ?_ (congrFun (V_main_arg2 m c) _)
  blk_ext [bH, iblk, hx] <;> omega

theorem blkX (t : Fin cfg0.N) (p : Fin 512) (q : Fin 256) : bX m c t (ix2 p q) = inp m c (512 * (t.val % 16) + p.val) (256 * (t.val / 16) + q.val) := by
  have ht : t.val < 48 := lt_of_lt_of_eq t.isLt N_0
  have hx := (idx t).2.2.1
  unfold inp
  rw [dif_pos (by omega)]
  refine Eq.trans ?_ (congrFun (V_main_arg0 m c) _)
  blk_ext [bX, iblk, hx] <;> omega

theorem blkW (t : Fin cfg0.N) (p : Fin 4) (q : Fin 256) (k : Fin 768) (hk : k.val = 256 * (t.val / 16) + q.val) : bW m c t (ix2 p q) = W m c (ix2 p k) := by
  have hx := (idx t).2.2.2.1
  refine Eq.trans ?_ (congrFun (V_main_arg1 m c) _)
  blk_ext [bW, iblk, hx] <;> omega

theorem coord : ∀ t : Fin cfg0.N, (grid0.coords t 1).val = t.val % 16 := by decide +kernel

/-- What the buffer holds, row by row. -/
abbrev G (t : Fin cfg0.N) (p q : ℕ) : EReal := fut m c (512 * (t.val % 16) + p) (256 * (t.val / 16) + q)

theorem hX (t : Fin cfg0.N) (p : Fin 8) (q : Fin 256) : k0_pay4 (F := Ideal) (grid0.coords t) (iblk m c 1 t) (ix2 p q) = G m c t (512 + p.val) q.val := by
  rw [pay4_at, coord]
  by_cases h : t.val % 16 = 15
  · rw [if_pos h]
    exact (fut_zero m c _ _ (by omega)).symm
  · rw [if_neg h]
    exact blkH m c t h p q

theorem hH (t : Fin cfg0.N) (p : Fin 512) (q : Fin 256) : k0_pay3 (F := Ideal) (iblk m c 0 t) (ix2 p q) = G m c t p.val q.val := by
  rw [pay3_at]
  exact blkD m c t p q

/-- A load of 512 of the buffer's rows. -/
theorem tap (t : Fin cfg0.N) {o : ℕ} (i3 : ∀ k, (![o, 0] : Fin 2 → ℕ) k + (![512, 256] : Fin 2 → ℕ) k ≤ S520x256.size k) (p : Fin 512) (q : Fin 256) :
    ((View.whole cc0_scratch0).readCov (Val := Elt Ideal)
      [⟨Rect.unit ![512, 0] ![8, 256] inb_S520x256_S8x256_512_0, k0_pay4 (F := Ideal) (grid0.coords t) (iblk m c 1 t)⟩,
        ⟨Rect.unit ![0, 0] ![512, 256] inb_S520x256_S512x256_0_0, k0_pay3 (F := Ideal) (iblk m c 0 t)⟩]
      (Rect.unit (s := S520x256) ![o, 0] ![512, 256] i3).toLoadRect : S512x256.Idx → EReal) (ix2 p q) = G m c t (o + p.val) q.val :=
  load_rows (N := 520) (a := 512) (b := 8) (R := 512) (C := 256) (o := o) (Val := Elt Ideal) (e := .f32) (View.whole cc0_scratch0) rfl inb_S520x256_S8x256_512_0 inb_S520x256_S512x256_0_0 i3
    (k0_pay4 (F := Ideal) (grid0.coords t) (iblk m c 1 t)) (k0_pay3 (F := Ideal) (iblk m c 0 t)) (G m c t) (hX m c t) (hH m c t) p q

/-- Row `n` of the gradient of the convolved columns. -/
def dx (n : ℕ) (k : Fin 768) : EReal :=
  0 + fut m c (n + 3) k.val * W m c (ix2 0 k) + fut m c (n + 2) k.val * W m c (ix2 1 k) + fut m c (n + 1) k.val * W m c (ix2 2 k) + fut m c n k.val * W m c (ix2 3 k)

theorem out4 (t : Fin cfg0.N) (p : Fin 512) (q : Fin 256) (n : ℕ) (k : Fin 768) (hn : n = 512 * (t.val % 16) + p.val) (hk : k.val = 256 * (t.val / 16) + q.val) :
    (outsAt0 m c t.val t.isLt).1 (ix2 p q) = dx m c n k := by
  by_cases h : t.val % 16 = 0
  · rw [outsAt0_A m c t h]
    frame_out
    rw [pay2_at]
    unfold dx
    refine congrArg₂ (· + ·) (congrArg₂ (· + ·) (congrArg₂ (· + ·) (congrArg (0 + ·) ?_) ?_) ?_) ?_
    all_goals refine congrArg₂ (· * ·) ((tap m c t _ p q).trans (congrArg₂ (fut m c) ?_ hk.symm)) ((row (A := 4) (D := 256) (C := 256) (bW m c t) (by decide) (by decide) _ q).trans (blkW m c t _ _ k (by
      dsimp only
      omega)))
    all_goals omega
  · rw [outsAt0_B m c t h]
    frame_out
    rw [pay2_at]
    unfold dx
    refine congrArg₂ (· + ·) (congrArg₂ (· + ·) (congrArg₂ (· + ·) (congrArg (0 + ·) ?_) ?_) ?_) ?_
    all_goals refine congrArg₂ (· * ·) ((tap m c t _ p q).trans (congrArg₂ (fut m c) ?_ hk.symm)) ((row (A := 4) (D := 256) (C := 256) (bW m c t) (by decide) (by decide) _ q).trans (blkW m c t _ _ k (by
      dsimp only
      omega)))
    all_goals omega

/-- What one tile adds to the gradient of a tap. -/
theorem part (t : Fin cfg0.N) (s : ℕ) (f : S512x256.Idx → EReal) (hf : ∀ (p : Fin 512) (q : Fin 256), f (ix2 p q) = G m c t (s + p.val) q.val) (q : Fin 256) :
    ∑ p : Fin 512, f (ix2 p q) * bX m c t (ix2 p q) = ∑ p : Fin 512, T m c s (256 * (t.val / 16) + q.val) (512 * (t.val % 16) + p.val) := by
  refine Finset.sum_congr rfl fun p _ => ?_
  refine congrArg₂ (· * ·) ((hf p q).trans (congrArg (fut m c · _) ?_)) (blkX m c t p q)
  omega

theorem first (t : Fin cfg0.N) (h : t.val % 16 = 0) (r : Fin 4) (q : Fin 256) :
    (outsAt0 m c t.val t.isLt).2.1 (ix2 r q) = 0 + ∑ p : Fin 512, T m c (3 - r.val) (256 * (t.val / 16) + q.val) (512 * (t.val % 16) + p.val) := by
  rw [outsAt0_A m c t h]
  frame_out
  match r with
  | ⟨0, _⟩ =>
    refine (canon_other (A := 4) (C := 256) (o := 3) 0 q (by decide) _ _ _).trans ?_
    refine (canon_other (A := 4) (C := 256) (o := 2) 0 q (by decide) _ _ _).trans ?_
    refine (canon_other (A := 4) (C := 256) (o := 1) 0 q (by decide) _ _ _).trans ?_
    refine (canon_own (A := 4) (C := 256) 0 q _ _ _).trans ((pay8_at (bX m c t) _ _ q).trans (congrArg₂ (· + ·) ?_ (part m c t 3 _ (tap m c t _) q)))
    refine (load_row (A := 4) (C := 256) _ _ 0 q _).trans ?_
    exact (canon_fill (A := 4) (C := 256) 0 q _ _ _).trans (pay5_at 0 q)
  | ⟨1, _⟩ =>
    refine (canon_other (A := 4) (C := 256) (o := 3) 1 q (by decide) _ _ _).trans ?_
    refine (canon_other (A := 4) (C := 256) (o := 2) 1 q (by decide) _ _ _).trans ?_
    refine (canon_own (A := 4) (C := 256) 1 q _ _ _).trans ((pay9_at (bX m c t) _ _ q).trans (congrArg₂ (· + ·) ?_ (part m c t 2 _ (tap m c t _) q)))
    refine (load_row (A := 4) (C := 256) _ _ 1 q _).trans ?_
    refine (canon_other (A := 4) (C := 256) (o := 0) 1 q (by decide) _ _ _).trans ?_
    exact (canon_fill (A := 4) (C := 256) 1 q _ _ _).trans (pay5_at 1 q)
  | ⟨2, _⟩ =>
    refine (canon_other (A := 4) (C := 256) (o := 3) 2 q (by decide) _ _ _).trans ?_
    refine (canon_own (A := 4) (C := 256) 2 q _ _ _).trans ((pay10_at (bX m c t) _ _ q).trans (congrArg₂ (· + ·) ?_ (part m c t 1 _ (tap m c t _) q)))
    refine (load_row (A := 4) (C := 256) _ _ 2 q _).trans ?_
    refine (canon_other (A := 4) (C := 256) (o := 1) 2 q (by decide) _ _ _).trans ?_
    refine (canon_other (A := 4) (C := 256) (o := 0) 2 q (by decide) _ _ _).trans ?_
    exact (canon_fill (A := 4) (C := 256) 2 q _ _ _).trans (pay5_at 2 q)
  | ⟨3, _⟩ =>
    refine (canon_own (A := 4) (C := 256) 3 q _ _ _).trans ((pay12_at (bX m c t) _ _ q).trans (congrArg₂ (· + ·) ?_ (part m c t 0 _ (tap m c t _) q)))
    refine (load_row (A := 4) (C := 256) _ _ 3 q _).trans ?_
    refine (canon_other (A := 4) (C := 256) (o := 2) 3 q (by decide) _ _ _).trans ?_
    refine (canon_other (A := 4) (C := 256) (o := 1) 3 q (by decide) _ _ _).trans ?_
    refine (canon_other (A := 4) (C := 256) (o := 0) 3 q (by decide) _ _ _).trans ?_
    exact (canon_fill (A := 4) (C := 256) 3 q _ _ _).trans (pay5_at 3 q)

theorem next (t : Fin cfg0.N) (h : ¬t.val % 16 = 0) (r : Fin 4) (q : Fin 256) :
    (outsAt0 m c t.val t.isLt).2.1 (ix2 r q) = (outsAt0 m c (t.val - 1) (by omega)).2.1 (ix2 r q)
      + ∑ p : Fin 512, T m c (3 - r.val) (256 * (t.val / 16) + q.val) (512 * (t.val % 16) + p.val) := by
  rw [outsAt0_B m c t h]
  frame_out
  generalize (outsAt0 m c (t.val - 1) _).2.1 = Z
  match r with
  | ⟨0, _⟩ =>
    refine (canon_other (A := 4) (C := 256) (o := 3) 0 q (by decide) _ _ _).trans ?_
    refine (canon_other (A := 4) (C := 256) (o := 2) 0 q (by decide) _ _ _).trans ?_
    refine (canon_other (A := 4) (C := 256) (o := 1) 0 q (by decide) _ _ _).trans ?_
    refine (canon_own (A := 4) (C := 256) 0 q _ _ _).trans ((pay8_at (bX m c t) _ _ q).trans (congrArg₂ (· + ·) ?_ (part m c t 3 _ (tap m c t _) q)))
    refine (row (A := 4) (D := 256) (C := 256) Z (by decide) (by decide) _ q).trans (congrArg (fun i => Z (ix2 _ i)) (Fin.ext ?_))
    exact Nat.zero_add _
  | ⟨1, _⟩ =>
    refine (canon_other (A := 4) (C := 256) (o := 3) 1 q (by decide) _ _ _).trans ?_
    refine (canon_other (A := 4) (C := 256) (o := 2) 1 q (by decide) _ _ _).trans ?_
    refine (canon_own (A := 4) (C := 256) 1 q _ _ _).trans ((pay9_at (bX m c t) _ _ q).trans (congrArg₂ (· + ·) ?_ (part m c t 2 _ (tap m c t _) q)))
    refine (row (A := 4) (D := 256) (C := 256) Z (by decide) (by decide) _ q).trans (congrArg (fun i => Z (ix2 _ i)) (Fin.ext ?_))
    exact Nat.zero_add _
  | ⟨2, _⟩ =>
    refine (canon_other (A := 4) (C := 256) (o := 3) 2 q (by decide) _ _ _).trans ?_
    refine (canon_own (A := 4) (C := 256) 2 q _ _ _).trans ((pay10_at (bX m c t) _ _ q).trans (congrArg₂ (· + ·) ?_ (part m c t 1 _ (tap m c t _) q)))
    refine (row (A := 4) (D := 256) (C := 256) Z (by decide) (by decide) _ q).trans (congrArg (fun i => Z (ix2 _ i)) (Fin.ext ?_))
    exact Nat.zero_add _
  | ⟨3, _⟩ =>
    refine (canon_own (A := 4) (C := 256) 3 q _ _ _).trans ((pay12_at (bX m c t) _ _ q).trans (congrArg₂ (· + ·) ?_ (part m c t 0 _ (tap m c t _) q)))
    refine (row (A := 4) (D := 256) (C := 256) Z (by decide) (by decide) _ q).trans (congrArg (fun i => Z (ix2 _ i)) (Fin.ext ?_))
    exact Nat.zero_add _

theorem acc5 : ∀ (n : ℕ) (hn : n < cfg0.N) (r : Fin 4) (q : Fin 256),
    (outsAt0 m c n hn).2.1 (ix2 r q) = ∑ k ∈ Finset.range (512 * (n % 16) + 512), T m c (3 - r.val) (256 * (n / 16) + q.val) k := by
  intro n
  induction n using Nat.strong_induction_on with
  | _ n ih =>
    intro hn r q
    rw [Sums.grow]
    by_cases h : n % 16 = 0
    · refine (first m c ⟨n, hn⟩ h r q).trans ?_
      dsimp only
      rw [h, Nat.mul_zero, Finset.range_zero, Finset.sum_empty]
    · refine (next m c ⟨n, hn⟩ h r q).trans ?_
      dsimp only
      rw [ih (n - 1) (by omega)]
      have e0 : 512 * ((n - 1) % 16) + 512 = 512 * (n % 16) := by omega
      have e1 : (n - 1) / 16 = n / 16 := by omega
      rw [e0, e1]

theorem acc6 : ∀ (n : ℕ) (hn : n < cfg0.N) (q : Fin 256),
    (outsAt0 m c n hn).2.2 (ix2 0 q) = ∑ k ∈ Finset.range (512 * (n % 16) + 512), fut m c k (256 * (n / 16) + q.val) := by
  intro n
  induction n using Nat.strong_induction_on with
  | _ n ih =>
    intro hn q
    rw [Sums.grow]
    have hd : ∑ p : Fin 512, bD m c ⟨n, hn⟩ (ix2 p q) = ∑ p : Fin 512, fut m c (512 * (n % 16) + p.val) (256 * (n / 16) + q.val) :=
      Finset.sum_congr rfl fun p _ => blkD m c ⟨n, hn⟩ p q
    by_cases h : n % 16 = 0
    · have e : (outsAt0 m c n hn).2.2 (ix2 0 q) = k0_pay1 (F := Ideal) (iblk m c 0 ⟨n, hn⟩) (k0_pay6 (F := Ideal)) (ix2 0 q) := by
        rw [outsAt0_A m c ⟨n, hn⟩ h]
        frame_out
      rw [e, pay1_at, pay6_at, h, Nat.mul_zero, Finset.range_zero, Finset.sum_empty]
      rw [h] at hd
      exact congrArg (0 + ·) hd
    · have e : (outsAt0 m c n hn).2.2 (ix2 0 q) = k0_pay1 (F := Ideal) (iblk m c 0 ⟨n, hn⟩) (outsAt0 m c (n - 1) (by omega)).2.2 (ix2 0 q) := by
        rw [outsAt0_B m c ⟨n, hn⟩ h]
        frame_out
      rw [e, pay1_at, ih (n - 1) (by omega)]
      have e0 : 512 * ((n - 1) % 16) + 512 = 512 * (n % 16) := by omega
      have e1 : (n - 1) / 16 = n / 16 := by omega
      rw [e0, e1]
      exact congrArg (_ + ·) hd

theorem eta {A B : ℕ} (y : (⟨2, ![A, B]⟩ : Shape).Idx) : y = ix2 (n0 := A) (n1 := B) (y 0) (y 1) := by
  funext a
  match a with
  | ⟨0, _⟩ => rfl
  | ⟨1, _⟩ => rfl

theorem arr4 : (dats m 0 c).arrAt 4 cfg0.N = (fun y : S8192x768.Idx => dx m c (y 0).val (y 1)) := by
  refine (dats m 0 c).arrAt_eq_of_covers 4 _ (by decide +kernel) fun t hf y => ?_
  have ht : t.val < 48 := lt_of_lt_of_eq t.isLt N_0
  have hi := (idx t).2.2.2.2.1
  have e0 : ((win0_4.blk t).view.emb y 0).val = 512 * (t.val % 16) + (y 0).val := by blk_simp [hi] <;> omega
  have e1 : ((win0_4.blk t).view.emb y 1).val = 256 * (t.val / 16) + (y 1).val := by blk_simp [hi] <;> omega
  have h := out4 m c t (y 0) (y 1) ((win0_4.blk t).view.emb y 0).val ((win0_4.blk t).view.emb y 1) e0 e1
  rw [after0_4]
  generalize (outsAt0 m c t.val t.isLt).1 = Z at h ⊢
  exact (congrArg (fun z : S512x256.Idx => Z z) (eta y)).trans h

theorem arr5 : (dats m 0 c).arrAt 5 cfg0.N = (fun y : S4x768.Idx => ∑ k ∈ Finset.range 8192, T m c (3 - (y 0).val) (y 1).val k) := by
  refine (dats m 0 c).arrAt_eq_of_covers 5 _ (by decide +kernel) fun t hf y => ?_
  have ht : t.val < 48 := lt_of_lt_of_eq t.isLt N_0
  have h15 : t.val % 16 = 15 := (flush0_5 t).mp hf
  have hi := (idx t).2.2.2.2.2.1
  have e0 : ((win0_5.blk t).view.emb y 0).val = (y 0).val := by blk_simp [hi] <;> omega
  have e1 : ((win0_5.blk t).view.emb y 1).val = 256 * (t.val / 16) + (y 1).val := by blk_simp [hi] <;> omega
  have h := acc5 m c t.val t.isLt (y 0) (y 1)
  rw [h15] at h
  rw [after0_5]
  generalize (outsAt0 m c t.val t.isLt).2.1 = Z at h ⊢
  refine ((congrArg (fun z : S4x256.Idx => Z z) (eta y)).trans h).trans ?_
  dsimp only
  rw [e0, e1]

theorem arr6 : (dats m 0 c).arrAt 6 cfg0.N = (fun y : S1x768.Idx => ∑ k ∈ Finset.range 8192, fut m c k (y 1).val) := by
  refine (dats m 0 c).arrAt_eq_of_covers 6 _ (by decide +kernel) fun t hf y => ?_
  have ht : t.val < 48 := lt_of_lt_of_eq t.isLt N_0
  have h15 : t.val % 16 = 15 := (flush0_6 t).mp hf
  have hi := (idx t).2.2.2.2.2.2
  have e1 : ((win0_6.blk t).view.emb y 1).val = 256 * (t.val / 16) + (y 1).val := by blk_simp [hi] <;> omega
  have h := acc6 m c t.val t.isLt (y 1)
  rw [h15] at h
  rw [after0_6]
  generalize (outsAt0 m c t.val t.isLt).2.2 = Z at h ⊢
  have hy : y = ix2 (n0 := 1) (n1 := 256) 0 (y 1) := by
    funext a
    match a with
    | ⟨0, _⟩ => exact Fin.ext (Nat.lt_one_iff.mp (y 0).isLt)
    | ⟨1, _⟩ => rfl
  refine ((congrArg (fun z : S1x256.Idx => Z z) hy).trans h).trans ?_
  dsimp only
  rw [e1]

/-! The reference. -/

open Cert.Reference21Ideal.Read in
theorem refPast (r : Fin 8195) (k : Fin 768) : val_main_v3 (F := Ideal) (X m c) (ix2 r k) = if r.val < 3 then 0 else inp m c (r.val - 3) k.val := by
  unfold val_main_v3
  by_cases h : r.val < 3
  · rw [if_pos h]
    refine (concatenate_pair_apply_left (t := Reference21Ideal.S8195x768) (s₁ := Reference21Ideal.S3x768) (s₂ := Reference21Ideal.S8192x768) 0 _ _ _ _ rfl (ix2 ⟨r.val, h⟩ k) (fun b => ?_)).trans ?_
    · match b with
      | ⟨0, _⟩ => rfl
      | ⟨1, _⟩ => rfl
    · rw [val_main_v2_apply, val_main_cst_0_apply]
      exact Sums.zero_word
  · rw [if_neg h]
    unfold inp
    rw [dif_pos (by omega)]
    refine (concatenate_pair_apply_right (t := Reference21Ideal.S8195x768) (s₁ := Reference21Ideal.S3x768) (s₂ := Reference21Ideal.S8192x768) 0 _ _ _ _ rfl rfl (ix2 ⟨r.val - 3, by omega⟩ k) (fun b hb => ?_) ?_).trans ?_
    · match b with
      | ⟨0, _⟩ => exact absurd rfl hb
      | ⟨1, _⟩ => rfl
    · show r.val - 3 + 3 = r.val
      omega
    · rw [val_main_v1_apply]
      refine congrArg (X m c) (funext fun a => ?_)
      match a with
      | ⟨0, _⟩ => rfl
      | ⟨1, _⟩ => rfl

open Cert.Reference21Ideal.Read in
theorem refD (n : Fin 8192) (k : Fin 768) : val_main_v35 (F := Ideal) (D m c) (ix2 n k) = fut m c n.val k.val := by
  unfold fut
  rw [dif_pos ⟨n.isLt, k.isLt⟩, val_main_v35_apply]
  refine congrArg (D m c) (funext fun a => Fin.ext ?_)
  match a with
  | ⟨0, _⟩ =>
    show (n.val * 768 + k.val) / 768 = n.val
    omega
  | ⟨1, _⟩ =>
    show (n.val * 768 + k.val) % 768 = k.val
    omega

theorem sum_shift (s : ℕ) (hs : s ≤ 3) (k : ℕ) :
    ∑ n : Fin 8192, (if n.val + (3 - s) < 3 then 0 else inp m c (n.val + (3 - s) - 3) k) * fut m c n.val k = ∑ r ∈ Finset.range 8192, T m c s k r := by
  rw [← Finset.sum_range (fun n => (if n + (3 - s) < 3 then 0 else inp m c (n + (3 - s) - 3) k) * fut m c n k)]
  have e : 8192 = (8192 - s) + s := by omega
  rw [e]
  refine shift (8192 - s) s (fun n => fut m c n k) (fun n => if n + (3 - s) < 3 then 0 else inp m c (n + (3 - s) - 3) k) (fun n => inp m c n k) ?_ ?_ ?_
  · intro n hn
    exact fut_zero m c n k (by omega)
  · intro n hn
    exact if_pos (by omega)
  · intro n hn
    refine (if_neg (by omega)).trans (congrArg (inp m c · k) ?_)
    omega

open Cert.Reference21Ideal.Read in
theorem refX3 (n : Fin 8192) (k : Fin 768) : val_main_v47 (F := Ideal) (W m c) (D m c) (ix2 (n0 := 8195) (n1 := 768) ⟨3 + n.val, by omega⟩ k) = fut m c (n.val + 0) k.val * W m c (ix2 3 k) := by
  unfold val_main_v47
  refine (pad_row (N := 8195) (R := 8192) (C := 768) (a := 3) (b := 0) _ _ _ _ ((val_main_cst_7_apply _).trans Sums.zero_word) _ k).trans ?_
  by_cases hh : 3 ≤ 3 + n.val ∧ 3 + n.val - 3 < 8192
  · rw [dif_pos hh, val_main_v43_apply]
    refine congrArg₂ (· * ·) ((refD m c ⟨3 + n.val - 3, hh.2⟩ k).trans (congrArg (fut m c · _) ?_)) ?_
    · show 3 + n.val - 3 = n.val + 0
      omega
    · rw [val_main_v42_apply, val_main_v28_apply, val_main_v27_apply, val_main_v26_apply]
      refine congrArg (W m c) (funext fun i => ?_)
      match i with
      | ⟨0, _⟩ => rfl
      | ⟨1, _⟩ => exact Fin.ext (Nat.mod_eq_of_lt k.isLt)
  · rw [dif_neg hh, fut_zero m c _ _ (by omega), zero_mul]

open Cert.Reference21Ideal.Read in
theorem refS3 (k : Fin 768) : val_main_v45 (F := Ideal) (X m c) (D m c) (ix2 0 k) = ∑ r ∈ Finset.range 8192, T m c 0 k.val r := by
  rw [val_main_v45_apply, val_main_v44_apply, Fin.sum_univ_one, val_main_v41_apply, val_main_v40_apply, val_main_cst_4_apply, val_main_cst_5_apply,
    show (FloatOps.ofBits (F := Ideal) FTy.f32 0x00000000#32 : EReal) = 0 from Sums.zero_word, zero_add, zero_add, ← sum_shift m c 0 (by decide) k.val]
  refine Finset.sum_congr rfl fun n _ => ?_
  rw [val_main_v39_apply, val_main_v25_apply]
  refine congrArg₂ (· * ·) ((congrArg (val_main_v3 (F := Ideal) (X m c)) (funext fun i => ?_)).trans (refPast m c ⟨n.val + (3 - 0), by omega⟩ k)) ((congrArg (val_main_v35 (F := Ideal) (D m c)) (funext fun i => ?_)).trans (refD m c n k))
  · match i with
    | ⟨0, _⟩ =>
      refine Fin.ext ?_
      show 3 + n.val = n.val + (3 - 0)
      omega
    | ⟨1, _⟩ =>
      refine Fin.ext ?_
      show 0 * 768 + k.val = k.val
      omega
  · match i with
    | ⟨0, _⟩ => rfl
    | ⟨1, _⟩ =>
      refine Fin.ext ?_
      show 0 * 768 + k.val = k.val
      omega

open Cert.Reference21Ideal.Read in
theorem refP3 (r : Fin 4) (k : Fin 768) : val_main_v46 (F := Ideal) (X m c) (D m c) (ix2 r k) = if r.val = 3 then ∑ n ∈ Finset.range 8192, T m c 0 k.val n else 0 := by
  unfold val_main_v46
  refine (pad_row (N := 4) (R := 1) (C := 768) (a := 3) (b := 0) _ _ _ _ ((val_main_cst_6_apply _).trans Sums.zero_word) r k).trans ?_
  by_cases h : r.val = 3
  · rw [if_pos h, dif_pos (by omega), ← refS3 m c k]
    refine congrArg (val_main_v45 (F := Ideal) (X m c) (D m c)) (funext fun i => ?_)
    match i with
    | ⟨0, _⟩ =>
      refine Fin.ext ?_
      show r.val - 3 = 0
      omega
    | ⟨1, _⟩ => rfl
  · rw [if_neg h, dif_neg (by omega)]

open Cert.Reference21Ideal.Read in
theorem refX2 (n : Fin 8192) (k : Fin 768) : val_main_v57 (F := Ideal) (W m c) (D m c) (ix2 (n0 := 8195) (n1 := 768) ⟨3 + n.val, by omega⟩ k) = fut m c (n.val + 1) k.val * W m c (ix2 2 k) := by
  unfold val_main_v57
  refine (pad_row (N := 8195) (R := 8192) (C := 768) (a := 2) (b := 1) _ _ _ _ ((val_main_cst_11_apply _).trans Sums.zero_word) _ k).trans ?_
  by_cases hh : 2 ≤ 3 + n.val ∧ 3 + n.val - 2 < 8192
  · rw [dif_pos hh, val_main_v52_apply]
    refine congrArg₂ (· * ·) ((refD m c ⟨3 + n.val - 2, hh.2⟩ k).trans (congrArg (fut m c · _) ?_)) ?_
    · show 3 + n.val - 2 = n.val + 1
      omega
    · rw [val_main_v51_apply, val_main_v21_apply, val_main_v20_apply, val_main_v19_apply]
      refine congrArg (W m c) (funext fun i => ?_)
      match i with
      | ⟨0, _⟩ => rfl
      | ⟨1, _⟩ => exact Fin.ext (Nat.mod_eq_of_lt k.isLt)
  · rw [dif_neg hh, fut_zero m c _ _ (by omega), zero_mul]

open Cert.Reference21Ideal.Read in
theorem refS2 (k : Fin 768) : val_main_v54 (F := Ideal) (X m c) (D m c) (ix2 0 k) = ∑ r ∈ Finset.range 8192, T m c 1 k.val r := by
  rw [val_main_v54_apply, val_main_v53_apply, Fin.sum_univ_one, val_main_v50_apply, val_main_v49_apply, val_main_cst_8_apply, val_main_cst_9_apply,
    show (FloatOps.ofBits (F := Ideal) FTy.f32 0x00000000#32 : EReal) = 0 from Sums.zero_word, zero_add, zero_add, ← sum_shift m c 1 (by decide) k.val]
  refine Finset.sum_congr rfl fun n _ => ?_
  rw [val_main_v48_apply, val_main_v18_apply]
  refine congrArg₂ (· * ·) ((congrArg (val_main_v3 (F := Ideal) (X m c)) (funext fun i => ?_)).trans (refPast m c ⟨n.val + (3 - 1), by omega⟩ k)) ((congrArg (val_main_v35 (F := Ideal) (D m c)) (funext fun i => ?_)).trans (refD m c n k))
  · match i with
    | ⟨0, _⟩ =>
      refine Fin.ext ?_
      show 2 + n.val = n.val + (3 - 1)
      omega
    | ⟨1, _⟩ =>
      refine Fin.ext ?_
      show 0 * 768 + k.val = k.val
      omega
  · match i with
    | ⟨0, _⟩ => rfl
    | ⟨1, _⟩ =>
      refine Fin.ext ?_
      show 0 * 768 + k.val = k.val
      omega

open Cert.Reference21Ideal.Read in
theorem refP2 (r : Fin 4) (k : Fin 768) : val_main_v55 (F := Ideal) (X m c) (D m c) (ix2 r k) = if r.val = 2 then ∑ n ∈ Finset.range 8192, T m c 1 k.val n else 0 := by
  unfold val_main_v55
  refine (pad_row (N := 4) (R := 1) (C := 768) (a := 2) (b := 1) _ _ _ _ ((val_main_cst_10_apply _).trans Sums.zero_word) r k).trans ?_
  by_cases h : r.val = 2
  · rw [if_pos h, dif_pos (by omega), ← refS2 m c k]
    refine congrArg (val_main_v54 (F := Ideal) (X m c) (D m c)) (funext fun i => ?_)
    match i with
    | ⟨0, _⟩ =>
      refine Fin.ext ?_
      show r.val - 2 = 0
      omega
    | ⟨1, _⟩ => rfl
  · rw [if_neg h, dif_neg (by omega)]

open Cert.Reference21Ideal.Read in
theorem refX1 (n : Fin 8192) (k : Fin 768) : val_main_v68 (F := Ideal) (W m c) (D m c) (ix2 (n0 := 8195) (n1 := 768) ⟨3 + n.val, by omega⟩ k) = fut m c (n.val + 2) k.val * W m c (ix2 1 k) := by
  unfold val_main_v68
  refine (pad_row (N := 8195) (R := 8192) (C := 768) (a := 1) (b := 2) _ _ _ _ ((val_main_cst_15_apply _).trans Sums.zero_word) _ k).trans ?_
  by_cases hh : 1 ≤ 3 + n.val ∧ 3 + n.val - 1 < 8192
  · rw [dif_pos hh, val_main_v63_apply]
    refine congrArg₂ (· * ·) ((refD m c ⟨3 + n.val - 1, hh.2⟩ k).trans (congrArg (fut m c · _) ?_)) ?_
    · show 3 + n.val - 1 = n.val + 2
      omega
    · rw [val_main_v62_apply, val_main_v14_apply, val_main_v13_apply, val_main_v12_apply]
      refine congrArg (W m c) (funext fun i => ?_)
      match i with
      | ⟨0, _⟩ => rfl
      | ⟨1, _⟩ => exact Fin.ext (Nat.mod_eq_of_lt k.isLt)
  · rw [dif_neg hh, fut_zero m c _ _ (by omega), zero_mul]

open Cert.Reference21Ideal.Read in
theorem refS1 (k : Fin 768) : val_main_v65 (F := Ideal) (X m c) (D m c) (ix2 0 k) = ∑ r ∈ Finset.range 8192, T m c 2 k.val r := by
  rw [val_main_v65_apply, val_main_v64_apply, Fin.sum_univ_one, val_main_v61_apply, val_main_v60_apply, val_main_cst_12_apply, val_main_cst_13_apply,
    show (FloatOps.ofBits (F := Ideal) FTy.f32 0x00000000#32 : EReal) = 0 from Sums.zero_word, zero_add, zero_add, ← sum_shift m c 2 (by decide) k.val]
  refine Finset.sum_congr rfl fun n _ => ?_
  rw [val_main_v59_apply, val_main_v11_apply]
  refine congrArg₂ (· * ·) ((congrArg (val_main_v3 (F := Ideal) (X m c)) (funext fun i => ?_)).trans (refPast m c ⟨n.val + (3 - 2), by omega⟩ k)) ((congrArg (val_main_v35 (F := Ideal) (D m c)) (funext fun i => ?_)).trans (refD m c n k))
  · match i with
    | ⟨0, _⟩ =>
      refine Fin.ext ?_
      show 1 + n.val = n.val + (3 - 2)
      omega
    | ⟨1, _⟩ =>
      refine Fin.ext ?_
      show 0 * 768 + k.val = k.val
      omega
  · match i with
    | ⟨0, _⟩ => rfl
    | ⟨1, _⟩ =>
      refine Fin.ext ?_
      show 0 * 768 + k.val = k.val
      omega

open Cert.Reference21Ideal.Read in
theorem refP1 (r : Fin 4) (k : Fin 768) : val_main_v66 (F := Ideal) (X m c) (D m c) (ix2 r k) = if r.val = 1 then ∑ n ∈ Finset.range 8192, T m c 2 k.val n else 0 := by
  unfold val_main_v66
  refine (pad_row (N := 4) (R := 1) (C := 768) (a := 1) (b := 2) _ _ _ _ ((val_main_cst_14_apply _).trans Sums.zero_word) r k).trans ?_
  by_cases h : r.val = 1
  · rw [if_pos h, dif_pos (by omega), ← refS1 m c k]
    refine congrArg (val_main_v65 (F := Ideal) (X m c) (D m c)) (funext fun i => ?_)
    match i with
    | ⟨0, _⟩ =>
      refine Fin.ext ?_
      show r.val - 1 = 0
      omega
    | ⟨1, _⟩ => rfl
  · rw [if_neg h, dif_neg (by omega)]

open Cert.Reference21Ideal.Read in
theorem refX0 (n : Fin 8192) (k : Fin 768) : val_main_v79 (F := Ideal) (W m c) (D m c) (ix2 (n0 := 8195) (n1 := 768) ⟨3 + n.val, by omega⟩ k) = fut m c (n.val + 3) k.val * W m c (ix2 0 k) := by
  unfold val_main_v79
  refine (pad_row (N := 8195) (R := 8192) (C := 768) (a := 0) (b := 3) _ _ _ _ ((val_main_cst_19_apply _).trans Sums.zero_word) _ k).trans ?_
  by_cases hh : 0 ≤ 3 + n.val ∧ 3 + n.val - 0 < 8192
  · rw [dif_pos hh, val_main_v74_apply]
    refine congrArg₂ (· * ·) ((refD m c ⟨3 + n.val - 0, hh.2⟩ k).trans (congrArg (fut m c · _) ?_)) ?_
    · show 3 + n.val - 0 = n.val + 3
      omega
    · rw [val_main_v73_apply, val_main_v8_apply, val_main_v7_apply, val_main_v6_apply]
      refine congrArg (W m c) (funext fun i => ?_)
      match i with
      | ⟨0, _⟩ => rfl
      | ⟨1, _⟩ => exact Fin.ext (Nat.mod_eq_of_lt k.isLt)
  · rw [dif_neg hh, fut_zero m c _ _ (by omega), zero_mul]

open Cert.Reference21Ideal.Read in
theorem refS0 (k : Fin 768) : val_main_v76 (F := Ideal) (X m c) (D m c) (ix2 0 k) = ∑ r ∈ Finset.range 8192, T m c 3 k.val r := by
  rw [val_main_v76_apply, val_main_v75_apply, Fin.sum_univ_one, val_main_v72_apply, val_main_v71_apply, val_main_cst_16_apply, val_main_cst_17_apply,
    show (FloatOps.ofBits (F := Ideal) FTy.f32 0x00000000#32 : EReal) = 0 from Sums.zero_word, zero_add, zero_add, ← sum_shift m c 3 (by decide) k.val]
  refine Finset.sum_congr rfl fun n _ => ?_
  rw [val_main_v70_apply, val_main_v5_apply]
  refine congrArg₂ (· * ·) ((congrArg (val_main_v3 (F := Ideal) (X m c)) (funext fun i => ?_)).trans (refPast m c ⟨n.val + (3 - 3), by omega⟩ k)) ((congrArg (val_main_v35 (F := Ideal) (D m c)) (funext fun i => ?_)).trans (refD m c n k))
  · match i with
    | ⟨0, _⟩ =>
      refine Fin.ext ?_
      show n.val = n.val + (3 - 3)
      omega
    | ⟨1, _⟩ =>
      refine Fin.ext ?_
      show 0 * 768 + k.val = k.val
      omega
  · match i with
    | ⟨0, _⟩ => rfl
    | ⟨1, _⟩ =>
      refine Fin.ext ?_
      show 0 * 768 + k.val = k.val
      omega

open Cert.Reference21Ideal.Read in
theorem refP0 (r : Fin 4) (k : Fin 768) : val_main_v77 (F := Ideal) (X m c) (D m c) (ix2 r k) = if r.val = 0 then ∑ n ∈ Finset.range 8192, T m c 3 k.val n else 0 := by
  unfold val_main_v77
  refine (pad_row (N := 4) (R := 1) (C := 768) (a := 0) (b := 3) _ _ _ _ ((val_main_cst_18_apply _).trans Sums.zero_word) r k).trans ?_
  by_cases h : r.val = 0
  · rw [if_pos h, dif_pos (by omega), ← refS0 m c k]
    refine congrArg (val_main_v76 (F := Ideal) (X m c) (D m c)) (funext fun i => ?_)
    match i with
    | ⟨0, _⟩ =>
      refine Fin.ext ?_
      show r.val - 0 = 0
      omega
    | ⟨1, _⟩ => rfl
  · rw [if_neg h, dif_neg (by omega)]

open Cert.Reference21Ideal.Read in
theorem ref4 (j : S8192x768.Idx) : val_main_v83 (F := Ideal) (W m c) (D m c) j = dx m c (j 0).val (j 1) := by
  rw [val_main_v83_apply, val_main_v82_apply, val_main_v80_apply, val_main_v69_apply, val_main_v58_apply]
  have e : idx_main_v82 j = ix2 (n0 := 8195) (n1 := 768) ⟨3 + (j 0).val, by
      have h0 : (j 0).val < 8192 := (j 0).isLt
      omega⟩ (j 1) := by
    funext a
    match a with
    | ⟨0, _⟩ => rfl
    | ⟨1, _⟩ => rfl
  rw [e, refX3 m c (j 0) (j 1), refX2 m c (j 0) (j 1), refX1 m c (j 0) (j 1), refX0 m c (j 0) (j 1)]
  unfold dx
  have key : ∀ x0 x1 x2 x3 : EReal, x3 + x2 + x1 + x0 = 0 + x0 + x1 + x2 + x3 := by
    intro x0 x1 x2 x3
    rw [zero_add]
    ac_rfl
  exact key _ _ _ _

open Cert.Reference21Ideal.Read in
theorem ref5' (r : Fin 4) (k : Fin 768) : val_main_v78 (F := Ideal) (X m c) (D m c) (ix2 r k) = ∑ n ∈ Finset.range 8192, T m c (3 - r.val) k.val n := by
  rw [val_main_v78_apply, val_main_v67_apply, val_main_v56_apply, refP3 m c r k, refP2 m c r k, refP1 m c r k, refP0 m c r k]
  match r with
  | ⟨0, _⟩ => exact (congrArg (· + _) (show (0 : EReal) + 0 + 0 = 0 by rw [add_zero, add_zero])).trans (zero_add _)
  | ⟨1, _⟩ => exact (add_zero _).trans ((congrArg (· + _) (show (0 : EReal) + 0 = 0 from add_zero _)).trans (zero_add _))
  | ⟨2, _⟩ => exact (add_zero _).trans ((add_zero _).trans (zero_add _))
  | ⟨3, _⟩ => exact (add_zero _).trans ((add_zero _).trans (add_zero _))

open Cert.Reference21Ideal.Read in
theorem ref5 (j : S4x768.Idx) : val_main_v78 (F := Ideal) (X m c) (D m c) j = ∑ k ∈ Finset.range 8192, T m c (3 - (j 0).val) (j 1).val k :=
  (congrArg (val_main_v78 (F := Ideal) (X m c) (D m c)) (eta (A := 4) (B := 768) j)).trans (ref5' m c (j 0) (j 1))

open Cert.Reference21Ideal.Read in
theorem ref6 (j : S1x768.Idx) : val_main_v84 (F := Ideal) (D m c) j = ∑ k ∈ Finset.range 8192, fut m c k (j 1).val := by
  have h0 : (j 0).val < 1 := (j 0).isLt
  rw [val_main_v84_apply, val_main_v38_apply, Fin.sum_univ_one, val_main_v37_apply, val_main_v36_apply, val_main_cst_3_apply, val_main_cst_2_apply,
    show (FloatOps.ofBits (F := Ideal) FTy.f32 0x00000000#32 : EReal) = 0 from Sums.zero_word, zero_add, zero_add, Finset.sum_range]
  refine Finset.sum_congr rfl fun n _ => ?_
  unfold fut
  rw [dif_pos ⟨n.isLt, (j 1).isLt⟩]
  refine congrArg (D m c) (funext fun a => Fin.ext ?_)
  match a with
  | ⟨0, _⟩ => rfl
  | ⟨1, _⟩ =>
    show 0 * 768 + ((j 0).val * 768 + (j 1).val) = (j 1).val
    omega

end

/-- The results are equal. -/
theorem algebraic : Cert.algebraic_Kernel21Ideal_Reference21Ideal (hKernel21Ideal := Cert.Kernel21Ideal.Gen.facts) (hReference21Ideal := Cert.Reference21Ideal.Gen.facts) := by
  intro m g m' g' _ ha
  refine ⟨_, _, _, Cert.Kernel21Ideal.Value.run_blocks m g, (θ_run Cert.Reference21Ideal.defs _ _).mono (fun r h c => ?_) (Cert.Reference21Ideal.Value.run m' g')⟩
  obtain ⟨a0, a1, a2⟩ := ha c
  refine ⟨((h c).1.trans (Cert.Reference21Ideal.Read.val_main_v83_eq _ _)).trans ?_, ((h c).2.1.trans (Cert.Reference21Ideal.Read.val_main_v78_eq _ _)).trans ?_,
    ((h c).2.2.1.trans (Cert.Reference21Ideal.Read.val_main_v84_eq _)).trans ?_, (h c).2.2.2⟩
  · rw [a1, a2]
    exact (funext fun j => ref4 m c j).trans (arr4 m c).symm
  · rw [a0, a2]
    exact (funext fun j => ref5 m c j).trans (arr5 m c).symm
  · rw [a2]
    exact (funext fun j => ref6 m c j).trans (arr6 m c).symm

/-- The three frames. -/
theorem frame_kernel : Cert.quiescent_Kernel21 (hKernel21 := Cert.Kernel21.Gen.facts) := fun m ρ _ => Cert.Kernel21.Gen.frame m ρ

theorem frame_kernelIdeal : Cert.quiescent_Kernel21Ideal (hKernel21Ideal := Cert.Kernel21Ideal.Gen.facts) := fun m ρ _ => Cert.Kernel21Ideal.Gen.frame m ρ

theorem frame_referenceIdeal : Cert.quiescent_Reference21Ideal (hReference21Ideal := Cert.Reference21Ideal.Gen.facts) := fun m ρ _ =>
  (θ_run Cert.Reference21Ideal.defs _ _).mono (fun r h => ⟨fun c => (h c).2.2.2, sem_eq_zero_of_no_sems rfl r.2⟩) (Cert.Reference21Ideal.Value.run m ρ)

end Cert.Kernel21Ideal.Val
-- ==== Proof.Conv22.lean ====
/- The convolution of the state space layer with its activation, laid out by heads. -/
module

public import proofs.«01_k».proof.Defs
public import proofs.«01_k».proof.Proof.Conv
public import proofs.«01_k».proof.Proof.Sums
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import Idealize.ShloMosaic.Lib.VecWindow
public import Idealize.ShloMosaic.Lib.Pipeline.ValueKit
public import Idealize.ShloMosaic.Lib.StableHlo.ReadAt
public import Idealize.ShloMosaic.Lib.Quiescent

@[expose] public section

noncomputable section

namespace Cert.Kernel22Ideal.Val

open Idealize.ShloMosaic Idealize.ShloMosaic.TcCoe Idealize.SL.Sem Cert.Kernel22Ideal Cert.Kernel22Ideal.Gen Cert.Conv

/-- An activation. -/
abbrev act (u : EReal) : EReal := u * sg u

section
variable (m : (ℓ : Loc nD τ sig) → Buf (Elt Ideal) ℓ) (c : Dev nD)

/-- The projections, of which columns 512 to 1280 are convolved. -/
abbrev X : S8192x2048.Idx → EReal := m ((c : Thread nD τ).loc main_arg0)
/-- The taps. -/
abbrev W : S4x768.Idx → EReal := m ((c : Thread nD τ).loc main_arg1)
/-- The bias. -/
abbrev B : S768.Idx → EReal := m ((c : Thread nD τ).loc main_arg2)

theorem readX (y : S8192x2048.Idx) : (V m c main_arg0 : S8192x2048.Idx → EReal) y = X m c y := by
  rw [V_main_arg0]

theorem readB (y : S1x768.Idx) : (V m c main_v0 : S1x768.Idx → EReal) y = B m c (ix1 (y 1)) := by
  unfold V
  after_reads_at

theorem idx : ∀ t : Fin cfg0.N, win0_0.index t = ![t.val, 2]
    ∧ win0_1.index t = ![t.val, 3]
    ∧ win0_2.index t = ![t.val, 4]
    ∧ win0_3.index t = ![64 * t.val - 1, 2]
    ∧ win0_4.index t = ![64 * t.val - 1, 3]
    ∧ win0_5.index t = ![64 * t.val - 1, 4]
    ∧ win0_6.index t = ![0, 0]
    ∧ win0_7.index t = ![0, 0]
    ∧ win0_8.index t = ![0, t.val, 0]
    ∧ win0_9.index t = ![0, t.val, 0]
    ∧ win0_10.index t = ![0, t.val, 0] := by decide +kernel

/-- Row `n` of the convolved columns behind eight rows of zeros. -/
def past (n k : ℕ) : EReal := if h : 8 ≤ n ∧ n < 8200 ∧ k < 768 then X m c (ix2 ⟨n - 8, by omega⟩ ⟨512 + k, by omega⟩) else 0

theorem past_zero (n k : ℕ) (h : n < 8) : past m c n k = 0 := dif_neg (by omega)

theorem first_rows (n : ℕ) (hl : n < 16) (x y : EReal) : Scalar.select (Scalar.cmpi CmpIPredicate.sgt (BitVec.ofNat 32 n) 0#32) x y = if n = 0 then y else x := by
  have hw : ∀ n : Fin 16, Scalar.cmpi CmpIPredicate.sgt (BitVec.ofNat 32 n.val) 0#32 = if n.val = 0 then 0#1 else 1#1 := by decide
  rw [hw ⟨n, hl⟩]
  dsimp only
  by_cases h0 : n = 0
  · rw [if_pos h0, if_pos h0]
    rfl
  · rw [if_neg h0, if_neg h0]
    rfl

theorem pay5_at (i : grid0.Coords) (h : Vec Ideal S8x256 .f32) (p : Fin 8) (q : Fin 256) :
    k0_pay5 (F := Ideal) i h (ix2 p q) = if (i 0).val = 0 then 0 else h (ix2 p q) := by
  refine Eq.trans ?_ (first_rows (i 0).val (i 0).isLt (h (ix2 p q)) 0)
  rw [← Sums.zero_word]
  pointwise [k0_pay5]

theorem pay14_at (i : grid0.Coords) (h : Vec Ideal S8x256 .f32) (p : Fin 8) (q : Fin 256) :
    k0_pay14 (F := Ideal) (k0_pay13 (F := Ideal) (BitVec.ofNat 32 (i 0).val) h) (ix2 p q) = if (i 0).val = 0 then 0 else h (ix2 p q) := by
  refine Eq.trans ?_ (first_rows (i 0).val (i 0).isLt (h (ix2 p q)) 0)
  rw [← Sums.zero_word]
  pointwise [k0_pay14, k0_pay13]

theorem pay23_at (i : grid0.Coords) (h : Vec Ideal S8x256 .f32) (p : Fin 8) (q : Fin 256) :
    k0_pay23 (F := Ideal) (BitVec.ofNat 32 (i 0).val) h (ix2 p q) = if (i 0).val = 0 then 0 else h (ix2 p q) := by
  refine Eq.trans ?_ (first_rows (i 0).val (i 0).isLt (h (ix2 p q)) 0)
  rw [← Sums.zero_word]
  pointwise [k0_pay23]

theorem pay6_at (x : Vec Ideal S512x256 .f32) (p : Fin 512) (q : Fin 256) : k0_pay6 (F := Ideal) x (ix2 p q) = x (ix2 p q) := by
  pointwise [k0_pay6]

theorem pay15_at (x : Vec Ideal S512x256 .f32) (p : Fin 512) (q : Fin 256) : k0_pay15 (F := Ideal) x (ix2 p q) = x (ix2 p q) := by
  pointwise [k0_pay15]

theorem pay24_at (x : Vec Ideal S512x256 .f32) (p : Fin 512) (q : Fin 256) : k0_pay24 (F := Ideal) x (ix2 p q) = x (ix2 p q) := by
  pointwise [k0_pay24]

section
variable (b : Vec Ideal S1x256 .f32) (x0 x1 x2 x3 : Vec Ideal S512x256 .f32) (w0 w1 w2 w3 : Vec Ideal S1x256 .f32) (p : Fin 512) (q : Fin 256)

/-- One entry before its activation. -/
abbrev lin : EReal := b (ix2 0 q) + 0 + x0 (ix2 p q) * w0 (ix2 0 q) + x1 (ix2 p q) * w1 (ix2 0 q) + x2 (ix2 p q) * w2 (ix2 0 q) + x3 (ix2 p q) * w3 (ix2 0 q)

theorem body0 : k0_pay8 (F := Ideal) (k0_pay7 (F := Ideal) b x0 w0 x1 w1 x2 w2) x3 w3 (ix2 p q) = act (lin b x0 x1 x2 x3 w0 w1 w2 w3 p q) := by
  show _ = _ * Ideal.div 1 (1 + Ideal.exp (-_))
  rw [← zero_sub, lin, ← Sums.zero_word, ← one_word]
  pointwise [k0_pay8, k0_pay7]

theorem body1 : k0_pay18 (F := Ideal) (k0_pay16 (F := Ideal) b x0 w0 x1 w1 x2 w2 x3 w3) (k0_pay17 (F := Ideal)) (ix2 p q) = act (lin b x0 x1 x2 x3 w0 w1 w2 w3 p q) := by
  show _ = _ * Ideal.div 1 (1 + Ideal.exp (-_))
  rw [← zero_sub, lin, ← Sums.zero_word, ← one_word]
  pointwise [k0_pay18, k0_pay16, k0_pay17]

theorem body2 : k0_pay25 (F := Ideal) b x0 w0 x1 w1 x2 w2 x3 w3 (ix2 p q) = act (lin b x0 x1 x2 x3 w0 w1 w2 w3 p q) := by
  show _ = _ * Ideal.div 1 (1 + Ideal.exp (-_))
  rw [← zero_sub, lin, ← Sums.zero_word, ← one_word]
  pointwise [k0_pay25]

end

/-- A head's columns cut out and given a leading axis. -/
theorem head {o : ℕ} (Z : Vec Ideal S512x256 .f32) (hs : S512x256.Slices ![0, o] S512x64) (hc : S512x64.ShapeCasts S1x512x64) (x : S1x512x64.Idx) (k : Fin 256) (hk : k.val = o + (x 2).val) :
    shapeCast S1x512x64 (extractStridedSlice S512x64 ![0, o] Z hs) hc x = Z (ix2 (x 1) k) := by
  rw [shapeCast_apply (s := S512x64) (t := S1x512x64) _ hc x (ix2 (x 1) (x 2)) (by
    rw [Shape.rowMajor_val_two, Shape.rowMajor_val_three]
    have h0 : (x 0).val < 1 := (x 0).isLt
    show (x 1).val * 64 + (x 2).val = ((x 0).val * 512 + (x 1).val) * 64 + (x 2).val
    omega)]
  exact extractStridedSlice_apply (s := S512x256) (t := S512x64) ![0, o] Z hs (ix2 (x 1) (x 2)) (ix2 (x 1) k) (fun a => match a with
    | ⟨0, _⟩ => by
      show (x 1).val = 0 + (x 1).val
      omega
    | ⟨1, _⟩ => by
      show k.val = o + (x 2).val
      exact hk)

/-- Row `n` of the convolution. -/
def conv (n : Fin 8192) (k : Fin 768) : EReal :=
  B m c (ix1 k) + 0 + past m c (5 + n.val) k.val * W m c (ix2 0 k) + past m c (6 + n.val) k.val * W m c (ix2 1 k)
    + past m c (7 + n.val) k.val * W m c (ix2 2 k) + past m c (8 + n.val) k.val * W m c (ix2 3 k)

theorem coord : ∀ t : Fin cfg0.N, (grid0.coords t 0).val = t.val := by decide +kernel

abbrev bW (t : Fin cfg0.N) : S4x768.Idx → EReal := iblk m c 6 t
abbrev bB (t : Fin cfg0.N) : S1x768.Idx → EReal := iblk m c 7 t

theorem blkW (t : Fin cfg0.N) (p : Fin 4) (q : Fin 768) : bW m c t (ix2 p q) = W m c (ix2 p q) := by
  have hx := (idx t).2.2.2.2.2.2.1
  refine Eq.trans ?_ (congrFun (V_main_arg1 m c) _)
  blk_ext [bW, iblk, hx] <;> omega

theorem blkB (t : Fin cfg0.N) (q : Fin 768) : bB m c t (ix2 0 q) = B m c (ix1 q) := by
  have hx := (idx t).2.2.2.2.2.2.2.1
  refine Eq.trans ?_ (readB m c (ix2 0 q))
  blk_ext [bB, iblk, hx] <;> omega

abbrev bX0 (t : Fin cfg0.N) : S512x256.Idx → EReal := iblk m c 0 t
abbrev bH0 (t : Fin cfg0.N) : S8x256.Idx → EReal := iblk m c 3 t

theorem blkX0 (t : Fin cfg0.N) (p : Fin 512) (q : Fin 256) :
    bX0 m c t (ix2 p q) = past m c (512 * t.val + (8 + p.val)) (0 + q.val) := by
  have ht : t.val < 16 := lt_of_lt_of_eq t.isLt N_0
  have hx := (idx t).1
  unfold past
  rw [dif_pos (by omega)]
  refine Eq.trans ?_ (readX m c _)
  blk_ext [bX0, iblk, hx] <;> omega

theorem blkH0 (t : Fin cfg0.N) (h : ¬t.val = 0) (p : Fin 8) (q : Fin 256) :
    bH0 m c t (ix2 p q) = past m c (512 * t.val + p.val) (0 + q.val) := by
  have ht : t.val < 16 := lt_of_lt_of_eq t.isLt N_0
  have hx := (idx t).2.2.2.1
  unfold past
  rw [dif_pos (by omega)]
  refine Eq.trans ?_ (readX m c _)
  blk_ext [bH0, iblk, hx] <;> omega

/-- What the buffer holds, row by row. -/
abbrev G0 (t : Fin cfg0.N) (p q : ℕ) : EReal := past m c (512 * t.val + p) (0 + q)

theorem hX0 (t : Fin cfg0.N) (p : Fin 512) (q : Fin 256) : k0_pay6 (F := Ideal) (iblk m c 0 t) (ix2 p q) = G0 m c t (8 + p.val) q.val := by
  rw [pay6_at]
  exact blkX0 m c t p q

theorem hH0 (t : Fin cfg0.N) (p : Fin 8) (q : Fin 256) : k0_pay5 (F := Ideal) (grid0.coords t) (iblk m c 3 t) (ix2 p q) = G0 m c t p.val q.val := by
  rw [pay5_at, coord]
  by_cases h : t.val = 0
  · rw [if_pos h]
    exact (past_zero m c _ _ (by omega)).symm
  · rw [if_neg h]
    exact blkH0 m c t h p q

/-- A load of 512 of the buffer's rows. -/
theorem tap0 (t : Fin cfg0.N) {o : ℕ} (i3 : ∀ k, (![o, 0] : Fin 2 → ℕ) k + (![512, 256] : Fin 2 → ℕ) k ≤ S520x256.size k) (p : Fin 512) (q : Fin 256) :
    ((View.whole cc0_scratch0).readCov (Val := Elt Ideal)
      [⟨Rect.unit ![8, 0] ![512, 256] inb_S520x256_S512x256_8_0, k0_pay6 (F := Ideal) (iblk m c 0 t)⟩,
        ⟨Rect.unit ![0, 0] ![8, 256] inb_S520x256_S8x256_0_0, k0_pay5 (F := Ideal) (grid0.coords t) (iblk m c 3 t)⟩]
      (Rect.unit (s := S520x256) ![o, 0] ![512, 256] i3).toLoadRect : S512x256.Idx → EReal) (ix2 p q) = G0 m c t (o + p.val) q.val :=
  load_rows (N := 520) (a := 8) (b := 512) (R := 512) (C := 256) (o := o) (Val := Elt Ideal) (e := .f32) (View.whole cc0_scratch0) rfl inb_S520x256_S512x256_8_0 inb_S520x256_S8x256_0_0 i3
    (k0_pay6 (F := Ideal) (iblk m c 0 t)) (k0_pay5 (F := Ideal) (grid0.coords t) (iblk m c 3 t)) (G0 m c t) (hX0 m c t) (hH0 m c t) p q

abbrev bX1 (t : Fin cfg0.N) : S512x256.Idx → EReal := iblk m c 1 t
abbrev bH1 (t : Fin cfg0.N) : S8x256.Idx → EReal := iblk m c 4 t

theorem blkX1 (t : Fin cfg0.N) (p : Fin 512) (q : Fin 256) :
    bX1 m c t (ix2 p q) = past m c (512 * t.val + (8 + p.val)) (256 + q.val) := by
  have ht : t.val < 16 := lt_of_lt_of_eq t.isLt N_0
  have hx := (idx t).2.1
  unfold past
  rw [dif_pos (by omega)]
  refine Eq.trans ?_ (readX m c _)
  blk_ext [bX1, iblk, hx] <;> omega

theorem blkH1 (t : Fin cfg0.N) (h : ¬t.val = 0) (p : Fin 8) (q : Fin 256) :
    bH1 m c t (ix2 p q) = past m c (512 * t.val + p.val) (256 + q.val) := by
  have ht : t.val < 16 := lt_of_lt_of_eq t.isLt N_0
  have hx := (idx t).2.2.2.2.1
  unfold past
  rw [dif_pos (by omega)]
  refine Eq.trans ?_ (readX m c _)
  blk_ext [bH1, iblk, hx] <;> omega

/-- What the buffer holds, row by row. -/
abbrev G1 (t : Fin cfg0.N) (p q : ℕ) : EReal := past m c (512 * t.val + p) (256 + q)

theorem hX1 (t : Fin cfg0.N) (p : Fin 512) (q : Fin 256) : k0_pay15 (F := Ideal) (iblk m c 1 t) (ix2 p q) = G1 m c t (8 + p.val) q.val := by
  rw [pay15_at]
  exact blkX1 m c t p q

theorem hH1 (t : Fin cfg0.N) (p : Fin 8) (q : Fin 256) : k0_pay14 (F := Ideal) (k0_pay13 (F := Ideal) (BitVec.ofNat 32 (grid0.coords t 0).val) (iblk m c 4 t)) (ix2 p q) = G1 m c t p.val q.val := by
  rw [pay14_at, coord]
  by_cases h : t.val = 0
  · rw [if_pos h]
    exact (past_zero m c _ _ (by omega)).symm
  · rw [if_neg h]
    exact blkH1 m c t h p q

/-- A load of 512 of the buffer's rows. -/
theorem tap1 (t : Fin cfg0.N) {o : ℕ} (i3 : ∀ k, (![o, 0] : Fin 2 → ℕ) k + (![512, 256] : Fin 2 → ℕ) k ≤ S520x256.size k) (p : Fin 512) (q : Fin 256) :
    ((View.whole cc0_scratch1).readCov (Val := Elt Ideal)
      [⟨Rect.unit ![8, 0] ![512, 256] inb_S520x256_S512x256_8_0, k0_pay15 (F := Ideal) (iblk m c 1 t)⟩,
        ⟨Rect.unit ![0, 0] ![8, 256] inb_S520x256_S8x256_0_0, k0_pay14 (F := Ideal) (k0_pay13 (F := Ideal) (BitVec.ofNat 32 (grid0.coords t 0).val) (iblk m c 4 t))⟩]
      (Rect.unit (s := S520x256) ![o, 0] ![512, 256] i3).toLoadRect : S512x256.Idx → EReal) (ix2 p q) = G1 m c t (o + p.val) q.val :=
  load_rows (N := 520) (a := 8) (b := 512) (R := 512) (C := 256) (o := o) (Val := Elt Ideal) (e := .f32) (View.whole cc0_scratch1) rfl inb_S520x256_S512x256_8_0 inb_S520x256_S8x256_0_0 i3
    (k0_pay15 (F := Ideal) (iblk m c 1 t)) (k0_pay14 (F := Ideal) (k0_pay13 (F := Ideal) (BitVec.ofNat 32 (grid0.coords t 0).val) (iblk m c 4 t))) (G1 m c t) (hX1 m c t) (hH1 m c t) p q

abbrev bX2 (t : Fin cfg0.N) : S512x256.Idx → EReal := iblk m c 2 t
abbrev bH2 (t : Fin cfg0.N) : S8x256.Idx → EReal := iblk m c 5 t

theorem blkX2 (t : Fin cfg0.N) (p : Fin 512) (q : Fin 256) :
    bX2 m c t (ix2 p q) = past m c (512 * t.val + (8 + p.val)) (512 + q.val) := by
  have ht : t.val < 16 := lt_of_lt_of_eq t.isLt N_0
  have hx := (idx t).2.2.1
  unfold past
  rw [dif_pos (by omega)]
  refine Eq.trans ?_ (readX m c _)
  blk_ext [bX2, iblk, hx] <;> omega

theorem blkH2 (t : Fin cfg0.N) (h : ¬t.val = 0) (p : Fin 8) (q : Fin 256) :
    bH2 m c t (ix2 p q) = past m c (512 * t.val + p.val) (512 + q.val) := by
  have ht : t.val < 16 := lt_of_lt_of_eq t.isLt N_0
  have hx := (idx t).2.2.2.2.2.1
  unfold past
  rw [dif_pos (by omega)]
  refine Eq.trans ?_ (readX m c _)
  blk_ext [bH2, iblk, hx] <;> omega

/-- What the buffer holds, row by row. -/
abbrev G2 (t : Fin cfg0.N) (p q : ℕ) : EReal := past m c (512 * t.val + p) (512 + q)

theorem hX2 (t : Fin cfg0.N) (p : Fin 512) (q : Fin 256) : k0_pay24 (F := Ideal) (iblk m c 2 t) (ix2 p q) = G2 m c t (8 + p.val) q.val := by
  rw [pay24_at]
  exact blkX2 m c t p q

theorem hH2 (t : Fin cfg0.N) (p : Fin 8) (q : Fin 256) : k0_pay23 (F := Ideal) (BitVec.ofNat 32 (grid0.coords t 0).val) (iblk m c 5 t) (ix2 p q) = G2 m c t p.val q.val := by
  rw [pay23_at, coord]
  by_cases h : t.val = 0
  · rw [if_pos h]
    exact (past_zero m c _ _ (by omega)).symm
  · rw [if_neg h]
    exact blkH2 m c t h p q

/-- A load of 512 of the buffer's rows. -/
theorem tap2 (t : Fin cfg0.N) {o : ℕ} (i3 : ∀ k, (![o, 0] : Fin 2 → ℕ) k + (![512, 256] : Fin 2 → ℕ) k ≤ S520x256.size k) (p : Fin 512) (q : Fin 256) :
    ((View.whole cc0_scratch2).readCov (Val := Elt Ideal)
      [⟨Rect.unit ![8, 0] ![512, 256] inb_S520x256_S512x256_8_0, k0_pay24 (F := Ideal) (iblk m c 2 t)⟩,
        ⟨Rect.unit ![0, 0] ![8, 256] inb_S520x256_S8x256_0_0, k0_pay23 (F := Ideal) (BitVec.ofNat 32 (grid0.coords t 0).val) (iblk m c 5 t)⟩]
      (Rect.unit (s := S520x256) ![o, 0] ![512, 256] i3).toLoadRect : S512x256.Idx → EReal) (ix2 p q) = G2 m c t (o + p.val) q.val :=
  load_rows (N := 520) (a := 8) (b := 512) (R := 512) (C := 256) (o := o) (Val := Elt Ideal) (e := .f32) (View.whole cc0_scratch2) rfl inb_S520x256_S512x256_8_0 inb_S520x256_S8x256_0_0 i3
    (k0_pay24 (F := Ideal) (iblk m c 2 t)) (k0_pay23 (F := Ideal) (BitVec.ofNat 32 (grid0.coords t 0).val) (iblk m c 5 t)) (G2 m c t) (hX2 m c t) (hH2 m c t) p q

theorem out8 (t : Fin cfg0.N) (y : S8x512x64.Idx) (n : Fin 8192) (k : Fin 768) (hn : n.val = 512 * t.val + (y 1).val) (hk : k.val = 0 + (64 * (y 0).val + (y 2).val)) :
    (outsAt0 m c t).1 y = act (conv m c n k) := by
  unfold outsAt0
  frame_out
  canon_tiles x h
  · refine (head (o := 192) _ (by decide) (by decide) x ⟨192 + (x 2).val, by omega⟩ rfl).trans ?_
    refine (body1 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap1 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega
  · refine (head (o := 128) _ (by decide) (by decide) x ⟨128 + (x 2).val, by omega⟩ rfl).trans ?_
    refine (body1 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap1 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega
  · refine (head (o := 64) _ (by decide) (by decide) x ⟨64 + (x 2).val, by omega⟩ rfl).trans ?_
    refine (body1 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap1 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega
  · refine (head (o := 0) _ (by decide) (by decide) x ⟨0 + (x 2).val, by omega⟩ rfl).trans ?_
    refine (body1 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap1 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega
  · refine (head (o := 192) _ (by decide) (by decide) x ⟨192 + (x 2).val, by omega⟩ rfl).trans ?_
    refine (body0 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap0 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega
  · refine (head (o := 128) _ (by decide) (by decide) x ⟨128 + (x 2).val, by omega⟩ rfl).trans ?_
    refine (body0 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap0 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega
  · refine (head (o := 64) _ (by decide) (by decide) x ⟨64 + (x 2).val, by omega⟩ rfl).trans ?_
    refine (body0 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap0 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega
  · refine (head (o := 0) _ (by decide) (by decide) x ⟨0 + (x 2).val, by omega⟩ rfl).trans ?_
    refine (body0 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap0 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega

theorem arr8 : (dats m 0 c).arrAt 8 cfg0.N = (fun y : S8x8192x64.Idx => act (conv m c (y 1) ⟨0 + (64 * (y 0).val + (y 2).val), by
    have h0 : (y 0).val < 8 := (y 0).isLt
    have h2 : (y 2).val < 64 := (y 2).isLt
    omega⟩)) := by
  refine (dats m 0 c).arrAt_eq_of_covers 8 _ (by decide +kernel) fun t hf y => ?_
  have ht : t.val < 16 := lt_of_lt_of_eq t.isLt N_0
  have hi := (idx t).2.2.2.2.2.2.2.2.1
  have e0 : ((win0_8.blk t).view.emb y 0).val = (y 0).val := by blk_simp [hi] <;> omega
  have e1 : ((win0_8.blk t).view.emb y 1).val = 512 * t.val + (y 1).val := by blk_simp [hi] <;> omega
  have e2 : ((win0_8.blk t).view.emb y 2).val = (y 2).val := by blk_simp [hi] <;> omega
  rw [after0_8]
  exact out8 m c t y _ _ e1 (by
    dsimp only
    rw [e0, e2])

theorem out9 (t : Fin cfg0.N) (y : S2x512x64.Idx) (n : Fin 8192) (k : Fin 768) (hn : n.val = 512 * t.val + (y 1).val) (hk : k.val = 512 + (64 * (y 0).val + (y 2).val)) :
    (outsAt0 m c t).2.1 y = act (conv m c n k) := by
  unfold outsAt0
  frame_out
  canon_tiles x h
  · refine (head (o := 64) _ (by decide) (by decide) x ⟨64 + (x 2).val, by omega⟩ rfl).trans ?_
    refine (body2 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap2 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega
  · refine (head (o := 0) (k0_pay25 (F := Ideal) _ _ _ _ _ _ _ _ _) (by decide) (by decide) x ⟨0 + (x 2).val, by omega⟩ rfl).trans ?_
    refine (body2 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap2 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega

theorem arr9 : (dats m 0 c).arrAt 9 cfg0.N = (fun y : S2x8192x64.Idx => act (conv m c (y 1) ⟨512 + (64 * (y 0).val + (y 2).val), by
    have h0 : (y 0).val < 2 := (y 0).isLt
    have h2 : (y 2).val < 64 := (y 2).isLt
    omega⟩)) := by
  refine (dats m 0 c).arrAt_eq_of_covers 9 _ (by decide +kernel) fun t hf y => ?_
  have ht : t.val < 16 := lt_of_lt_of_eq t.isLt N_0
  have hi := (idx t).2.2.2.2.2.2.2.2.2.1
  have e0 : ((win0_9.blk t).view.emb y 0).val = (y 0).val := by blk_simp [hi] <;> omega
  have e1 : ((win0_9.blk t).view.emb y 1).val = 512 * t.val + (y 1).val := by blk_simp [hi] <;> omega
  have e2 : ((win0_9.blk t).view.emb y 2).val = (y 2).val := by blk_simp [hi] <;> omega
  rw [after0_9]
  exact out9 m c t y _ _ e1 (by
    dsimp only
    rw [e0, e2])

theorem out10 (t : Fin cfg0.N) (y : S2x512x64.Idx) (n : Fin 8192) (k : Fin 768) (hn : n.val = 512 * t.val + (y 1).val) (hk : k.val = 640 + (64 * (y 0).val + (y 2).val)) :
    (outsAt0 m c t).2.2 y = act (conv m c n k) := by
  unfold outsAt0
  frame_out
  canon_tiles x h
  · refine (head (o := 192) _ (by decide) (by decide) x ⟨192 + (x 2).val, by omega⟩ rfl).trans ?_
    refine (body2 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap2 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega
  · refine (head (o := 128) _ (by decide) (by decide) x ⟨128 + (x 2).val, by omega⟩ rfl).trans ?_
    refine (body2 _ _ _ _ _ _ _ _ _ _ _).trans (congrArg act ?_)
    unfold conv lin
    refine congrArg₂ (· + ·) (congrArg₂ (· + ·) (congrArg₂ (· + ·) (congrArg₂ (· + ·) (congrArg (· + 0) ?_) ?_) ?_) ?_) ?_
    · refine (row (A := 1) (D := 768) (C := 256) (bB m c t) (by decide) (by decide) _ _).trans ((blkB m c t _).trans (congrArg (fun i => B m c (ix1 i)) (Fin.ext ?_)))
      dsimp only
      omega
    all_goals refine congrArg₂ (· * ·) ((tap2 m c t _ _ _).trans (congrArg₂ (past m c) ?_ ?_)) ((row (A := 4) (D := 768) (C := 256) (bW m c t) (by decide) (by decide) _ _).trans ((blkW m c t _ _).trans (congrArg (fun i => W m c (ix2 _ i)) (Fin.ext ?_))))
    all_goals try dsimp only
    all_goals omega

theorem arr10 : (dats m 0 c).arrAt 10 cfg0.N = (fun y : S2x8192x64.Idx => act (conv m c (y 1) ⟨640 + (64 * (y 0).val + (y 2).val), by
    have h0 : (y 0).val < 2 := (y 0).isLt
    have h2 : (y 2).val < 64 := (y 2).isLt
    omega⟩)) := by
  refine (dats m 0 c).arrAt_eq_of_covers 10 _ (by decide +kernel) fun t hf y => ?_
  have ht : t.val < 16 := lt_of_lt_of_eq t.isLt N_0
  have hi := (idx t).2.2.2.2.2.2.2.2.2.2
  have e0 : ((win0_10.blk t).view.emb y 0).val = (y 0).val := by blk_simp [hi] <;> omega
  have e1 : ((win0_10.blk t).view.emb y 1).val = 512 * t.val + (y 1).val := by blk_simp [hi] <;> omega
  have e2 : ((win0_10.blk t).view.emb y 2).val = (y 2).val := by blk_simp [hi] <;> omega
  rw [after0_10]
  exact out10 m c t y _ _ e1 (by
    dsimp only
    rw [e0, e2])

/-! The reference. -/

open Cert.Reference22Ideal.Read in
theorem refPast (r : Fin 8195) (k : Fin 768) : val_main_v2 (F := Ideal) (X m c) (ix2 r k) = past m c (5 + r.val) k.val := by
  unfold val_main_v2
  by_cases h : r.val < 3
  · rw [past_zero m c _ _ (by omega)]
    refine (concatenate_pair_apply_left (t := Reference22Ideal.S8195x768) (s₁ := Reference22Ideal.S3x768) (s₂ := Reference22Ideal.S8192x768) 0 _ _ _ _ rfl (ix2 ⟨r.val, h⟩ k) (fun b => ?_)).trans ?_
    · match b with
      | ⟨0, _⟩ => rfl
      | ⟨1, _⟩ => rfl
    · rw [val_main_v1_apply, val_main_cst_apply]
      exact Sums.zero_word
  · unfold past
    rw [dif_pos (by omega)]
    refine (concatenate_pair_apply_right (t := Reference22Ideal.S8195x768) (s₁ := Reference22Ideal.S3x768) (s₂ := Reference22Ideal.S8192x768) 0 _ _ _ _ rfl rfl (ix2 ⟨r.val - 3, by omega⟩ k) (fun b hb => ?_) ?_).trans ?_
    · match b with
      | ⟨0, _⟩ => exact absurd rfl hb
      | ⟨1, _⟩ => rfl
    · show r.val - 3 + 3 = r.val
      omega
    · rw [val_main_v0_apply]
      refine congrArg (X m c) (funext fun a => ?_)
      match a with
      | ⟨0, _⟩ => exact Fin.ext (by show r.val - 3 = 5 + r.val - 8; omega)
      | ⟨1, _⟩ => rfl

open Cert.Reference22Ideal.Read in
theorem refConv (j : Reference22Ideal.S8192x768.Idx) : val_main_v32 (F := Ideal) (X m c) (W m c) (B m c) j = conv m c (j 0) (j 1) := by
  have h0 : (j 0).val < 8192 := (j 0).isLt
  have h1 : (j 1).val < 768 := (j 1).isLt
  have p0 : val_main_v3 (F := Ideal) (X m c) j = past m c (5 + (j 0).val) (j 1).val := by
    rw [val_main_v3_apply]
    refine (congrArg _ ?_).trans ((refPast m c ⟨(j 0).val, by omega⟩ (j 1)).trans (congrArg (past m c · _) (by show 5 + ((j 0).val) = _; omega)))
    funext a
    match a with
    | ⟨0, _⟩ => rfl
    | ⟨1, _⟩ => rfl
  have w0 : val_main_v7 (F := Ideal) (W m c) j = W m c (ix2 0 (j 1)) := by
    rw [val_main_v7_apply, val_main_v6_apply, val_main_v5_apply, val_main_v4_apply]
    refine congrArg (W m c) (funext fun a => ?_)
    match a with
    | ⟨0, _⟩ => rfl
    | ⟨1, _⟩ => exact Fin.ext (Nat.mod_eq_of_lt h1)
  have p1 : val_main_v9 (F := Ideal) (X m c) j = past m c (6 + (j 0).val) (j 1).val := by
    rw [val_main_v9_apply]
    refine (congrArg _ ?_).trans ((refPast m c ⟨1 + (j 0).val, by omega⟩ (j 1)).trans (congrArg (past m c · _) (by show 5 + (1 + (j 0).val) = _; omega)))
    funext a
    match a with
    | ⟨0, _⟩ => rfl
    | ⟨1, _⟩ => rfl
  have w1 : val_main_v13 (F := Ideal) (W m c) j = W m c (ix2 1 (j 1)) := by
    rw [val_main_v13_apply, val_main_v12_apply, val_main_v11_apply, val_main_v10_apply]
    refine congrArg (W m c) (funext fun a => ?_)
    match a with
    | ⟨0, _⟩ => rfl
    | ⟨1, _⟩ => exact Fin.ext (Nat.mod_eq_of_lt h1)
  have p2 : val_main_v16 (F := Ideal) (X m c) j = past m c (7 + (j 0).val) (j 1).val := by
    rw [val_main_v16_apply]
    refine (congrArg _ ?_).trans ((refPast m c ⟨2 + (j 0).val, by omega⟩ (j 1)).trans (congrArg (past m c · _) (by show 5 + (2 + (j 0).val) = _; omega)))
    funext a
    match a with
    | ⟨0, _⟩ => rfl
    | ⟨1, _⟩ => rfl
  have w2 : val_main_v20 (F := Ideal) (W m c) j = W m c (ix2 2 (j 1)) := by
    rw [val_main_v20_apply, val_main_v19_apply, val_main_v18_apply, val_main_v17_apply]
    refine congrArg (W m c) (funext fun a => ?_)
    match a with
    | ⟨0, _⟩ => rfl
    | ⟨1, _⟩ => exact Fin.ext (Nat.mod_eq_of_lt h1)
  have p3 : val_main_v23 (F := Ideal) (X m c) j = past m c (8 + (j 0).val) (j 1).val := by
    rw [val_main_v23_apply]
    refine (congrArg _ ?_).trans ((refPast m c ⟨3 + (j 0).val, by omega⟩ (j 1)).trans (congrArg (past m c · _) (by show 5 + (3 + (j 0).val) = _; omega)))
    funext a
    match a with
    | ⟨0, _⟩ => rfl
    | ⟨1, _⟩ => rfl
  have w3 : val_main_v27 (F := Ideal) (W m c) j = W m c (ix2 3 (j 1)) := by
    rw [val_main_v27_apply, val_main_v26_apply, val_main_v25_apply, val_main_v24_apply]
    refine congrArg (W m c) (funext fun a => ?_)
    match a with
    | ⟨0, _⟩ => rfl
    | ⟨1, _⟩ => exact Fin.ext (Nat.mod_eq_of_lt h1)
  have b0 : val_main_v31 (F := Ideal) (B m c) j = B m c (ix1 (j 1)) := by
    rw [val_main_v31_apply, val_main_v30_apply]
    refine congrArg (B m c) (funext fun a => ?_)
    match a with
    | ⟨0, _⟩ => rfl
  rw [val_main_v32_apply, val_main_v29_apply, val_main_v22_apply, val_main_v15_apply, val_main_v8_apply, val_main_v14_apply, val_main_v21_apply, val_main_v28_apply, p0, p1, p2, p3, w0, w1, w2, w3, b0]
  unfold conv
  have key : ∀ b x0 x1 x2 x3 : EReal, x0 + x1 + x2 + x3 + b = b + 0 + x0 + x1 + x2 + x3 := by
    intro b x0 x1 x2 x3
    rw [add_zero]
    ac_rfl
  exact key _ _ _ _ _

open Cert.Reference22Ideal.Read in
theorem refAct (j : Reference22Ideal.S8192x768.Idx) : val_main_v33 (F := Ideal) (X m c) (W m c) (B m c) j = act (conv m c (j 0) (j 1)) := by
  have o1 : (FloatOps.ofBits (F := Ideal) FTy.f32 0x3F800000#32 : EReal) = 1 := one_word
  rw [val_main_v33_apply, val_main_call0_v5_apply, val_main_call0_v4_apply, val_main_call0_cst_0_apply, val_main_call0_v3_apply, val_main_call0_v2_apply,
    val_main_call0_cst_apply, val_main_call0_v1_apply, val_main_call0_v0_apply, refConv, o1]
  rfl

open Cert.Reference22Ideal.Read in
theorem ref8 (j : S8x8192x64.Idx) : val_main_v38 (F := Ideal) (X m c) (W m c) (B m c) j = (dats m 0 c).arrAt 8 cfg0.N j := by
  have h0 : (j 0).val < 8 := (j 0).isLt
  have h1 : (j 1).val < 8192 := (j 1).isLt
  have h2 : (j 2).val < 64 := (j 2).isLt
  rw [val_main_v38_apply, val_main_v37_apply, val_main_v34_apply, refAct, arr8]
  refine congrArg₂ (fun a b => act (conv m c a b)) (Fin.ext ?_) (Fin.ext ?_)
  · show (((j 1).val * 8 + (j 0).val) * 64 + (j 2).val) / 512 = (j 1).val
    omega
  · show (((j 1).val * 8 + (j 0).val) * 64 + (j 2).val) % 512 = 0 + (64 * (j 0).val + (j 2).val)
    omega

open Cert.Reference22Ideal.Read in
theorem ref9 (j : S2x8192x64.Idx) : val_main_v40 (F := Ideal) (X m c) (W m c) (B m c) j = (dats m 0 c).arrAt 9 cfg0.N j := by
  have h0 : (j 0).val < 2 := (j 0).isLt
  have h1 : (j 1).val < 8192 := (j 1).isLt
  have h2 : (j 2).val < 64 := (j 2).isLt
  rw [val_main_v40_apply, val_main_v39_apply, val_main_v35_apply, refAct, arr9]
  refine congrArg₂ (fun a b => act (conv m c a b)) (Fin.ext ?_) (Fin.ext ?_)
  · show (((j 1).val * 2 + (j 0).val) * 64 + (j 2).val) / 128 = (j 1).val
    omega
  · show 512 + (((j 1).val * 2 + (j 0).val) * 64 + (j 2).val) % 128 = 512 + (64 * (j 0).val + (j 2).val)
    omega

open Cert.Reference22Ideal.Read in
theorem ref10 (j : S2x8192x64.Idx) : val_main_v42 (F := Ideal) (X m c) (W m c) (B m c) j = (dats m 0 c).arrAt 10 cfg0.N j := by
  have h0 : (j 0).val < 2 := (j 0).isLt
  have h1 : (j 1).val < 8192 := (j 1).isLt
  have h2 : (j 2).val < 64 := (j 2).isLt
  rw [val_main_v42_apply, val_main_v41_apply, val_main_v36_apply, refAct, arr10]
  refine congrArg₂ (fun a b => act (conv m c a b)) (Fin.ext ?_) (Fin.ext ?_)
  · show (((j 1).val * 2 + (j 0).val) * 64 + (j 2).val) / 128 = (j 1).val
    omega
  · show 640 + (((j 1).val * 2 + (j 0).val) * 64 + (j 2).val) % 128 = 640 + (64 * (j 0).val + (j 2).val)
    omega

end

/-- The results are equal. -/
theorem algebraic : Cert.algebraic_Kernel22Ideal_Reference22Ideal (hKernel22Ideal := Cert.Kernel22Ideal.Gen.facts) (hReference22Ideal := Cert.Reference22Ideal.Gen.facts) := by
  intro m g m' g' _ ha
  refine ⟨_, _, _, Cert.Kernel22Ideal.Value.run_blocks m g, (θ_run Cert.Reference22Ideal.defs _ _).mono (fun r h c => ?_) (Cert.Reference22Ideal.Value.run m' g')⟩
  obtain ⟨a0, a1, a2⟩ := ha c
  refine ⟨((h c).1.trans (Cert.Reference22Ideal.Read.val_main_v38_eq _ _)).trans ?_, ((h c).2.1.trans (Cert.Reference22Ideal.Read.val_main_v40_eq _ _)).trans ?_,
    ((h c).2.2.1.trans (Cert.Reference22Ideal.Read.val_main_v42_eq _ _)).trans ?_, (h c).2.2.2⟩
  · rw [a0, a1, a2]
    exact funext fun j => ref8 m c j
  · rw [a0, a1, a2]
    exact funext fun j => ref9 m c j
  · rw [a0, a1, a2]
    exact funext fun j => ref10 m c j

/-- The three frames. -/
theorem frame_kernel : Cert.quiescent_Kernel22 (hKernel22 := Cert.Kernel22.Gen.facts) := fun m ρ _ => Cert.Kernel22.Gen.frame m ρ

theorem frame_kernelIdeal : Cert.quiescent_Kernel22Ideal (hKernel22Ideal := Cert.Kernel22Ideal.Gen.facts) := fun m ρ _ => Cert.Kernel22Ideal.Gen.frame m ρ

theorem frame_referenceIdeal : Cert.quiescent_Reference22Ideal (hReference22Ideal := Cert.Reference22Ideal.Gen.facts) := fun m ρ _ =>
  (θ_run Cert.Reference22Ideal.defs _ _).mono (fun r h => ⟨fun c => (h c).2.2.2, sem_eq_zero_of_no_sems rfl r.2⟩) (Cert.Reference22Ideal.Value.run m ρ)

end Cert.Kernel22Ideal.Val
-- ==== Proof.lean ====
module

public import proofs.«01_k».proof.Defs
public import proofs.«01_k».proof.Proof.Values
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.End18
public import proofs.«01_k».proof.Proof.Conv19
public import proofs.«01_k».proof.Proof.Conv20
public import proofs.«01_k».proof.Proof.Conv21
public import proofs.«01_k».proof.Proof.Conv22
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem frame_kernel : Cert.quiescent_Kernel (hKernel := Cert.Kernel.Gen.facts) := fun m ρ _ => Cert.Kernel.Gen.frame m ρ

theorem frame_kernelIdeal : Cert.quiescent_KernelIdeal (hKernelIdeal := Cert.KernelIdeal.Gen.facts) := fun m ρ _ => Cert.KernelIdeal.Gen.frame m ρ

theorem frame_referenceIdeal : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems rfl r.2⟩) (Cert.ReferenceIdeal.Value.run m ρ)

theorem preserves : Cert.preserves_Kernel_KernelIdeal := IdealRules.named_const.statement _ _ _ _ _ rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Pre_finite.facts, Cert.Pre_finite18.facts, Cert.Pre_finite20.facts, frame_kernel, frame_kernelIdeal, fun m ρ _ => frame_kernelIdeal m ρ trivial, frame_referenceIdeal,
    fun m ρ _ => frame_referenceIdeal m ρ trivial,
    Cert.Kernel2Ideal.Val.frame_kernel, Cert.Kernel2Ideal.Val.frame_kernelIdeal, Cert.Kernel2Ideal.Val.frame_referenceIdeal,
    Cert.Kernel3Ideal.Val.frame_kernel, Cert.Kernel3Ideal.Val.frame_kernelIdeal, Cert.Kernel3Ideal.Val.frame_referenceIdeal,
    Cert.Kernel4Ideal.Val.frame_kernel, Cert.Kernel4Ideal.Val.frame_kernelIdeal, Cert.Kernel4Ideal.Val.frame_referenceIdeal,
    Cert.Kernel5Ideal.Val.frame_kernel, Cert.Kernel5Ideal.Val.frame_kernelIdeal, Cert.Kernel5Ideal.Val.frame_referenceIdeal,
    Cert.Kernel6Ideal.Val.frame_kernel, Cert.Kernel6Ideal.Val.frame_kernelIdeal, Cert.Kernel6Ideal.Val.frame_referenceIdeal,
    Cert.Kernel7Ideal.Val.frame_kernel, Cert.Kernel7Ideal.Val.frame_kernelIdeal, Cert.Kernel7Ideal.Val.frame_referenceIdeal,
    Cert.Kernel8Ideal.Val.frame_kernel, Cert.Kernel8Ideal.Val.frame_kernelIdeal, Cert.Kernel8Ideal.Val.frame_referenceIdeal,
    Cert.Kernel9Ideal.Val.frame_kernel, Cert.Kernel9Ideal.Val.frame_kernelIdeal, Cert.Kernel9Ideal.Val.frame_referenceIdeal,
    Cert.Kernel10Ideal.Val.frame_kernel, Cert.Kernel10Ideal.Val.frame_kernelIdeal, Cert.Kernel10Ideal.Val.frame_referenceIdeal,
    Cert.Kernel11Ideal.Val.frame_kernel, Cert.Kernel11Ideal.Val.frame_kernelIdeal, Cert.Kernel11Ideal.Val.frame_referenceIdeal,
    Cert.Kernel12Ideal.Val.frame_kernel, Cert.Kernel12Ideal.Val.frame_kernelIdeal, Cert.Kernel12Ideal.Val.frame_referenceIdeal,
    Cert.Kernel13Ideal.Val.frame_kernel, Cert.Kernel13Ideal.Val.frame_kernelIdeal, Cert.Kernel13Ideal.Val.frame_referenceIdeal,
    Cert.Kernel14Ideal.Val.frame_kernel, Cert.Kernel14Ideal.Val.frame_kernelIdeal, Cert.Kernel14Ideal.Val.frame_referenceIdeal,
    Cert.Kernel15Ideal.Val.frame_kernel, Cert.Kernel15Ideal.Val.frame_kernelIdeal, Cert.Kernel15Ideal.Val.frame_referenceIdeal,
    Cert.Kernel16Ideal.Val.frame_kernel, Cert.Kernel16Ideal.Val.frame_kernelIdeal, Cert.Kernel16Ideal.Val.frame_referenceIdeal,
    Cert.Kernel17Ideal.Val.frame_kernel, Cert.Kernel17Ideal.Val.frame_kernelIdeal, Cert.Kernel17Ideal.Val.frame_referenceIdeal,
    Cert.Kernel18Ideal.Val.frame_kernel, Cert.Kernel18Ideal.Val.frame_kernelIdeal, fun m ρ _ => Cert.Kernel18Ideal.Val.frame_kernelIdeal m ρ trivial, Cert.Kernel18Ideal.Val.frame_referenceIdeal,
    fun m ρ _ => Cert.Kernel18Ideal.Val.frame_referenceIdeal m ρ trivial,
    Cert.Kernel19Ideal.Val.frame_kernel, Cert.Kernel19Ideal.Val.frame_kernelIdeal, Cert.Kernel19Ideal.Val.frame_referenceIdeal,
    Cert.Kernel20Ideal.Val.frame_kernel, Cert.Kernel20Ideal.Val.frame_kernelIdeal, fun m ρ _ => Cert.Kernel20Ideal.Val.frame_kernelIdeal m ρ trivial, Cert.Kernel20Ideal.Val.frame_referenceIdeal,
    fun m ρ _ => Cert.Kernel20Ideal.Val.frame_referenceIdeal m ρ trivial,
    Cert.Kernel21Ideal.Val.frame_kernel, Cert.Kernel21Ideal.Val.frame_kernelIdeal, Cert.Kernel21Ideal.Val.frame_referenceIdeal,
    Cert.Kernel22Ideal.Val.frame_kernel, Cert.Kernel22Ideal.Val.frame_kernelIdeal, Cert.Kernel22Ideal.Val.frame_referenceIdeal,
    preserves, Cert.Values.algebraic,
    trivial, Cert.Kernel2Ideal.Val.algebraic,
    trivial, Cert.Kernel3Ideal.Val.algebraic,
    trivial, Cert.Kernel4Ideal.Val.algebraic,
    trivial, Cert.Kernel5Ideal.Val.algebraic,
    trivial, Cert.Kernel6Ideal.Val.algebraic,
    trivial, Cert.Kernel7Ideal.Val.algebraic,
    trivial, Cert.Kernel8Ideal.Val.algebraic,
    trivial, Cert.Kernel9Ideal.Val.algebraic,
    trivial, Cert.Kernel10Ideal.Val.algebraic,
    trivial, Cert.Kernel11Ideal.Val.algebraic,
    trivial, Cert.Kernel12Ideal.Val.algebraic,
    trivial, Cert.Kernel13Ideal.Val.algebraic,
    trivial, Cert.Kernel14Ideal.Val.algebraic,
    trivial, Cert.Kernel15Ideal.Val.algebraic,
    trivial, Cert.Kernel16Ideal.Val.algebraic,
    trivial, Cert.Kernel17Ideal.Val.algebraic,
    trivial, Cert.Kernel18Ideal.Val.algebraic,
    trivial, Cert.Kernel19Ideal.Val.algebraic,
    trivial, Cert.Kernel20Ideal.Val.algebraic,
    trivial, Cert.Kernel21Ideal.Val.algebraic,
    trivial, Cert.Kernel22Ideal.Val.algebraic⟩

end Cert.Proof

end
